-- ==== Defs.lean ====
def Pre_KernelZ (m : (ℓ : Loc Cert.KernelZ.nD Cert.KernelZ.τ Cert.KernelZ.sig) → Buf (Elt Bits) ℓ) : Prop :=
  True

def Pre_KernelZIdeal (m : (ℓ : Loc Cert.KernelZIdeal.nD Cert.KernelZIdeal.τ Cert.KernelZIdeal.sig) → Buf (Elt Ideal) ℓ) : Prop :=
  True

def Pre_KernelZIdeal_finite [hPre_finite : Cert.Pre_finite.Facts] (m : (ℓ : Loc Cert.KernelZIdeal.nD Cert.KernelZIdeal.τ Cert.KernelZIdeal.sig) → Buf (Elt Ideal) ℓ) : Prop :=
  ∀ c : Dev Cert.KernelZIdeal.nD,
    (Cert.Pre_finite.fn (F := Ideal) (m ((c.tc : Thread Cert.KernelZIdeal.nD Cert.KernelZIdeal.τ).loc Cert.KernelZIdeal.main_arg0)) (m ((c.tc : Thread Cert.KernelZIdeal.nD Cert.KernelZIdeal.τ).loc Cert.KernelZIdeal.main_arg1))).1 = (fun _ => 1#1)
    ∧ (Cert.Pre_finite.fn (F := Ideal) (m ((c.tc : Thread Cert.KernelZIdeal.nD Cert.KernelZIdeal.τ).loc Cert.KernelZIdeal.main_arg0)) (m ((c.tc : Thread Cert.KernelZIdeal.nD Cert.KernelZIdeal.τ).loc Cert.KernelZIdeal.main_arg1))).2 = (fun _ => 1#1)

def Pre_RefZIdeal (m : (ℓ : Loc Cert.RefZIdeal.nD Cert.RefZIdeal.τ Cert.RefZIdeal.sig) → Buf (Elt Ideal) ℓ) : Prop :=
  True

def Pre_RefZIdeal_finite [hPre_finite : Cert.Pre_finite.Facts] (m : (ℓ : Loc Cert.RefZIdeal.nD Cert.RefZIdeal.τ Cert.RefZIdeal.sig) → Buf (Elt Ideal) ℓ) : Prop :=
  ∀ c : Dev Cert.RefZIdeal.nD,
    (Cert.Pre_finite.fn (F := Ideal) (m ((c.tc : Thread Cert.RefZIdeal.nD Cert.RefZIdeal.τ).loc Cert.RefZIdeal.main_arg0)) (m ((c.tc : Thread Cert.RefZIdeal.nD Cert.RefZIdeal.τ).loc Cert.RefZIdeal.main_arg1))).1 = (fun _ => 1#1)
    ∧ (Cert.Pre_finite.fn (F := Ideal) (m ((c.tc : Thread Cert.RefZIdeal.nD Cert.RefZIdeal.τ).loc Cert.RefZIdeal.main_arg0)) (m ((c.tc : Thread Cert.RefZIdeal.nD Cert.RefZIdeal.τ).loc Cert.RefZIdeal.main_arg1))).2 = (fun _ => 1#1)

def Pre_KernelXbc (m : (ℓ : Loc Cert.KernelXbc.nD Cert.KernelXbc.τ Cert.KernelXbc.sig) → Buf (Elt Bits) ℓ) : Prop :=
  True

def Pre_KernelXbcIdeal (m : (ℓ : Loc Cert.KernelXbcIdeal.nD Cert.KernelXbcIdeal.τ Cert.KernelXbcIdeal.sig) → Buf (Elt Ideal) ℓ) : Prop :=
  True

def Pre_KernelXbcIdeal_finite_xbc [hPre_finite_xbc : Cert.Pre_finite_xbc.Facts] (m : (ℓ : Loc Cert.KernelXbcIdeal.nD Cert.KernelXbcIdeal.τ Cert.KernelXbcIdeal.sig) → Buf (Elt Ideal) ℓ) : Prop :=
  ∀ c : Dev Cert.KernelXbcIdeal.nD,
    (Cert.Pre_finite_xbc.fn (F := Ideal) (m ((c.tc : Thread Cert.KernelXbcIdeal.nD Cert.KernelXbcIdeal.τ).loc Cert.KernelXbcIdeal.main_arg0)) (m ((c.tc : Thread Cert.KernelXbcIdeal.nD Cert.KernelXbcIdeal.τ).loc Cert.KernelXbcIdeal.main_arg1)) (m ((c.tc : Thread Cert.KernelXbcIdeal.nD Cert.KernelXbcIdeal.τ).loc Cert.KernelXbcIdeal.main_arg2)) (m ((c.tc : Thread Cert.KernelXbcIdeal.nD Cert.KernelXbcIdeal.τ).loc Cert.KernelXbcIdeal.main_arg3))).1 = (fun _ => 1#1)
    ∧ (Cert.Pre_finite_xbc.fn (F := Ideal) (m ((c.tc : Thread Cert.KernelXbcIdeal.nD Cert.KernelXbcIdeal.τ).loc Cert.KernelXbcIdeal.main_arg0)) (m ((c.tc : Thread Cert.KernelXbcIdeal.nD Cert.KernelXbcIdeal.τ).loc Cert.KernelXbcIdeal.main_arg1)) (m ((c.tc : Thread Cert.KernelXbcIdeal.nD Cert.KernelXbcIdeal.τ).loc Cert.KernelXbcIdeal.main_arg2)) (m ((c.tc : Thread Cert.KernelXbcIdeal.nD Cert.KernelXbcIdeal.τ).loc Cert.KernelXbcIdeal.main_arg3))).2.1 = (fun _ => 1#1)
    ∧ (Cert.Pre_finite_xbc.fn (F := Ideal) (m ((c.tc : Thread Cert.KernelXbcIdeal.nD Cert.KernelXbcIdeal.τ).loc Cert.KernelXbcIdeal.main_arg0)) (m ((c.tc : Thread Cert.KernelXbcIdeal.nD Cert.KernelXbcIdeal.τ).loc Cert.KernelXbcIdeal.main_arg1)) (m ((c.tc : Thread Cert.KernelXbcIdeal.nD Cert.KernelXbcIdeal.τ).loc Cert.KernelXbcIdeal.main_arg2)) (m ((c.tc : Thread Cert.KernelXbcIdeal.nD Cert.KernelXbcIdeal.τ).loc Cert.KernelXbcIdeal.main_arg3))).2.2.1 = (fun _ => 1#1)
    ∧ (Cert.Pre_finite_xbc.fn (F := Ideal) (m ((c.tc : Thread Cert.KernelXbcIdeal.nD Cert.KernelXbcIdeal.τ).loc Cert.KernelXbcIdeal.main_arg0)) (m ((c.tc : Thread Cert.KernelXbcIdeal.nD Cert.KernelXbcIdeal.τ).loc Cert.KernelXbcIdeal.main_arg1)) (m ((c.tc : Thread Cert.KernelXbcIdeal.nD Cert.KernelXbcIdeal.τ).loc Cert.KernelXbcIdeal.main_arg2)) (m ((c.tc : Thread Cert.KernelXbcIdeal.nD Cert.KernelXbcIdeal.τ).loc Cert.KernelXbcIdeal.main_arg3))).2.2.2 = (fun _ => 1#1)

def Pre_RefXbcIdeal (m : (ℓ : Loc Cert.RefXbcIdeal.nD Cert.RefXbcIdeal.τ Cert.RefXbcIdeal.sig) → Buf (Elt Ideal) ℓ) : Prop :=
  True

def Pre_RefXbcIdeal_finite_xbc [hPre_finite_xbc : Cert.Pre_finite_xbc.Facts] (m : (ℓ : Loc Cert.RefXbcIdeal.nD Cert.RefXbcIdeal.τ Cert.RefXbcIdeal.sig) → Buf (Elt Ideal) ℓ) : Prop :=
  ∀ c : Dev Cert.RefXbcIdeal.nD,
    (Cert.Pre_finite_xbc.fn (F := Ideal) (m ((c.tc : Thread Cert.RefXbcIdeal.nD Cert.RefXbcIdeal.τ).loc Cert.RefXbcIdeal.main_arg0)) (m ((c.tc : Thread Cert.RefXbcIdeal.nD Cert.RefXbcIdeal.τ).loc Cert.RefXbcIdeal.main_arg1)) (m ((c.tc : Thread Cert.RefXbcIdeal.nD Cert.RefXbcIdeal.τ).loc Cert.RefXbcIdeal.main_arg2)) (m ((c.tc : Thread Cert.RefXbcIdeal.nD Cert.RefXbcIdeal.τ).loc Cert.RefXbcIdeal.main_arg3))).1 = (fun _ => 1#1)
    ∧ (Cert.Pre_finite_xbc.fn (F := Ideal) (m ((c.tc : Thread Cert.RefXbcIdeal.nD Cert.RefXbcIdeal.τ).loc Cert.RefXbcIdeal.main_arg0)) (m ((c.tc : Thread Cert.RefXbcIdeal.nD Cert.RefXbcIdeal.τ).loc Cert.RefXbcIdeal.main_arg1)) (m ((c.tc : Thread Cert.RefXbcIdeal.nD Cert.RefXbcIdeal.τ).loc Cert.RefXbcIdeal.main_arg2)) (m ((c.tc : Thread Cert.RefXbcIdeal.nD Cert.RefXbcIdeal.τ).loc Cert.RefXbcIdeal.main_arg3))).2.1 = (fun _ => 1#1)
    ∧ (Cert.Pre_finite_xbc.fn (F := Ideal) (m ((c.tc : Thread Cert.RefXbcIdeal.nD Cert.RefXbcIdeal.τ).loc Cert.RefXbcIdeal.main_arg0)) (m ((c.tc : Thread Cert.RefXbcIdeal.nD Cert.RefXbcIdeal.τ).loc Cert.RefXbcIdeal.main_arg1)) (m ((c.tc : Thread Cert.RefXbcIdeal.nD Cert.RefXbcIdeal.τ).loc Cert.RefXbcIdeal.main_arg2)) (m ((c.tc : Thread Cert.RefXbcIdeal.nD Cert.RefXbcIdeal.τ).loc Cert.RefXbcIdeal.main_arg3))).2.2.1 = (fun _ => 1#1)
    ∧ (Cert.Pre_finite_xbc.fn (F := Ideal) (m ((c.tc : Thread Cert.RefXbcIdeal.nD Cert.RefXbcIdeal.τ).loc Cert.RefXbcIdeal.main_arg0)) (m ((c.tc : Thread Cert.RefXbcIdeal.nD Cert.RefXbcIdeal.τ).loc Cert.RefXbcIdeal.main_arg1)) (m ((c.tc : Thread Cert.RefXbcIdeal.nD Cert.RefXbcIdeal.τ).loc Cert.RefXbcIdeal.main_arg2)) (m ((c.tc : Thread Cert.RefXbcIdeal.nD Cert.RefXbcIdeal.τ).loc Cert.RefXbcIdeal.main_arg3))).2.2.2 = (fun _ => 1#1)

def Pre_KernelQ (m : (ℓ : Loc Cert.KernelQ.nD Cert.KernelQ.τ Cert.KernelQ.sig) → Buf (Elt Bits) ℓ) : Prop :=
  True

def Pre_KernelQIdeal (m : (ℓ : Loc Cert.KernelQIdeal.nD Cert.KernelQIdeal.τ Cert.KernelQIdeal.sig) → Buf (Elt Ideal) ℓ) : Prop :=
  True

def Pre_RefQIdeal (m : (ℓ : Loc Cert.RefQIdeal.nD Cert.RefQIdeal.τ Cert.RefQIdeal.sig) → Buf (Elt Ideal) ℓ) : Prop :=
  True

def Pre_KernelK (m : (ℓ : Loc Cert.KernelK.nD Cert.KernelK.τ Cert.KernelK.sig) → Buf (Elt Bits) ℓ) : Prop :=
  True

def Pre_KernelKIdeal (m : (ℓ : Loc Cert.KernelKIdeal.nD Cert.KernelKIdeal.τ Cert.KernelKIdeal.sig) → Buf (Elt Ideal) ℓ) : Prop :=
  True

def Pre_RefKIdeal (m : (ℓ : Loc Cert.RefKIdeal.nD Cert.RefKIdeal.τ Cert.RefKIdeal.sig) → Buf (Elt Ideal) ℓ) : Prop :=
  True

def Pre_KernelV (m : (ℓ : Loc Cert.KernelV.nD Cert.KernelV.τ Cert.KernelV.sig) → Buf (Elt Bits) ℓ) : Prop :=
  True

def Pre_KernelVIdeal (m : (ℓ : Loc Cert.KernelVIdeal.nD Cert.KernelVIdeal.τ Cert.KernelVIdeal.sig) → Buf (Elt Ideal) ℓ) : Prop :=
  True

def Pre_RefVIdeal (m : (ℓ : Loc Cert.RefVIdeal.nD Cert.RefVIdeal.τ Cert.RefVIdeal.sig) → Buf (Elt Ideal) ℓ) : Prop :=
  True

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_RefGateIdeal (m : (ℓ : Loc Cert.RefGateIdeal.nD Cert.RefGateIdeal.τ Cert.RefGateIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_RefMixIdeal (m : (ℓ : Loc Cert.RefMixIdeal.nD Cert.RefMixIdeal.τ Cert.RefMixIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_RefOutIdeal (m : (ℓ : Loc Cert.RefOutIdeal.nD Cert.RefOutIdeal.τ Cert.RefOutIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_KernelUpIdeal_finite_up [hPre_finite_up : Cert.Pre_finite_up.Facts] (m : (ℓ : Loc Cert.KernelUpIdeal.nD Cert.KernelUpIdeal.τ Cert.KernelUpIdeal.sig) → Buf (Elt Ideal) ℓ) : Prop :=
  ∀ c : Dev Cert.KernelUpIdeal.nD,
    (Cert.Pre_finite_up.fn (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (m ((c.tc : Thread Cert.KernelUpIdeal.nD Cert.KernelUpIdeal.τ).loc Cert.KernelUpIdeal.main_arg2)) (m ((c.tc : Thread Cert.KernelUpIdeal.nD Cert.KernelUpIdeal.τ).loc Cert.KernelUpIdeal.main_arg3))).1 = (fun _ => 1#1)
    ∧ (Cert.Pre_finite_up.fn (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (m ((c.tc : Thread Cert.KernelUpIdeal.nD Cert.KernelUpIdeal.τ).loc Cert.KernelUpIdeal.main_arg2)) (m ((c.tc : Thread Cert.KernelUpIdeal.nD Cert.KernelUpIdeal.τ).loc Cert.KernelUpIdeal.main_arg3))).2.1 = (fun _ => 1#1)
    ∧ (Cert.Pre_finite_up.fn (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (m ((c.tc : Thread Cert.KernelUpIdeal.nD Cert.KernelUpIdeal.τ).loc Cert.KernelUpIdeal.main_arg2)) (m ((c.tc : Thread Cert.KernelUpIdeal.nD Cert.KernelUpIdeal.τ).loc Cert.KernelUpIdeal.main_arg3))).2.2.1 = (fun _ => 1#1)
    ∧ (Cert.Pre_finite_up.fn (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (m ((c.tc : Thread Cert.KernelUpIdeal.nD Cert.KernelUpIdeal.τ).loc Cert.KernelUpIdeal.main_arg2)) (m ((c.tc : Thread Cert.KernelUpIdeal.nD Cert.KernelUpIdeal.τ).loc Cert.KernelUpIdeal.main_arg3))).2.2.2 = (fun _ => 1#1)

def Pre_RefUpIdeal (m : (ℓ : Loc Cert.RefUpIdeal.nD Cert.RefUpIdeal.τ Cert.RefUpIdeal.sig) → Buf (Elt Ideal) ℓ) : Prop :=
  True

def Pre_RefUpIdeal_finite_up [hPre_finite_up : Cert.Pre_finite_up.Facts] (m : (ℓ : Loc Cert.RefUpIdeal.nD Cert.RefUpIdeal.τ Cert.RefUpIdeal.sig) → Buf (Elt Ideal) ℓ) : Prop :=
  ∀ c : Dev Cert.RefUpIdeal.nD,
    (Cert.Pre_finite_up.fn (F := Ideal) (m ((c.tc : Thread Cert.RefUpIdeal.nD Cert.RefUpIdeal.τ).loc Cert.RefUpIdeal.main_arg0)) (m ((c.tc : Thread Cert.RefUpIdeal.nD Cert.RefUpIdeal.τ).loc Cert.RefUpIdeal.main_arg1)) (m ((c.tc : Thread Cert.RefUpIdeal.nD Cert.RefUpIdeal.τ).loc Cert.RefUpIdeal.main_arg2)) (m ((c.tc : Thread Cert.RefUpIdeal.nD Cert.RefUpIdeal.τ).loc Cert.RefUpIdeal.main_arg3))).1 = (fun _ => 1#1)
    ∧ (Cert.Pre_finite_up.fn (F := Ideal) (m ((c.tc : Thread Cert.RefUpIdeal.nD Cert.RefUpIdeal.τ).loc Cert.RefUpIdeal.main_arg0)) (m ((c.tc : Thread Cert.RefUpIdeal.nD Cert.RefUpIdeal.τ).loc Cert.RefUpIdeal.main_arg1)) (m ((c.tc : Thread Cert.RefUpIdeal.nD Cert.RefUpIdeal.τ).loc Cert.RefUpIdeal.main_arg2)) (m ((c.tc : Thread Cert.RefUpIdeal.nD Cert.RefUpIdeal.τ).loc Cert.RefUpIdeal.main_arg3))).2.1 = (fun _ => 1#1)
    ∧ (Cert.Pre_finite_up.fn (F := Ideal) (m ((c.tc : Thread Cert.RefUpIdeal.nD Cert.RefUpIdeal.τ).loc Cert.RefUpIdeal.main_arg0)) (m ((c.tc : Thread Cert.RefUpIdeal.nD Cert.RefUpIdeal.τ).loc Cert.RefUpIdeal.main_arg1)) (m ((c.tc : Thread Cert.RefUpIdeal.nD Cert.RefUpIdeal.τ).loc Cert.RefUpIdeal.main_arg2)) (m ((c.tc : Thread Cert.RefUpIdeal.nD Cert.RefUpIdeal.τ).loc Cert.RefUpIdeal.main_arg3))).2.2.1 = (fun _ => 1#1)
    ∧ (Cert.Pre_finite_up.fn (F := Ideal) (m ((c.tc : Thread Cert.RefUpIdeal.nD Cert.RefUpIdeal.τ).loc Cert.RefUpIdeal.main_arg0)) (m ((c.tc : Thread Cert.RefUpIdeal.nD Cert.RefUpIdeal.τ).loc Cert.RefUpIdeal.main_arg1)) (m ((c.tc : Thread Cert.RefUpIdeal.nD Cert.RefUpIdeal.τ).loc Cert.RefUpIdeal.main_arg2)) (m ((c.tc : Thread Cert.RefUpIdeal.nD Cert.RefUpIdeal.τ).loc Cert.RefUpIdeal.main_arg3))).2.2.2 = (fun _ => 1#1)

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_RefDownIdeal (m : (ℓ : Loc Cert.RefDownIdeal.nD Cert.RefDownIdeal.τ Cert.RefDownIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_RefNormIdeal (m : (ℓ : Loc Cert.RefNormIdeal.nD Cert.RefNormIdeal.τ Cert.RefNormIdeal.sig) → Buf (Elt Ideal) ℓ) : Prop :=
  True

def Pre_KernelSsd (m : (ℓ : Loc Cert.KernelSsd.nD Cert.KernelSsd.τ Cert.KernelSsd.sig) → Buf (Elt Bits) ℓ) : Prop :=
  True

def Pre_KernelSsdIdeal (m : (ℓ : Loc Cert.KernelSsdIdeal.nD Cert.KernelSsdIdeal.τ Cert.KernelSsdIdeal.sig) → Buf (Elt Ideal) ℓ) : Prop :=
  True

def Pre_KernelAtt (m : (ℓ : Loc Cert.KernelAtt.nD Cert.KernelAtt.τ Cert.KernelAtt.sig) → Buf (Elt Bits) ℓ) : Prop :=
  True

def Pre_KernelAttIdeal (m : (ℓ : Loc Cert.KernelAttIdeal.nD Cert.KernelAttIdeal.τ Cert.KernelAttIdeal.sig) → Buf (Elt Ideal) ℓ) : Prop :=
  True

def quiescent_KernelZ [hKernelZ : Cert.KernelZ.Facts] : Prop :=
  ∀ (m : (ℓ : Loc Cert.KernelZ.nD Cert.KernelZ.τ Cert.KernelZ.sig) → Buf (Elt Bits) ℓ) (g : Dev Cert.KernelZ.nD → PrngReg), Pre_KernelZ m →
    θ_run (Cert.KernelZ.defs (F := Bits)) (onTc (τ := Cert.KernelZ.τ) (Cert.KernelZ.main (F := Bits))) ⟨m, fun _ => 0, g⟩ (fun r => (∀ c : Dev Cert.KernelZ.nD,
      r.2.mem ((c.tc : Thread Cert.KernelZ.nD Cert.KernelZ.τ).loc Cert.KernelZ.main_arg0) = m ((c.tc : Thread Cert.KernelZ.nD Cert.KernelZ.τ).loc Cert.KernelZ.main_arg0)
      ∧ r.2.mem ((c.tc : Thread Cert.KernelZ.nD Cert.KernelZ.τ).loc Cert.KernelZ.main_arg1) = m ((c.tc : Thread Cert.KernelZ.nD Cert.KernelZ.τ).loc Cert.KernelZ.main_arg1))
      ∧ r.2.sem = fun _ => 0)

def quiescent_KernelZIdeal [hKernelZIdeal : Cert.KernelZIdeal.Facts] : Prop :=
  ∀ (m : (ℓ : Loc Cert.KernelZIdeal.nD Cert.KernelZIdeal.τ Cert.KernelZIdeal.sig) → Buf (Elt Ideal) ℓ) (g : Dev Cert.KernelZIdeal.nD → PrngReg), Pre_KernelZIdeal m →
    θ_run (Cert.KernelZIdeal.defs (F := Ideal)) (onTc (τ := Cert.KernelZIdeal.τ) (Cert.KernelZIdeal.main (F := Ideal))) ⟨m, fun _ => 0, g⟩ (fun r => (∀ c : Dev Cert.KernelZIdeal.nD,
      r.2.mem ((c.tc : Thread Cert.KernelZIdeal.nD Cert.KernelZIdeal.τ).loc Cert.KernelZIdeal.main_arg0) = m ((c.tc : Thread Cert.KernelZIdeal.nD Cert.KernelZIdeal.τ).loc Cert.KernelZIdeal.main_arg0)
      ∧ r.2.mem ((c.tc : Thread Cert.KernelZIdeal.nD Cert.KernelZIdeal.τ).loc Cert.KernelZIdeal.main_arg1) = m ((c.tc : Thread Cert.KernelZIdeal.nD Cert.KernelZIdeal.τ).loc Cert.KernelZIdeal.main_arg1))
      ∧ r.2.sem = fun _ => 0)

def quiescent_KernelZIdeal_pre_finite [hKernelZIdeal : Cert.KernelZIdeal.Facts] [hPre_finite : Cert.Pre_finite.Facts] : Prop :=
  ∀ (m : (ℓ : Loc Cert.KernelZIdeal.nD Cert.KernelZIdeal.τ Cert.KernelZIdeal.sig) → Buf (Elt Ideal) ℓ) (g : Dev Cert.KernelZIdeal.nD → PrngReg), Pre_KernelZIdeal_finite m →
    θ_run (Cert.KernelZIdeal.defs (F := Ideal)) (onTc (τ := Cert.KernelZIdeal.τ) (Cert.KernelZIdeal.main (F := Ideal))) ⟨m, fun _ => 0, g⟩ (fun r => (∀ c : Dev Cert.KernelZIdeal.nD,
      r.2.mem ((c.tc : Thread Cert.KernelZIdeal.nD Cert.KernelZIdeal.τ).loc Cert.KernelZIdeal.main_arg0) = m ((c.tc : Thread Cert.KernelZIdeal.nD Cert.KernelZIdeal.τ).loc Cert.KernelZIdeal.main_arg0)
      ∧ r.2.mem ((c.tc : Thread Cert.KernelZIdeal.nD Cert.KernelZIdeal.τ).loc Cert.KernelZIdeal.main_arg1) = m ((c.tc : Thread Cert.KernelZIdeal.nD Cert.KernelZIdeal.τ).loc Cert.KernelZIdeal.main_arg1))
      ∧ r.2.sem = fun _ => 0)

def quiescent_RefZIdeal [hRefZIdeal : Cert.RefZIdeal.Facts] : Prop :=
  ∀ (m : (ℓ : Loc Cert.RefZIdeal.nD Cert.RefZIdeal.τ Cert.RefZIdeal.sig) → Buf (Elt Ideal) ℓ) (g : Dev Cert.RefZIdeal.nD → PrngReg), Pre_RefZIdeal m →
    θ_run (Cert.RefZIdeal.defs (F := Ideal)) (onTc (τ := Cert.RefZIdeal.τ) (Cert.RefZIdeal.main (F := Ideal))) ⟨m, fun _ => 0, g⟩ (fun r => (∀ c : Dev Cert.RefZIdeal.nD,
      r.2.mem ((c.tc : Thread Cert.RefZIdeal.nD Cert.RefZIdeal.τ).loc Cert.RefZIdeal.main_arg0) = m ((c.tc : Thread Cert.RefZIdeal.nD Cert.RefZIdeal.τ).loc Cert.RefZIdeal.main_arg0)
      ∧ r.2.mem ((c.tc : Thread Cert.RefZIdeal.nD Cert.RefZIdeal.τ).loc Cert.RefZIdeal.main_arg1) = m ((c.tc : Thread Cert.RefZIdeal.nD Cert.RefZIdeal.τ).loc Cert.RefZIdeal.main_arg1))
      ∧ r.2.sem = fun _ => 0)

def quiescent_RefZIdeal_pre_finite [hRefZIdeal : Cert.RefZIdeal.Facts] [hPre_finite : Cert.Pre_finite.Facts] : Prop :=
  ∀ (m : (ℓ : Loc Cert.RefZIdeal.nD Cert.RefZIdeal.τ Cert.RefZIdeal.sig) → Buf (Elt Ideal) ℓ) (g : Dev Cert.RefZIdeal.nD → PrngReg), Pre_RefZIdeal_finite m →
    θ_run (Cert.RefZIdeal.defs (F := Ideal)) (onTc (τ := Cert.RefZIdeal.τ) (Cert.RefZIdeal.main (F := Ideal))) ⟨m, fun _ => 0, g⟩ (fun r => (∀ c : Dev Cert.RefZIdeal.nD,
      r.2.mem ((c.tc : Thread Cert.RefZIdeal.nD Cert.RefZIdeal.τ).loc Cert.RefZIdeal.main_arg0) = m ((c.tc : Thread Cert.RefZIdeal.nD Cert.RefZIdeal.τ).loc Cert.RefZIdeal.main_arg0)
      ∧ r.2.mem ((c.tc : Thread Cert.RefZIdeal.nD Cert.RefZIdeal.τ).loc Cert.RefZIdeal.main_arg1) = m ((c.tc : Thread Cert.RefZIdeal.nD Cert.RefZIdeal.τ).loc Cert.RefZIdeal.main_arg1))
      ∧ r.2.sem = fun _ => 0)

def quiescent_KernelXbc [hKernelXbc : Cert.KernelXbc.Facts] : Prop :=
  ∀ (m : (ℓ : Loc Cert.KernelXbc.nD Cert.KernelXbc.τ Cert.KernelXbc.sig) → Buf (Elt Bits) ℓ) (g : Dev Cert.KernelXbc.nD → PrngReg), Pre_KernelXbc m →
    θ_run (Cert.KernelXbc.defs (F := Bits)) (onTc (τ := Cert.KernelXbc.τ) (Cert.KernelXbc.main (F := Bits))) ⟨m, fun _ => 0, g⟩ (fun r => (∀ c : Dev Cert.KernelXbc.nD,
      r.2.mem ((c.tc : Thread Cert.KernelXbc.nD Cert.KernelXbc.τ).loc Cert.KernelXbc.main_arg0) = m ((c.tc : Thread Cert.KernelXbc.nD Cert.KernelXbc.τ).loc Cert.KernelXbc.main_arg0)
      ∧ r.2.mem ((c.tc : Thread Cert.KernelXbc.nD Cert.KernelXbc.τ).loc Cert.KernelXbc.main_arg1) = m ((c.tc : Thread Cert.KernelXbc.nD Cert.KernelXbc.τ).loc Cert.KernelXbc.main_arg1)
      ∧ r.2.mem ((c.tc : Thread Cert.KernelXbc.nD Cert.KernelXbc.τ).loc Cert.KernelXbc.main_arg2) = m ((c.tc : Thread Cert.KernelXbc.nD Cert.KernelXbc.τ).loc Cert.KernelXbc.main_arg2)
      ∧ r.2.mem ((c.tc : Thread Cert.KernelXbc.nD Cert.KernelXbc.τ).loc Cert.KernelXbc.main_arg3) = m ((c.tc : Thread Cert.KernelXbc.nD Cert.KernelXbc.τ).loc Cert.KernelXbc.main_arg3))
      ∧ r.2.sem = fun _ => 0)

def quiescent_KernelXbcIdeal [hKernelXbcIdeal : Cert.KernelXbcIdeal.Facts] : Prop :=
  ∀ (m : (ℓ : Loc Cert.KernelXbcIdeal.nD Cert.KernelXbcIdeal.τ Cert.KernelXbcIdeal.sig) → Buf (Elt Ideal) ℓ) (g : Dev Cert.KernelXbcIdeal.nD → PrngReg), Pre_KernelXbcIdeal m →
    θ_run (Cert.KernelXbcIdeal.defs (F := Ideal)) (onTc (τ := Cert.KernelXbcIdeal.τ) (Cert.KernelXbcIdeal.main (F := Ideal))) ⟨m, fun _ => 0, g⟩ (fun r => (∀ c : Dev Cert.KernelXbcIdeal.nD,
      r.2.mem ((c.tc : Thread Cert.KernelXbcIdeal.nD Cert.KernelXbcIdeal.τ).loc Cert.KernelXbcIdeal.main_arg0) = m ((c.tc : Thread Cert.KernelXbcIdeal.nD Cert.KernelXbcIdeal.τ).loc Cert.KernelXbcIdeal.main_arg0)
      ∧ r.2.mem ((c.tc : Thread Cert.KernelXbcIdeal.nD Cert.KernelXbcIdeal.τ).loc Cert.KernelXbcIdeal.main_arg1) = m ((c.tc : Thread Cert.KernelXbcIdeal.nD Cert.KernelXbcIdeal.τ).loc Cert.KernelXbcIdeal.main_arg1)
      ∧ r.2.mem ((c.tc : Thread Cert.KernelXbcIdeal.nD Cert.KernelXbcIdeal.τ).loc Cert.KernelXbcIdeal.main_arg2) = m ((c.tc : Thread Cert.KernelXbcIdeal.nD Cert.KernelXbcIdeal.τ).loc Cert.KernelXbcIdeal.main_arg2)
      ∧ r.2.mem ((c.tc : Thread Cert.KernelXbcIdeal.nD Cert.KernelXbcIdeal.τ).loc Cert.KernelXbcIdeal.main_arg3) = m ((c.tc : Thread Cert.KernelXbcIdeal.nD Cert.KernelXbcIdeal.τ).loc Cert.KernelXbcIdeal.main_arg3))
      ∧ r.2.sem = fun _ => 0)

def quiescent_KernelXbcIdeal_pre_finite_xbc [hKernelXbcIdeal : Cert.KernelXbcIdeal.Facts] [hPre_finite_xbc : Cert.Pre_finite_xbc.Facts] : Prop :=
  ∀ (m : (ℓ : Loc Cert.KernelXbcIdeal.nD Cert.KernelXbcIdeal.τ Cert.KernelXbcIdeal.sig) → Buf (Elt Ideal) ℓ) (g : Dev Cert.KernelXbcIdeal.nD → PrngReg), Pre_KernelXbcIdeal_finite_xbc m →
    θ_run (Cert.KernelXbcIdeal.defs (F := Ideal)) (onTc (τ := Cert.KernelXbcIdeal.τ) (Cert.KernelXbcIdeal.main (F := Ideal))) ⟨m, fun _ => 0, g⟩ (fun r => (∀ c : Dev Cert.KernelXbcIdeal.nD,
      r.2.mem ((c.tc : Thread Cert.KernelXbcIdeal.nD Cert.KernelXbcIdeal.τ).loc Cert.KernelXbcIdeal.main_arg0) = m ((c.tc : Thread Cert.KernelXbcIdeal.nD Cert.KernelXbcIdeal.τ).loc Cert.KernelXbcIdeal.main_arg0)
      ∧ r.2.mem ((c.tc : Thread Cert.KernelXbcIdeal.nD Cert.KernelXbcIdeal.τ).loc Cert.KernelXbcIdeal.main_arg1) = m ((c.tc : Thread Cert.KernelXbcIdeal.nD Cert.KernelXbcIdeal.τ).loc Cert.KernelXbcIdeal.main_arg1)
      ∧ r.2.mem ((c.tc : Thread Cert.KernelXbcIdeal.nD Cert.KernelXbcIdeal.τ).loc Cert.KernelXbcIdeal.main_arg2) = m ((c.tc : Thread Cert.KernelXbcIdeal.nD Cert.KernelXbcIdeal.τ).loc Cert.KernelXbcIdeal.main_arg2)
      ∧ r.2.mem ((c.tc : Thread Cert.KernelXbcIdeal.nD Cert.KernelXbcIdeal.τ).loc Cert.KernelXbcIdeal.main_arg3) = m ((c.tc : Thread Cert.KernelXbcIdeal.nD Cert.KernelXbcIdeal.τ).loc Cert.KernelXbcIdeal.main_arg3))
      ∧ r.2.sem = fun _ => 0)

def quiescent_RefXbcIdeal [hRefXbcIdeal : Cert.RefXbcIdeal.Facts] : Prop :=
  ∀ (m : (ℓ : Loc Cert.RefXbcIdeal.nD Cert.RefXbcIdeal.τ Cert.RefXbcIdeal.sig) → Buf (Elt Ideal) ℓ) (g : Dev Cert.RefXbcIdeal.nD → PrngReg), Pre_RefXbcIdeal m →
    θ_run (Cert.RefXbcIdeal.defs (F := Ideal)) (onTc (τ := Cert.RefXbcIdeal.τ) (Cert.RefXbcIdeal.main (F := Ideal))) ⟨m, fun _ => 0, g⟩ (fun r => (∀ c : Dev Cert.RefXbcIdeal.nD,
      r.2.mem ((c.tc : Thread Cert.RefXbcIdeal.nD Cert.RefXbcIdeal.τ).loc Cert.RefXbcIdeal.main_arg0) = m ((c.tc : Thread Cert.RefXbcIdeal.nD Cert.RefXbcIdeal.τ).loc Cert.RefXbcIdeal.main_arg0)
      ∧ r.2.mem ((c.tc : Thread Cert.RefXbcIdeal.nD Cert.RefXbcIdeal.τ).loc Cert.RefXbcIdeal.main_arg1) = m ((c.tc : Thread Cert.RefXbcIdeal.nD Cert.RefXbcIdeal.τ).loc Cert.RefXbcIdeal.main_arg1)
      ∧ r.2.mem ((c.tc : Thread Cert.RefXbcIdeal.nD Cert.RefXbcIdeal.τ).loc Cert.RefXbcIdeal.main_arg2) = m ((c.tc : Thread Cert.RefXbcIdeal.nD Cert.RefXbcIdeal.τ).loc Cert.RefXbcIdeal.main_arg2)
      ∧ r.2.mem ((c.tc : Thread Cert.RefXbcIdeal.nD Cert.RefXbcIdeal.τ).loc Cert.RefXbcIdeal.main_arg3) = m ((c.tc : Thread Cert.RefXbcIdeal.nD Cert.RefXbcIdeal.τ).loc Cert.RefXbcIdeal.main_arg3))
      ∧ r.2.sem = fun _ => 0)

def quiescent_RefXbcIdeal_pre_finite_xbc [hRefXbcIdeal : Cert.RefXbcIdeal.Facts] [hPre_finite_xbc : Cert.Pre_finite_xbc.Facts] : Prop :=
  ∀ (m : (ℓ : Loc Cert.RefXbcIdeal.nD Cert.RefXbcIdeal.τ Cert.RefXbcIdeal.sig) → Buf (Elt Ideal) ℓ) (g : Dev Cert.RefXbcIdeal.nD → PrngReg), Pre_RefXbcIdeal_finite_xbc m →
    θ_run (Cert.RefXbcIdeal.defs (F := Ideal)) (onTc (τ := Cert.RefXbcIdeal.τ) (Cert.RefXbcIdeal.main (F := Ideal))) ⟨m, fun _ => 0, g⟩ (fun r => (∀ c : Dev Cert.RefXbcIdeal.nD,
      r.2.mem ((c.tc : Thread Cert.RefXbcIdeal.nD Cert.RefXbcIdeal.τ).loc Cert.RefXbcIdeal.main_arg0) = m ((c.tc : Thread Cert.RefXbcIdeal.nD Cert.RefXbcIdeal.τ).loc Cert.RefXbcIdeal.main_arg0)
      ∧ r.2.mem ((c.tc : Thread Cert.RefXbcIdeal.nD Cert.RefXbcIdeal.τ).loc Cert.RefXbcIdeal.main_arg1) = m ((c.tc : Thread Cert.RefXbcIdeal.nD Cert.RefXbcIdeal.τ).loc Cert.RefXbcIdeal.main_arg1)
      ∧ r.2.mem ((c.tc : Thread Cert.RefXbcIdeal.nD Cert.RefXbcIdeal.τ).loc Cert.RefXbcIdeal.main_arg2) = m ((c.tc : Thread Cert.RefXbcIdeal.nD Cert.RefXbcIdeal.τ).loc Cert.RefXbcIdeal.main_arg2)
      ∧ r.2.mem ((c.tc : Thread Cert.RefXbcIdeal.nD Cert.RefXbcIdeal.τ).loc Cert.RefXbcIdeal.main_arg3) = m ((c.tc : Thread Cert.RefXbcIdeal.nD Cert.RefXbcIdeal.τ).loc Cert.RefXbcIdeal.main_arg3))
      ∧ r.2.sem = fun _ => 0)

def quiescent_KernelQ [hKernelQ : Cert.KernelQ.Facts] : Prop :=
  ∀ (m : (ℓ : Loc Cert.KernelQ.nD Cert.KernelQ.τ Cert.KernelQ.sig) → Buf (Elt Bits) ℓ) (g : Dev Cert.KernelQ.nD → PrngReg), Pre_KernelQ m →
    θ_run (Cert.KernelQ.defs (F := Bits)) (onTc (τ := Cert.KernelQ.τ) (Cert.KernelQ.main (F := Bits))) ⟨m, fun _ => 0, g⟩ (fun r => (∀ c : Dev Cert.KernelQ.nD,
      r.2.mem ((c.tc : Thread Cert.KernelQ.nD Cert.KernelQ.τ).loc Cert.KernelQ.main_arg0) = m ((c.tc : Thread Cert.KernelQ.nD Cert.KernelQ.τ).loc Cert.KernelQ.main_arg0)
      ∧ r.2.mem ((c.tc : Thread Cert.KernelQ.nD Cert.KernelQ.τ).loc Cert.KernelQ.main_arg1) = m ((c.tc : Thread Cert.KernelQ.nD Cert.KernelQ.τ).loc Cert.KernelQ.main_arg1)
      ∧ r.2.mem ((c.tc : Thread Cert.KernelQ.nD Cert.KernelQ.τ).loc Cert.KernelQ.main_arg2) = m ((c.tc : Thread Cert.KernelQ.nD Cert.KernelQ.τ).loc Cert.KernelQ.main_arg2))
      ∧ r.2.sem = fun _ => 0)

def quiescent_KernelQIdeal [hKernelQIdeal : Cert.KernelQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg), Pre_KernelQIdeal m →
    θ_run (Cert.KernelQIdeal.defs (F := Ideal)) (onTc (τ := Cert.KernelQIdeal.τ) (Cert.KernelQIdeal.main (F := Ideal))) ⟨m, fun _ => 0, g⟩ (fun r => (∀ c : Dev Cert.KernelQIdeal.nD,
      r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
      ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1)
      ∧ r.2.mem ((c.tc : Thread Cert.KernelQIdeal.nD Cert.KernelQIdeal.τ).loc Cert.KernelQIdeal.main_arg2) = m ((c.tc : Thread Cert.KernelQIdeal.nD Cert.KernelQIdeal.τ).loc Cert.KernelQIdeal.main_arg2))
      ∧ r.2.sem = fun _ => 0)

def quiescent_RefQIdeal [hRefQIdeal : Cert.RefQIdeal.Facts] : Prop :=
  ∀ (m : (ℓ : Loc Cert.RefQIdeal.nD Cert.RefQIdeal.τ Cert.RefQIdeal.sig) → Buf (Elt Ideal) ℓ) (g : Dev Cert.RefQIdeal.nD → PrngReg), Pre_RefQIdeal m →
    θ_run (Cert.RefQIdeal.defs (F := Ideal)) (onTc (τ := Cert.RefQIdeal.τ) (Cert.RefQIdeal.main (F := Ideal))) ⟨m, fun _ => 0, g⟩ (fun r => (∀ c : Dev Cert.RefQIdeal.nD,
      r.2.mem ((c.tc : Thread Cert.RefQIdeal.nD Cert.RefQIdeal.τ).loc Cert.RefQIdeal.main_arg0) = m ((c.tc : Thread Cert.RefQIdeal.nD Cert.RefQIdeal.τ).loc Cert.RefQIdeal.main_arg0)
      ∧ r.2.mem ((c.tc : Thread Cert.RefQIdeal.nD Cert.RefQIdeal.τ).loc Cert.RefQIdeal.main_arg1) = m ((c.tc : Thread Cert.RefQIdeal.nD Cert.RefQIdeal.τ).loc Cert.RefQIdeal.main_arg1)
      ∧ r.2.mem ((c.tc : Thread Cert.RefQIdeal.nD Cert.RefQIdeal.τ).loc Cert.RefQIdeal.main_arg2) = m ((c.tc : Thread Cert.RefQIdeal.nD Cert.RefQIdeal.τ).loc Cert.RefQIdeal.main_arg2))
      ∧ r.2.sem = fun _ => 0)

def quiescent_KernelK [hKernelK : Cert.KernelK.Facts] : Prop :=
  ∀ (m : (ℓ : Loc Cert.KernelK.nD Cert.KernelK.τ Cert.KernelK.sig) → Buf (Elt Bits) ℓ) (g : Dev Cert.KernelK.nD → PrngReg), Pre_KernelK m →
    θ_run (Cert.KernelK.defs (F := Bits)) (onTc (τ := Cert.KernelK.τ) (Cert.KernelK.main (F := Bits))) ⟨m, fun _ => 0, g⟩ (fun r => (∀ c : Dev Cert.KernelK.nD,
      r.2.mem ((c.tc : Thread Cert.KernelK.nD Cert.KernelK.τ).loc Cert.KernelK.main_arg0) = m ((c.tc : Thread Cert.KernelK.nD Cert.KernelK.τ).loc Cert.KernelK.main_arg0)
      ∧ r.2.mem ((c.tc : Thread Cert.KernelK.nD Cert.KernelK.τ).loc Cert.KernelK.main_arg1) = m ((c.tc : Thread Cert.KernelK.nD Cert.KernelK.τ).loc Cert.KernelK.main_arg1)
      ∧ r.2.mem ((c.tc : Thread Cert.KernelK.nD Cert.KernelK.τ).loc Cert.KernelK.main_arg2) = m ((c.tc : Thread Cert.KernelK.nD Cert.KernelK.τ).loc Cert.KernelK.main_arg2))
      ∧ r.2.sem = fun _ => 0)

def quiescent_KernelKIdeal [hKernelKIdeal : Cert.KernelKIdeal.Facts] : Prop :=
  ∀ (m : (ℓ : Loc Cert.KernelKIdeal.nD Cert.KernelKIdeal.τ Cert.KernelKIdeal.sig) → Buf (Elt Ideal) ℓ) (g : Dev Cert.KernelKIdeal.nD → PrngReg), Pre_KernelKIdeal m →
    θ_run (Cert.KernelKIdeal.defs (F := Ideal)) (onTc (τ := Cert.KernelKIdeal.τ) (Cert.KernelKIdeal.main (F := Ideal))) ⟨m, fun _ => 0, g⟩ (fun r => (∀ c : Dev Cert.KernelKIdeal.nD,
      r.2.mem ((c.tc : Thread Cert.KernelKIdeal.nD Cert.KernelKIdeal.τ).loc Cert.KernelKIdeal.main_arg0) = m ((c.tc : Thread Cert.KernelKIdeal.nD Cert.KernelKIdeal.τ).loc Cert.KernelKIdeal.main_arg0)
      ∧ r.2.mem ((c.tc : Thread Cert.KernelKIdeal.nD Cert.KernelKIdeal.τ).loc Cert.KernelKIdeal.main_arg1) = m ((c.tc : Thread Cert.KernelKIdeal.nD Cert.KernelKIdeal.τ).loc Cert.KernelKIdeal.main_arg1)
      ∧ r.2.mem ((c.tc : Thread Cert.KernelKIdeal.nD Cert.KernelKIdeal.τ).loc Cert.KernelKIdeal.main_arg2) = m ((c.tc : Thread Cert.KernelKIdeal.nD Cert.KernelKIdeal.τ).loc Cert.KernelKIdeal.main_arg2))
      ∧ r.2.sem = fun _ => 0)

def quiescent_RefKIdeal [hRefKIdeal : Cert.RefKIdeal.Facts] : Prop :=
  ∀ (m : (ℓ : Loc Cert.RefKIdeal.nD Cert.RefKIdeal.τ Cert.RefKIdeal.sig) → Buf (Elt Ideal) ℓ) (g : Dev Cert.RefKIdeal.nD → PrngReg), Pre_RefKIdeal m →
    θ_run (Cert.RefKIdeal.defs (F := Ideal)) (onTc (τ := Cert.RefKIdeal.τ) (Cert.RefKIdeal.main (F := Ideal))) ⟨m, fun _ => 0, g⟩ (fun r => (∀ c : Dev Cert.RefKIdeal.nD,
      r.2.mem ((c.tc : Thread Cert.RefKIdeal.nD Cert.RefKIdeal.τ).loc Cert.RefKIdeal.main_arg0) = m ((c.tc : Thread Cert.RefKIdeal.nD Cert.RefKIdeal.τ).loc Cert.RefKIdeal.main_arg0)
      ∧ r.2.mem ((c.tc : Thread Cert.RefKIdeal.nD Cert.RefKIdeal.τ).loc Cert.RefKIdeal.main_arg1) = m ((c.tc : Thread Cert.RefKIdeal.nD Cert.RefKIdeal.τ).loc Cert.RefKIdeal.main_arg1)
      ∧ r.2.mem ((c.tc : Thread Cert.RefKIdeal.nD Cert.RefKIdeal.τ).loc Cert.RefKIdeal.main_arg2) = m ((c.tc : Thread Cert.RefKIdeal.nD Cert.RefKIdeal.τ).loc Cert.RefKIdeal.main_arg2))
      ∧ r.2.sem = fun _ => 0)

def quiescent_KernelV [hKernelV : Cert.KernelV.Facts] : Prop :=
  ∀ (m : (ℓ : Loc Cert.KernelV.nD Cert.KernelV.τ Cert.KernelV.sig) → Buf (Elt Bits) ℓ) (g : Dev Cert.KernelV.nD → PrngReg), Pre_KernelV m →
    θ_run (Cert.KernelV.defs (F := Bits)) (onTc (τ := Cert.KernelV.τ) (Cert.KernelV.main (F := Bits))) ⟨m, fun _ => 0, g⟩ (fun r => (∀ c : Dev Cert.KernelV.nD,
      r.2.mem ((c.tc : Thread Cert.KernelV.nD Cert.KernelV.τ).loc Cert.KernelV.main_arg0) = m ((c.tc : Thread Cert.KernelV.nD Cert.KernelV.τ).loc Cert.KernelV.main_arg0)
      ∧ r.2.mem ((c.tc : Thread Cert.KernelV.nD Cert.KernelV.τ).loc Cert.KernelV.main_arg1) = m ((c.tc : Thread Cert.KernelV.nD Cert.KernelV.τ).loc Cert.KernelV.main_arg1))
      ∧ r.2.sem = fun _ => 0)

def quiescent_KernelVIdeal [hKernelVIdeal : Cert.KernelVIdeal.Facts] : Prop :=
  ∀ (m : (ℓ : Loc Cert.KernelVIdeal.nD Cert.KernelVIdeal.τ Cert.KernelVIdeal.sig) → Buf (Elt Ideal) ℓ) (g : Dev Cert.KernelVIdeal.nD → PrngReg), Pre_KernelVIdeal m →
    θ_run (Cert.KernelVIdeal.defs (F := Ideal)) (onTc (τ := Cert.KernelVIdeal.τ) (Cert.KernelVIdeal.main (F := Ideal))) ⟨m, fun _ => 0, g⟩ (fun r => (∀ c : Dev Cert.KernelVIdeal.nD,
      r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0)
      ∧ r.2.mem ((c.tc : Thread Cert.KernelVIdeal.nD Cert.KernelVIdeal.τ).loc Cert.KernelVIdeal.main_arg1) = m ((c.tc : Thread Cert.KernelVIdeal.nD Cert.KernelVIdeal.τ).loc Cert.KernelVIdeal.main_arg1))
      ∧ r.2.sem = fun _ => 0)

def quiescent_RefVIdeal [hRefVIdeal : Cert.RefVIdeal.Facts] : Prop :=
  ∀ (m : (ℓ : Loc Cert.RefVIdeal.nD Cert.RefVIdeal.τ Cert.RefVIdeal.sig) → Buf (Elt Ideal) ℓ) (g : Dev Cert.RefVIdeal.nD → PrngReg), Pre_RefVIdeal m →
    θ_run (Cert.RefVIdeal.defs (F := Ideal)) (onTc (τ := Cert.RefVIdeal.τ) (Cert.RefVIdeal.main (F := Ideal))) ⟨m, fun _ => 0, g⟩ (fun r => (∀ c : Dev Cert.RefVIdeal.nD,
      r.2.mem ((c.tc : Thread Cert.RefVIdeal.nD Cert.RefVIdeal.τ).loc Cert.RefVIdeal.main_arg0) = m ((c.tc : Thread Cert.RefVIdeal.nD Cert.RefVIdeal.τ).loc Cert.RefVIdeal.main_arg0)
      ∧ r.2.mem ((c.tc : Thread Cert.RefVIdeal.nD Cert.RefVIdeal.τ).loc Cert.RefVIdeal.main_arg1) = m ((c.tc : Thread Cert.RefVIdeal.nD Cert.RefVIdeal.τ).loc Cert.RefVIdeal.main_arg1))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1)
      ∧ r.2.mem ((c.tc : Thread Cert.KernelGate.nD Cert.KernelGate.τ).loc Cert.KernelGate.main_arg2) = m ((c.tc : Thread Cert.KernelGate.nD Cert.KernelGate.τ).loc Cert.KernelGate.main_arg2))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
      ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2))
      ∧ r.2.sem = fun _ => 0)

def quiescent_RefGateIdeal [hRefGateIdeal : Cert.RefGateIdeal.Facts] : Prop :=
  ∀ (m : (ℓ : Loc Cert.RefGateIdeal.nD Cert.RefGateIdeal.τ Cert.RefGateIdeal.sig) → Buf (Elt Ideal) ℓ) (g : Dev Cert.RefGateIdeal.nD → PrngReg), Pre_RefGateIdeal m →
    θ_run (Cert.RefGateIdeal.defs (F := Ideal)) (onTc (τ := Cert.RefGateIdeal.τ) (Cert.RefGateIdeal.main (F := Ideal))) ⟨m, fun _ => 0, g⟩ (fun r => (∀ c : Dev Cert.RefGateIdeal.nD,
      r.2.mem ((c.tc : Thread Cert.RefGateIdeal.nD Cert.RefGateIdeal.τ).loc Cert.RefGateIdeal.main_arg0) = m ((c.tc : Thread Cert.RefGateIdeal.nD Cert.RefGateIdeal.τ).loc Cert.RefGateIdeal.main_arg0)
      ∧ r.2.mem ((c.tc : Thread Cert.RefGateIdeal.nD Cert.RefGateIdeal.τ).loc Cert.RefGateIdeal.main_arg1) = m ((c.tc : Thread Cert.RefGateIdeal.nD Cert.RefGateIdeal.τ).loc Cert.RefGateIdeal.main_arg1)
      ∧ r.2.mem ((c.tc : Thread Cert.RefGateIdeal.nD Cert.RefGateIdeal.τ).loc Cert.RefGateIdeal.main_arg2) = m ((c.tc : Thread Cert.RefGateIdeal.nD Cert.RefGateIdeal.τ).loc Cert.RefGateIdeal.main_arg2))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4))
      ∧ r.2.sem = fun _ => 0)

def quiescent_RefMixIdeal [hRefMixIdeal : Cert.RefMixIdeal.Facts] : Prop :=
  ∀ (m : (ℓ : Loc Cert.RefMixIdeal.nD Cert.RefMixIdeal.τ Cert.RefMixIdeal.sig) → Buf (Elt Ideal) ℓ) (g : Dev Cert.RefMixIdeal.nD → PrngReg), Pre_RefMixIdeal m →
    θ_run (Cert.RefMixIdeal.defs (F := Ideal)) (onTc (τ := Cert.RefMixIdeal.τ) (Cert.RefMixIdeal.main (F := Ideal))) ⟨m, fun _ => 0, g⟩ (fun r => (∀ c : Dev Cert.RefMixIdeal.nD,
      r.2.mem ((c.tc : Thread Cert.RefMixIdeal.nD Cert.RefMixIdeal.τ).loc Cert.RefMixIdeal.main_arg0) = m ((c.tc : Thread Cert.RefMixIdeal.nD Cert.RefMixIdeal.τ).loc Cert.RefMixIdeal.main_arg0)
      ∧ r.2.mem ((c.tc : Thread Cert.RefMixIdeal.nD Cert.RefMixIdeal.τ).loc Cert.RefMixIdeal.main_arg1) = m ((c.tc : Thread Cert.RefMixIdeal.nD Cert.RefMixIdeal.τ).loc Cert.RefMixIdeal.main_arg1)
      ∧ r.2.mem ((c.tc : Thread Cert.RefMixIdeal.nD Cert.RefMixIdeal.τ).loc Cert.RefMixIdeal.main_arg2) = m ((c.tc : Thread Cert.RefMixIdeal.nD Cert.RefMixIdeal.τ).loc Cert.RefMixIdeal.main_arg2)
      ∧ r.2.mem ((c.tc : Thread Cert.RefMixIdeal.nD Cert.RefMixIdeal.τ).loc Cert.RefMixIdeal.main_arg3) = m ((c.tc : Thread Cert.RefMixIdeal.nD Cert.RefMixIdeal.τ).loc Cert.RefMixIdeal.main_arg3)
      ∧ r.2.mem ((c.tc : Thread Cert.RefMixIdeal.nD Cert.RefMixIdeal.τ).loc Cert.RefMixIdeal.main_arg4) = m ((c.tc : Thread Cert.RefMixIdeal.nD Cert.RefMixIdeal.τ).loc Cert.RefMixIdeal.main_arg4))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ r.2.sem = fun _ => 0)

def quiescent_RefOutIdeal [hRefOutIdeal : Cert.RefOutIdeal.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1)
      ∧ r.2.mem ((c.tc : Thread Cert.RefOutIdeal.nD Cert.RefOutIdeal.τ).loc Cert.RefOutIdeal.main_arg2) = m ((c.tc : Thread Cert.RefOutIdeal.nD Cert.RefOutIdeal.τ).loc Cert.RefOutIdeal.main_arg2)
      ∧ r.2.mem ((c.tc : Thread Cert.RefOutIdeal.nD Cert.RefOutIdeal.τ).loc Cert.RefOutIdeal.main_arg3) = m ((c.tc : Thread Cert.RefOutIdeal.nD Cert.RefOutIdeal.τ).loc Cert.RefOutIdeal.main_arg3))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2)
      ∧ r.2.mem ((c.tc : Thread Cert.KernelUp.nD Cert.KernelUp.τ).loc Cert.KernelUp.main_arg3) = m ((c.tc : Thread Cert.KernelUp.nD Cert.KernelUp.τ).loc Cert.KernelUp.main_arg3))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3))
      ∧ r.2.sem = fun _ => 0)

def quiescent_KernelUpIdeal_pre_finite_up [hKernelUpIdeal : Cert.KernelUpIdeal.Facts] [hPre_finite_up : Cert.Pre_finite_up.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal_finite_up m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3))
      ∧ r.2.sem = fun _ => 0)

def quiescent_RefUpIdeal [hRefUpIdeal : Cert.RefUpIdeal.Facts] : Prop :=
  ∀ (m : (ℓ : Loc Cert.RefUpIdeal.nD Cert.RefUpIdeal.τ Cert.RefUpIdeal.sig) → Buf (Elt Ideal) ℓ) (g : Dev Cert.RefUpIdeal.nD → PrngReg), Pre_RefUpIdeal m →
    θ_run (Cert.RefUpIdeal.defs (F := Ideal)) (onTc (τ := Cert.RefUpIdeal.τ) (Cert.RefUpIdeal.main (F := Ideal))) ⟨m, fun _ => 0, g⟩ (fun r => (∀ c : Dev Cert.RefUpIdeal.nD,
      r.2.mem ((c.tc : Thread Cert.RefUpIdeal.nD Cert.RefUpIdeal.τ).loc Cert.RefUpIdeal.main_arg0) = m ((c.tc : Thread Cert.RefUpIdeal.nD Cert.RefUpIdeal.τ).loc Cert.RefUpIdeal.main_arg0)
      ∧ r.2.mem ((c.tc : Thread Cert.RefUpIdeal.nD Cert.RefUpIdeal.τ).loc Cert.RefUpIdeal.main_arg1) = m ((c.tc : Thread Cert.RefUpIdeal.nD Cert.RefUpIdeal.τ).loc Cert.RefUpIdeal.main_arg1)
      ∧ r.2.mem ((c.tc : Thread Cert.RefUpIdeal.nD Cert.RefUpIdeal.τ).loc Cert.RefUpIdeal.main_arg2) = m ((c.tc : Thread Cert.RefUpIdeal.nD Cert.RefUpIdeal.τ).loc Cert.RefUpIdeal.main_arg2)
      ∧ r.2.mem ((c.tc : Thread Cert.RefUpIdeal.nD Cert.RefUpIdeal.τ).loc Cert.RefUpIdeal.main_arg3) = m ((c.tc : Thread Cert.RefUpIdeal.nD Cert.RefUpIdeal.τ).loc Cert.RefUpIdeal.main_arg3))
      ∧ r.2.sem = fun _ => 0)

def quiescent_RefUpIdeal_pre_finite_up [hRefUpIdeal : Cert.RefUpIdeal.Facts] [hPre_finite_up : Cert.Pre_finite_up.Facts] : Prop :=
  ∀ (m : (ℓ : Loc Cert.RefUpIdeal.nD Cert.RefUpIdeal.τ Cert.RefUpIdeal.sig) → Buf (Elt Ideal) ℓ) (g : Dev Cert.RefUpIdeal.nD → PrngReg), Pre_RefUpIdeal_finite_up m →
    θ_run (Cert.RefUpIdeal.defs (F := Ideal)) (onTc (τ := Cert.RefUpIdeal.τ) (Cert.RefUpIdeal.main (F := Ideal))) ⟨m, fun _ => 0, g⟩ (fun r => (∀ c : Dev Cert.RefUpIdeal.nD,
      r.2.mem ((c.tc : Thread Cert.RefUpIdeal.nD Cert.RefUpIdeal.τ).loc Cert.RefUpIdeal.main_arg0) = m ((c.tc : Thread Cert.RefUpIdeal.nD Cert.RefUpIdeal.τ).loc Cert.RefUpIdeal.main_arg0)
      ∧ r.2.mem ((c.tc : Thread Cert.RefUpIdeal.nD Cert.RefUpIdeal.τ).loc Cert.RefUpIdeal.main_arg1) = m ((c.tc : Thread Cert.RefUpIdeal.nD Cert.RefUpIdeal.τ).loc Cert.RefUpIdeal.main_arg1)
      ∧ r.2.mem ((c.tc : Thread Cert.RefUpIdeal.nD Cert.RefUpIdeal.τ).loc Cert.RefUpIdeal.main_arg2) = m ((c.tc : Thread Cert.RefUpIdeal.nD Cert.RefUpIdeal.τ).loc Cert.RefUpIdeal.main_arg2)
      ∧ r.2.mem ((c.tc : Thread Cert.RefUpIdeal.nD Cert.RefUpIdeal.τ).loc Cert.RefUpIdeal.main_arg3) = m ((c.tc : Thread Cert.RefUpIdeal.nD Cert.RefUpIdeal.τ).loc Cert.RefUpIdeal.main_arg3))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ r.2.sem = fun _ => 0)

def quiescent_RefDownIdeal [hRefDownIdeal : Cert.RefDownIdeal.Facts] : Prop :=
  ∀ (m : (ℓ : Loc Cert.RefDownIdeal.nD Cert.RefDownIdeal.τ Cert.RefDownIdeal.sig) → Buf (Elt Ideal) ℓ) (g : Dev Cert.RefDownIdeal.nD → PrngReg), Pre_RefDownIdeal m →
    θ_run (Cert.RefDownIdeal.defs (F := Ideal)) (onTc (τ := Cert.RefDownIdeal.τ) (Cert.RefDownIdeal.main (F := Ideal))) ⟨m, fun _ => 0, g⟩ (fun r => (∀ c : Dev Cert.RefDownIdeal.nD,
      r.2.mem ((c.tc : Thread Cert.RefDownIdeal.nD Cert.RefDownIdeal.τ).loc Cert.RefDownIdeal.main_arg0) = m ((c.tc : Thread Cert.RefDownIdeal.nD Cert.RefDownIdeal.τ).loc Cert.RefDownIdeal.main_arg0)
      ∧ r.2.mem ((c.tc : Thread Cert.RefDownIdeal.nD Cert.RefDownIdeal.τ).loc Cert.RefDownIdeal.main_arg1) = m ((c.tc : Thread Cert.RefDownIdeal.nD Cert.RefDownIdeal.τ).loc Cert.RefDownIdeal.main_arg1)
      ∧ r.2.mem ((c.tc : Thread Cert.RefDownIdeal.nD Cert.RefDownIdeal.τ).loc Cert.RefDownIdeal.main_arg2) = m ((c.tc : Thread Cert.RefDownIdeal.nD Cert.RefDownIdeal.τ).loc Cert.RefDownIdeal.main_arg2))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2)
      ∧ r.2.mem ((c.tc : Thread Cert.KernelNorm.nD Cert.KernelNorm.τ).loc Cert.KernelNorm.main_arg3) = m ((c.tc : Thread Cert.KernelNorm.nD Cert.KernelNorm.τ).loc Cert.KernelNorm.main_arg3))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ r.2.sem = fun _ => 0)

def quiescent_RefNormIdeal [hRefNormIdeal : Cert.RefNormIdeal.Facts] : Prop :=
  ∀ (m : (ℓ : Loc Cert.RefNormIdeal.nD Cert.RefNormIdeal.τ Cert.RefNormIdeal.sig) → Buf (Elt Ideal) ℓ) (g : Dev Cert.RefNormIdeal.nD → PrngReg), Pre_RefNormIdeal m →
    θ_run (Cert.RefNormIdeal.defs (F := Ideal)) (onTc (τ := Cert.RefNormIdeal.τ) (Cert.RefNormIdeal.main (F := Ideal))) ⟨m, fun _ => 0, g⟩ (fun r => (∀ c : Dev Cert.RefNormIdeal.nD,
      r.2.mem ((c.tc : Thread Cert.RefNormIdeal.nD Cert.RefNormIdeal.τ).loc Cert.RefNormIdeal.main_arg0) = m ((c.tc : Thread Cert.RefNormIdeal.nD Cert.RefNormIdeal.τ).loc Cert.RefNormIdeal.main_arg0)
      ∧ r.2.mem ((c.tc : Thread Cert.RefNormIdeal.nD Cert.RefNormIdeal.τ).loc Cert.RefNormIdeal.main_arg1) = m ((c.tc : Thread Cert.RefNormIdeal.nD Cert.RefNormIdeal.τ).loc Cert.RefNormIdeal.main_arg1)
      ∧ r.2.mem ((c.tc : Thread Cert.RefNormIdeal.nD Cert.RefNormIdeal.τ).loc Cert.RefNormIdeal.main_arg2) = m ((c.tc : Thread Cert.RefNormIdeal.nD Cert.RefNormIdeal.τ).loc Cert.RefNormIdeal.main_arg2)
      ∧ r.2.mem ((c.tc : Thread Cert.RefNormIdeal.nD Cert.RefNormIdeal.τ).loc Cert.RefNormIdeal.main_arg3) = m ((c.tc : Thread Cert.RefNormIdeal.nD Cert.RefNormIdeal.τ).loc Cert.RefNormIdeal.main_arg3))
      ∧ r.2.sem = fun _ => 0)

def quiescent_KernelSsd [hKernelSsd : Cert.KernelSsd.Facts] : Prop :=
  ∀ (m : (ℓ : Loc Cert.KernelSsd.nD Cert.KernelSsd.τ Cert.KernelSsd.sig) → Buf (Elt Bits) ℓ) (g : Dev Cert.KernelSsd.nD → PrngReg), Pre_KernelSsd m →
    θ_run (Cert.KernelSsd.defs (F := Bits)) (onTc (τ := Cert.KernelSsd.τ) (Cert.KernelSsd.main (F := Bits))) ⟨m, fun _ => 0, g⟩ (fun r => (∀ c : Dev Cert.KernelSsd.nD,
      r.2.mem ((c.tc : Thread Cert.KernelSsd.nD Cert.KernelSsd.τ).loc Cert.KernelSsd.main_arg0) = m ((c.tc : Thread Cert.KernelSsd.nD Cert.KernelSsd.τ).loc Cert.KernelSsd.main_arg0)
      ∧ r.2.mem ((c.tc : Thread Cert.KernelSsd.nD Cert.KernelSsd.τ).loc Cert.KernelSsd.main_arg1) = m ((c.tc : Thread Cert.KernelSsd.nD Cert.KernelSsd.τ).loc Cert.KernelSsd.main_arg1)
      ∧ r.2.mem ((c.tc : Thread Cert.KernelSsd.nD Cert.KernelSsd.τ).loc Cert.KernelSsd.main_arg2) = m ((c.tc : Thread Cert.KernelSsd.nD Cert.KernelSsd.τ).loc Cert.KernelSsd.main_arg2)
      ∧ r.2.mem ((c.tc : Thread Cert.KernelSsd.nD Cert.KernelSsd.τ).loc Cert.KernelSsd.main_arg3) = m ((c.tc : Thread Cert.KernelSsd.nD Cert.KernelSsd.τ).loc Cert.KernelSsd.main_arg3)
      ∧ r.2.mem ((c.tc : Thread Cert.KernelSsd.nD Cert.KernelSsd.τ).loc Cert.KernelSsd.main_arg4) = m ((c.tc : Thread Cert.KernelSsd.nD Cert.KernelSsd.τ).loc Cert.KernelSsd.main_arg4)
      ∧ r.2.mem ((c.tc : Thread Cert.KernelSsd.nD Cert.KernelSsd.τ).loc Cert.KernelSsd.main_arg5) = m ((c.tc : Thread Cert.KernelSsd.nD Cert.KernelSsd.τ).loc Cert.KernelSsd.main_arg5))
      ∧ r.2.sem = fun _ => 0)

def quiescent_KernelSsdIdeal [hKernelSsdIdeal : Cert.KernelSsdIdeal.Facts] : Prop :=
  ∀ (m : (ℓ : Loc Cert.KernelSsdIdeal.nD Cert.KernelSsdIdeal.τ Cert.KernelSsdIdeal.sig) → Buf (Elt Ideal) ℓ) (g : Dev Cert.KernelSsdIdeal.nD → PrngReg), Pre_KernelSsdIdeal m →
    θ_run (Cert.KernelSsdIdeal.defs (F := Ideal)) (onTc (τ := Cert.KernelSsdIdeal.τ) (Cert.KernelSsdIdeal.main (F := Ideal))) ⟨m, fun _ => 0, g⟩ (fun r => (∀ c : Dev Cert.KernelSsdIdeal.nD,
      r.2.mem ((c.tc : Thread Cert.KernelSsdIdeal.nD Cert.KernelSsdIdeal.τ).loc Cert.KernelSsdIdeal.main_arg0) = m ((c.tc : Thread Cert.KernelSsdIdeal.nD Cert.KernelSsdIdeal.τ).loc Cert.KernelSsdIdeal.main_arg0)
      ∧ r.2.mem ((c.tc : Thread Cert.KernelSsdIdeal.nD Cert.KernelSsdIdeal.τ).loc Cert.KernelSsdIdeal.main_arg1) = m ((c.tc : Thread Cert.KernelSsdIdeal.nD Cert.KernelSsdIdeal.τ).loc Cert.KernelSsdIdeal.main_arg1)
      ∧ r.2.mem ((c.tc : Thread Cert.KernelSsdIdeal.nD Cert.KernelSsdIdeal.τ).loc Cert.KernelSsdIdeal.main_arg2) = m ((c.tc : Thread Cert.KernelSsdIdeal.nD Cert.KernelSsdIdeal.τ).loc Cert.KernelSsdIdeal.main_arg2)
      ∧ r.2.mem ((c.tc : Thread Cert.KernelSsdIdeal.nD Cert.KernelSsdIdeal.τ).loc Cert.KernelSsdIdeal.main_arg3) = m ((c.tc : Thread Cert.KernelSsdIdeal.nD Cert.KernelSsdIdeal.τ).loc Cert.KernelSsdIdeal.main_arg3)
      ∧ r.2.mem ((c.tc : Thread Cert.KernelSsdIdeal.nD Cert.KernelSsdIdeal.τ).loc Cert.KernelSsdIdeal.main_arg4) = m ((c.tc : Thread Cert.KernelSsdIdeal.nD Cert.KernelSsdIdeal.τ).loc Cert.KernelSsdIdeal.main_arg4)
      ∧ r.2.mem ((c.tc : Thread Cert.KernelSsdIdeal.nD Cert.KernelSsdIdeal.τ).loc Cert.KernelSsdIdeal.main_arg5) = m ((c.tc : Thread Cert.KernelSsdIdeal.nD Cert.KernelSsdIdeal.τ).loc Cert.KernelSsdIdeal.main_arg5))
      ∧ r.2.sem = fun _ => 0)

def quiescent_KernelAtt [hKernelAtt : Cert.KernelAtt.Facts] : Prop :=
  ∀ (m : (ℓ : Loc Cert.KernelAtt.nD Cert.KernelAtt.τ Cert.KernelAtt.sig) → Buf (Elt Bits) ℓ) (g : Dev Cert.KernelAtt.nD → PrngReg), Pre_KernelAtt m →
    θ_run (Cert.KernelAtt.defs (F := Bits)) (onTc (τ := Cert.KernelAtt.τ) (Cert.KernelAtt.main (F := Bits))) ⟨m, fun _ => 0, g⟩ (fun r => (∀ c : Dev Cert.KernelAtt.nD,
      r.2.mem ((c.tc : Thread Cert.KernelAtt.nD Cert.KernelAtt.τ).loc Cert.KernelAtt.main_arg0) = m ((c.tc : Thread Cert.KernelAtt.nD Cert.KernelAtt.τ).loc Cert.KernelAtt.main_arg0)
      ∧ r.2.mem ((c.tc : Thread Cert.KernelAtt.nD Cert.KernelAtt.τ).loc Cert.KernelAtt.main_arg1) = m ((c.tc : Thread Cert.KernelAtt.nD Cert.KernelAtt.τ).loc Cert.KernelAtt.main_arg1)
      ∧ r.2.mem ((c.tc : Thread Cert.KernelAtt.nD Cert.KernelAtt.τ).loc Cert.KernelAtt.main_arg2) = m ((c.tc : Thread Cert.KernelAtt.nD Cert.KernelAtt.τ).loc Cert.KernelAtt.main_arg2))
      ∧ r.2.sem = fun _ => 0)

def quiescent_KernelAttIdeal [hKernelAttIdeal : Cert.KernelAttIdeal.Facts] : Prop :=
  ∀ (m : (ℓ : Loc Cert.KernelAttIdeal.nD Cert.KernelAttIdeal.τ Cert.KernelAttIdeal.sig) → Buf (Elt Ideal) ℓ) (g : Dev Cert.KernelAttIdeal.nD → PrngReg), Pre_KernelAttIdeal m →
    θ_run (Cert.KernelAttIdeal.defs (F := Ideal)) (onTc (τ := Cert.KernelAttIdeal.τ) (Cert.KernelAttIdeal.main (F := Ideal))) ⟨m, fun _ => 0, g⟩ (fun r => (∀ c : Dev Cert.KernelAttIdeal.nD,
      r.2.mem ((c.tc : Thread Cert.KernelAttIdeal.nD Cert.KernelAttIdeal.τ).loc Cert.KernelAttIdeal.main_arg0) = m ((c.tc : Thread Cert.KernelAttIdeal.nD Cert.KernelAttIdeal.τ).loc Cert.KernelAttIdeal.main_arg0)
      ∧ r.2.mem ((c.tc : Thread Cert.KernelAttIdeal.nD Cert.KernelAttIdeal.τ).loc Cert.KernelAttIdeal.main_arg1) = m ((c.tc : Thread Cert.KernelAttIdeal.nD Cert.KernelAttIdeal.τ).loc Cert.KernelAttIdeal.main_arg1)
      ∧ r.2.mem ((c.tc : Thread Cert.KernelAttIdeal.nD Cert.KernelAttIdeal.τ).loc Cert.KernelAttIdeal.main_arg2) = m ((c.tc : Thread Cert.KernelAttIdeal.nD Cert.KernelAttIdeal.τ).loc Cert.KernelAttIdeal.main_arg2))
      ∧ r.2.sem = fun _ => 0)

def preserves_KernelZ_KernelZIdeal : Prop :=
  True

def algebraic_KernelZIdeal_RefZIdeal_pre_finite [hKernelZIdeal : Cert.KernelZIdeal.Facts] [hRefZIdeal : Cert.RefZIdeal.Facts] [hPre_finite : Cert.Pre_finite.Facts] : Prop :=
  ∀ (m : (ℓ : Loc Cert.KernelZIdeal.nD Cert.KernelZIdeal.τ Cert.KernelZIdeal.sig) → Buf (Elt Ideal) ℓ) (g : Dev Cert.KernelZIdeal.nD → PrngReg)
    (m' : (ℓ : Loc Cert.RefZIdeal.nD Cert.RefZIdeal.τ Cert.RefZIdeal.sig) → Buf (Elt Ideal) ℓ) (g' : Dev Cert.RefZIdeal.nD → PrngReg), Pre_KernelZIdeal_finite m →
    (∀ c : Dev Cert.KernelZIdeal.nD,
      m' ((c.tc : Thread Cert.RefZIdeal.nD Cert.RefZIdeal.τ).loc Cert.RefZIdeal.main_arg0) = m ((c.tc : Thread Cert.KernelZIdeal.nD Cert.KernelZIdeal.τ).loc Cert.KernelZIdeal.main_arg0)
      ∧ m' ((c.tc : Thread Cert.RefZIdeal.nD Cert.RefZIdeal.τ).loc Cert.RefZIdeal.main_arg1) = m ((c.tc : Thread Cert.KernelZIdeal.nD Cert.KernelZIdeal.τ).loc Cert.KernelZIdeal.main_arg1)) →
    ∃ (v0 : (c : Dev Cert.KernelZIdeal.nD) → Buf (Elt Ideal) ((c.tc : Thread Cert.KernelZIdeal.nD Cert.KernelZIdeal.τ).loc Cert.KernelZIdeal.main_v4)),
      θ_run (Cert.KernelZIdeal.defs (F := Ideal)) (onTc (τ := Cert.KernelZIdeal.τ) (Cert.KernelZIdeal.main (F := Ideal))) ⟨m, fun _ => 0, g⟩ (fun r => ∀ c : Dev Cert.KernelZIdeal.nD,
          r.2.mem ((c.tc : Thread Cert.KernelZIdeal.nD Cert.KernelZIdeal.τ).loc Cert.KernelZIdeal.main_v4) = v0 c
          ∧ r.2.mem ((c.tc : Thread Cert.KernelZIdeal.nD Cert.KernelZIdeal.τ).loc Cert.KernelZIdeal.main_arg0) = m ((c.tc : Thread Cert.KernelZIdeal.nD Cert.KernelZIdeal.τ).loc Cert.KernelZIdeal.main_arg0)
          ∧ r.2.mem ((c.tc : Thread Cert.KernelZIdeal.nD Cert.KernelZIdeal.τ).loc Cert.KernelZIdeal.main_arg1) = m ((c.tc : Thread Cert.KernelZIdeal.nD Cert.KernelZIdeal.τ).loc Cert.KernelZIdeal.main_arg1))
      ∧ θ_run (Cert.RefZIdeal.defs (F := Ideal)) (onTc (τ := Cert.RefZIdeal.τ) (Cert.RefZIdeal.main (F := Ideal))) ⟨m', fun _ => 0, g'⟩ (fun r => ∀ c : Dev Cert.RefZIdeal.nD,
          r.2.mem ((c.tc : Thread Cert.RefZIdeal.nD Cert.RefZIdeal.τ).loc Cert.RefZIdeal.main_v5) = v0 c
          ∧ r.2.mem ((c.tc : Thread Cert.RefZIdeal.nD Cert.RefZIdeal.τ).loc Cert.RefZIdeal.main_arg0) = m' ((c.tc : Thread Cert.RefZIdeal.nD Cert.RefZIdeal.τ).loc Cert.RefZIdeal.main_arg0)
          ∧ r.2.mem ((c.tc : Thread Cert.RefZIdeal.nD Cert.RefZIdeal.τ).loc Cert.RefZIdeal.main_arg1) = m' ((c.tc : Thread Cert.RefZIdeal.nD Cert.RefZIdeal.τ).loc Cert.RefZIdeal.main_arg1))

def preserves_KernelXbc_KernelXbcIdeal : Prop :=
  True

def algebraic_KernelXbcIdeal_RefXbcIdeal_pre_finite_xbc [hKernelXbcIdeal : Cert.KernelXbcIdeal.Facts] [hRefXbcIdeal : Cert.RefXbcIdeal.Facts] [hPre_finite_xbc : Cert.Pre_finite_xbc.Facts] : Prop :=
  ∀ (m : (ℓ : Loc Cert.KernelXbcIdeal.nD Cert.KernelXbcIdeal.τ Cert.KernelXbcIdeal.sig) → Buf (Elt Ideal) ℓ) (g : Dev Cert.KernelXbcIdeal.nD → PrngReg)
    (m' : (ℓ : Loc Cert.RefXbcIdeal.nD Cert.RefXbcIdeal.τ Cert.RefXbcIdeal.sig) → Buf (Elt Ideal) ℓ) (g' : Dev Cert.RefXbcIdeal.nD → PrngReg), Pre_KernelXbcIdeal_finite_xbc m →
    (∀ c : Dev Cert.KernelXbcIdeal.nD,
      m' ((c.tc : Thread Cert.RefXbcIdeal.nD Cert.RefXbcIdeal.τ).loc Cert.RefXbcIdeal.main_arg0) = m ((c.tc : Thread Cert.KernelXbcIdeal.nD Cert.KernelXbcIdeal.τ).loc Cert.KernelXbcIdeal.main_arg0)
      ∧ m' ((c.tc : Thread Cert.RefXbcIdeal.nD Cert.RefXbcIdeal.τ).loc Cert.RefXbcIdeal.main_arg1) = m ((c.tc : Thread Cert.KernelXbcIdeal.nD Cert.KernelXbcIdeal.τ).loc Cert.KernelXbcIdeal.main_arg1)
      ∧ m' ((c.tc : Thread Cert.RefXbcIdeal.nD Cert.RefXbcIdeal.τ).loc Cert.RefXbcIdeal.main_arg2) = m ((c.tc : Thread Cert.KernelXbcIdeal.nD Cert.KernelXbcIdeal.τ).loc Cert.KernelXbcIdeal.main_arg2)
      ∧ m' ((c.tc : Thread Cert.RefXbcIdeal.nD Cert.RefXbcIdeal.τ).loc Cert.RefXbcIdeal.main_arg3) = m ((c.tc : Thread Cert.KernelXbcIdeal.nD Cert.KernelXbcIdeal.τ).loc Cert.KernelXbcIdeal.main_arg3)) →
    ∃ (v0 : (c : Dev Cert.KernelXbcIdeal.nD) → Buf (Elt Ideal) ((c.tc : Thread Cert.KernelXbcIdeal.nD Cert.KernelXbcIdeal.τ).loc Cert.KernelXbcIdeal.main_v7)),
      θ_run (Cert.KernelXbcIdeal.defs (F := Ideal)) (onTc (τ := Cert.KernelXbcIdeal.τ) (Cert.KernelXbcIdeal.main (F := Ideal))) ⟨m, fun _ => 0, g⟩ (fun r => ∀ c : Dev Cert.KernelXbcIdeal.nD,
          r.2.mem ((c.tc : Thread Cert.KernelXbcIdeal.nD Cert.KernelXbcIdeal.τ).loc Cert.KernelXbcIdeal.main_v7) = v0 c
          ∧ r.2.mem ((c.tc : Thread Cert.KernelXbcIdeal.nD Cert.KernelXbcIdeal.τ).loc Cert.KernelXbcIdeal.main_arg0) = m ((c.tc : Thread Cert.KernelXbcIdeal.nD Cert.KernelXbcIdeal.τ).loc Cert.KernelXbcIdeal.main_arg0)
          ∧ r.2.mem ((c.tc : Thread Cert.KernelXbcIdeal.nD Cert.KernelXbcIdeal.τ).loc Cert.KernelXbcIdeal.main_arg1) = m ((c.tc : Thread Cert.KernelXbcIdeal.nD Cert.KernelXbcIdeal.τ).loc Cert.KernelXbcIdeal.main_arg1)
          ∧ r.2.mem ((c.tc : Thread Cert.KernelXbcIdeal.nD Cert.KernelXbcIdeal.τ).loc Cert.KernelXbcIdeal.main_arg2) = m ((c.tc : Thread Cert.KernelXbcIdeal.nD Cert.KernelXbcIdeal.τ).loc Cert.KernelXbcIdeal.main_arg2)
          ∧ r.2.mem ((c.tc : Thread Cert.KernelXbcIdeal.nD Cert.KernelXbcIdeal.τ).loc Cert.KernelXbcIdeal.main_arg3) = m ((c.tc : Thread Cert.KernelXbcIdeal.nD Cert.KernelXbcIdeal.τ).loc Cert.KernelXbcIdeal.main_arg3))
      ∧ θ_run (Cert.RefXbcIdeal.defs (F := Ideal)) (onTc (τ := Cert.RefXbcIdeal.τ) (Cert.RefXbcIdeal.main (F := Ideal))) ⟨m', fun _ => 0, g'⟩ (fun r => ∀ c : Dev Cert.RefXbcIdeal.nD,
          r.2.mem ((c.tc : Thread Cert.RefXbcIdeal.nD Cert.RefXbcIdeal.τ).loc Cert.RefXbcIdeal.main_v38) = v0 c
          ∧ r.2.mem ((c.tc : Thread Cert.RefXbcIdeal.nD Cert.RefXbcIdeal.τ).loc Cert.RefXbcIdeal.main_arg0) = m' ((c.tc : Thread Cert.RefXbcIdeal.nD Cert.RefXbcIdeal.τ).loc Cert.RefXbcIdeal.main_arg0)
          ∧ r.2.mem ((c.tc : Thread Cert.RefXbcIdeal.nD Cert.RefXbcIdeal.τ).loc Cert.RefXbcIdeal.main_arg1) = m' ((c.tc : Thread Cert.RefXbcIdeal.nD Cert.RefXbcIdeal.τ).loc Cert.RefXbcIdeal.main_arg1)
          ∧ r.2.mem ((c.tc : Thread Cert.RefXbcIdeal.nD Cert.RefXbcIdeal.τ).loc Cert.RefXbcIdeal.main_arg2) = m' ((c.tc : Thread Cert.RefXbcIdeal.nD Cert.RefXbcIdeal.τ).loc Cert.RefXbcIdeal.main_arg2)
          ∧ r.2.mem ((c.tc : Thread Cert.RefXbcIdeal.nD Cert.RefXbcIdeal.τ).loc Cert.RefXbcIdeal.main_arg3) = m' ((c.tc : Thread Cert.RefXbcIdeal.nD Cert.RefXbcIdeal.τ).loc Cert.RefXbcIdeal.main_arg3))

def preserves_KernelQ_KernelQIdeal : Prop :=
  IdealRules.named_const.Statement Cert.KernelQIdeal.κ "scale_log2e" .f32 0x3E0293EE#32 (((Real.log 2)⁻¹ * (Real.sqrt 128)⁻¹ : ℝ) : EReal)

def algebraic_KernelQIdeal_RefQIdeal [hKernelQIdeal : Cert.KernelQIdeal.Facts] [hRefQIdeal : Cert.RefQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg)
    (m' : (ℓ : Loc Cert.RefQIdeal.nD Cert.RefQIdeal.τ Cert.RefQIdeal.sig) → Buf (Elt Ideal) ℓ) (g' : Dev Cert.RefQIdeal.nD → PrngReg), Pre_KernelQIdeal m →
    (∀ c : Dev Cert.KernelQIdeal.nD,
      m' ((c.tc : Thread Cert.RefQIdeal.nD Cert.RefQIdeal.τ).loc Cert.RefQIdeal.main_arg0) = m ((c.tc : Thread Cert.KernelQIdeal.nD Cert.KernelQIdeal.τ).loc Cert.KernelQIdeal.main_arg0)
      ∧ m' ((c.tc : Thread Cert.RefQIdeal.nD Cert.RefQIdeal.τ).loc Cert.RefQIdeal.main_arg1) = m ((c.tc : Thread Cert.KernelQIdeal.nD Cert.KernelQIdeal.τ).loc Cert.KernelQIdeal.main_arg1)
      ∧ m' ((c.tc : Thread Cert.RefQIdeal.nD Cert.RefQIdeal.τ).loc Cert.RefQIdeal.main_arg2) = m ((c.tc : Thread Cert.KernelQIdeal.nD Cert.KernelQIdeal.τ).loc Cert.KernelQIdeal.main_arg2)) →
    ∃ (v0 : (c : Dev Cert.KernelQIdeal.nD) → Buf (Elt Ideal) ((c.tc : Thread Cert.KernelQIdeal.nD Cert.KernelQIdeal.τ).loc Cert.KernelQIdeal.main_v6)),
      θ_run (Cert.KernelQIdeal.defs (F := Ideal)) (onTc (τ := Cert.KernelQIdeal.τ) (Cert.KernelQIdeal.main (F := Ideal))) ⟨m, fun _ => 0, g⟩ (fun r => ∀ c : Dev Cert.KernelQIdeal.nD,
          r.2.mem ((c.tc : Thread Cert.KernelQIdeal.nD Cert.KernelQIdeal.τ).loc Cert.KernelQIdeal.main_v6) = v0 c
          ∧ r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
          ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1)
          ∧ r.2.mem ((c.tc : Thread Cert.KernelQIdeal.nD Cert.KernelQIdeal.τ).loc Cert.KernelQIdeal.main_arg2) = m ((c.tc : Thread Cert.KernelQIdeal.nD Cert.KernelQIdeal.τ).loc Cert.KernelQIdeal.main_arg2))
      ∧ θ_run (Cert.RefQIdeal.defs (F := Ideal)) (onTc (τ := Cert.RefQIdeal.τ) (Cert.RefQIdeal.main (F := Ideal))) ⟨m', fun _ => 0, g'⟩ (fun r => ∀ c : Dev Cert.RefQIdeal.nD,
          r.2.mem ((c.tc : Thread Cert.RefQIdeal.nD Cert.RefQIdeal.τ).loc Cert.RefQIdeal.main_v27) = v0 c
          ∧ r.2.mem ((c.tc : Thread Cert.RefQIdeal.nD Cert.RefQIdeal.τ).loc Cert.RefQIdeal.main_arg0) = m' ((c.tc : Thread Cert.RefQIdeal.nD Cert.RefQIdeal.τ).loc Cert.RefQIdeal.main_arg0)
          ∧ r.2.mem ((c.tc : Thread Cert.RefQIdeal.nD Cert.RefQIdeal.τ).loc Cert.RefQIdeal.main_arg1) = m' ((c.tc : Thread Cert.RefQIdeal.nD Cert.RefQIdeal.τ).loc Cert.RefQIdeal.main_arg1)
          ∧ r.2.mem ((c.tc : Thread Cert.RefQIdeal.nD Cert.RefQIdeal.τ).loc Cert.RefQIdeal.main_arg2) = m' ((c.tc : Thread Cert.RefQIdeal.nD Cert.RefQIdeal.τ).loc Cert.RefQIdeal.main_arg2))

def preserves_KernelK_KernelKIdeal : Prop :=
  True

def algebraic_KernelKIdeal_RefKIdeal [hKernelKIdeal : Cert.KernelKIdeal.Facts] [hRefKIdeal : Cert.RefKIdeal.Facts] : Prop :=
  ∀ (m : (ℓ : Loc Cert.KernelKIdeal.nD Cert.KernelKIdeal.τ Cert.KernelKIdeal.sig) → Buf (Elt Ideal) ℓ) (g : Dev Cert.KernelKIdeal.nD → PrngReg)
    (m' : (ℓ : Loc Cert.RefKIdeal.nD Cert.RefKIdeal.τ Cert.RefKIdeal.sig) → Buf (Elt Ideal) ℓ) (g' : Dev Cert.RefKIdeal.nD → PrngReg), Pre_KernelKIdeal m →
    (∀ c : Dev Cert.KernelKIdeal.nD,
      m' ((c.tc : Thread Cert.RefKIdeal.nD Cert.RefKIdeal.τ).loc Cert.RefKIdeal.main_arg0) = m ((c.tc : Thread Cert.KernelKIdeal.nD Cert.KernelKIdeal.τ).loc Cert.KernelKIdeal.main_arg0)
      ∧ m' ((c.tc : Thread Cert.RefKIdeal.nD Cert.RefKIdeal.τ).loc Cert.RefKIdeal.main_arg1) = m ((c.tc : Thread Cert.KernelKIdeal.nD Cert.KernelKIdeal.τ).loc Cert.KernelKIdeal.main_arg1)
      ∧ m' ((c.tc : Thread Cert.RefKIdeal.nD Cert.RefKIdeal.τ).loc Cert.RefKIdeal.main_arg2) = m ((c.tc : Thread Cert.KernelKIdeal.nD Cert.KernelKIdeal.τ).loc Cert.KernelKIdeal.main_arg2)) →
    ∃ (v0 : (c : Dev Cert.KernelKIdeal.nD) → Buf (Elt Ideal) ((c.tc : Thread Cert.KernelKIdeal.nD Cert.KernelKIdeal.τ).loc Cert.KernelKIdeal.main_v6)),
      θ_run (Cert.KernelKIdeal.defs (F := Ideal)) (onTc (τ := Cert.KernelKIdeal.τ) (Cert.KernelKIdeal.main (F := Ideal))) ⟨m, fun _ => 0, g⟩ (fun r => ∀ c : Dev Cert.KernelKIdeal.nD,
          r.2.mem ((c.tc : Thread Cert.KernelKIdeal.nD Cert.KernelKIdeal.τ).loc Cert.KernelKIdeal.main_v6) = v0 c
          ∧ r.2.mem ((c.tc : Thread Cert.KernelKIdeal.nD Cert.KernelKIdeal.τ).loc Cert.KernelKIdeal.main_arg0) = m ((c.tc : Thread Cert.KernelKIdeal.nD Cert.KernelKIdeal.τ).loc Cert.KernelKIdeal.main_arg0)
          ∧ r.2.mem ((c.tc : Thread Cert.KernelKIdeal.nD Cert.KernelKIdeal.τ).loc Cert.KernelKIdeal.main_arg1) = m ((c.tc : Thread Cert.KernelKIdeal.nD Cert.KernelKIdeal.τ).loc Cert.KernelKIdeal.main_arg1)
          ∧ r.2.mem ((c.tc : Thread Cert.KernelKIdeal.nD Cert.KernelKIdeal.τ).loc Cert.KernelKIdeal.main_arg2) = m ((c.tc : Thread Cert.KernelKIdeal.nD Cert.KernelKIdeal.τ).loc Cert.KernelKIdeal.main_arg2))
      ∧ θ_run (Cert.RefKIdeal.defs (F := Ideal)) (onTc (τ := Cert.RefKIdeal.τ) (Cert.RefKIdeal.main (F := Ideal))) ⟨m', fun _ => 0, g'⟩ (fun r => ∀ c : Dev Cert.RefKIdeal.nD,
          r.2.mem ((c.tc : Thread Cert.RefKIdeal.nD Cert.RefKIdeal.τ).loc Cert.RefKIdeal.main_v19) = v0 c
          ∧ r.2.mem ((c.tc : Thread Cert.RefKIdeal.nD Cert.RefKIdeal.τ).loc Cert.RefKIdeal.main_arg0) = m' ((c.tc : Thread Cert.RefKIdeal.nD Cert.RefKIdeal.τ).loc Cert.RefKIdeal.main_arg0)
          ∧ r.2.mem ((c.tc : Thread Cert.RefKIdeal.nD Cert.RefKIdeal.τ).loc Cert.RefKIdeal.main_arg1) = m' ((c.tc : Thread Cert.RefKIdeal.nD Cert.RefKIdeal.τ).loc Cert.RefKIdeal.main_arg1)
          ∧ r.2.mem ((c.tc : Thread Cert.RefKIdeal.nD Cert.RefKIdeal.τ).loc Cert.RefKIdeal.main_arg2) = m' ((c.tc : Thread Cert.RefKIdeal.nD Cert.RefKIdeal.τ).loc Cert.RefKIdeal.main_arg2))

def preserves_KernelV_KernelVIdeal : Prop :=
  True

def algebraic_KernelVIdeal_RefVIdeal [hKernelVIdeal : Cert.KernelVIdeal.Facts] [hRefVIdeal : Cert.RefVIdeal.Facts] : Prop :=
  ∀ (m : (ℓ : Loc Cert.KernelVIdeal.nD Cert.KernelVIdeal.τ Cert.KernelVIdeal.sig) → Buf (Elt Ideal) ℓ) (g : Dev Cert.KernelVIdeal.nD → PrngReg)
    (m' : (ℓ : Loc Cert.RefVIdeal.nD Cert.RefVIdeal.τ Cert.RefVIdeal.sig) → Buf (Elt Ideal) ℓ) (g' : Dev Cert.RefVIdeal.nD → PrngReg), Pre_KernelVIdeal m →
    (∀ c : Dev Cert.KernelVIdeal.nD,
      m' ((c.tc : Thread Cert.RefVIdeal.nD Cert.RefVIdeal.τ).loc Cert.RefVIdeal.main_arg0) = m ((c.tc : Thread Cert.KernelVIdeal.nD Cert.KernelVIdeal.τ).loc Cert.KernelVIdeal.main_arg0)
      ∧ m' ((c.tc : Thread Cert.RefVIdeal.nD Cert.RefVIdeal.τ).loc Cert.RefVIdeal.main_arg1) = m ((c.tc : Thread Cert.KernelVIdeal.nD Cert.KernelVIdeal.τ).loc Cert.KernelVIdeal.main_arg1)) →
    ∃ (v0 : (c : Dev Cert.KernelVIdeal.nD) → Buf (Elt Ideal) ((c.tc : Thread Cert.KernelVIdeal.nD Cert.KernelVIdeal.τ).loc Cert.KernelVIdeal.main_v4)),
      θ_run (Cert.KernelVIdeal.defs (F := Ideal)) (onTc (τ := Cert.KernelVIdeal.τ) (Cert.KernelVIdeal.main (F := Ideal))) ⟨m, fun _ => 0, g⟩ (fun r => ∀ c : Dev Cert.KernelVIdeal.nD,
          r.2.mem ((c.tc : Thread Cert.KernelVIdeal.nD Cert.KernelVIdeal.τ).loc Cert.KernelVIdeal.main_v4) = v0 c
          ∧ r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0)
          ∧ r.2.mem ((c.tc : Thread Cert.KernelVIdeal.nD Cert.KernelVIdeal.τ).loc Cert.KernelVIdeal.main_arg1) = m ((c.tc : Thread Cert.KernelVIdeal.nD Cert.KernelVIdeal.τ).loc Cert.KernelVIdeal.main_arg1))
      ∧ θ_run (Cert.RefVIdeal.defs (F := Ideal)) (onTc (τ := Cert.RefVIdeal.τ) (Cert.RefVIdeal.main (F := Ideal))) ⟨m', fun _ => 0, g'⟩ (fun r => ∀ c : Dev Cert.RefVIdeal.nD,
          r.2.mem ((c.tc : Thread Cert.RefVIdeal.nD Cert.RefVIdeal.τ).loc Cert.RefVIdeal.main_v4) = v0 c
          ∧ r.2.mem ((c.tc : Thread Cert.RefVIdeal.nD Cert.RefVIdeal.τ).loc Cert.RefVIdeal.main_arg0) = m' ((c.tc : Thread Cert.RefVIdeal.nD Cert.RefVIdeal.τ).loc Cert.RefVIdeal.main_arg0)
          ∧ r.2.mem ((c.tc : Thread Cert.RefVIdeal.nD Cert.RefVIdeal.τ).loc Cert.RefVIdeal.main_arg1) = m' ((c.tc : Thread Cert.RefVIdeal.nD Cert.RefVIdeal.τ).loc Cert.RefVIdeal.main_arg1))

def preserves_KernelGate_KernelGateIdeal : Prop :=
  True

def algebraic_KernelGateIdeal_RefGateIdeal [hKernelGateIdeal : Cert.KernelGateIdeal.Facts] [hRefGateIdeal : Cert.RefGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.RefGateIdeal.nD Cert.RefGateIdeal.τ Cert.RefGateIdeal.sig) → Buf (Elt Ideal) ℓ) (g' : Dev Cert.RefGateIdeal.nD → PrngReg), Pre_KernelGateIdeal m →
    (∀ c : Dev Cert.KernelGateIdeal.nD,
      m' ((c.tc : Thread Cert.RefGateIdeal.nD Cert.RefGateIdeal.τ).loc Cert.RefGateIdeal.main_arg0) = m ((c.tc : Thread Cert.KernelGateIdeal.nD Cert.KernelGateIdeal.τ).loc Cert.KernelGateIdeal.main_arg0)
      ∧ m' ((c.tc : Thread Cert.RefGateIdeal.nD Cert.RefGateIdeal.τ).loc Cert.RefGateIdeal.main_arg1) = m ((c.tc : Thread Cert.KernelGateIdeal.nD Cert.KernelGateIdeal.τ).loc Cert.KernelGateIdeal.main_arg1)
      ∧ m' ((c.tc : Thread Cert.RefGateIdeal.nD Cert.RefGateIdeal.τ).loc Cert.RefGateIdeal.main_arg2) = m ((c.tc : Thread Cert.KernelGateIdeal.nD Cert.KernelGateIdeal.τ).loc Cert.KernelGateIdeal.main_arg2)) →
    ∃ (v0 : (c : Dev Cert.KernelGateIdeal.nD) → Buf (Elt Ideal) ((c.tc : Thread Cert.KernelGateIdeal.nD Cert.KernelGateIdeal.τ).loc Cert.KernelGateIdeal.main_v6)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v6) = v0 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
          ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2))
      ∧ θ_run (Cert.RefGateIdeal.defs (F := Ideal)) (onTc (τ := Cert.RefGateIdeal.τ) (Cert.RefGateIdeal.main (F := Ideal))) ⟨m', fun _ => 0, g'⟩ (fun r => ∀ c : Dev Cert.RefGateIdeal.nD,
          r.2.mem ((c.tc : Thread Cert.RefGateIdeal.nD Cert.RefGateIdeal.τ).loc Cert.RefGateIdeal.main_v14) = v0 c
          ∧ r.2.mem ((c.tc : Thread Cert.RefGateIdeal.nD Cert.RefGateIdeal.τ).loc Cert.RefGateIdeal.main_arg0) = m' ((c.tc : Thread Cert.RefGateIdeal.nD Cert.RefGateIdeal.τ).loc Cert.RefGateIdeal.main_arg0)
          ∧ r.2.mem ((c.tc : Thread Cert.RefGateIdeal.nD Cert.RefGateIdeal.τ).loc Cert.RefGateIdeal.main_arg1) = m' ((c.tc : Thread Cert.RefGateIdeal.nD Cert.RefGateIdeal.τ).loc Cert.RefGateIdeal.main_arg1)
          ∧ r.2.mem ((c.tc : Thread Cert.RefGateIdeal.nD Cert.RefGateIdeal.τ).loc Cert.RefGateIdeal.main_arg2) = m' ((c.tc : Thread Cert.RefGateIdeal.nD Cert.RefGateIdeal.τ).loc Cert.RefGateIdeal.main_arg2))

def preserves_KernelMix_KernelMixIdeal : Prop :=
  True

def algebraic_KernelMixIdeal_RefMixIdeal [hKernelMixIdeal : Cert.KernelMixIdeal.Facts] [hRefMixIdeal : Cert.RefMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.RefMixIdeal.nD Cert.RefMixIdeal.τ Cert.RefMixIdeal.sig) → Buf (Elt Ideal) ℓ) (g' : Dev Cert.RefMixIdeal.nD → PrngReg), Pre_KernelMixIdeal m →
    (∀ c : Dev Cert.KernelMixIdeal.nD,
      m' ((c.tc : Thread Cert.RefMixIdeal.nD Cert.RefMixIdeal.τ).loc Cert.RefMixIdeal.main_arg0) = m ((c.tc : Thread Cert.KernelMixIdeal.nD Cert.KernelMixIdeal.τ).loc Cert.KernelMixIdeal.main_arg0)
      ∧ m' ((c.tc : Thread Cert.RefMixIdeal.nD Cert.RefMixIdeal.τ).loc Cert.RefMixIdeal.main_arg1) = m ((c.tc : Thread Cert.KernelMixIdeal.nD Cert.KernelMixIdeal.τ).loc Cert.KernelMixIdeal.main_arg1)
      ∧ m' ((c.tc : Thread Cert.RefMixIdeal.nD Cert.RefMixIdeal.τ).loc Cert.RefMixIdeal.main_arg2) = m ((c.tc : Thread Cert.KernelMixIdeal.nD Cert.KernelMixIdeal.τ).loc Cert.KernelMixIdeal.main_arg2)
      ∧ m' ((c.tc : Thread Cert.RefMixIdeal.nD Cert.RefMixIdeal.τ).loc Cert.RefMixIdeal.main_arg3) = m ((c.tc : Thread Cert.KernelMixIdeal.nD Cert.KernelMixIdeal.τ).loc Cert.KernelMixIdeal.main_arg3)
      ∧ m' ((c.tc : Thread Cert.RefMixIdeal.nD Cert.RefMixIdeal.τ).loc Cert.RefMixIdeal.main_arg4) = m ((c.tc : Thread Cert.KernelMixIdeal.nD Cert.KernelMixIdeal.τ).loc Cert.KernelMixIdeal.main_arg4)) →
    ∃ (v0 : (c : Dev Cert.KernelMixIdeal.nD) → Buf (Elt Ideal) ((c.tc : Thread Cert.KernelMixIdeal.nD Cert.KernelMixIdeal.τ).loc Cert.KernelMixIdeal.main_v8)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v8) = v0 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4))
      ∧ θ_run (Cert.RefMixIdeal.defs (F := Ideal)) (onTc (τ := Cert.RefMixIdeal.τ) (Cert.RefMixIdeal.main (F := Ideal))) ⟨m', fun _ => 0, g'⟩ (fun r => ∀ c : Dev Cert.RefMixIdeal.nD,
          r.2.mem ((c.tc : Thread Cert.RefMixIdeal.nD Cert.RefMixIdeal.τ).loc Cert.RefMixIdeal.main_v13) = v0 c
          ∧ r.2.mem ((c.tc : Thread Cert.RefMixIdeal.nD Cert.RefMixIdeal.τ).loc Cert.RefMixIdeal.main_arg0) = m' ((c.tc : Thread Cert.RefMixIdeal.nD Cert.RefMixIdeal.τ).loc Cert.RefMixIdeal.main_arg0)
          ∧ r.2.mem ((c.tc : Thread Cert.RefMixIdeal.nD Cert.RefMixIdeal.τ).loc Cert.RefMixIdeal.main_arg1) = m' ((c.tc : Thread Cert.RefMixIdeal.nD Cert.RefMixIdeal.τ).loc Cert.RefMixIdeal.main_arg1)
          ∧ r.2.mem ((c.tc : Thread Cert.RefMixIdeal.nD Cert.RefMixIdeal.τ).loc Cert.RefMixIdeal.main_arg2) = m' ((c.tc : Thread Cert.RefMixIdeal.nD Cert.RefMixIdeal.τ).loc Cert.RefMixIdeal.main_arg2)
          ∧ r.2.mem ((c.tc : Thread Cert.RefMixIdeal.nD Cert.RefMixIdeal.τ).loc Cert.RefMixIdeal.main_arg3) = m' ((c.tc : Thread Cert.RefMixIdeal.nD Cert.RefMixIdeal.τ).loc Cert.RefMixIdeal.main_arg3)
          ∧ r.2.mem ((c.tc : Thread Cert.RefMixIdeal.nD Cert.RefMixIdeal.τ).loc Cert.RefMixIdeal.main_arg4) = m' ((c.tc : Thread Cert.RefMixIdeal.nD Cert.RefMixIdeal.τ).loc Cert.RefMixIdeal.main_arg4))

def preserves_KernelOut_KernelOutIdeal : Prop :=
  True

def algebraic_KernelOutIdeal_RefOutIdeal [hKernelOutIdeal : Cert.KernelOutIdeal.Facts] [hRefOutIdeal : Cert.RefOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.RefOutIdeal.nD Cert.RefOutIdeal.τ Cert.RefOutIdeal.sig) → Buf (Elt Ideal) ℓ) (g' : Dev Cert.RefOutIdeal.nD → PrngReg), Pre_KernelOutIdeal m →
    (∀ c : Dev Cert.KernelOutIdeal.nD,
      m' ((c.tc : Thread Cert.RefOutIdeal.nD Cert.RefOutIdeal.τ).loc Cert.RefOutIdeal.main_arg0) = m ((c.tc : Thread Cert.KernelOutIdeal.nD Cert.KernelOutIdeal.τ).loc Cert.KernelOutIdeal.main_arg0)
      ∧ m' ((c.tc : Thread Cert.RefOutIdeal.nD Cert.RefOutIdeal.τ).loc Cert.RefOutIdeal.main_arg1) = m ((c.tc : Thread Cert.KernelOutIdeal.nD Cert.KernelOutIdeal.τ).loc Cert.KernelOutIdeal.main_arg1)
      ∧ m' ((c.tc : Thread Cert.RefOutIdeal.nD Cert.RefOutIdeal.τ).loc Cert.RefOutIdeal.main_arg2) = m ((c.tc : Thread Cert.KernelOutIdeal.nD Cert.KernelOutIdeal.τ).loc Cert.KernelOutIdeal.main_arg2)
      ∧ m' ((c.tc : Thread Cert.RefOutIdeal.nD Cert.RefOutIdeal.τ).loc Cert.RefOutIdeal.main_arg3) = m ((c.tc : Thread Cert.KernelOutIdeal.nD Cert.KernelOutIdeal.τ).loc Cert.KernelOutIdeal.main_arg3)) →
    ∃ (v0 : (c : Dev Cert.KernelOutIdeal.nD) → Buf (Elt Ideal) ((c.tc : Thread Cert.KernelOutIdeal.nD Cert.KernelOutIdeal.τ).loc Cert.KernelOutIdeal.main_v7_0)) (v1 : (c : Dev Cert.KernelOutIdeal.nD) → Buf (Elt Ideal) ((c.tc : Thread Cert.KernelOutIdeal.nD Cert.KernelOutIdeal.τ).loc Cert.KernelOutIdeal.main_v7_1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v7_0) = v0 c
          ∧ r.2.mem ((c.tc : Thread Cert.KernelOutIdeal.nD Cert.KernelOutIdeal.τ).loc Cert.KernelOutIdeal.main_v7_1) = v1 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ θ_run (Cert.RefOutIdeal.defs (F := Ideal)) (onTc (τ := Cert.RefOutIdeal.τ) (Cert.RefOutIdeal.main (F := Ideal))) ⟨m', fun _ => 0, g'⟩ (fun r => ∀ c : Dev Cert.RefOutIdeal.nD,
          r.2.mem ((c.tc : Thread Cert.RefOutIdeal.nD Cert.RefOutIdeal.τ).loc Cert.RefOutIdeal.main_v17) = v0 c
          ∧ r.2.mem ((c.tc : Thread Cert.RefOutIdeal.nD Cert.RefOutIdeal.τ).loc Cert.RefOutIdeal.main_v19) = v1 c
          ∧ r.2.mem ((c.tc : Thread Cert.RefOutIdeal.nD Cert.RefOutIdeal.τ).loc Cert.RefOutIdeal.main_arg0) = m' ((c.tc : Thread Cert.RefOutIdeal.nD Cert.RefOutIdeal.τ).loc Cert.RefOutIdeal.main_arg0)
          ∧ r.2.mem ((c.tc : Thread Cert.RefOutIdeal.nD Cert.RefOutIdeal.τ).loc Cert.RefOutIdeal.main_arg1) = m' ((c.tc : Thread Cert.RefOutIdeal.nD Cert.RefOutIdeal.τ).loc Cert.RefOutIdeal.main_arg1)
          ∧ r.2.mem ((c.tc : Thread Cert.RefOutIdeal.nD Cert.RefOutIdeal.τ).loc Cert.RefOutIdeal.main_arg2) = m' ((c.tc : Thread Cert.RefOutIdeal.nD Cert.RefOutIdeal.τ).loc Cert.RefOutIdeal.main_arg2)
          ∧ r.2.mem ((c.tc : Thread Cert.RefOutIdeal.nD Cert.RefOutIdeal.τ).loc Cert.RefOutIdeal.main_arg3) = m' ((c.tc : Thread Cert.RefOutIdeal.nD Cert.RefOutIdeal.τ).loc Cert.RefOutIdeal.main_arg3))

def preserves_KernelUp_KernelUpIdeal : Prop :=
  True

def algebraic_KernelUpIdeal_RefUpIdeal_pre_finite_up [hKernelUpIdeal : Cert.KernelUpIdeal.Facts] [hRefUpIdeal : Cert.RefUpIdeal.Facts] [hPre_finite_up : Cert.Pre_finite_up.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.RefUpIdeal.nD Cert.RefUpIdeal.τ Cert.RefUpIdeal.sig) → Buf (Elt Ideal) ℓ) (g' : Dev Cert.RefUpIdeal.nD → PrngReg), Pre_KernelUpIdeal_finite_up m →
    (∀ c : Dev Cert.KernelUpIdeal.nD,
      m' ((c.tc : Thread Cert.RefUpIdeal.nD Cert.RefUpIdeal.τ).loc Cert.RefUpIdeal.main_arg0) = m ((c.tc : Thread Cert.KernelUpIdeal.nD Cert.KernelUpIdeal.τ).loc Cert.KernelUpIdeal.main_arg0)
      ∧ m' ((c.tc : Thread Cert.RefUpIdeal.nD Cert.RefUpIdeal.τ).loc Cert.RefUpIdeal.main_arg1) = m ((c.tc : Thread Cert.KernelUpIdeal.nD Cert.KernelUpIdeal.τ).loc Cert.KernelUpIdeal.main_arg1)
      ∧ m' ((c.tc : Thread Cert.RefUpIdeal.nD Cert.RefUpIdeal.τ).loc Cert.RefUpIdeal.main_arg2) = m ((c.tc : Thread Cert.KernelUpIdeal.nD Cert.KernelUpIdeal.τ).loc Cert.KernelUpIdeal.main_arg2)
      ∧ m' ((c.tc : Thread Cert.RefUpIdeal.nD Cert.RefUpIdeal.τ).loc Cert.RefUpIdeal.main_arg3) = m ((c.tc : Thread Cert.KernelUpIdeal.nD Cert.KernelUpIdeal.τ).loc Cert.KernelUpIdeal.main_arg3)) →
    ∃ (v0 : (c : Dev Cert.KernelUpIdeal.nD) → Buf (Elt Ideal) ((c.tc : Thread Cert.KernelUpIdeal.nD Cert.KernelUpIdeal.τ).loc Cert.KernelUpIdeal.main_v6)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v6) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
          ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3))
      ∧ θ_run (Cert.RefUpIdeal.defs (F := Ideal)) (onTc (τ := Cert.RefUpIdeal.τ) (Cert.RefUpIdeal.main (F := Ideal))) ⟨m', fun _ => 0, g'⟩ (fun r => ∀ c : Dev Cert.RefUpIdeal.nD,
          r.2.mem ((c.tc : Thread Cert.RefUpIdeal.nD Cert.RefUpIdeal.τ).loc Cert.RefUpIdeal.main_v33) = v0 c
          ∧ r.2.mem ((c.tc : Thread Cert.RefUpIdeal.nD Cert.RefUpIdeal.τ).loc Cert.RefUpIdeal.main_arg0) = m' ((c.tc : Thread Cert.RefUpIdeal.nD Cert.RefUpIdeal.τ).loc Cert.RefUpIdeal.main_arg0)
          ∧ r.2.mem ((c.tc : Thread Cert.RefUpIdeal.nD Cert.RefUpIdeal.τ).loc Cert.RefUpIdeal.main_arg1) = m' ((c.tc : Thread Cert.RefUpIdeal.nD Cert.RefUpIdeal.τ).loc Cert.RefUpIdeal.main_arg1)
          ∧ r.2.mem ((c.tc : Thread Cert.RefUpIdeal.nD Cert.RefUpIdeal.τ).loc Cert.RefUpIdeal.main_arg2) = m' ((c.tc : Thread Cert.RefUpIdeal.nD Cert.RefUpIdeal.τ).loc Cert.RefUpIdeal.main_arg2)
          ∧ r.2.mem ((c.tc : Thread Cert.RefUpIdeal.nD Cert.RefUpIdeal.τ).loc Cert.RefUpIdeal.main_arg3) = m' ((c.tc : Thread Cert.RefUpIdeal.nD Cert.RefUpIdeal.τ).loc Cert.RefUpIdeal.main_arg3))

def preserves_KernelDown_KernelDownIdeal : Prop :=
  True

def algebraic_KernelDownIdeal_RefDownIdeal [hKernelDownIdeal : Cert.KernelDownIdeal.Facts] [hRefDownIdeal : Cert.RefDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.RefDownIdeal.nD Cert.RefDownIdeal.τ Cert.RefDownIdeal.sig) → Buf (Elt Ideal) ℓ) (g' : Dev Cert.RefDownIdeal.nD → PrngReg), Pre_KernelDownIdeal m →
    (∀ c : Dev Cert.KernelDownIdeal.nD,
      m' ((c.tc : Thread Cert.RefDownIdeal.nD Cert.RefDownIdeal.τ).loc Cert.RefDownIdeal.main_arg0) = m ((c.tc : Thread Cert.KernelDownIdeal.nD Cert.KernelDownIdeal.τ).loc Cert.KernelDownIdeal.main_arg0)
      ∧ m' ((c.tc : Thread Cert.RefDownIdeal.nD Cert.RefDownIdeal.τ).loc Cert.RefDownIdeal.main_arg1) = m ((c.tc : Thread Cert.KernelDownIdeal.nD Cert.KernelDownIdeal.τ).loc Cert.KernelDownIdeal.main_arg1)
      ∧ m' ((c.tc : Thread Cert.RefDownIdeal.nD Cert.RefDownIdeal.τ).loc Cert.RefDownIdeal.main_arg2) = m ((c.tc : Thread Cert.KernelDownIdeal.nD Cert.KernelDownIdeal.τ).loc Cert.KernelDownIdeal.main_arg2)) →
    ∃ (v0 : (c : Dev Cert.KernelDownIdeal.nD) → Buf (Elt Ideal) ((c.tc : Thread Cert.KernelDownIdeal.nD Cert.KernelDownIdeal.τ).loc Cert.KernelDownIdeal.main_v4)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v4) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ θ_run (Cert.RefDownIdeal.defs (F := Ideal)) (onTc (τ := Cert.RefDownIdeal.τ) (Cert.RefDownIdeal.main (F := Ideal))) ⟨m', fun _ => 0, g'⟩ (fun r => ∀ c : Dev Cert.RefDownIdeal.nD,
          r.2.mem ((c.tc : Thread Cert.RefDownIdeal.nD Cert.RefDownIdeal.τ).loc Cert.RefDownIdeal.main_v3) = v0 c
          ∧ r.2.mem ((c.tc : Thread Cert.RefDownIdeal.nD Cert.RefDownIdeal.τ).loc Cert.RefDownIdeal.main_arg0) = m' ((c.tc : Thread Cert.RefDownIdeal.nD Cert.RefDownIdeal.τ).loc Cert.RefDownIdeal.main_arg0)
          ∧ r.2.mem ((c.tc : Thread Cert.RefDownIdeal.nD Cert.RefDownIdeal.τ).loc Cert.RefDownIdeal.main_arg1) = m' ((c.tc : Thread Cert.RefDownIdeal.nD Cert.RefDownIdeal.τ).loc Cert.RefDownIdeal.main_arg1)
          ∧ r.2.mem ((c.tc : Thread Cert.RefDownIdeal.nD Cert.RefDownIdeal.τ).loc Cert.RefDownIdeal.main_arg2) = m' ((c.tc : Thread Cert.RefDownIdeal.nD Cert.RefDownIdeal.τ).loc Cert.RefDownIdeal.main_arg2))

def preserves_KernelNorm_KernelNormIdeal : Prop :=
  True

def algebraic_KernelNormIdeal_RefNormIdeal [hKernelNormIdeal : Cert.KernelNormIdeal.Facts] [hRefNormIdeal : Cert.RefNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.RefNormIdeal.nD Cert.RefNormIdeal.τ Cert.RefNormIdeal.sig) → Buf (Elt Ideal) ℓ) (g' : Dev Cert.RefNormIdeal.nD → PrngReg), Pre_KernelNormIdeal m →
    (∀ c : Dev Cert.KernelNormIdeal.nD,
      m' ((c.tc : Thread Cert.RefNormIdeal.nD Cert.RefNormIdeal.τ).loc Cert.RefNormIdeal.main_arg0) = m ((c.tc : Thread Cert.KernelNormIdeal.nD Cert.KernelNormIdeal.τ).loc Cert.KernelNormIdeal.main_arg0)
      ∧ m' ((c.tc : Thread Cert.RefNormIdeal.nD Cert.RefNormIdeal.τ).loc Cert.RefNormIdeal.main_arg1) = m ((c.tc : Thread Cert.KernelNormIdeal.nD Cert.KernelNormIdeal.τ).loc Cert.KernelNormIdeal.main_arg1)
      ∧ m' ((c.tc : Thread Cert.RefNormIdeal.nD Cert.RefNormIdeal.τ).loc Cert.RefNormIdeal.main_arg2) = m ((c.tc : Thread Cert.KernelNormIdeal.nD Cert.KernelNormIdeal.τ).loc Cert.KernelNormIdeal.main_arg2)
      ∧ m' ((c.tc : Thread Cert.RefNormIdeal.nD Cert.RefNormIdeal.τ).loc Cert.RefNormIdeal.main_arg3) = m ((c.tc : Thread Cert.KernelNormIdeal.nD Cert.KernelNormIdeal.τ).loc Cert.KernelNormIdeal.main_arg3)) →
    ∃ (v0 : (c : Dev Cert.KernelNormIdeal.nD) → Buf (Elt Ideal) ((c.tc : Thread Cert.KernelNormIdeal.nD Cert.KernelNormIdeal.τ).loc Cert.KernelNormIdeal.main_v11_0)) (v1 : (c : Dev Cert.KernelNormIdeal.nD) → Buf (Elt Ideal) ((c.tc : Thread Cert.KernelNormIdeal.nD Cert.KernelNormIdeal.τ).loc Cert.KernelNormIdeal.main_v11_1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v11_0) = v0 c
          ∧ r.2.mem ((c.tc : Thread Cert.KernelNormIdeal.nD Cert.KernelNormIdeal.τ).loc Cert.KernelNormIdeal.main_v11_1) = v1 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
          ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ θ_run (Cert.RefNormIdeal.defs (F := Ideal)) (onTc (τ := Cert.RefNormIdeal.τ) (Cert.RefNormIdeal.main (F := Ideal))) ⟨m', fun _ => 0, g'⟩ (fun r => ∀ c : Dev Cert.RefNormIdeal.nD,
          r.2.mem ((c.tc : Thread Cert.RefNormIdeal.nD Cert.RefNormIdeal.τ).loc Cert.RefNormIdeal.main_v24) = v0 c
          ∧ r.2.mem ((c.tc : Thread Cert.RefNormIdeal.nD Cert.RefNormIdeal.τ).loc Cert.RefNormIdeal.main_v25) = v1 c
          ∧ r.2.mem ((c.tc : Thread Cert.RefNormIdeal.nD Cert.RefNormIdeal.τ).loc Cert.RefNormIdeal.main_arg0) = m' ((c.tc : Thread Cert.RefNormIdeal.nD Cert.RefNormIdeal.τ).loc Cert.RefNormIdeal.main_arg0)
          ∧ r.2.mem ((c.tc : Thread Cert.RefNormIdeal.nD Cert.RefNormIdeal.τ).loc Cert.RefNormIdeal.main_arg1) = m' ((c.tc : Thread Cert.RefNormIdeal.nD Cert.RefNormIdeal.τ).loc Cert.RefNormIdeal.main_arg1)
          ∧ r.2.mem ((c.tc : Thread Cert.RefNormIdeal.nD Cert.RefNormIdeal.τ).loc Cert.RefNormIdeal.main_arg2) = m' ((c.tc : Thread Cert.RefNormIdeal.nD Cert.RefNormIdeal.τ).loc Cert.RefNormIdeal.main_arg2)
          ∧ r.2.mem ((c.tc : Thread Cert.RefNormIdeal.nD Cert.RefNormIdeal.τ).loc Cert.RefNormIdeal.main_arg3) = m' ((c.tc : Thread Cert.RefNormIdeal.nD Cert.RefNormIdeal.τ).loc Cert.RefNormIdeal.main_arg3))

def preserves_KernelSsd_KernelSsdIdeal : Prop :=
  True

def preserves_KernelAtt_KernelAttIdeal : Prop :=
  True

def Claim : Prop :=
  ∃ (hKernelZ : Cert.KernelZ.Facts) (hKernelZIdeal : Cert.KernelZIdeal.Facts) (hRefZIdeal : Cert.RefZIdeal.Facts) (hKernelXbc : Cert.KernelXbc.Facts) (hKernelXbcIdeal : Cert.KernelXbcIdeal.Facts) (hRefXbcIdeal : Cert.RefXbcIdeal.Facts) (hKernelQ : Cert.KernelQ.Facts) (hKernelQIdeal : Cert.KernelQIdeal.Facts) (hRefQIdeal : Cert.RefQIdeal.Facts) (hKernelK : Cert.KernelK.Facts) (hKernelKIdeal : Cert.KernelKIdeal.Facts) (hRefKIdeal : Cert.RefKIdeal.Facts) (hKernelV : Cert.KernelV.Facts) (hKernelVIdeal : Cert.KernelVIdeal.Facts) (hRefVIdeal : Cert.RefVIdeal.Facts) (hKernelGate : Cert.KernelGate.Facts) (hKernelGateIdeal : Cert.KernelGateIdeal.Facts) (hRefGateIdeal : Cert.RefGateIdeal.Facts) (hKernelMix : Cert.KernelMix.Facts) (hKernelMixIdeal : Cert.KernelMixIdeal.Facts) (hRefMixIdeal : Cert.RefMixIdeal.Facts) (hKernelOut : Cert.KernelOut.Facts) (hKernelOutIdeal : Cert.KernelOutIdeal.Facts) (hRefOutIdeal : Cert.RefOutIdeal.Facts) (hKernelUp : Cert.KernelUp.Facts) (hKernelUpIdeal : Cert.KernelUpIdeal.Facts) (hRefUpIdeal : Cert.RefUpIdeal.Facts) (hKernelDown : Cert.KernelDown.Facts) (hKernelDownIdeal : Cert.KernelDownIdeal.Facts) (hRefDownIdeal : Cert.RefDownIdeal.Facts) (hKernelNorm : Cert.KernelNorm.Facts) (hKernelNormIdeal : Cert.KernelNormIdeal.Facts) (hRefNormIdeal : Cert.RefNormIdeal.Facts) (hKernelSsd : Cert.KernelSsd.Facts) (hKernelSsdIdeal : Cert.KernelSsdIdeal.Facts) (hKernelAtt : Cert.KernelAtt.Facts) (hKernelAttIdeal : Cert.KernelAttIdeal.Facts) (hPre_finite : Cert.Pre_finite.Facts) (hPre_finite_xbc : Cert.Pre_finite_xbc.Facts) (hPre_finite_up : Cert.Pre_finite_up.Facts),
    quiescent_KernelZ (hKernelZ := hKernelZ)
    ∧ quiescent_KernelZIdeal (hKernelZIdeal := hKernelZIdeal)
    ∧ quiescent_KernelZIdeal_pre_finite (hKernelZIdeal := hKernelZIdeal) (hPre_finite := hPre_finite)
    ∧ quiescent_RefZIdeal (hRefZIdeal := hRefZIdeal)
    ∧ quiescent_RefZIdeal_pre_finite (hRefZIdeal := hRefZIdeal) (hPre_finite := hPre_finite)
    ∧ quiescent_KernelXbc (hKernelXbc := hKernelXbc)
    ∧ quiescent_KernelXbcIdeal (hKernelXbcIdeal := hKernelXbcIdeal)
    ∧ quiescent_KernelXbcIdeal_pre_finite_xbc (hKernelXbcIdeal := hKernelXbcIdeal) (hPre_finite_xbc := hPre_finite_xbc)
    ∧ quiescent_RefXbcIdeal (hRefXbcIdeal := hRefXbcIdeal)
    ∧ quiescent_RefXbcIdeal_pre_finite_xbc (hRefXbcIdeal := hRefXbcIdeal) (hPre_finite_xbc := hPre_finite_xbc)
    ∧ quiescent_KernelQ (hKernelQ := hKernelQ)
    ∧ quiescent_KernelQIdeal (hKernelQIdeal := hKernelQIdeal)
    ∧ quiescent_RefQIdeal (hRefQIdeal := hRefQIdeal)
    ∧ quiescent_KernelK (hKernelK := hKernelK)
    ∧ quiescent_KernelKIdeal (hKernelKIdeal := hKernelKIdeal)
    ∧ quiescent_RefKIdeal (hRefKIdeal := hRefKIdeal)
    ∧ quiescent_KernelV (hKernelV := hKernelV)
    ∧ quiescent_KernelVIdeal (hKernelVIdeal := hKernelVIdeal)
    ∧ quiescent_RefVIdeal (hRefVIdeal := hRefVIdeal)
    ∧ quiescent_KernelGate (hKernelGate := hKernelGate)
    ∧ quiescent_KernelGateIdeal (hKernelGateIdeal := hKernelGateIdeal)
    ∧ quiescent_RefGateIdeal (hRefGateIdeal := hRefGateIdeal)
    ∧ quiescent_KernelMix (hKernelMix := hKernelMix)
    ∧ quiescent_KernelMixIdeal (hKernelMixIdeal := hKernelMixIdeal)
    ∧ quiescent_RefMixIdeal (hRefMixIdeal := hRefMixIdeal)
    ∧ quiescent_KernelOut (hKernelOut := hKernelOut)
    ∧ quiescent_KernelOutIdeal (hKernelOutIdeal := hKernelOutIdeal)
    ∧ quiescent_RefOutIdeal (hRefOutIdeal := hRefOutIdeal)
    ∧ quiescent_KernelUp (hKernelUp := hKernelUp)
    ∧ quiescent_KernelUpIdeal (hKernelUpIdeal := hKernelUpIdeal)
    ∧ quiescent_KernelUpIdeal_pre_finite_up (hKernelUpIdeal := hKernelUpIdeal) (hPre_finite_up := hPre_finite_up)
    ∧ quiescent_RefUpIdeal (hRefUpIdeal := hRefUpIdeal)
    ∧ quiescent_RefUpIdeal_pre_finite_up (hRefUpIdeal := hRefUpIdeal) (hPre_finite_up := hPre_finite_up)
    ∧ quiescent_KernelDown (hKernelDown := hKernelDown)
    ∧ quiescent_KernelDownIdeal (hKernelDownIdeal := hKernelDownIdeal)
    ∧ quiescent_RefDownIdeal (hRefDownIdeal := hRefDownIdeal)
    ∧ quiescent_KernelNorm (hKernelNorm := hKernelNorm)
    ∧ quiescent_KernelNormIdeal (hKernelNormIdeal := hKernelNormIdeal)
    ∧ quiescent_RefNormIdeal (hRefNormIdeal := hRefNormIdeal)
    ∧ quiescent_KernelSsd (hKernelSsd := hKernelSsd)
    ∧ quiescent_KernelSsdIdeal (hKernelSsdIdeal := hKernelSsdIdeal)
    ∧ quiescent_KernelAtt (hKernelAtt := hKernelAtt)
    ∧ quiescent_KernelAttIdeal (hKernelAttIdeal := hKernelAttIdeal)
    ∧ preserves_KernelZ_KernelZIdeal
    ∧ algebraic_KernelZIdeal_RefZIdeal_pre_finite (hKernelZIdeal := hKernelZIdeal) (hRefZIdeal := hRefZIdeal) (hPre_finite := hPre_finite)
    ∧ preserves_KernelXbc_KernelXbcIdeal
    ∧ algebraic_KernelXbcIdeal_RefXbcIdeal_pre_finite_xbc (hKernelXbcIdeal := hKernelXbcIdeal) (hRefXbcIdeal := hRefXbcIdeal) (hPre_finite_xbc := hPre_finite_xbc)
    ∧ preserves_KernelQ_KernelQIdeal
    ∧ algebraic_KernelQIdeal_RefQIdeal (hKernelQIdeal := hKernelQIdeal) (hRefQIdeal := hRefQIdeal)
    ∧ preserves_KernelK_KernelKIdeal
    ∧ algebraic_KernelKIdeal_RefKIdeal (hKernelKIdeal := hKernelKIdeal) (hRefKIdeal := hRefKIdeal)
    ∧ preserves_KernelV_KernelVIdeal
    ∧ algebraic_KernelVIdeal_RefVIdeal (hKernelVIdeal := hKernelVIdeal) (hRefVIdeal := hRefVIdeal)
    ∧ preserves_KernelGate_KernelGateIdeal
    ∧ algebraic_KernelGateIdeal_RefGateIdeal (hKernelGateIdeal := hKernelGateIdeal) (hRefGateIdeal := hRefGateIdeal)
    ∧ preserves_KernelMix_KernelMixIdeal
    ∧ algebraic_KernelMixIdeal_RefMixIdeal (hKernelMixIdeal := hKernelMixIdeal) (hRefMixIdeal := hRefMixIdeal)
    ∧ preserves_KernelOut_KernelOutIdeal
    ∧ algebraic_KernelOutIdeal_RefOutIdeal (hKernelOutIdeal := hKernelOutIdeal) (hRefOutIdeal := hRefOutIdeal)
    ∧ preserves_KernelUp_KernelUpIdeal
    ∧ algebraic_KernelUpIdeal_RefUpIdeal_pre_finite_up (hKernelUpIdeal := hKernelUpIdeal) (hRefUpIdeal := hRefUpIdeal) (hPre_finite_up := hPre_finite_up)
    ∧ preserves_KernelDown_KernelDownIdeal
    ∧ algebraic_KernelDownIdeal_RefDownIdeal (hKernelDownIdeal := hKernelDownIdeal) (hRefDownIdeal := hRefDownIdeal)
    ∧ preserves_KernelNorm_KernelNormIdeal
    ∧ algebraic_KernelNormIdeal_RefNormIdeal (hKernelNormIdeal := hKernelNormIdeal) (hRefNormIdeal := hRefNormIdeal)
    ∧ preserves_KernelSsd_KernelSsdIdeal
    ∧ preserves_KernelAtt_KernelAttIdeal
-- ==== Pre_finite.lean ====
abbrev S2x4096x2048 : Shape := ⟨3, ![2, 4096, 2048]⟩
abbrev S1x2048x20544 : Shape := ⟨3, ![1, 2048, 20544]⟩
abbrev S_ : Shape := ⟨0, ![]⟩

class Facts : Prop where
  bcast_S_S2x4096x2048 : S_.BroadcastsInDim S2x4096x2048 (![] : Fin 0 → Fin S2x4096x2048.rank)
  bcast_S_S1x2048x20544 : S_.BroadcastsInDim S1x2048x20544 (![] : Fin 0 → Fin S1x2048x20544.rank)

variable [Facts]

def fn {F : FTy → Type} [FloatOps F] (main_arg0 : FVec F S2x4096x2048 .f32) (main_arg1 : FVec F S1x2048x20544 .f32) : IVec S2x4096x2048 1 × IVec S1x2048x20544 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_v3 : FVec F S1x2048x20544 .f32 := Host.absf main_arg1
  let main_cst_0 : FVec F S_ .f32 := constant S_ .f32 0x7F800000#32
  let main_v4 : FVec F S1x2048x20544 .f32 := broadcastInDim S1x2048x20544 ![] bcast_S_S1x2048x20544 main_cst_0
  let main_v5 : IVec S1x2048x20544 1 := cmpf .olt main_v3 main_v4
  (main_v2, main_v5)
-- ==== Pre_finite_up.lean ====
abbrev S2x4096x2048 : Shape := ⟨3, ![2, 4096, 2048]⟩
abbrev S1x2048x11264 : Shape := ⟨3, ![1, 2048, 11264]⟩
abbrev S1x3x5632 : Shape := ⟨3, ![1, 3, 5632]⟩
abbrev S1x5632 : Shape := ⟨2, ![1, 5632]⟩
abbrev S_ : Shape := ⟨0, ![]⟩

class Facts : Prop where
  bcast_S_S2x4096x2048 : S_.BroadcastsInDim S2x4096x2048 (![] : Fin 0 → Fin S2x4096x2048.rank)
  bcast_S_S1x2048x11264 : S_.BroadcastsInDim S1x2048x11264 (![] : Fin 0 → Fin S1x2048x11264.rank)
  bcast_S_S1x3x5632 : S_.BroadcastsInDim S1x3x5632 (![] : Fin 0 → Fin S1x3x5632.rank)
  bcast_S_S1x5632 : S_.BroadcastsInDim S1x5632 (![] : Fin 0 → Fin S1x5632.rank)

variable [Facts]

def fn {F : FTy → Type} [FloatOps F] (main_arg0 : FVec F S2x4096x2048 .f32) (main_arg1 : FVec F S1x2048x11264 .f32) (main_arg2 : FVec F S1x3x5632 .f32) (main_arg3 : FVec F S1x5632 .f32) : IVec S2x4096x2048 1 × IVec S1x2048x11264 1 × IVec S1x3x5632 1 × IVec S1x5632 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_v3 : FVec F S1x2048x11264 .f32 := Host.absf main_arg1
  let main_cst_0 : FVec F S_ .f32 := constant S_ .f32 0x7F800000#32
  let main_v4 : FVec F S1x2048x11264 .f32 := broadcastInDim S1x2048x11264 ![] bcast_S_S1x2048x11264 main_cst_0
  let main_v5 : IVec S1x2048x11264 1 := cmpf .olt main_v3 main_v4
  let main_v6 : FVec F S1x3x5632 .f32 := Host.absf main_arg2
  let main_cst_1 : FVec F S_ .f32 := constant S_ .f32 0x7F800000#32
  let main_v7 : FVec F S1x3x5632 .f32 := broadcastInDim S1x3x5632 ![] bcast_S_S1x3x5632 main_cst_1
  let main_v8 : IVec S1x3x5632 1 := cmpf .olt main_v6 main_v7
  let main_v9 : FVec F S1x5632 .f32 := Host.absf main_arg3
  let main_cst_2 : FVec F S_ .f32 := constant S_ .f32 0x7F800000#32
  let main_v10 : FVec F S1x5632 .f32 := broadcastInDim S1x5632 ![] bcast_S_S1x5632 main_cst_2
  let main_v11 : IVec S1x5632 1 := cmpf .olt main_v9 main_v10
  (main_v2, main_v5, main_v8, main_v11)
-- ==== Pre_finite_xbc.lean ====
abbrev S2x4096x2048 : Shape := ⟨3, ![2, 4096, 2048]⟩
abbrev S1x2048x20544 : Shape := ⟨3, ![1, 2048, 20544]⟩
abbrev S1x4x6144 : Shape := ⟨3, ![1, 4, 6144]⟩
abbrev S1x6144 : Shape := ⟨2, ![1, 6144]⟩
abbrev S_ : Shape := ⟨0, ![]⟩

class Facts : Prop where
  bcast_S_S2x4096x2048 : S_.BroadcastsInDim S2x4096x2048 (![] : Fin 0 → Fin S2x4096x2048.rank)
  bcast_S_S1x2048x20544 : S_.BroadcastsInDim S1x2048x20544 (![] : Fin 0 → Fin S1x2048x20544.rank)
  bcast_S_S1x4x6144 : S_.BroadcastsInDim S1x4x6144 (![] : Fin 0 → Fin S1x4x6144.rank)
  bcast_S_S1x6144 : S_.BroadcastsInDim S1x6144 (![] : Fin 0 → Fin S1x6144.rank)

variable [Facts]

def fn {F : FTy → Type} [FloatOps F] (main_arg0 : FVec F S2x4096x2048 .f32) (main_arg1 : FVec F S1x2048x20544 .f32) (main_arg2 : FVec F S1x4x6144 .f32) (main_arg3 : FVec F S1x6144 .f32) : IVec S2x4096x2048 1 × IVec S1x2048x20544 1 × IVec S1x4x6144 1 × IVec S1x6144 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_v3 : FVec F S1x2048x20544 .f32 := Host.absf main_arg1
  let main_cst_0 : FVec F S_ .f32 := constant S_ .f32 0x7F800000#32
  let main_v4 : FVec F S1x2048x20544 .f32 := broadcastInDim S1x2048x20544 ![] bcast_S_S1x2048x20544 main_cst_0
  let main_v5 : IVec S1x2048x20544 1 := cmpf .olt main_v3 main_v4
  let main_v6 : FVec F S1x4x6144 .f32 := Host.absf main_arg2
  let main_cst_1 : FVec F S_ .f32 := constant S_ .f32 0x7F800000#32
  let main_v7 : FVec F S1x4x6144 .f32 := broadcastInDim S1x4x6144 ![] bcast_S_S1x4x6144 main_cst_1
  let main_v8 : IVec S1x4x6144 1 := cmpf .olt main_v6 main_v7
  let main_v9 : FVec F S1x6144 .f32 := Host.absf main_arg3
  let main_cst_2 : FVec F S_ .f32 := constant S_ .f32 0x7F800000#32
  let main_v10 : FVec F S1x6144 .f32 := broadcastInDim S1x6144 ![] bcast_S_S1x6144 main_cst_2
  let main_v11 : IVec S1x6144 1 := cmpf .olt main_v9 main_v10
  (main_v2, main_v5, main_v8, main_v11)
-- ==== KernelZ.lean ====
abbrev S2x4096x2048 : Shape := ⟨3, ![2, 4096, 2048]⟩
abbrev S1x2048x20544 : Shape := ⟨3, ![1, 2048, 20544]⟩
abbrev S8192x2048 : Shape := ⟨2, ![8192, 2048]⟩
abbrev S2048x20544 : Shape := ⟨2, ![2048, 20544]⟩
abbrev S20544x2048 : Shape := ⟨2, ![20544, 2048]⟩
abbrev S8192x4096 : Shape := ⟨2, ![8192, 4096]⟩
abbrev S2048x2048 : Shape := ⟨2, ![2048, 2048]⟩
abbrev S1024x2048 : Shape := ⟨2, ![1024, 2048]⟩
abbrev S2048x1024 : Shape := ⟨2, ![2048, 1024]⟩
abbrev S128x2048 : Shape := ⟨2, ![128, 2048]⟩
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x4096x2048, .f32⟩
  | .hbm, ⟨1, _⟩ => ⟨S1x2048x20544, .f32⟩
  | .hbm, ⟨2, _⟩ => ⟨S8192x2048, .f32⟩
  | .hbm, ⟨3, _⟩ => ⟨S8192x2048, .bf16⟩
  | .hbm, ⟨4, _⟩ => ⟨S2048x20544, .f32⟩
  | .hbm, ⟨5, _⟩ => ⟨S20544x2048, .f32⟩
  | .hbm, ⟨6, _⟩ => ⟨S8192x4096, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .f32⟩
  | .local _ .vmem, ⟨3, _⟩ => ⟨S1024x2048, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let c0_i32 : BitVec 32 := 0#32
  let arg0 : BitVec 32 := BitVec.ofNat 32 (i 0).val
  let c1024_i32 : BitVec 32 := 1024#32
  let v0 : BitVec 32 := Scalar.muli arg0 c1024_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefZIdeal.lean ====
abbrev S2x4096x2048 : Shape := ⟨3, ![2, 4096, 2048]⟩
abbrev S1x2048x20544 : Shape := ⟨3, ![1, 2048, 20544]⟩
abbrev S2048x20544 : Shape := ⟨2, ![2048, 20544]⟩
abbrev S2x4096x20544 : Shape := ⟨3, ![2, 4096, 20544]⟩
abbrev S2x4096x4096 : Shape := ⟨3, ![2, 4096, 4096]⟩
abbrev S_ : Shape := ⟨0, ![]⟩
abbrev S8192x4096 : Shape := ⟨2, ![8192, 4096]⟩

abbrev nBuf : Space → Nat
  | .hbm => 16
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048x20544, .f32⟩
  | .hbm, ⟨2, _⟩ => ⟨S2048x20544, .f32⟩
  | .hbm, ⟨3, _⟩ => ⟨S2x4096x20544, .f32⟩
  | .hbm, ⟨4, _⟩ => ⟨S2x4096x4096, .f32⟩
  | .hbm, ⟨5, _⟩ => ⟨S2x4096x4096, .f32⟩
  | .hbm, ⟨6, _⟩ => ⟨S2x4096x4096, .f32⟩
  | .hbm, ⟨7, _⟩ => ⟨S_, .f32⟩
  | .hbm, ⟨8, _⟩ => ⟨S2x4096x4096, .f32⟩
  | .hbm, ⟨9, _⟩ => ⟨S2x4096x4096, .f32⟩
  | .hbm, ⟨10, _⟩ => ⟨S_, .f32⟩
  | .hbm, ⟨11, _⟩ => ⟨S2x4096x4096, .f32⟩
  | .hbm, ⟨12, _⟩ => ⟨S2x4096x4096, .f32⟩
  | .hbm, ⟨13, _⟩ => ⟨S2x4096x4096, .f32⟩
  | .hbm, ⟨14, _⟩ => ⟨S8192x4096, .f32⟩
  | .hbm, ⟨15, _⟩ => ⟨S8192x4096, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩

abbrev nD : Nat := 1
abbrev τ : Topo := Topo.v7x

variable {F : FTy → Type} [FloatOps F]
-- ==== KernelXbc.lean ====
abbrev S2x4096x2048 : Shape := ⟨3, ![2, 4096, 2048]⟩
abbrev S1x2048x20544 : Shape := ⟨3, ![1, 2048, 20544]⟩
abbrev S1x4x6144 : Shape := ⟨3, ![1, 4, 6144]⟩
abbrev S1x6144 : Shape := ⟨2, ![1, 6144]⟩
abbrev S4x6144 : Shape := ⟨2, ![4, 6144]⟩
abbrev S6144 : Shape := ⟨1, ![6144]⟩
abbrev S8192x2048 : Shape := ⟨2, ![8192, 2048]⟩
abbrev S2048x20544 : Shape := ⟨2, ![2048, 20544]⟩
abbrev S20544x2048 : Shape := ⟨2, ![20544, 2048]⟩
abbrev S8192x6144 : Shape := ⟨2, ![8192, 6144]⟩
abbrev S2048x2048 : Shape := ⟨2, ![2048, 2048]⟩
abbrev S512x2048 : Shape := ⟨2, ![512, 2048]⟩
abbrev S4x512 : Shape := ⟨2, ![4, 512]⟩
abbrev S1x512 : Shape := ⟨2, ![1, 512]⟩
abbrev S2048x512 : Shape := ⟨2, ![2048, 512]⟩
abbrev S8x512 : Shape := ⟨2, ![8, 512]⟩
abbrev S2x128x512 : Shape := ⟨3, ![2, 128, 512]⟩
abbrev S128x2048 : Shape := ⟨2, ![128, 2048]⟩
abbrev S128x512 : Shape := ⟨2, ![128, 512]⟩
abbrev S1x128x512 : Shape := ⟨3, ![1, 128, 512]⟩
abbrev S136x512 : Shape := ⟨2, ![136, 512]⟩

abbrev nBuf : Space → Nat
  | .hbm => 12
  | .vmem => 13
  | .smem => 0
  | _ => 0

abbrev bufTy : (tb : Table) → Fin (tcTables nBuf tb) → BufTy
  | .hbm, ⟨0, _⟩ => ⟨S2x4096x2048, .f32⟩
  | .hbm, ⟨1, _⟩ => ⟨S1x2048x20544, .f32⟩
  | .hbm, ⟨2, _⟩ => ⟨S1x4x6144, .f32⟩
  | .hbm, ⟨3, _⟩ => ⟨S1x6144, .f32⟩
  | .hbm, ⟨4, _⟩ => ⟨S4x6144, .f32⟩
  | .hbm, ⟨5, _⟩ => ⟨S6144, .f32⟩
  | .hbm, ⟨6, _⟩ => ⟨S1x6144, .f32⟩
  | .hbm, ⟨7, _⟩ => ⟨S8192x2048, .f32⟩
  | .hbm, ⟨8, _⟩ => ⟨S8192x2048, .bf16⟩
  | .hbm, ⟨9, _⟩ => ⟨S2048x20544, .f32⟩
  | .hbm, ⟨10, _⟩ => ⟨S20544x2048, .f32⟩
  | .hbm, ⟨11, _⟩ => ⟨S8192x6144, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .f32⟩
  | .local _ .vmem, ⟨3, _⟩ => ⟨S512x2048, .f32⟩
  | .local _ .vmem, ⟨4, _⟩ => ⟨S4x512, .f32⟩
  | .local _ .vmem, ⟨5, _⟩ => ⟨S4x512, .f32⟩
  | .local _ .vmem, ⟨6, _⟩ => ⟨S1x512, .f32⟩
  | .local _ .vmem, ⟨7, _⟩ => ⟨S1x512, .f32⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S8x512, .f32⟩
  | .local _ .vmem, ⟨12, _⟩ => ⟨S2x128x512, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![12, 4], ![false, false]⟩

def k0_mult1 (i : grid0.Coords) : BitVec 32 :=
  let c4096_i32 : BitVec 32 := 4096#32
  let arg0 : BitVec 32 := BitVec.ofNat 32 (i 0).val
  let c512_i32 : BitVec 32 := 512#32
  let v0 : BitVec 32 := Scalar.muli arg0 c512_i32
  let v1 : BitVec 32 := Scalar.addi c4096_i32 v0
  v1
def k0_off1 (i : grid0.Coords) (c0_i32_4 : BitVec 32) : Fin 3 → Nat :=
  let arg1 : BitVec 32 := BitVec.ofNat 32 (i 1).val
  let v7 : BitVec 32 := Scalar.addi arg1 c0_i32_4
  let c2_i32 : BitVec 32 := 2#32
  let c0_i32_5 : BitVec 32 := 0#32
  let v8 : BitVec 1 := Scalar.cmpi .eq c2_i32 c0_i32_5
  let c1_i32 : BitVec 32 := 1#32
  let v9 : BitVec 32 := Scalar.select v8 c1_i32 c2_i32
  let v10 : BitVec 32 := Scalar.remsi v7 v9
  let c0_i32_7 : BitVec 32 := 0#32
  let v12 : BitVec 1 := Scalar.cmpi .slt v10 c0_i32_7
  let c0_i32_8 : BitVec 32 := 0#32
  let v13 : BitVec 1 := Scalar.cmpi .slt v9 c0_i32_8
  let v14 : BitVec 1 := Scalar.xori v12 v13
  let c0_i32_6 : BitVec 32 := 0#32
  let v11 : BitVec 1 := Scalar.cmpi .ne v10 c0_i32_6
  let v15 : BitVec 1 := Scalar.andi v14 v11
  let v16 : BitVec 32 := Scalar.addi v10 v9
  let v17 : BitVec 32 := Scalar.select v15 v16 v10
  let v18 : Index := Scalar.indexCast v17
  let c0_9 : Index := 0#32
  let c0_10 : Index := 0#32
  ![v18.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.addi c4096_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RefXbcIdeal.lean ====
abbrev S2x4096x2048 : Shape := ⟨3, ![2, 4096, 2048]⟩
abbrev S1x2048x20544 : Shape := ⟨3, ![1, 2048, 20544]⟩
abbrev S1x4x6144 : Shape := ⟨3, ![1, 4, 6144]⟩
abbrev S1x6144 : Shape := ⟨2, ![1, 6144]⟩
abbrev S2048x20544 : Shape := ⟨2, ![2048, 20544]⟩
abbrev S2x4096x20544 : Shape := ⟨3, ![2, 4096, 20544]⟩
abbrev S2x4096x6144 : Shape := ⟨3, ![2, 4096, 6144]⟩
abbrev S4x6144 : Shape := ⟨2, ![4, 6144]⟩
abbrev S6144 : Shape := ⟨1, ![6144]⟩
abbrev S_ : Shape := ⟨0, ![]⟩
abbrev S2x4099x6144 : Shape := ⟨3, ![2, 4099, 6144]⟩
abbrev S1x1x6144 : Shape := ⟨3, ![1, 1, 6144]⟩
abbrev S8192x6144 : Shape := ⟨2, ![8192, 6144]⟩

abbrev nBuf : Space → Nat
  | .hbm => 53
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048x20544, .f32⟩
  | .hbm, ⟨2, _⟩ => ⟨S1x4x6144, .f32⟩
  | .hbm, ⟨3, _⟩ => ⟨S1x6144, .f32⟩
  | .hbm, ⟨4, _⟩ => ⟨S2048x20544, .f32⟩
  | .hbm, ⟨5, _⟩ => ⟨S2x4096x20544, .f32⟩
  | .hbm, ⟨6, _⟩ => ⟨S2x4096x6144, .f32⟩
  | .hbm, ⟨7, _⟩ => ⟨S4x6144, .f32⟩
  | .hbm, ⟨8, _⟩ => ⟨S6144, .f32⟩
  | .hbm, ⟨9, _⟩ => ⟨S_, .i32⟩
  | .hbm, ⟨10, _⟩ => ⟨S_, .f32⟩
  | .hbm, ⟨11, _⟩ => ⟨S2x4099x6144, .f32⟩
  | .hbm, ⟨12, _⟩ => ⟨S1x6144, .f32⟩
  | .hbm, ⟨13, _⟩ => ⟨S6144, .f32⟩
  | .hbm, ⟨14, _⟩ => ⟨S2x4096x6144, .f32⟩
  | .hbm, ⟨15, _⟩ => ⟨S1x1x6144, .f32⟩
  | .hbm, ⟨16, _⟩ => ⟨S2x4096x6144, .f32⟩
  | .hbm, ⟨17, _⟩ => ⟨S2x4096x6144, .f32⟩
  | .hbm, ⟨18, _⟩ => ⟨S1x1x6144, .f32⟩
  | .hbm, ⟨19, _⟩ => ⟨S2x4096x6144, .f32⟩
  | .hbm, ⟨20, _⟩ => ⟨S2x4096x6144, .f32⟩
  | .hbm, ⟨21, _⟩ => ⟨S1x6144, .f32⟩
  | .hbm, ⟨22, _⟩ => ⟨S6144, .f32⟩
  | .hbm, ⟨23, _⟩ => ⟨S2x4096x6144, .f32⟩
  | .hbm, ⟨24, _⟩ => ⟨S1x1x6144, .f32⟩
  | .hbm, ⟨25, _⟩ => ⟨S2x4096x6144, .f32⟩
  | .hbm, ⟨26, _⟩ => ⟨S2x4096x6144, .f32⟩
  | .hbm, ⟨27, _⟩ => ⟨S2x4096x6144, .f32⟩
  | .hbm, ⟨28, _⟩ => ⟨S1x6144, .f32⟩
  | .hbm, ⟨29, _⟩ => ⟨S6144, .f32⟩
  | .hbm, ⟨30, _⟩ => ⟨S2x4096x6144, .f32⟩
  | .hbm, ⟨31, _⟩ => ⟨S1x1x6144, .f32⟩
  | .hbm, ⟨32, _⟩ => ⟨S2x4096x6144, .f32⟩
  | .hbm, ⟨33, _⟩ => ⟨S2x4096x6144, .f32⟩
  | .hbm, ⟨34, _⟩ => ⟨S2x4096x6144, .f32⟩
  | .hbm, ⟨35, _⟩ => ⟨S1x6144, .f32⟩
  | .hbm, ⟨36, _⟩ => ⟨S6144, .f32⟩
  | .hbm, ⟨37, _⟩ => ⟨S2x4096x6144, .f32⟩
  | .hbm, ⟨38, _⟩ => ⟨S1x1x6144, .f32⟩
  | .hbm, ⟨39, _⟩ => ⟨S2x4096x6144, .f32⟩
  | .hbm, ⟨40, _⟩ => ⟨S2x4096x6144, .f32⟩
  | .hbm, ⟨41, _⟩ => ⟨S2x4096x6144, .f32⟩
  | .hbm, ⟨42, _⟩ => ⟨S2x4096x6144, .f32⟩
  | .hbm, ⟨43, _⟩ => ⟨S2x4096x6144, .f32⟩
  | .hbm, ⟨44, _⟩ => ⟨S_, .f32⟩
  | .hbm, ⟨45, _⟩ => ⟨S2x4096x6144, .f32⟩
  | .hbm, ⟨46, _⟩ => ⟨S2x4096x6144, .f32⟩
  | .hbm, ⟨47, _⟩ => ⟨S_, .f32⟩
  | .hbm, ⟨48, _⟩ => ⟨S2x4096x6144, .f32⟩
  | .hbm, ⟨49, _⟩ => ⟨S2x4096x6144, .f32⟩
  | .hbm, ⟨50, _⟩ => ⟨S2x4096x6144, .f32⟩
  | .hbm, ⟨51, _⟩ => ⟨S8192x6144, .f32⟩
  | .hbm, ⟨52, _⟩ => ⟨S8192x6144, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== KernelQ.lean ====
abbrev S2x4096x2048 : Shape := ⟨3, ![2, 4096, 2048]⟩
abbrev S1x2048x20544 : Shape := ⟨3, ![1, 2048, 20544]⟩
abbrev S1x128 : Shape := ⟨2, ![1, 128]⟩
abbrev S128 : Shape := ⟨1, ![128]⟩
abbrev S8192x2048 : Shape := ⟨2, ![8192, 2048]⟩
abbrev S2048x20544 : Shape := ⟨2, ![2048, 20544]⟩
abbrev S20544x2048 : Shape := ⟨2, ![20544, 2048]⟩
abbrev S2048x2048 : Shape := ⟨2, ![2048, 2048]⟩
abbrev S1024x2048 : Shape := ⟨2, ![1024, 2048]⟩
abbrev S2048x1024 : Shape := ⟨2, ![2048, 1024]⟩
abbrev S128x2048 : Shape := ⟨2, ![128, 2048]⟩
abbrev S128x1024 : Shape := ⟨2, ![128, 1024]⟩
abbrev S128x128 : Shape := ⟨2, ![128, 128]⟩
abbrev S128x1 : Shape := ⟨2, ![128, 1]⟩

abbrev nBuf : Space → Nat
  | .hbm => 10
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S1x2048x20544, .f32⟩
  | .hbm, ⟨2, _⟩ => ⟨S1x128, .f32⟩
  | .hbm, ⟨3, _⟩ => ⟨S128, .f32⟩
  | .hbm, ⟨4, _⟩ => ⟨S1x128, .f32⟩
  | .hbm, ⟨5, _⟩ => ⟨S8192x2048, .f32⟩
  | .hbm, ⟨6, _⟩ => ⟨S8192x2048, .bf16⟩
  | .hbm, ⟨7, _⟩ => ⟨S2048x20544, .f32⟩
  | .hbm, ⟨8, _⟩ => ⟨S20544x2048, .f32⟩
  | .hbm, ⟨9, _⟩ => ⟨S8192x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .f32⟩
  | .local _ .vmem, ⟨3, _⟩ => ⟨S1024x2048, .f32⟩
  | .local _ .vmem, ⟨4, _⟩ => ⟨S1x128, .f32⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def k0_mult1 (i : grid0.Coords) : BitVec 32 :=
  let c10304_i32 : BitVec 32 := 10304#32
  let arg0 : BitVec 32 := BitVec.ofNat 32 (i 0).val
  let c1024_i32 : BitVec 32 := 1024#32
  let v0 : BitVec 32 := Scalar.muli arg0 c1024_i32
  let v1 : BitVec 32 := Scalar.addi c10304_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c10304_i32 : BitVec 32 := 10304#32
  let v1 : BitVec 32 := Scalar.addi c10304_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelQIdeal.lean ====
variable {F : FTy → Type} [FloatOps F] [Named F]
def κ : String → Option EReal := fun
  | "scale_log2e" => some (((Real.log 2)⁻¹ * (Real.sqrt 128)⁻¹ : ℝ) : EReal)
  | _ => none
-- ==== RefQIdeal.lean ====
abbrev S2x4096x2048 : Shape := ⟨3, ![2, 4096, 2048]⟩
abbrev S1x2048x20544 : Shape := ⟨3, ![1, 2048, 20544]⟩
abbrev S1x128 : Shape := ⟨2, ![1, 128]⟩
abbrev S2048x20544 : Shape := ⟨2, ![2048, 20544]⟩
abbrev S2x4096x20544 : Shape := ⟨3, ![2, 4096, 20544]⟩
abbrev S2x4096x16x128 : Shape := ⟨4, ![2, 4096, 16, 128]⟩
abbrev S128 : Shape := ⟨1, ![128]⟩
abbrev S_ : Shape := ⟨0, ![]⟩
abbrev S2x4096x16 : Shape := ⟨3, ![2, 4096, 16]⟩
abbrev S2x4096x16x1 : Shape := ⟨4, ![2, 4096, 16, 1]⟩
abbrev S1x1x1x128 : Shape := ⟨4, ![1, 1, 1, 128]⟩
abbrev S8192x2048 : Shape := ⟨2, ![8192, 2048]⟩

abbrev nBuf : Space → Nat
  | .hbm => 38
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048x20544, .f32⟩
  | .hbm, ⟨2, _⟩ => ⟨S1x128, .f32⟩
  | .hbm, ⟨3, _⟩ => ⟨S2048x20544, .f32⟩
  | .hbm, ⟨4, _⟩ => ⟨S2x4096x20544, .f32⟩
  | .hbm, ⟨5, _⟩ => ⟨S2x4096x2048, .f32⟩
  | .hbm, ⟨6, _⟩ => ⟨S2x4096x16x128, .f32⟩
  | .hbm, ⟨7, _⟩ => ⟨S128, .f32⟩
  | .hbm, ⟨8, _⟩ => ⟨S2x4096x16x128, .f32⟩
  | .hbm, ⟨9, _⟩ => ⟨S_, .f32⟩
  | .hbm, ⟨10, _⟩ => ⟨S2x4096x16, .f32⟩
  | .hbm, ⟨11, _⟩ => ⟨S2x4096x16x1, .f32⟩
  | .hbm, ⟨12, _⟩ => ⟨S_, .f32⟩
  | .hbm, ⟨13, _⟩ => ⟨S2x4096x16x1, .f32⟩
  | .hbm, ⟨14, _⟩ => ⟨S2x4096x16x1, .f32⟩
  | .hbm, ⟨15, _⟩ => ⟨S_, .f32⟩
  | .hbm, ⟨16, _⟩ => ⟨S2x4096x16x1, .f32⟩
  | .hbm, ⟨17, _⟩ => ⟨S2x4096x16x1, .f32⟩
  | .hbm, ⟨18, _⟩ => ⟨S2x4096x16x1, .f32⟩
  | .hbm, ⟨19, _⟩ => ⟨S2x4096x16x128, .f32⟩
  | .hbm, ⟨20, _⟩ => ⟨S2x4096x16x128, .f32⟩
  | .hbm, ⟨21, _⟩ => ⟨S1x1x1x128, .f32⟩
  | .hbm, ⟨22, _⟩ => ⟨S2x4096x16x128, .f32⟩
  | .hbm, ⟨23, _⟩ => ⟨S2x4096x16x128, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S2x4096x16x128, .f32⟩
  | .hbm, ⟨33, _⟩ => ⟨S2x4096x16x128, .f32⟩
  | .hbm, ⟨34, _⟩ => ⟨S2x4096x16x128, .f32⟩
  | .hbm, ⟨35, _⟩ => ⟨S2x4096x16x128, .f32⟩
  | .hbm, ⟨36, _⟩ => ⟨S8192x2048, .f32⟩
  | .hbm, ⟨37, _⟩ => ⟨S8192x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== KernelK.lean ====
abbrev S2x4096x2048 : Shape := ⟨3, ![2, 4096, 2048]⟩
abbrev S1x2048x20544 : Shape := ⟨3, ![1, 2048, 20544]⟩
abbrev S1x128 : Shape := ⟨2, ![1, 128]⟩
abbrev S128 : Shape := ⟨1, ![128]⟩
abbrev S8192x2048 : Shape := ⟨2, ![8192, 2048]⟩
abbrev S2048x20544 : Shape := ⟨2, ![2048, 20544]⟩
abbrev S20544x2048 : Shape := ⟨2, ![20544, 2048]⟩
abbrev S2048x2048 : Shape := ⟨2, ![2048, 2048]⟩
abbrev S1024x2048 : Shape := ⟨2, ![1024, 2048]⟩
abbrev S2048x1024 : Shape := ⟨2, ![2048, 1024]⟩
abbrev S128x2048 : Shape := ⟨2, ![128, 2048]⟩
abbrev S128x1024 : Shape := ⟨2, ![128, 1024]⟩
abbrev S128x128 : Shape := ⟨2, ![128, 128]⟩
abbrev S128x1 : Shape := ⟨2, ![128, 1]⟩

abbrev nBuf : Space → Nat
  | .hbm => 10
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S1x2048x20544, .f32⟩
  | .hbm, ⟨2, _⟩ => ⟨S1x128, .f32⟩
  | .hbm, ⟨3, _⟩ => ⟨S128, .f32⟩
  | .hbm, ⟨4, _⟩ => ⟨S1x128, .f32⟩
  | .hbm, ⟨5, _⟩ => ⟨S8192x2048, .f32⟩
  | .hbm, ⟨6, _⟩ => ⟨S8192x2048, .bf16⟩
  | .hbm, ⟨7, _⟩ => ⟨S2048x20544, .f32⟩
  | .hbm, ⟨8, _⟩ => ⟨S20544x2048, .f32⟩
  | .hbm, ⟨9, _⟩ => ⟨S8192x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .f32⟩
  | .local _ .vmem, ⟨3, _⟩ => ⟨S1024x2048, .f32⟩
  | .local _ .vmem, ⟨4, _⟩ => ⟨S1x128, .f32⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def k0_mult1 (i : grid0.Coords) : BitVec 32 :=
  let c12352_i32 : BitVec 32 := 12352#32
  let arg0 : BitVec 32 := BitVec.ofNat 32 (i 0).val
  let c1024_i32 : BitVec 32 := 1024#32
  let v0 : BitVec 32 := Scalar.muli arg0 c1024_i32
  let v1 : BitVec 32 := Scalar.addi c12352_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c12352_i32 : BitVec 32 := 12352#32
  let v1 : BitVec 32 := Scalar.addi c12352_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefKIdeal.lean ====
abbrev S2x4096x2048 : Shape := ⟨3, ![2, 4096, 2048]⟩
abbrev S1x2048x20544 : Shape := ⟨3, ![1, 2048, 20544]⟩
abbrev S1x128 : Shape := ⟨2, ![1, 128]⟩
abbrev S2048x20544 : Shape := ⟨2, ![2048, 20544]⟩
abbrev S2x4096x20544 : Shape := ⟨3, ![2, 4096, 20544]⟩
abbrev S2x4096x16x128 : Shape := ⟨4, ![2, 4096, 16, 128]⟩
abbrev S128 : Shape := ⟨1, ![128]⟩
abbrev S_ : Shape := ⟨0, ![]⟩
abbrev S2x4096x16 : Shape := ⟨3, ![2, 4096, 16]⟩
abbrev S2x4096x16x1 : Shape := ⟨4, ![2, 4096, 16, 1]⟩
abbrev S1x1x1x128 : Shape := ⟨4, ![1, 1, 1, 128]⟩
abbrev S8192x2048 : Shape := ⟨2, ![8192, 2048]⟩

abbrev nBuf : Space → Nat
  | .hbm => 26
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048x20544, .f32⟩
  | .hbm, ⟨2, _⟩ => ⟨S1x128, .f32⟩
  | .hbm, ⟨3, _⟩ => ⟨S2048x20544, .f32⟩
  | .hbm, ⟨4, _⟩ => ⟨S2x4096x20544, .f32⟩
  | .hbm, ⟨5, _⟩ => ⟨S2x4096x2048, .f32⟩
  | .hbm, ⟨6, _⟩ => ⟨S2x4096x16x128, .f32⟩
  | .hbm, ⟨7, _⟩ => ⟨S128, .f32⟩
  | .hbm, ⟨8, _⟩ => ⟨S2x4096x16x128, .f32⟩
  | .hbm, ⟨9, _⟩ => ⟨S_, .f32⟩
  | .hbm, ⟨10, _⟩ => ⟨S2x4096x16, .f32⟩
  | .hbm, ⟨11, _⟩ => ⟨S2x4096x16x1, .f32⟩
  | .hbm, ⟨12, _⟩ => ⟨S_, .f32⟩
  | .hbm, ⟨13, _⟩ => ⟨S2x4096x16x1, .f32⟩
  | .hbm, ⟨14, _⟩ => ⟨S2x4096x16x1, .f32⟩
  | .hbm, ⟨15, _⟩ => ⟨S_, .f32⟩
  | .hbm, ⟨16, _⟩ => ⟨S2x4096x16x1, .f32⟩
  | .hbm, ⟨17, _⟩ => ⟨S2x4096x16x1, .f32⟩
  | .hbm, ⟨18, _⟩ => ⟨S2x4096x16x1, .f32⟩
  | .hbm, ⟨19, _⟩ => ⟨S2x4096x16x128, .f32⟩
  | .hbm, ⟨20, _⟩ => ⟨S2x4096x16x128, .f32⟩
  | .hbm, ⟨21, _⟩ => ⟨S1x1x1x128, .f32⟩
  | .hbm, ⟨22, _⟩ => ⟨S2x4096x16x128, .f32⟩
  | .hbm, ⟨23, _⟩ => ⟨S2x4096x16x128, .f32⟩
  | .hbm, ⟨24, _⟩ => ⟨S8192x2048, .f32⟩
  | .hbm, ⟨25, _⟩ => ⟨S8192x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== KernelV.lean ====
abbrev S2x4096x2048 : Shape := ⟨3, ![2, 4096, 2048]⟩
abbrev S1x2048x20544 : Shape := ⟨3, ![1, 2048, 20544]⟩
abbrev S8192x2048 : Shape := ⟨2, ![8192, 2048]⟩
abbrev S2048x20544 : Shape := ⟨2, ![2048, 20544]⟩
abbrev S20544x2048 : Shape := ⟨2, ![20544, 2048]⟩
abbrev S2048x2048 : Shape := ⟨2, ![2048, 2048]⟩
abbrev S1024x2048 : Shape := ⟨2, ![1024, 2048]⟩
abbrev S2048x1024 : Shape := ⟨2, ![2048, 1024]⟩
abbrev S128x2048 : Shape := ⟨2, ![128, 2048]⟩
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x4096x2048, .f32⟩
  | .hbm, ⟨1, _⟩ => ⟨S1x2048x20544, .f32⟩
  | .hbm, ⟨2, _⟩ => ⟨S8192x2048, .f32⟩
  | .hbm, ⟨3, _⟩ => ⟨S8192x2048, .bf16⟩
  | .hbm, ⟨4, _⟩ => ⟨S2048x20544, .f32⟩
  | .hbm, ⟨5, _⟩ => ⟨S20544x2048, .f32⟩
  | .hbm, ⟨6, _⟩ => ⟨S8192x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .f32⟩
  | .local _ .vmem, ⟨3, _⟩ => ⟨S1024x2048, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_mult1 (i : grid0.Coords) : BitVec 32 :=
  let c14400_i32 : BitVec 32 := 14400#32
  let arg0 : BitVec 32 := BitVec.ofNat 32 (i 0).val
  let c1024_i32 : BitVec 32 := 1024#32
  let v0 : BitVec 32 := Scalar.muli arg0 c1024_i32
  let v1 : BitVec 32 := Scalar.addi c14400_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c14400_i32 : BitVec 32 := 14400#32
  let v1 : BitVec 32 := Scalar.addi c14400_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefVIdeal.lean ====
abbrev S2x4096x2048 : Shape := ⟨3, ![2, 4096, 2048]⟩
abbrev S1x2048x20544 : Shape := ⟨3, ![1, 2048, 20544]⟩
abbrev S2048x20544 : Shape := ⟨2, ![2048, 20544]⟩
abbrev S2x4096x20544 : Shape := ⟨3, ![2, 4096, 20544]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048x20544, .f32⟩
  | .hbm, ⟨2, _⟩ => ⟨S2048x20544, .f32⟩
  | .hbm, ⟨3, _⟩ => ⟨S2x4096x20544, .f32⟩
  | .hbm, ⟨4, _⟩ => ⟨S2x4096x2048, .f32⟩
  | .hbm, ⟨5, _⟩ => ⟨S8192x2048, .f32⟩
  | .hbm, ⟨6, _⟩ => ⟨S8192x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelGate.lean ====
abbrev S2x4096x2048 : Shape := ⟨3, ![2, 4096, 2048]⟩
abbrev S1x2048x20544 : Shape := ⟨3, ![1, 2048, 20544]⟩
abbrev S1x4096 : Shape := ⟨2, ![1, 4096]⟩
abbrev S4096 : Shape := ⟨1, ![4096]⟩
abbrev S8192x2048 : Shape := ⟨2, ![8192, 2048]⟩
abbrev S2048x20544 : Shape := ⟨2, ![2048, 20544]⟩
abbrev S20544x2048 : Shape := ⟨2, ![20544, 2048]⟩
abbrev S8192x4096 : Shape := ⟨2, ![8192, 4096]⟩
abbrev S2048x2048 : Shape := ⟨2, ![2048, 2048]⟩
abbrev S1024x2048 : Shape := ⟨2, ![1024, 2048]⟩
abbrev S1x1024 : Shape := ⟨2, ![1, 1024]⟩
abbrev S2048x1024 : Shape := ⟨2, ![2048, 1024]⟩
abbrev S128x2048 : Shape := ⟨2, ![128, 2048]⟩
abbrev S128x1024 : Shape := ⟨2, ![128, 1024]⟩

abbrev nBuf : Space → Nat
  | .hbm => 10
  | .vmem => 9
  | .smem => 0
  | _ => 0

abbrev bufTy : (tb : Table) → Fin (tcTables nBuf tb) → BufTy
  | .hbm, ⟨0, _⟩ => ⟨S2x4096x2048, .f32⟩
  | .hbm, ⟨1, _⟩ => ⟨S1x2048x20544, .f32⟩
  | .hbm, ⟨2, _⟩ => ⟨S1x4096, .f32⟩
  | .hbm, ⟨3, _⟩ => ⟨S4096, .f32⟩
  | .hbm, ⟨4, _⟩ => ⟨S1x4096, .f32⟩
  | .hbm, ⟨5, _⟩ => ⟨S8192x2048, .f32⟩
  | .hbm, ⟨6, _⟩ => ⟨S8192x2048, .bf16⟩
  | .hbm, ⟨7, _⟩ => ⟨S2048x20544, .f32⟩
  | .hbm, ⟨8, _⟩ => ⟨S20544x2048, .f32⟩
  | .hbm, ⟨9, _⟩ => ⟨S8192x4096, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .f32⟩
  | .local _ .vmem, ⟨3, _⟩ => ⟨S1024x2048, .f32⟩
  | .local _ .vmem, ⟨4, _⟩ => ⟨S1x1024, .f32⟩
  | .local _ .vmem, ⟨5, _⟩ => ⟨S1x1024, .f32⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let c16448_i32 : BitVec 32 := 16448#32
  let arg0 : BitVec 32 := BitVec.ofNat 32 (i 0).val
  let c1024_i32 : BitVec 32 := 1024#32
  let v0 : BitVec 32 := Scalar.muli arg0 c1024_i32
  let v1 : BitVec 32 := Scalar.addi c16448_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c16448_i32 : BitVec 32 := 16448#32
  let v1 : BitVec 32 := Scalar.addi c16448_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefGateIdeal.lean ====
abbrev S2x4096x2048 : Shape := ⟨3, ![2, 4096, 2048]⟩
abbrev S1x2048x20544 : Shape := ⟨3, ![1, 2048, 20544]⟩
abbrev S1x4096 : Shape := ⟨2, ![1, 4096]⟩
abbrev S2048x20544 : Shape := ⟨2, ![2048, 20544]⟩
abbrev S2x4096x20544 : Shape := ⟨3, ![2, 4096, 20544]⟩
abbrev S2x4096x4096 : Shape := ⟨3, ![2, 4096, 4096]⟩
abbrev S4096 : Shape := ⟨1, ![4096]⟩
abbrev S1x1x4096 : Shape := ⟨3, ![1, 1, 4096]⟩
abbrev S_ : Shape := ⟨0, ![]⟩
abbrev S8192x4096 : Shape := ⟨2, ![8192, 4096]⟩

abbrev nBuf : Space → Nat
  | .hbm => 20
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048x20544, .f32⟩
  | .hbm, ⟨2, _⟩ => ⟨S1x4096, .f32⟩
  | .hbm, ⟨3, _⟩ => ⟨S2048x20544, .f32⟩
  | .hbm, ⟨4, _⟩ => ⟨S2x4096x20544, .f32⟩
  | .hbm, ⟨5, _⟩ => ⟨S2x4096x4096, .f32⟩
  | .hbm, ⟨6, _⟩ => ⟨S4096, .f32⟩
  | .hbm, ⟨7, _⟩ => ⟨S1x1x4096, .f32⟩
  | .hbm, ⟨8, _⟩ => ⟨S2x4096x4096, .f32⟩
  | .hbm, ⟨9, _⟩ => ⟨S2x4096x4096, .f32⟩
  | .hbm, ⟨10, _⟩ => ⟨S2x4096x4096, .f32⟩
  | .hbm, ⟨11, _⟩ => ⟨S2x4096x4096, .f32⟩
  | .hbm, ⟨12, _⟩ => ⟨S_, .f32⟩
  | .hbm, ⟨13, _⟩ => ⟨S2x4096x4096, .f32⟩
  | .hbm, ⟨14, _⟩ => ⟨S2x4096x4096, .f32⟩
  | .hbm, ⟨15, _⟩ => ⟨S_, .f32⟩
  | .hbm, ⟨16, _⟩ => ⟨S2x4096x4096, .f32⟩
  | .hbm, ⟨17, _⟩ => ⟨S2x4096x4096, .f32⟩
  | .hbm, ⟨18, _⟩ => ⟨S8192x4096, .f32⟩
  | .hbm, ⟨19, _⟩ => ⟨S8192x4096, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== KernelMix.lean ====
abbrev S2x4096x4096 : Shape := ⟨3, ![2, 4096, 4096]⟩
abbrev S2x4096x2048 : Shape := ⟨3, ![2, 4096, 2048]⟩
abbrev S1x4096x2048 : Shape := ⟨3, ![1, 4096, 2048]⟩
abbrev S1x2048x2048 : Shape := ⟨3, ![1, 2048, 2048]⟩
abbrev S8192x4096 : Shape := ⟨2, ![8192, 4096]⟩
abbrev S8192x2048 : Shape := ⟨2, ![8192, 2048]⟩
abbrev S4096x2048 : Shape := ⟨2, ![4096, 2048]⟩
abbrev S2048x2048 : Shape := ⟨2, ![2048, 2048]⟩
abbrev S512x4096 : Shape := ⟨2, ![512, 4096]⟩
abbrev S512x2048 : Shape := ⟨2, ![512, 2048]⟩
abbrev S4096x512 : Shape := ⟨2, ![4096, 512]⟩
abbrev S2048x512 : Shape := ⟨2, ![2048, 512]⟩
abbrev S512x512 : Shape := ⟨2, ![512, 512]⟩
abbrev S128x4096 : Shape := ⟨2, ![128, 4096]⟩
abbrev S128x512 : Shape := ⟨2, ![128, 512]⟩
abbrev S128x2048 : Shape := ⟨2, ![128, 2048]⟩

abbrev nBuf : Space → Nat
  | .hbm => 14
  | .vmem => 16
  | .smem => 0
  | _ => 0

abbrev bufTy : (tb : Table) → Fin (tcTables nBuf tb) → BufTy
  | .hbm, ⟨0, _⟩ => ⟨S2x4096x4096, .f32⟩
  | .hbm, ⟨1, _⟩ => ⟨S2x4096x2048, .f32⟩
  | .hbm, ⟨2, _⟩ => ⟨S2x4096x4096, .f32⟩
  | .hbm, ⟨3, _⟩ => ⟨S1x4096x2048, .f32⟩
  | .hbm, ⟨4, _⟩ => ⟨S1x2048x2048, .f32⟩
  | .hbm, ⟨5, _⟩ => ⟨S8192x4096, .f32⟩
  | .hbm, ⟨6, _⟩ => ⟨S8192x4096, .bf16⟩
  | .hbm, ⟨7, _⟩ => ⟨S8192x2048, .f32⟩
  | .hbm, ⟨8, _⟩ => ⟨S8192x2048, .bf16⟩
  | .hbm, ⟨9, _⟩ => ⟨S8192x4096, .f32⟩
  | .hbm, ⟨10, _⟩ => ⟨S8192x4096, .bf16⟩
  | .hbm, ⟨11, _⟩ => ⟨S4096x2048, .f32⟩
  | .hbm, ⟨12, _⟩ => ⟨S2048x2048, .f32⟩
  | .hbm, ⟨13, _⟩ => ⟨S8192x2048, .bf16⟩
  | .local _ .vmem, ⟨0, _⟩ => ⟨S512x4096, .bf16⟩
  | .local _ .vmem, ⟨1, _⟩ => ⟨S512x4096, .bf16⟩
  | .local _ .vmem, ⟨2, _⟩ => ⟨S512x2048, .bf16⟩
  | .local _ .vmem, ⟨3, _⟩ => ⟨S512x2048, .bf16⟩
  | .local _ .vmem, ⟨4, _⟩ => ⟨S4096x512, .f32⟩
  | .local _ .vmem, ⟨5, _⟩ => ⟨S4096x512, .f32⟩
  | .local _ .vmem, ⟨6, _⟩ => ⟨S2048x512, .f32⟩
  | .local _ .vmem, ⟨7, _⟩ => ⟨S2048x512, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S4096x512, .bf16⟩
  | .local _ .vmem, ⟨15, _⟩ => ⟨S2048x512, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefMixIdeal.lean ====
abbrev S2x4096x4096 : Shape := ⟨3, ![2, 4096, 4096]⟩
abbrev S2x4096x2048 : Shape := ⟨3, ![2, 4096, 2048]⟩
abbrev S1x4096x2048 : Shape := ⟨3, ![1, 4096, 2048]⟩
abbrev S1x2048x2048 : Shape := ⟨3, ![1, 2048, 2048]⟩
abbrev S4096x2048 : Shape := ⟨2, ![4096, 2048]⟩
abbrev S2048x2048 : Shape := ⟨2, ![2048, 2048]⟩
abbrev S2x4096x2x2048 : Shape := ⟨4, ![2, 4096, 2, 2048]⟩
abbrev S2x4096x1x2048 : Shape := ⟨4, ![2, 4096, 1, 2048]⟩
abbrev S8192x2048 : Shape := ⟨2, ![8192, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096x2048, .f32⟩
  | .hbm, ⟨2, _⟩ => ⟨S2x4096x4096, .f32⟩
  | .hbm, ⟨3, _⟩ => ⟨S1x4096x2048, .f32⟩
  | .hbm, ⟨4, _⟩ => ⟨S1x2048x2048, .f32⟩
  | .hbm, ⟨5, _⟩ => ⟨S4096x2048, .f32⟩
  | .hbm, ⟨6, _⟩ => ⟨S2x4096x2048, .f32⟩
  | .hbm, ⟨7, _⟩ => ⟨S2048x2048, .f32⟩
  | .hbm, ⟨8, _⟩ => ⟨S2x4096x2048, .f32⟩
  | .hbm, ⟨9, _⟩ => ⟨S2x4096x2x2048, .f32⟩
  | .hbm, ⟨10, _⟩ => ⟨S2x4096x1x2048, .f32⟩
  | .hbm, ⟨11, _⟩ => ⟨S2x4096x2048, .f32⟩
  | .hbm, ⟨12, _⟩ => ⟨S2x4096x2048, .f32⟩
  | .hbm, ⟨13, _⟩ => ⟨S2x4096x1x2048, .f32⟩
  | .hbm, ⟨14, _⟩ => ⟨S2x4096x2048, .f32⟩
  | .hbm, ⟨15, _⟩ => ⟨S2x4096x2048, .f32⟩
  | .hbm, ⟨16, _⟩ => ⟨S2x4096x2048, .f32⟩
  | .hbm, ⟨17, _⟩ => ⟨S8192x2048, .f32⟩
  | .hbm, ⟨18, _⟩ => ⟨S8192x2048, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelOut.lean ====
abbrev S2x4096x2048 : Shape := ⟨3, ![2, 4096, 2048]⟩
abbrev S1x2048x2048 : Shape := ⟨3, ![1, 2048, 2048]⟩
abbrev S1x2048 : Shape := ⟨2, ![1, 2048]⟩
abbrev S8192x2048 : Shape := ⟨2, ![8192, 2048]⟩
abbrev S2048x2048 : Shape := ⟨2, ![2048, 2048]⟩
abbrev S2048 : Shape := ⟨1, ![2048]⟩
abbrev S512x2048 : Shape := ⟨2, ![512, 2048]⟩
abbrev S128x2048 : Shape := ⟨2, ![128, 2048]⟩
abbrev S128 : Shape := ⟨1, ![128]⟩
abbrev S128x1 : Shape := ⟨2, ![128, 1]⟩

abbrev nBuf : Space → Nat
  | .hbm => 13
  | .vmem => 10
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S1x2048x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .hbm, ⟨6, _⟩ => ⟨S2048x2048, .f32⟩
  | .hbm, ⟨7, _⟩ => ⟨S2048x2048, .bf16⟩
  | .hbm, ⟨8, _⟩ => ⟨S8192x2048, .f32⟩
  | .hbm, ⟨9, _⟩ => ⟨S2048, .f32⟩
  | .hbm, ⟨10, _⟩ => ⟨S1x2048, .f32⟩
  | .hbm, ⟨11, _⟩ => ⟨S8192x2048, .f32⟩
  | .hbm, ⟨12, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RefOutIdeal.lean ====
abbrev S2x4096x2048 : Shape := ⟨3, ![2, 4096, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 27
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S1x2048x2048, .f32⟩
  | .hbm, ⟨3, _⟩ => ⟨S1x2048, .f32⟩
  | .hbm, ⟨4, _⟩ => ⟨S2048x2048, .f32⟩
  | .hbm, ⟨5, _⟩ => ⟨S2x4096x2048, .f32⟩
  | .hbm, ⟨6, _⟩ => ⟨S2x4096x2048, .f32⟩
  | .hbm, ⟨7, _⟩ => ⟨S2048, .f32⟩
  | .hbm, ⟨8, _⟩ => ⟨S2x4096x2048, .f32⟩
  | .hbm, ⟨9, _⟩ => ⟨S_, .f32⟩
  | .hbm, ⟨10, _⟩ => ⟨S2x4096, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S2x4096x1, .f32⟩
  | .hbm, ⟨19, _⟩ => ⟨S2x4096x2048, .f32⟩
  | .hbm, ⟨20, _⟩ => ⟨S2x4096x2048, .f32⟩
  | .hbm, ⟨21, _⟩ => ⟨S1x1x2048, .f32⟩
  | .hbm, ⟨22, _⟩ => ⟨S2x4096x2048, .f32⟩
  | .hbm, ⟨23, _⟩ => ⟨S2x4096x2048, .f32⟩
  | .hbm, ⟨24, _⟩ => ⟨S8192x2048, .f32⟩
  | .hbm, ⟨25, _⟩ => ⟨S8192x2048, .f32⟩
  | .hbm, ⟨26, _⟩ => ⟨S8192x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== KernelUp.lean ====
abbrev S2x4096x2048 : Shape := ⟨3, ![2, 4096, 2048]⟩
abbrev S1x2048x11264 : Shape := ⟨3, ![1, 2048, 11264]⟩
abbrev S1x3x5632 : Shape := ⟨3, ![1, 3, 5632]⟩
abbrev S1x5632 : Shape := ⟨2, ![1, 5632]⟩
abbrev S2048x11264 : Shape := ⟨2, ![2048, 11264]⟩
abbrev S8192x2048 : Shape := ⟨2, ![8192, 2048]⟩
abbrev S3x5632 : Shape := ⟨2, ![3, 5632]⟩
abbrev S5632 : Shape := ⟨1, ![5632]⟩
abbrev S8192x5632 : Shape := ⟨2, ![8192, 5632]⟩
abbrev S2048x2048 : Shape := ⟨2, ![2048, 2048]⟩
abbrev S2048x512 : Shape := ⟨2, ![2048, 512]⟩
abbrev S3x512 : Shape := ⟨2, ![3, 512]⟩
abbrev S1x512 : Shape := ⟨2, ![1, 512]⟩
abbrev S8x512 : Shape := ⟨2, ![8, 512]⟩
abbrev S128x2048 : Shape := ⟨2, ![128, 2048]⟩
abbrev S128x512 : Shape := ⟨2, ![128, 512]⟩
abbrev S136x512 : Shape := ⟨2, ![136, 512]⟩

abbrev nBuf : Space → Nat
  | .hbm => 11
  | .vmem => 15
  | .smem => 0
  | _ => 0

abbrev bufTy : (tb : Table) → Fin (tcTables nBuf tb) → BufTy
  | .hbm, ⟨0, _⟩ => ⟨S2x4096x2048, .f32⟩
  | .hbm, ⟨1, _⟩ => ⟨S1x2048x11264, .f32⟩
  | .hbm, ⟨2, _⟩ => ⟨S1x3x5632, .f32⟩
  | .hbm, ⟨3, _⟩ => ⟨S1x5632, .f32⟩
  | .hbm, ⟨4, _⟩ => ⟨S2048x11264, .f32⟩
  | .hbm, ⟨5, _⟩ => ⟨S8192x2048, .f32⟩
  | .hbm, ⟨6, _⟩ => ⟨S8192x2048, .bf16⟩
  | .hbm, ⟨7, _⟩ => ⟨S3x5632, .f32⟩
  | .hbm, ⟨8, _⟩ => ⟨S5632, .f32⟩
  | .hbm, ⟨9, _⟩ => ⟨S1x5632, .f32⟩
  | .hbm, ⟨10, _⟩ => ⟨S8192x5632, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S3x512, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S8x512, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RefUpIdeal.lean ====
abbrev S2x4096x2048 : Shape := ⟨3, ![2, 4096, 2048]⟩
abbrev S1x2048x11264 : Shape := ⟨3, ![1, 2048, 11264]⟩
abbrev S1x3x5632 : Shape := ⟨3, ![1, 3, 5632]⟩
abbrev S1x5632 : Shape := ⟨2, ![1, 5632]⟩
abbrev S2048x11264 : Shape := ⟨2, ![2048, 11264]⟩
abbrev S2x4096x11264 : Shape := ⟨3, ![2, 4096, 11264]⟩
abbrev S2x4096x5632 : Shape := ⟨3, ![2, 4096, 5632]⟩
abbrev S3x5632 : Shape := ⟨2, ![3, 5632]⟩
abbrev S5632 : Shape := ⟨1, ![5632]⟩
abbrev S_ : Shape := ⟨0, ![]⟩
abbrev S2x4098x5632 : Shape := ⟨3, ![2, 4098, 5632]⟩
abbrev S1x1x5632 : Shape := ⟨3, ![1, 1, 5632]⟩
abbrev S8192x5632 : Shape := ⟨2, ![8192, 5632]⟩

abbrev nBuf : Space → Nat
  | .hbm => 48
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048x11264, .f32⟩
  | .hbm, ⟨2, _⟩ => ⟨S1x3x5632, .f32⟩
  | .hbm, ⟨3, _⟩ => ⟨S1x5632, .f32⟩
  | .hbm, ⟨4, _⟩ => ⟨S2048x11264, .f32⟩
  | .hbm, ⟨5, _⟩ => ⟨S2x4096x11264, .f32⟩
  | .hbm, ⟨6, _⟩ => ⟨S2x4096x5632, .f32⟩
  | .hbm, ⟨7, _⟩ => ⟨S2x4096x5632, .f32⟩
  | .hbm, ⟨8, _⟩ => ⟨S3x5632, .f32⟩
  | .hbm, ⟨9, _⟩ => ⟨S5632, .f32⟩
  | .hbm, ⟨10, _⟩ => ⟨S_, .i32⟩
  | .hbm, ⟨11, _⟩ => ⟨S_, .f32⟩
  | .hbm, ⟨12, _⟩ => ⟨S2x4098x5632, .f32⟩
  | .hbm, ⟨13, _⟩ => ⟨S1x5632, .f32⟩
  | .hbm, ⟨14, _⟩ => ⟨S5632, .f32⟩
  | .hbm, ⟨15, _⟩ => ⟨S2x4096x5632, .f32⟩
  | .hbm, ⟨16, _⟩ => ⟨S1x1x5632, .f32⟩
  | .hbm, ⟨17, _⟩ => ⟨S2x4096x5632, .f32⟩
  | .hbm, ⟨18, _⟩ => ⟨S2x4096x5632, .f32⟩
  | .hbm, ⟨19, _⟩ => ⟨S1x1x5632, .f32⟩
  | .hbm, ⟨20, _⟩ => ⟨S2x4096x5632, .f32⟩
  | .hbm, ⟨21, _⟩ => ⟨S2x4096x5632, .f32⟩
  | .hbm, ⟨22, _⟩ => ⟨S1x5632, .f32⟩
  | .hbm, ⟨23, _⟩ => ⟨S5632, .f32⟩
  | .hbm, ⟨24, _⟩ => ⟨S2x4096x5632, .f32⟩
  | .hbm, ⟨25, _⟩ => ⟨S1x1x5632, .f32⟩
  | .hbm, ⟨26, _⟩ => ⟨S2x4096x5632, .f32⟩
  | .hbm, ⟨27, _⟩ => ⟨S2x4096x5632, .f32⟩
  | .hbm, ⟨28, _⟩ => ⟨S2x4096x5632, .f32⟩
  | .hbm, ⟨29, _⟩ => ⟨S1x5632, .f32⟩
  | .hbm, ⟨30, _⟩ => ⟨S5632, .f32⟩
  | .hbm, ⟨31, _⟩ => ⟨S2x4096x5632, .f32⟩
  | .hbm, ⟨32, _⟩ => ⟨S1x1x5632, .f32⟩
  | .hbm, ⟨33, _⟩ => ⟨S2x4096x5632, .f32⟩
  | .hbm, ⟨34, _⟩ => ⟨S2x4096x5632, .f32⟩
  | .hbm, ⟨35, _⟩ => ⟨S2x4096x5632, .f32⟩
  | .hbm, ⟨36, _⟩ => ⟨S2x4096x5632, .f32⟩
  | .hbm, ⟨37, _⟩ => ⟨S2x4096x5632, .f32⟩
  | .hbm, ⟨38, _⟩ => ⟨S_, .f32⟩
  | .hbm, ⟨39, _⟩ => ⟨S2x4096x5632, .f32⟩
  | .hbm, ⟨40, _⟩ => ⟨S2x4096x5632, .f32⟩
  | .hbm, ⟨41, _⟩ => ⟨S_, .f32⟩
  | .hbm, ⟨42, _⟩ => ⟨S2x4096x5632, .f32⟩
  | .hbm, ⟨43, _⟩ => ⟨S2x4096x5632, .f32⟩
  | .hbm, ⟨44, _⟩ => ⟨S2x4096x5632, .f32⟩
  | .hbm, ⟨45, _⟩ => ⟨S2x4096x5632, .f32⟩
  | .hbm, ⟨46, _⟩ => ⟨S8192x5632, .f32⟩
  | .hbm, ⟨47, _⟩ => ⟨S8192x5632, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== KernelDown.lean ====
abbrev S2x4096x5632 : Shape := ⟨3, ![2, 4096, 5632]⟩
abbrev S2x4096x2048 : Shape := ⟨3, ![2, 4096, 2048]⟩
abbrev S1x5632x2048 : Shape := ⟨3, ![1, 5632, 2048]⟩
abbrev S8192x5632 : Shape := ⟨2, ![8192, 5632]⟩
abbrev S5632x2048 : Shape := ⟨2, ![5632, 2048]⟩
abbrev S8192x2048 : Shape := ⟨2, ![8192, 2048]⟩
abbrev S512x5632 : Shape := ⟨2, ![512, 5632]⟩
abbrev S5632x512 : Shape := ⟨2, ![5632, 512]⟩
abbrev S512x512 : Shape := ⟨2, ![512, 512]⟩
abbrev S128x5632 : Shape := ⟨2, ![128, 5632]⟩
abbrev S128x512 : Shape := ⟨2, ![128, 512]⟩

abbrev nBuf : Space → Nat
  | .hbm => 8
  | .vmem => 9
  | .smem => 0
  | _ => 0

abbrev bufTy : (tb : Table) → Fin (tcTables nBuf tb) → BufTy
  | .hbm, ⟨0, _⟩ => ⟨S2x4096x5632, .f32⟩
  | .hbm, ⟨1, _⟩ => ⟨S2x4096x2048, .f32⟩
  | .hbm, ⟨2, _⟩ => ⟨S1x5632x2048, .f32⟩
  | .hbm, ⟨3, _⟩ => ⟨S8192x5632, .f32⟩
  | .hbm, ⟨4, _⟩ => ⟨S8192x5632, .bf16⟩
  | .hbm, ⟨5, _⟩ => ⟨S5632x2048, .f32⟩
  | .hbm, ⟨6, _⟩ => ⟨S8192x2048, .f32⟩
  | .hbm, ⟨7, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S5632x512, .f32⟩
  | .local _ .vmem, ⟨3, _⟩ => ⟨S5632x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S5632x512, .bf16⟩
  | _, _ => ⟨S2x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefDownIdeal.lean ====
abbrev S2x4096x5632 : Shape := ⟨3, ![2, 4096, 5632]⟩
abbrev S2x4096x2048 : Shape := ⟨3, ![2, 4096, 2048]⟩
abbrev S1x5632x2048 : Shape := ⟨3, ![1, 5632, 2048]⟩
abbrev S5632x2048 : Shape := ⟨2, ![5632, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2x4096x5632, .f32⟩
  | .hbm, ⟨1, _⟩ => ⟨S2x4096x2048, .f32⟩
  | .hbm, ⟨2, _⟩ => ⟨S1x5632x2048, .f32⟩
  | .hbm, ⟨3, _⟩ => ⟨S5632x2048, .f32⟩
  | .hbm, ⟨4, _⟩ => ⟨S2x4096x2048, .f32⟩
  | .hbm, ⟨5, _⟩ => ⟨S2x4096x2048, .f32⟩
  | .hbm, ⟨6, _⟩ => ⟨S8192x2048, .f32⟩
  | _, _ => ⟨S2x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelNorm.lean ====
abbrev S2x4096x2048 : Shape := ⟨3, ![2, 4096, 2048]⟩
abbrev S1x2048 : Shape := ⟨2, ![1, 2048]⟩
abbrev S1x2048x20544 : Shape := ⟨3, ![1, 2048, 20544]⟩
abbrev S1x64 : Shape := ⟨2, ![1, 64]⟩
abbrev S2048x20544 : Shape := ⟨2, ![2048, 20544]⟩
abbrev S20544x2048 : Shape := ⟨2, ![20544, 2048]⟩
abbrev S64x2048 : Shape := ⟨2, ![64, 2048]⟩
abbrev S_ : Shape := ⟨0, ![]⟩
abbrev S128x2048 : Shape := ⟨2, ![128, 2048]⟩
abbrev S8192x2048 : Shape := ⟨2, ![8192, 2048]⟩
abbrev S2048 : Shape := ⟨1, ![2048]⟩
abbrev S64 : Shape := ⟨1, ![64]⟩
abbrev S128 : Shape := ⟨1, ![128]⟩
abbrev S1x128 : Shape := ⟨2, ![1, 128]⟩
abbrev S8192x128 : Shape := ⟨2, ![8192, 128]⟩
abbrev S1024x2048 : Shape := ⟨2, ![1024, 2048]⟩
abbrev S1024x128 : Shape := ⟨2, ![1024, 128]⟩
abbrev S1024 : Shape := ⟨1, ![1024]⟩
abbrev S1024x1 : Shape := ⟨2, ![1024, 1]⟩

abbrev nBuf : Space → Nat
  | .hbm => 21
  | .vmem => 9
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x20544, .f32⟩
  | .hbm, ⟨3, _⟩ => ⟨S1x64, .f32⟩
  | .hbm, ⟨4, _⟩ => ⟨S2048x20544, .f32⟩
  | .hbm, ⟨5, _⟩ => ⟨S20544x2048, .f32⟩
  | .hbm, ⟨6, _⟩ => ⟨S64x2048, .f32⟩
  | .hbm, ⟨7, _⟩ => ⟨S_, .i32⟩
  | .hbm, ⟨8, _⟩ => ⟨S_, .f32⟩
  | .hbm, ⟨9, _⟩ => ⟨S128x2048, .f32⟩
  | .hbm, ⟨10, _⟩ => ⟨S128x2048, .bf16⟩
  | .hbm, ⟨11, _⟩ => ⟨S8192x2048, .f32⟩
  | .hbm, ⟨12, _⟩ => ⟨S2048, .f32⟩
  | .hbm, ⟨13, _⟩ => ⟨S64, .f32⟩
  | .hbm, ⟨14, _⟩ => ⟨S_, .i32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S1x2048, .f32⟩
  | .hbm, ⟨19, _⟩ => ⟨S8192x2048, .bf16⟩
  | .hbm, ⟨20, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S128x2048, .bf16⟩
  | .local _ .vmem, ⟨4, _⟩ => ⟨S1x128, .f32⟩
  | .local _ .vmem, ⟨5, _⟩ => ⟨S1024x2048, .bf16⟩
  | .local _ .vmem, ⟨6, _⟩ => ⟨S1024x2048, .bf16⟩
  | .local _ .vmem, ⟨7, _⟩ => ⟨S1024x128, .f32⟩
  | .local _ .vmem, ⟨8, _⟩ => ⟨S1024x128, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_call1_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefNormIdeal.lean ====
abbrev S2x4096x2048 : Shape := ⟨3, ![2, 4096, 2048]⟩
abbrev S1x2048 : Shape := ⟨2, ![1, 2048]⟩
abbrev S1x2048x20544 : Shape := ⟨3, ![1, 2048, 20544]⟩
abbrev S1x64 : Shape := ⟨2, ![1, 64]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x20544 : Shape := ⟨2, ![2048, 20544]⟩
abbrev S2x4096x20544 : Shape := ⟨3, ![2, 4096, 20544]⟩
abbrev S2x4096x64 : Shape := ⟨3, ![2, 4096, 64]⟩
abbrev S64 : Shape := ⟨1, ![64]⟩
abbrev S1x1x64 : Shape := ⟨3, ![1, 1, 64]⟩
abbrev S2x4096x128 : Shape := ⟨3, ![2, 4096, 128]⟩
abbrev S8192x2048 : Shape := ⟨2, ![8192, 2048]⟩
abbrev S8192x128 : Shape := ⟨2, ![8192, 128]⟩

abbrev nBuf : Space → Nat
  | .hbm => 48
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x20544, .f32⟩
  | .hbm, ⟨3, _⟩ => ⟨S1x64, .f32⟩
  | .hbm, ⟨4, _⟩ => ⟨S2048, .f32⟩
  | .hbm, ⟨5, _⟩ => ⟨S2x4096x2048, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x2048, .f32⟩
  | .hbm, ⟨17, _⟩ => ⟨S2x4096x2048, .f32⟩
  | .hbm, ⟨18, _⟩ => ⟨S1x1x2048, .f32⟩
  | .hbm, ⟨19, _⟩ => ⟨S2x4096x2048, .f32⟩
  | .hbm, ⟨20, _⟩ => ⟨S2x4096x2048, .f32⟩
  | .hbm, ⟨21, _⟩ => ⟨S2048x20544, .f32⟩
  | .hbm, ⟨22, _⟩ => ⟨S2x4096x20544, .f32⟩
  | .hbm, ⟨23, _⟩ => ⟨S2x4096x64, .f32⟩
  | .hbm, ⟨24, _⟩ => ⟨S64, .f32⟩
  | .hbm, ⟨25, _⟩ => ⟨S1x1x64, .f32⟩
  | .hbm, ⟨26, _⟩ => ⟨S2x4096x64, .f32⟩
  | .hbm, ⟨27, _⟩ => ⟨S2x4096x64, .f32⟩
  | .hbm, ⟨28, _⟩ => ⟨S_, .i32⟩
  | .hbm, ⟨29, _⟩ => ⟨S_, .f32⟩
  | .hbm, ⟨30, _⟩ => ⟨S2x4096x128, .f32⟩
  | .hbm, ⟨31, _⟩ => ⟨S_, .f32⟩
  | .hbm, ⟨32, _⟩ => ⟨S2x4096x128, .f32⟩
  | .hbm, ⟨33, _⟩ => ⟨S2x4096x128, .f32⟩
  | .hbm, ⟨34, _⟩ => ⟨S2x4096x128, .f32⟩
  | .hbm, ⟨35, _⟩ => ⟨S2x4096x128, .f32⟩
  | .hbm, ⟨36, _⟩ => ⟨S2x4096x128, .i1⟩
  | .hbm, ⟨37, _⟩ => ⟨S2x4096x128, .f32⟩
  | .hbm, ⟨38, _⟩ => ⟨S2x4096x128, .f32⟩
  | .hbm, ⟨39, _⟩ => ⟨S2x4096x128, .f32⟩
  | .hbm, ⟨40, _⟩ => ⟨S2x4096x128, .f32⟩
  | .hbm, ⟨41, _⟩ => ⟨S2x4096x128, .f32⟩
  | .hbm, ⟨42, _⟩ => ⟨S2x4096x128, .f32⟩
  | .hbm, ⟨43, _⟩ => ⟨S2x4096x128, .f32⟩
  | .hbm, ⟨44, _⟩ => ⟨S2x4096x128, .f32⟩
  | .hbm, ⟨45, _⟩ => ⟨S8192x2048, .f32⟩
  | .hbm, ⟨46, _⟩ => ⟨S8192x2048, .bf16⟩
  | .hbm, ⟨47, _⟩ => ⟨S8192x128, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_call0_v0 : Ref sig .tc := ⟨.hbm, 29, rfl⟩
abbrev main_v21 : Ref sig .tc := ⟨.hbm, 30, rfl⟩
abbrev main_call1_cst : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩

abbrev nD : Nat := 1
abbrev τ : Topo := Topo.v7x

variable {F : FTy → Type} [FloatOps F]
-- ==== KernelSsd.lean ====
abbrev S2x4096x6144 : Shape := ⟨3, ![2, 4096, 6144]⟩
abbrev S2x4096x128 : Shape := ⟨3, ![2, 4096, 128]⟩
abbrev S2x4096x4096 : Shape := ⟨3, ![2, 4096, 4096]⟩
abbrev S1x64 : Shape := ⟨2, ![1, 64]⟩
abbrev S1x4096 : Shape := ⟨2, ![1, 4096]⟩
abbrev S8192x6144 : Shape := ⟨2, ![8192, 6144]⟩
abbrev S8192x4096 : Shape := ⟨2, ![8192, 4096]⟩
abbrev S8192x128 : Shape := ⟨2, ![8192, 128]⟩
abbrev S64 : Shape := ⟨1, ![64]⟩
abbrev S_ : Shape := ⟨0, ![]⟩
abbrev S128 : Shape := ⟨1, ![128]⟩
abbrev S1x128 : Shape := ⟨2, ![1, 128]⟩
abbrev S64x64 : Shape := ⟨2, ![64, 64]⟩
abbrev S4096 : Shape := ⟨1, ![4096]⟩
abbrev S128x1 : Shape := ⟨2, ![128, 1]⟩
abbrev S128x128 : Shape := ⟨2, ![128, 128]⟩
abbrev S128x6144 : Shape := ⟨2, ![128, 6144]⟩
abbrev S128x4096 : Shape := ⟨2, ![128, 4096]⟩
abbrev S128x512 : Shape := ⟨2, ![128, 512]⟩
abbrev S128x256 : Shape := ⟨2, ![128, 256]⟩
abbrev S256x256 : Shape := ⟨2, ![256, 256]⟩
abbrev S256x128 : Shape := ⟨2, ![256, 128]⟩
abbrev S1x512 : Shape := ⟨2, ![1, 512]⟩

abbrev nBuf : Space → Nat
  | .hbm => 31
  | .vmem => 14
  | .smem => 0
  | _ => 0

abbrev bufTy : (tb : Table) → Fin (tcTables nBuf tb) → BufTy
  | .hbm, ⟨0, _⟩ => ⟨S2x4096x6144, .f32⟩
  | .hbm, ⟨1, _⟩ => ⟨S2x4096x128, .f32⟩
  | .hbm, ⟨2, _⟩ => ⟨S2x4096x4096, .f32⟩
  | .hbm, ⟨3, _⟩ => ⟨S1x64, .f32⟩
  | .hbm, ⟨4, _⟩ => ⟨S1x64, .f32⟩
  | .hbm, ⟨5, _⟩ => ⟨S1x4096, .f32⟩
  | .hbm, ⟨6, _⟩ => ⟨S8192x6144, .f32⟩
  | .hbm, ⟨7, _⟩ => ⟨S8192x6144, .bf16⟩
  | .hbm, ⟨8, _⟩ => ⟨S8192x4096, .f32⟩
  | .hbm, ⟨9, _⟩ => ⟨S8192x4096, .bf16⟩
  | .hbm, ⟨10, _⟩ => ⟨S8192x128, .f32⟩
  | .hbm, ⟨11, _⟩ => ⟨S64, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S64, .f32⟩
  | .hbm, ⟨17, _⟩ => ⟨S64x64, .f32⟩
  | .hbm, ⟨18, _⟩ => ⟨S4096, .f32⟩
  | .hbm, ⟨19, _⟩ => ⟨S1x4096, .f32⟩
  | .hbm, ⟨20, _⟩ => ⟨S4096, .f32⟩
  | .hbm, ⟨21, _⟩ => ⟨S128, .i32⟩
  | .hbm, ⟨22, _⟩ => ⟨S128x1, .i32⟩
  | .hbm, ⟨23, _⟩ => ⟨S128, .i32⟩
  | .hbm, ⟨24, _⟩ => ⟨S1x128, .i32⟩
  | .hbm, ⟨25, _⟩ => ⟨S128x128, .i32⟩
  | .hbm, ⟨26, _⟩ => ⟨S128x128, .i32⟩
  | .hbm, ⟨27, _⟩ => ⟨S128x128, .i1⟩
  | .hbm, ⟨28, _⟩ => ⟨S128x128, .bf16⟩
  | .hbm, ⟨29, _⟩ => ⟨S1x4096, .f32⟩
  | .hbm, ⟨30, _⟩ => ⟨S8192x4096, .bf16⟩
  | .local _ .vmem, ⟨0, _⟩ => ⟨S128x6144, .bf16⟩
  | .local _ .vmem, ⟨1, _⟩ => ⟨S128x6144, .bf16⟩
  | .local _ .vmem, ⟨2, _⟩ => ⟨S128x128, .f32⟩
  | .local _ .vmem, ⟨3, _⟩ => ⟨S128x128, .f32⟩
  | .local _ .vmem, ⟨4, _⟩ => ⟨S128x4096, .bf16⟩
  | .local _ .vmem, ⟨5, _⟩ => ⟨S128x4096, .bf16⟩
  | .local _ .vmem, ⟨6, _⟩ => ⟨S1x128, .f32⟩
  | .local _ .vmem, ⟨7, _⟩ => ⟨S1x4096, .f32⟩
  | .local _ .vmem, ⟨8, _⟩ => ⟨S1x4096, .f32⟩
  | .local _ .vmem, ⟨9, _⟩ => ⟨S128x128, .bf16⟩
  | .local _ .vmem, ⟨10, _⟩ => ⟨S128x4096, .bf16⟩
  | .local _ .vmem, ⟨11, _⟩ => ⟨S128x4096, .bf16⟩
  | .local _ .vmem, ⟨12, _⟩ => ⟨S128x4096, .f32⟩
  | .local _ .vmem, ⟨13, _⟩ => ⟨S128x4096, .f32⟩
  | _, _ => ⟨S2x4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelAtt.lean ====
abbrev S2x4096x2048 : Shape := ⟨3, ![2, 4096, 2048]⟩
abbrev S8192x2048 : Shape := ⟨2, ![8192, 2048]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S256x512 : Shape := ⟨2, ![256, 512]⟩
abbrev S4096x512 : Shape := ⟨2, ![4096, 512]⟩
abbrev S256x128 : Shape := ⟨2, ![256, 128]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 18
  | .vmem => 9
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S2x4096x2048, .f32⟩
  | .hbm, ⟨3, _⟩ => ⟨S8192x2048, .f32⟩
  | .hbm, ⟨4, _⟩ => ⟨S8192x2048, .bf16⟩
  | .hbm, ⟨5, _⟩ => ⟨S8192x2048, .f32⟩
  | .hbm, ⟨6, _⟩ => ⟨S8192x2048, .bf16⟩
  | .hbm, ⟨7, _⟩ => ⟨S8192x2048, .f32⟩
  | .hbm, ⟨8, _⟩ => ⟨S8192x2048, .bf16⟩
  | .hbm, ⟨9, _⟩ => ⟨S256, .i32⟩
  | .hbm, ⟨10, _⟩ => ⟨S256x1, .i32⟩
  | .hbm, ⟨11, _⟩ => ⟨S256, .i32⟩
  | .hbm, ⟨12, _⟩ => ⟨S1x256, .i32⟩
  | .hbm, ⟨13, _⟩ => ⟨S256x256, .i32⟩
  | .hbm, ⟨14, _⟩ => ⟨S256x256, .i32⟩
  | .hbm, ⟨15, _⟩ => ⟨S256x256, .i1⟩
  | .hbm, ⟨16, _⟩ => ⟨S256x256, .bf16⟩
  | .hbm, ⟨17, _⟩ => ⟨S8192x2048, .bf16⟩
  | .local _ .vmem, ⟨0, _⟩ => ⟨S256x512, .bf16⟩
  | .local _ .vmem, ⟨1, _⟩ => ⟨S256x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S256x256, .bf16⟩
  | .local _ .vmem, ⟨7, _⟩ => ⟨S256x512, .bf16⟩
  | .local _ .vmem, ⟨8, _⟩ => ⟨S256x512, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 4, 16], ![false, false, false]⟩

def k0_mult1 (i : grid0.Coords) : BitVec 32 :=
  let arg2 : BitVec 32 := BitVec.ofNat 32 (i 2).val
  let c256_i32 : BitVec 32 := 256#32
  let v16 : BitVec 32 := Scalar.muli arg2 c256_i32
  v16
def k0_off1 (i : grid0.Coords) : Fin 2 → Nat :=
  let arg2 : BitVec 32 := BitVec.ofNat 32 (i 2).val
  let c256_i32 : BitVec 32 := 256#32
  let v16 : BitVec 32 := Scalar.muli arg2 c256_i32
  let v17 : BitVec 32 := v16
  let v18 : Index := Scalar.indexCast v17
  let c0_10 : Index := 0#32
  ![v18.toNat, 0]
def k0_mult2 (i : grid0.Coords) : BitVec 32 :=
  let arg2 : BitVec 32 := BitVec.ofNat 32 (i 2).val
  let c1_i32 : BitVec 32 := 1#32
  let v6 : BitVec 32 := Scalar.subi arg2 c1_i32
  let c0_i32_1 : BitVec 32 := 0#32
  let v7 : BitVec 32 := Scalar.maxsi v6 c0_i32_1
  let c256_i32_13 : BitVec 32 := 256#32
  let v24 : BitVec 32 := Scalar.muli v7 c256_i32_13
  v24
def k0_off2 (i : grid0.Coords) : Fin 2 → Nat :=
  let arg2 : BitVec 32 := BitVec.ofNat 32 (i 2).val
  let c1_i32 : BitVec 32 := 1#32
  let v6 : BitVec 32 := Scalar.subi arg2 c1_i32
  let c0_i32_1 : BitVec 32 := 0#32
  let v7 : BitVec 32 := Scalar.maxsi v6 c0_i32_1
  let c256_i32_13 : BitVec 32 := 256#32
  let v24 : BitVec 32 := Scalar.muli v7 c256_i32_13
  let v25 : BitVec 32 := v24
  let v26 : Index := Scalar.indexCast v25
  let c0_14 : Index := 0#32
  ![v26.toNat, 0]
def k0_mult3 (i : grid0.Coords) : BitVec 32 :=
  let arg2 : BitVec 32 := BitVec.ofNat 32 (i 2).val
  let c256_i32_17 : BitVec 32 := 256#32
  let v32 : BitVec 32 := Scalar.muli arg2 c256_i32_17
  v32
def k0_off3 (i : grid0.Coords) : Fin 2 → Nat :=
  let arg2 : BitVec 32 := BitVec.ofNat 32 (i 2).val
  let c256_i32_17 : BitVec 32 := 256#32
  let v32 : BitVec 32 := Scalar.muli arg2 c256_i32_17
  let v33 : BitVec 32 := v32
  let v34 : Index := Scalar.indexCast v33
  let c128_18 : Index := 128#32
  ![v34.toNat, 128]
def k0_mult4 (i : grid0.Coords) : BitVec 32 :=
  let arg2 : BitVec 32 := BitVec.ofNat 32 (i 2).val
  let c1_i32_2 : BitVec 32 := 1#32
  let v8 : BitVec 32 := Scalar.subi arg2 c1_i32_2
  let c0_i32_3 : BitVec 32 := 0#32
  let v9 : BitVec 32 := Scalar.maxsi v8 c0_i32_3
  let c256_i32_22 : BitVec 32 := 256#32
  let v40 : BitVec 32 := Scalar.muli v9 c256_i32_22
  v40
def k0_off4 (i : grid0.Coords) : Fin 2 → Nat :=
  let arg2 : BitVec 32 := BitVec.ofNat 32 (i 2).val
  let c1_i32_2 : BitVec 32 := 1#32
  let v8 : BitVec 32 := Scalar.subi arg2 c1_i32_2
  let c0_i32_3 : BitVec 32 := 0#32
  let v9 : BitVec 32 := Scalar.maxsi v8 c0_i32_3
  let c256_i32_22 : BitVec 32 := 256#32
  let v40 : BitVec 32 := Scalar.muli v9 c256_i32_22
  let v41 : BitVec 32 := v40
  let v42 : Index := Scalar.indexCast v41
  let c128_23 : Index := 128#32
  ![v42.toNat, 128]
def k0_mult5 (i : grid0.Coords) : BitVec 32 :=
  let arg2 : BitVec 32 := BitVec.ofNat 32 (i 2).val
  let c256_i32_26 : BitVec 32 := 256#32
  let v48 : BitVec 32 := Scalar.muli arg2 c256_i32_26
  v48
def k0_off5 (i : grid0.Coords) : Fin 2 → Nat :=
  let arg2 : BitVec 32 := BitVec.ofNat 32 (i 2).val
  let c256_i32_26 : BitVec 32 := 256#32
  let v48 : BitVec 32 := Scalar.muli arg2 c256_i32_26
  let v49 : BitVec 32 := v48
  let v50 : Index := Scalar.indexCast v49
  let c256_27 : Index := 256#32
  ![v50.toNat, 256]
def k0_mult6 (i : grid0.Coords) : BitVec 32 :=
  let arg2 : BitVec 32 := BitVec.ofNat 32 (i 2).val
  let c1_i32_4 : BitVec 32 := 1#32
  let v10 : BitVec 32 := Scalar.subi arg2 c1_i32_4
  let c0_i32_5 : BitVec 32 := 0#32
  let v11 : BitVec 32 := Scalar.maxsi v10 c0_i32_5
  let c256_i32_31 : BitVec 32 := 256#32
  let v56 : BitVec 32 := Scalar.muli v11 c256_i32_31
  v56
def k0_off6 (i : grid0.Coords) : Fin 2 → Nat :=
  let arg2 : BitVec 32 := BitVec.ofNat 32 (i 2).val
  let c1_i32_4 : BitVec 32 := 1#32
  let v10 : BitVec 32 := Scalar.subi arg2 c1_i32_4
  let c0_i32_5 : BitVec 32 := 0#32
  let v11 : BitVec 32 := Scalar.maxsi v10 c0_i32_5
  let c256_i32_31 : BitVec 32 := 256#32
  let v56 : BitVec 32 := Scalar.muli v11 c256_i32_31
  let v57 : BitVec 32 := v56
  let v58 : Index := Scalar.indexCast v57
  let c256_32 : Index := 256#32
  ![v58.toNat, 256]
def k0_mult7 (i : grid0.Coords) : BitVec 32 :=
  let arg2 : BitVec 32 := BitVec.ofNat 32 (i 2).val
  let c256_i32_35 : BitVec 32 := 256#32
  let v64 : BitVec 32 := Scalar.muli arg2 c256_i32_35
  v64
def k0_off7 (i : grid0.Coords) : Fin 2 → Nat :=
  let arg2 : BitVec 32 := BitVec.ofNat 32 (i 2).val
  let c256_i32_35 : BitVec 32 := 256#32
  let v64 : BitVec 32 := Scalar.muli arg2 c256_i32_35
  let v65 : BitVec 32 := v64
  let v66 : Index := Scalar.indexCast v65
  let c384_36 : Index := 384#32
  ![v66.toNat, 384]
def k0_mult8 (i : grid0.Coords) : BitVec 32 :=
  let arg2 : BitVec 32 := BitVec.ofNat 32 (i 2).val
  let c1_i32_6 : BitVec 32 := 1#32
  let v12 : BitVec 32 := Scalar.subi arg2 c1_i32_6
  let c0_i32_7 : BitVec 32 := 0#32
  let v13 : BitVec 32 := Scalar.maxsi v12 c0_i32_7
  let c256_i32_40 : BitVec 32 := 256#32
  let v72 : BitVec 32 := Scalar.muli v13 c256_i32_40
  v72
def k0_off8 (i : grid0.Coords) : Fin 2 → Nat :=
  let arg2 : BitVec 32 := BitVec.ofNat 32 (i 2).val
  let c1_i32_6 : BitVec 32 := 1#32
  let v12 : BitVec 32 := Scalar.subi arg2 c1_i32_6
  let c0_i32_7 : BitVec 32 := 0#32
  let v13 : BitVec 32 := Scalar.maxsi v12 c0_i32_7
  let c256_i32_40 : BitVec 32 := 256#32
  let v72 : BitVec 32 := Scalar.muli v13 c256_i32_40
  let v73 : BitVec 32 := v72
  let v74 : Index := Scalar.indexCast v73
  let c384_41 : Index := 384#32
  ![v74.toNat, 384]
def k0_mult9 (i : grid0.Coords) : BitVec 32 :=
  let arg2 : BitVec 32 := BitVec.ofNat 32 (i 2).val
  let c256_i32_96 : BitVec 32 := 256#32
  let v220 : BitVec 32 := Scalar.muli arg2 c256_i32_96
  v220
def k0_mult10 (i : grid0.Coords) : BitVec 32 :=
  let arg2 : BitVec 32 := BitVec.ofNat 32 (i 2).val
  let c1_i32 : BitVec 32 := 1#32
  let v6 : BitVec 32 := Scalar.subi arg2 c1_i32
  let c0_i32_1 : BitVec 32 := 0#32
  let v7 : BitVec 32 := Scalar.maxsi v6 c0_i32_1
  let c256_i32_99 : BitVec 32 := 256#32
  let v232 : BitVec 32 := Scalar.muli v7 c256_i32_99
  v232
def k0_mult11 (i : grid0.Coords) : BitVec 32 :=
  let arg2 : BitVec 32 := BitVec.ofNat 32 (i 2).val
  let c256_i32_103 : BitVec 32 := 256#32
  let v244 : BitVec 32 := Scalar.muli arg2 c256_i32_103
  v244
def k0_mult12 (i : grid0.Coords) : BitVec 32 :=
  let arg2 : BitVec 32 := BitVec.ofNat 32 (i 2).val
  let c1_i32_2 : BitVec 32 := 1#32
  let v8 : BitVec 32 := Scalar.subi arg2 c1_i32_2
  let c0_i32_3 : BitVec 32 := 0#32
  let v9 : BitVec 32 := Scalar.maxsi v8 c0_i32_3
  let c256_i32_106 : BitVec 32 := 256#32
  let v256 : BitVec 32 := Scalar.muli v9 c256_i32_106
  v256
def k0_mult13 (i : grid0.Coords) : BitVec 32 :=
  let arg2 : BitVec 32 := BitVec.ofNat 32 (i 2).val
  let c256_i32_110 : BitVec 32 := 256#32
  let v268 : BitVec 32 := Scalar.muli arg2 c256_i32_110
  v268
def k0_mult14 (i : grid0.Coords) : BitVec 32 :=
  let arg2 : BitVec 32 := BitVec.ofNat 32 (i 2).val
  let c1_i32_4 : BitVec 32 := 1#32
  let v10 : BitVec 32 := Scalar.subi arg2 c1_i32_4
  let c0_i32_5 : BitVec 32 := 0#32
  let v11 : BitVec 32 := Scalar.maxsi v10 c0_i32_5
  let c256_i32_113 : BitVec 32 := 256#32
  let v280 : BitVec 32 := Scalar.muli v11 c256_i32_113
  v280
def k0_mult15 (i : grid0.Coords) : BitVec 32 :=
  let arg2 : BitVec 32 := BitVec.ofNat 32 (i 2).val
  let c256_i32_117 : BitVec 32 := 256#32
  let v292 : BitVec 32 := Scalar.muli arg2 c256_i32_117
  v292
def k0_mult16 (i : grid0.Coords) : BitVec 32 :=
  let arg2 : BitVec 32 := BitVec.ofNat 32 (i 2).val
  let c1_i32_6 : BitVec 32 := 1#32
  let v12 : BitVec 32 := Scalar.subi arg2 c1_i32_6
  let c0_i32_7 : BitVec 32 := 0#32
  let v13 : BitVec 32 := Scalar.maxsi v12 c0_i32_7
  let c256_i32_120 : BitVec 32 := 256#32
  let v304 : BitVec 32 := Scalar.muli v13 c256_i32_120
  v304
def k0_mult17 (arg8 : BitVec 32) : BitVec 32 :=
  let c256_i32_137 : BitVec 32 := 256#32
  let v348 : BitVec 32 := Scalar.muli arg8 c256_i32_137
  v348

def k0_off9 (arg8 : BitVec 32) : Fin 2 → Nat :=
  let c256_i32_137 : BitVec 32 := 256#32
  let v348 : BitVec 32 := Scalar.muli arg8 c256_i32_137
  let v349 : BitVec 32 := v348
  let v350 : Index := Scalar.indexCast v349
  let c0_138 : Index := 0#32
  ![v350.toNat, 0]
def k0_mult18 (arg8 : BitVec 32) : BitVec 32 :=
  let c256_i32_150 : BitVec 32 := 256#32
  let v383 : BitVec 32 := Scalar.muli arg8 c256_i32_150
  v383
def k0_off10 (arg8 : BitVec 32) : Fin 2 → Nat :=
  let c256_i32_150 : BitVec 32 := 256#32
  let v383 : BitVec 32 := Scalar.muli arg8 c256_i32_150
  let v384 : BitVec 32 := v383
  let v385 : Index := Scalar.indexCast v384
  let c128_151 : Index := 128#32
  ![v385.toNat, 128]
def k0_mult19 (arg8 : BitVec 32) : BitVec 32 :=
  let c256_i32_163 : BitVec 32 := 256#32
  let v418 : BitVec 32 := Scalar.muli arg8 c256_i32_163
  v418
def k0_off11 (arg8 : BitVec 32) : Fin 2 → Nat :=
  let c256_i32_163 : BitVec 32 := 256#32
  let v418 : BitVec 32 := Scalar.muli arg8 c256_i32_163
  let v419 : BitVec 32 := v418
  let v420 : Index := Scalar.indexCast v419
  let c256_164 : Index := 256#32
  ![v420.toNat, 256]
def k0_mult20 (arg8 : BitVec 32) : BitVec 32 :=
  let c256_i32_176 : BitVec 32 := 256#32
  let v453 : BitVec 32 := Scalar.muli arg8 c256_i32_176
  v453
def k0_off12 (arg8 : BitVec 32) : Fin 2 → Nat :=
  let c256_i32_176 : BitVec 32 := 256#32
  let v453 : BitVec 32 := Scalar.muli arg8 c256_i32_176
  let v454 : BitVec 32 := v453
  let v455 : Index := Scalar.indexCast v454
  let c384_177 : Index := 384#32
  ![v455.toNat, 384]

def k0_chk1 (arg8 : BitVec 32) : Prop :=
  (256 ∣ (k0_mult17 arg8).toNat) ∧
  (∀ a, (k0_off9 arg8) a + S256x128.size a ≤ S4096x512.size a) ∧
  (256 ∣ (k0_mult18 arg8).toNat) ∧
  (∀ a, (k0_off10 arg8) a + S256x128.size a ≤ S4096x512.size a) ∧
  (256 ∣ (k0_mult19 arg8).toNat) ∧
  (∀ a, (k0_off11 arg8) a + S256x128.size a ≤ S4096x512.size a) ∧
  (256 ∣ (k0_mult20 arg8).toNat) ∧
  (∀ a, (k0_off12 arg8) a + S256x128.size a ≤ S4096x512.size a)
theorem k0_mult17_dvd : ∀ (arg8 : BitVec 32) (k0_hw1 : k0_chk1 arg8), 256 ∣ (k0_mult17 arg8).toNat := fun arg8 k0_hw1 => k0_hw1.1
theorem k0_off9_inb : ∀ (arg8 : BitVec 32) (k0_hw1 : k0_chk1 arg8), ∀ a, (k0_off9 arg8) a + S256x128.size a ≤ S4096x512.size a := fun arg8 k0_hw1 => k0_hw1.2.1
theorem k0_mult18_dvd : ∀ (arg8 : BitVec 32) (k0_hw1 : k0_chk1 arg8), 256 ∣ (k0_mult18 arg8).toNat := fun arg8 k0_hw1 => k0_hw1.2.2.1
theorem k0_off10_inb : ∀ (arg8 : BitVec 32) (k0_hw1 : k0_chk1 arg8), ∀ a, (k0_off10 arg8) a + S256x128.size a ≤ S4096x512.size a := fun arg8 k0_hw1 => k0_hw1.2.2.2.1
theorem k0_mult19_dvd : ∀ (arg8 : BitVec 32) (k0_hw1 : k0_chk1 arg8), 256 ∣ (k0_mult19 arg8).toNat := fun arg8 k0_hw1 => k0_hw1.2.2.2.2.1
theorem k0_off11_inb : ∀ (arg8 : BitVec 32) (k0_hw1 : k0_chk1 arg8), ∀ a, (k0_off11 arg8) a + S256x128.size a ≤ S4096x512.size a := fun arg8 k0_hw1 => k0_hw1.2.2.2.2.2.1
theorem k0_mult20_dvd : ∀ (arg8 : BitVec 32) (k0_hw1 : k0_chk1 arg8), 256 ∣ (k0_mult20 arg8).toNat := fun arg8 k0_hw1 => k0_hw1.2.2.2.2.2.2.1
theorem k0_off12_inb : ∀ (arg8 : BitVec 32) (k0_hw1 : k0_chk1 arg8), ∀ a, (k0_off12 arg8) a + S256x128.size a ≤ S4096x512.size a := fun arg8 k0_hw1 => k0_hw1.2.2.2.2.2.2.2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Proof.Rows.lean ====
/-
  Blocks of rows, common to the projection kernels: a body reads a chunk of the rows of its activation block, contracts
  it with the whole weight block, and applies a function to each entry. Nothing here names a program.
-/
module

public import Idealize.ShloMosaic.Lib.Pipeline.Value
public import Idealize.ShloMosaic.Lib.Pointwise

@[expose] public section

noncomputable section

namespace Cert.Rows

open Idealize.ShloMosaic Idealize.ShloMosaic.TcCoe
open Idealize.SL.Sem

/-- A load through a whole memref that holds `x` reads `x` through the load's rectangle. -/
theorem readAt_whole {sig : RefSig} {κ : Kind} {sp : Space} {s : Shape} {e : EltTy} {arg : Memref sig κ sp s e}
    (h : arg.IsWhole) (x : Vec Ideal s e) (r : Rect s) :
    View.readAt (Elt Ideal) arg.view r.toLoadRect (h.unread x) = View.ld x r := by
  rw [View.readAt_eq_ld, h.read_unread]

/-- Row `r` of the chunk of `R` rows that begins at row `o` is row `o + r` of the array. -/
theorem ld_rows {A B R o : Nat} {e : EltTy} (x : Vec Ideal ⟨2, ![A, B]⟩ e)
    (inb : ∀ a, (![o, 0] : Fin 2 → Nat) a + (![R, B] : Fin 2 → Nat) a ≤ (⟨2, ![A, B]⟩ : Shape).size a)
    (r : Fin R) (k : Fin B) (j : Fin A) (hj : j.val = o + r.val) :
    View.ld x (Rect.unit (s := ⟨2, ![A, B]⟩) ![o, 0] ![R, B] inb) (ix2 r k) = x (ix2 j k) := by
  refine congrArg x ?_
  funext a; apply Fin.ext
  match a with
  | ⟨0, _⟩ => show o + 1 * r.val = j.val; omega
  | ⟨1, _⟩ => show 0 + 1 * k.val = k.val; omega

/-- What a projection's body leaves at each entry of its output block: the function `f` of the entry's column, applied
    to the product of the activation block `x` with the weight block `S`. -/
def linTile {A K N : Nat} (f : Fin N → EReal → EReal) (x : (⟨2, ![A, K]⟩ : Shape).Idx → EReal)
    (S : (⟨2, ![K, N]⟩ : Shape).Idx → EReal) : (⟨2, ![A, N]⟩ : Shape).Idx → EReal :=
  fun y => f (y 1) (∑ k : Fin K, x (ix2 (y 0) k) * S (ix2 k (y 1)))

/-- A payload whose rows are a function of the rows `o`, `o + 1`, … of a block agrees with that function where the
    store's rectangle puts it. -/
theorem rows_piece {A N R : Nat} (G : (⟨2, ![A, N]⟩ : Shape).Idx → EReal) (o : Nat)
    (inb : ∀ a, (![o, 0] : Fin 2 → Nat) a + (![R, N] : Fin 2 → Nat) a ≤ (⟨2, ![A, N]⟩ : Shape).size a)
    (pay : (⟨2, ![R, N]⟩ : Shape).Idx → EReal)
    (hpay : ∀ (r : Fin R) (l : Fin N) (j : Fin A), j.val = o + r.val → pay (ix2 r l) = G (ix2 j l))
    (y : (⟨2, ![R, N]⟩ : Shape).Idx) :
    pay y = G ((Rect.unit (s := ⟨2, ![A, N]⟩) ![o, 0] ![R, N] inb).emb y) := by
  obtain ⟨r, l, rfl⟩ : ∃ (r : Fin R) (l : Fin N), y = ix2 r l := ⟨y 0, y 1, eq_ix2 y⟩
  have h : o + R ≤ A := inb 0
  rw [hpay r l ⟨o + r.val, by omega⟩ rfl]
  refine congrArg G ?_
  funext a; apply Fin.ext
  match a with
  | ⟨0, _⟩ => show o + r.val = o + 1 * r.val; omega
  | ⟨1, _⟩ => show l.val = 0 + 1 * l.val; omega

/-- The payload of the chunk of rows at `o` of `x` is the block's result on those rows, when it is the chunk's own. -/
theorem chunk_piece {A K N R : Nat} (f : Fin N → EReal → EReal) (x : Vec Ideal ⟨2, ![A, K]⟩ .bf16)
    (S : (⟨2, ![K, N]⟩ : Shape).Idx → EReal) (o : Nat)
    (inb : ∀ a, (![o, 0] : Fin 2 → Nat) a + (![R, K] : Fin 2 → Nat) a ≤ (⟨2, ![A, K]⟩ : Shape).size a)
    (inb' : ∀ a, (![o, 0] : Fin 2 → Nat) a + (![R, N] : Fin 2 → Nat) a ≤ (⟨2, ![A, N]⟩ : Shape).size a)
    (pay : (⟨2, ![R, N]⟩ : Shape).Idx → EReal)
    (hpay : ∀ (r : Fin R) (l : Fin N),
      pay (ix2 r l) = linTile f (View.ld x (Rect.unit (s := ⟨2, ![A, K]⟩) ![o, 0] ![R, K] inb)) S (ix2 r l))
    (y : (⟨2, ![R, N]⟩ : Shape).Idx) :
    pay y = linTile f x S ((Rect.unit (s := ⟨2, ![A, N]⟩) ![o, 0] ![R, N] inb').emb y) := by
  refine rows_piece (linTile f x S) o inb' pay (fun r l j hj => ?_) y
  rw [hpay r l]
  refine congrArg (f l) (Finset.sum_congr rfl fun k _ => congrArg (fun z : EReal => z * S (ix2 k l)) ?_)
  exact ld_rows (e := .bf16) x inb r k j hj

/-- Row `R` of the activations flattened to 8192 rows is row `s` of sequence `b`, for `R = 4096 b + s`. -/
theorem split_row {α : Type} {N : Nat} (x : (⟨3, ![2, 4096, N]⟩ : Shape).Idx → α) (R : Nat) (b : Fin 2) (s : Fin 4096)
    (k : Fin N) (h : R = 4096 * b.val + s.val) (hb : R / 4096 < 2) (hs : R % 4096 < 4096) :
    x (ix3 ⟨R / 4096, hb⟩ ⟨R % 4096, hs⟩ k) = x (ix3 b s k) := by
  have h0 : (⟨R / 4096, hb⟩ : Fin 2) = b := Fin.ext (by show R / 4096 = b.val; omega)
  have h1 : (⟨R % 4096, hs⟩ : Fin 4096) = s := Fin.ext (by show R % 4096 = s.val; omega)
  rw [h0, h1]

/-- Every one of the 8192 rows is a row of one of the two sequences. -/
theorem exists_row (R : Fin 8192) : ∃ (b : Fin 2) (s : Fin 4096), R.val = 4096 * b.val + s.val :=
  ⟨⟨R.val / 4096, by omega⟩, ⟨R.val % 4096, by omega⟩, by show R.val = 4096 * (R.val / 4096) + R.val % 4096; omega⟩

/-- An entry of the joint in-projection: row `s` of sequence `b` of the normalised activations against column `L` of
    the weights. -/
def entry (u : (⟨3, ![2, 4096, 2048]⟩ : Shape).Idx → EReal) (w : (⟨3, ![1, 2048, 20544]⟩ : Shape).Idx → EReal)
    (b : Fin 2) (s : Fin 4096) (L : Fin 20544) : EReal :=
  ∑ k : Fin 2048, u (ix3 b s k) * w (ix3 0 k L)

/-- The 8192 rows of an array given sequence by sequence. -/
def flat {N : Nat} (f : Fin 2 → Fin 4096 → Fin N → EReal) : (⟨2, ![8192, N]⟩ : Shape).Idx → EReal := fun i =>
  f ⟨(i 0).val / 4096, by have h : (i 0).val < 8192 := (i 0).isLt; omega⟩ ⟨(i 0).val % 4096, Nat.mod_lt _ (by omega)⟩ (i 1)

/-- Row `4096 b + s` of that array is row `s` of sequence `b`. -/
theorem flat_apply {N : Nat} (f : Fin 2 → Fin 4096 → Fin N → EReal) (R : Fin 8192) (C : Fin N) (b : Fin 2) (s : Fin 4096)
    (hR : R.val = 4096 * b.val + s.val) : flat f (ix2 R C) = f b s C := by
  have h0 : (⟨R.val / 4096, by omega⟩ : Fin 2) = b := Fin.ext (by show R.val / 4096 = b.val; omega)
  have h1 : (⟨R.val % 4096, Nat.mod_lt _ (by omega)⟩ : Fin 4096) = s := Fin.ext (by show R.val % 4096 = s.val; omega)
  show f ⟨R.val / 4096, _⟩ ⟨R.val % 4096, _⟩ C = _
  rw [h0, h1]

/-- A block of `T` rows whose entries are those rows of `f` is the rows `T n`, `T n + 1`, … of `flat f`. -/
theorem block_flat {N : Nat} (f : Fin 2 → Fin 4096 → Fin N → EReal) (T n : Nat) (B : (⟨2, ![T, N]⟩ : Shape).Idx → EReal)
    (hB : ∀ (r : Fin T) (l : Fin N) (b : Fin 2) (s : Fin 4096), 4096 * b.val + s.val = T * n + r.val → B (ix2 r l) = f b s l)
    (y : (⟨2, ![T, N]⟩ : Shape).Idx) (i : (⟨2, ![8192, N]⟩ : Shape).Idx)
    (h0 : (i 0).val = T * n + (y 0).val) (h1 : (i 1).val = (y 1).val) : B y = flat f i := by
  obtain ⟨r, l, rfl⟩ : ∃ (r : Fin T) (l : Fin N), y = ix2 r l := ⟨y 0, y 1, eq_ix2 y⟩
  obtain ⟨R, C, rfl⟩ : ∃ (R : Fin 8192) (C : Fin N), i = ix2 R C := ⟨i 0, i 1, eq_ix2 i⟩
  obtain ⟨b, s, hR⟩ := exists_row R
  have h0' : R.val = T * n + r.val := h0
  obtain rfl : C = l := Fin.ext h1
  rw [flat_apply f R C b s hR, hB r C b s (by omega)]

end Cert.Rows

end
-- ==== Proof.Silu.lean ====
/-
  The two spellings of `silu`: the kernel's `h + h·tanh h` at `h = x / 2` and the reference's `x · (1 / (1 + e⁻ˣ))`. They
  agree at every real `x`; at `x = −∞` the first is `−∞ + ∞` and the second `−∞ · 0`, so an argument is asked to be
  finite, and a finite sum of products of reals is a real.
-/
module

public import proofs.«01_k».proof.Proof.Rows
public import Idealize.ShloMosaic.Lib.IdealHost

@[expose] public section

noncomputable section

namespace Cert.Silu

open Idealize.ShloMosaic

/-- An extended real that is a real. -/
def IsReal (x : EReal) : Prop := ∃ r : ℝ, x = (r : EReal)

/-- Sums of reals are real, -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- so are products, -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- and finite sums. -/
theorem IsReal.sum {ι : Type} (s : Finset ι) (f : ι → EReal) (h : ∀ i ∈ s, IsReal (f i)) : IsReal (∑ i ∈ s, f i) :=
  Finset.sum_induction f IsReal (fun _ _ => IsReal.add) ⟨0, rfl⟩ h

/-- The f32 pattern of `+∞` is the top of the extended reals. -/
theorem ofBits_inf : Ideal.ofBits .f32 0x7F800000#32 = ⊤ := by
  simp [Ideal.ofBits, Ideal.ieee]

/-- The precondition's test of an array, all ones: an absolute value below `+∞` says that the element is a real. -/
theorem isReal_of_lt {s : Shape} (x : FVec Ideal s .f32) (h : (⟨0, ![]⟩ : Shape).BroadcastsInDim s ![])
    (e : cmpf .olt (Host.absf x) (broadcastInDim s ![] h (constant ⟨0, ![]⟩ .f32 0x7F800000#32)) = fun _ => 1#1) (i : s.Idx) :
    IsReal (x i) := by
  have e := congrFun e i
  pointwise at e
  rw [ofBits_inf] at e
  have hlt : max (x i : EReal) (-(x i : EReal)) < ⊤ := by
    by_contra hn
    rw [show (FloatOps.absf (x i) : EReal) = max (x i : EReal) (-(x i : EReal)) from rfl, decide_eq_false hn] at e
    exact absurd e (by decide)
  have ht : (x i : EReal) ≠ ⊤ := fun hx => by rw [hx] at hlt; simp at hlt
  have hb : (x i : EReal) ≠ ⊥ := fun hx => by rw [hx] at hlt; simp at hlt
  exact ⟨(x i : EReal).toReal, (EReal.coe_toReal ht hb).symm⟩

/-- The kernel's `silu`. -/
def half : EReal := Ideal.ofBits .f32 0x3F000000#32

/-- It is one half. -/
theorem half_eq : half = ((1 / 2 : ℝ) : EReal) := by
  unfold half
  simp [Ideal.ofBits, Ideal.ieee, -EReal.coe_mul]; norm_num

/-- The kernel's silu. -/
def siluK (x : EReal) : EReal := half * x + half * x * Ideal.tanh (half * x)

/-- The reference's. -/
def siluR (x : EReal) : EReal := x * Ideal.div 1 (1 + Ideal.exp (-x))

/-- The two forms agree on the reals, -/
theorem silu_real (a : ℝ) : a / 2 + a / 2 * Real.tanh (a / 2) = a * (1 + Real.exp (-a))⁻¹ := by
  have he : Real.exp (-a) = Real.exp (-(a / 2)) * Real.exp (-(a / 2)) := by rw [← Real.exp_add]; congr 1; ring
  have h1 : Real.exp (a / 2) * Real.exp (-(a / 2)) = 1 := by rw [← Real.exp_add]; simp
  have hp : 0 < Real.exp (a / 2) := Real.exp_pos _
  have hn : 0 < Real.exp (-(a / 2)) := Real.exp_pos _
  rw [Real.tanh_eq_sinh_div_cosh, Real.sinh_eq, Real.cosh_eq, he]
  generalize Real.exp (a / 2) = p at *
  generalize Real.exp (-(a / 2)) = q at *
  have hq : q = p⁻¹ := (eq_inv_of_mul_eq_one_right h1)
  subst hq
  field_simp
  ring

/-- so they agree wherever the argument is real. -/
theorem siluK_eq {x : EReal} (h : IsReal x) : siluK x = siluR x := by
  obtain ⟨a, rfl⟩ := h
  have e : siluR (a : EReal) = (a : EReal) * Ideal.logistic (a : EReal) := rfl
  rw [e, Ideal.logistic_coe, siluK, half_eq, ← EReal.coe_mul, Ideal.tanh_coe, ← EReal.coe_mul, ← EReal.coe_add,
    ← EReal.coe_mul, ← silu_real a]
  congr 1
  ring_nf

end Cert.Silu

end
-- ==== Proof.ZTile.lean ====
module

public import proofs.«01_k».proof.Proof.Gen.KernelZIdeal.Value
public import proofs.«01_k».proof.Proof.Silu

@[expose] public section

set_option maxRecDepth 16384

noncomputable section

namespace Cert.KernelZIdeal.Value

open Idealize.ShloMosaic Idealize.ShloMosaic.TcCoe Idealize.ShloMosaic.Tactic
open Idealize.SL Idealize.SL.Sem
open Cert.Rows Cert.Silu Cert.KernelZIdeal Cert.KernelZIdeal.Gen

/-- Each entry of a chunk's payload. -/
theorem pay2_apply (a : Vec Ideal S128x2048 .bf16) (S : Vec Ideal S2048x1024 .bf16) (r : Fin 128) (l : Fin 1024) :
    k0_pay2 a S (ix2 r l) = siluK (∑ k : Fin 2048, a (ix2 r k) * S (ix2 k l)) := by
  pointwise [k0_pay2, siluK, half]

/-- The weights are staged transposed. -/
theorem pay3_apply (w : Vec Ideal S1024x2048 .f32) (k : Fin 2048) (l : Fin 1024) :
    k0_pay3 w (ix2 k l) = w (ix2 l k) := by
  pointwise [k0_pay3]

/-- Each chunk's payload is the block's product and epilogue, on that chunk's rows. -/
theorem piece (x0 : Vec Ideal S2048x2048 .bf16) (S : Vec Ideal S2048x1024 .bf16) (o : Nat)
    (inb : ∀ a, (![o, 0] : Fin 2 → Nat) a + S128x2048.size a ≤ S2048x2048.size a)
    (inb' : ∀ a, (![o, 0] : Fin 2 → Nat) a + S128x1024.size a ≤ S2048x1024.size a) (x : S128x1024.Idx) :
    k0_pay2 (View.ld x0 (Rect.unit (s := S2048x2048) ![o, 0] S128x2048.size inb)) S x
      = linTile (fun _ => siluK) x0 S ((Rect.unit (s := S2048x1024) ![o, 0] S128x1024.size inb').emb x) := by
  refine rows_piece (linTile (fun _ => siluK) x0 S) o inb' _ (fun r l j hj => ?_) x
  rw [pay2_apply]
  refine congrArg siluK (Finset.sum_congr rfl fun k _ => ?_)
  rw [ld_rows (e := .bf16) x0 inb r k j hj]
  rfl

/-- At a later row tile the body leaves that block, made from the weights that the first one staged. -/
theorem outB (c : Dev nD) (i : grid0.Coords) (arg2 : Memref sig .tc .vmem S2048x2048 .bf16) (harg2 : arg2.IsWhole) (arg3 : Memref sig .tc .vmem S1024x2048 .f32) (harg3 : arg3.IsWhole) (arg4 : Memref sig .tc .vmem S2048x1024 .bf16) (harg4 : arg4.IsWhole) (arg5 : Memref sig .tc .vmem S2048x1024 .bf16) (harg5 : arg5.IsWhole) (hc0 : ¬ cond0_0 i)
    (x0 : Vec Ideal S2048x2048 .bf16) (x1 : Vec Ideal S1024x2048 .f32) (xs : Vec Ideal S2048x1024 .bf16)  :
    out0_B_2 c i arg2 harg2 arg3 harg3 arg4 harg4 arg5 harg5 hc0 x0 x1 xs = linTile (fun _ => siluK) x0 xs := by
  unfold out0_B_2
  rw [View.read_writes_eq_canon _ _ _ (cover0_B_2 c i arg2 harg2 arg3 harg3 arg4 harg4 arg5 harg5 hc0 x0 x1 xs)]
  funext y
  refine View.canon_apply_of_pieces (linTile (fun _ => siluK) x0 xs) _ ?_ y (cover0_B_2 c i arg2 harg2 arg3 harg3 arg4 harg4 arg5 harg5 hc0 x0 x1 xs y)
  have hs : View.readAt (Elt Ideal) arg5.view (Rect.unit (s := S2048x1024) ![0, 0] ![2048, 1024] inb_S2048x1024_S2048x1024_0_0).toLoadRect (harg5.unread xs) = xs := by
    rw [readAt_whole harg5]; exact View.ld_unit_zero (by decide) _ _
  have key : ∀ (o : Nat) (inb inb'), ∀ x, k0_pay2 (View.readAt (Elt Ideal) arg2.view (Rect.unit (s := S2048x2048) ![o, 0] S128x2048.size inb).toLoadRect (harg2.unread x0))
     (View.readAt (Elt Ideal) arg5.view (Rect.unit (s := S2048x1024) ![0, 0] ![2048, 1024] inb_S2048x1024_S2048x1024_0_0).toLoadRect (harg5.unread xs)) x
      = linTile (fun _ => siluK) x0 xs ((Rect.unit (s := S2048x1024) ![o, 0] S128x1024.size inb').emb x) := fun o inb inb' x => by
    rw [hs, readAt_whole harg2]; exact piece x0 xs o inb inb' x
  unfold kernelRun0_B
  dsimp only
  simp only [List.forall_mem_cons]
  exact ⟨key 1920 _ _, key 1792 inb_S2048x2048_S128x2048_1792_0 _, key 1664 _ _, key 1536 _ _, key 1408 inb_S2048x2048_S128x2048_1408_0 _, key 1280 _ _, key 1152 _ _, key 1024 inb_S2048x2048_S128x2048_1024_0 _,
    key 896 _ _, key 768 _ _, key 640 inb_S2048x2048_S128x2048_640_0 _, key 512 _ _, key 384 _ _, key 256 inb_S2048x2048_S128x2048_256_0 _, key 128 _ _, key 0 _ _, fun _ h => absurd h List.not_mem_nil⟩

/-- At the first row tile of a column the body leaves the transposed weight block in the scratch. -/
theorem soutA (c : Dev nD) (i : grid0.Coords) (arg2 : Memref sig .tc .vmem S2048x2048 .bf16) (harg2 : arg2.IsWhole) (arg3 : Memref sig .tc .vmem S1024x2048 .f32) (harg3 : arg3.IsWhole) (arg4 : Memref sig .tc .vmem S2048x1024 .bf16) (harg4 : arg4.IsWhole) (arg5 : Memref sig .tc .vmem S2048x1024 .bf16) (harg5 : arg5.IsWhole) (hc0 : cond0_0 i)
    (x0 : Vec Ideal S2048x2048 .bf16) (x1 : Vec Ideal S1024x2048 .f32) :
    sout0_A_0 c i arg2 harg2 arg3 harg3 arg4 harg4 arg5 harg5 hc0 x0 x1 = k0_pay3 x1 := by
  unfold sout0_A_0
  rw [View.read_writes_eq_canon _ _ _ (scover0_A_0 c i arg2 harg2 arg3 harg3 arg4 harg4 arg5 harg5 hc0 x0 x1)]
  unfold kernelRun0_A
  dsimp only
  refine (View.canon_unit_zero (by decide) _ _).trans ?_
  rw [readAt_whole harg3, View.ld_unit_zero (by decide)]

/-- and in the output block the product with it, through the epilogue. -/
theorem outA (c : Dev nD) (i : grid0.Coords) (arg2 : Memref sig .tc .vmem S2048x2048 .bf16) (harg2 : arg2.IsWhole) (arg3 : Memref sig .tc .vmem S1024x2048 .f32) (harg3 : arg3.IsWhole) (arg4 : Memref sig .tc .vmem S2048x1024 .bf16) (harg4 : arg4.IsWhole) (arg5 : Memref sig .tc .vmem S2048x1024 .bf16) (harg5 : arg5.IsWhole) (hc0 : cond0_0 i)
    (x0 : Vec Ideal S2048x2048 .bf16) (x1 : Vec Ideal S1024x2048 .f32) :
    out0_A_2 c i arg2 harg2 arg3 harg3 arg4 harg4 arg5 harg5 hc0 x0 x1 = linTile (fun _ => siluK) x0 (k0_pay3 x1) := by
  unfold out0_A_2
  rw [View.read_writes_eq_canon _ _ _ (cover0_A_2 c i arg2 harg2 arg3 harg3 arg4 harg4 arg5 harg5 hc0 x0 x1)]
  funext y
  refine View.canon_apply_of_pieces (linTile (fun _ => siluK) x0 (k0_pay3 x1)) _ ?_ y (cover0_A_2 c i arg2 harg2 arg3 harg3 arg4 harg4 arg5 harg5 hc0 x0 x1 y)
  have hs : kernelRun0_A.sl.v163 c arg3 harg3 arg5 x1 = k0_pay3 x1 := by
    unfold kernelRun0_A.sl.v163
    refine (View.readCov_unit_zero arg5.view (by decide) _ _).trans ?_
    rw [readAt_whole harg3, View.ld_unit_zero (by decide)]
  have key : ∀ (o : Nat) (inb inb'), ∀ x, k0_pay2 (View.readAt (Elt Ideal) arg2.view (Rect.unit (s := S2048x2048) ![o, 0] S128x2048.size inb).toLoadRect (harg2.unread x0))
     (kernelRun0_A.sl.v163 c arg3 harg3 arg5 x1) x
      = linTile (fun _ => siluK) x0 (k0_pay3 x1) ((Rect.unit (s := S2048x1024) ![o, 0] S128x1024.size inb').emb x) := fun o inb inb' x => by
    rw [hs, readAt_whole harg2]; exact piece x0 _ o inb inb' x
  unfold kernelRun0_A
  dsimp only
  simp only [List.forall_mem_cons]
  exact ⟨key 1920 _ _, key 1792 inb_S2048x2048_S128x2048_1792_0 _, key 1664 _ _, key 1536 _ _, key 1408 inb_S2048x2048_S128x2048_1408_0 _, key 1280 _ _, key 1152 _ _, key 1024 inb_S2048x2048_S128x2048_1024_0 _,
    key 896 _ _, key 768 _ _, key 640 inb_S2048x2048_S128x2048_640_0 _, key 512 _ _, key 384 _ _, key 256 inb_S2048x2048_S128x2048_256_0 _, key 128 _ _, key 0 _ _, fun _ h => absurd h List.not_mem_nil⟩

end Cert.KernelZIdeal.Value
end
-- ==== Proof.ZArray.lean ====
module

public import proofs.«01_k».proof.Proof.ZTile
public import Idealize.ShloMosaic.Lib.Claim
public import Idealize.ShloMosaic.Lib.StableHlo.ReadAt

@[expose] public section

set_option maxRecDepth 16384

noncomputable section

namespace Cert.KernelZIdeal.Value

open Idealize.ShloMosaic Idealize.ShloMosaic.TcCoe Idealize.ShloMosaic.Tactic
open Idealize.SL Idealize.SL.Sem
open Cert.Rows Cert.Silu Cert.KernelZIdeal Cert.KernelZIdeal.Gen

variable (m : (ℓ : Loc nD τ sig) → Buf (Elt Ideal) ℓ)

/-- What the windows' arrays hold when the grid begins, entry by entry. -/
theorem V_u (c : Dev nD) (b : Fin 2) (s : Fin 4096) (R : Fin 8192) (k : Fin 2048) (hR : R.val = 4096 * b.val + s.val) :
    V m c main_v1 (ix2 R k) = m ((c : Thread nD τ).loc main_arg0) (ix3 b s k) := by
  unfold V
  after_reads_at
  exact split_row (m ((c : Thread nD τ).loc main_arg0)) R.val b s k hR _ _

theorem V_w (c : Dev nD) (l : Fin 20544) (k : Fin 2048) :
    V m c main_v3 (ix2 l k) = m ((c : Thread nD τ).loc main_arg1) (ix3 0 k l) := by
  unfold V
  after_reads_at

/-- The numbers of the windows' blocks at each point. -/
theorem idx0 : ∀ t : Fin cfg0.N, win0_0.index t (0 : Fin 2) = t.val % 4 ∧ win0_0.index t (1 : Fin 2) = 0 :=
  (by decide +kernel : ∀ t : Fin grid0.N, _)
theorem idx1 : ∀ t : Fin cfg0.N, cc0_transform_1 (grid0.coords t) (0 : Fin 2) = 1024 * (t.val / 4) ∧ cc0_transform_1 (grid0.coords t) (1 : Fin 2) = 0 :=
  (by decide +kernel : ∀ t : Fin grid0.N, _)

/-- The windows' blocks at a point, entry by entry, as entries of the arguments. -/
theorem iblk1 (c : Dev nD) (t : Fin cfg0.N) (l : Fin 1024) (k : Fin 2048) (L : Fin 20544) (hL : L.val = 1024 * (t.val / 4) + l.val) :
    iblk m c 1 t (ix2 l k) = m ((c : Thread nD τ).loc main_arg1) (ix3 0 k L) := by
  unfold iblk
  rw [View.read_apply, cast_eq]
  refine Eq.trans (congrArg _ ?_) (V_w m c L k)
  obtain ⟨e0, e1⟩ := idx1 t
  funext a; apply Fin.ext
  match a with
  | ⟨0, _⟩ => show cc0_transform_1 (grid0.coords t) (0 : Fin 2) + 1 * l.val = L.val; omega
  | ⟨1, _⟩ => show cc0_transform_1 (grid0.coords t) (1 : Fin 2) + 1 * k.val = k.val; omega

theorem iblk0 (c : Dev nD) (t : Fin cfg0.N) (r : Fin 2048) (k : Fin 2048) (b : Fin 2) (s : Fin 4096) (h : 4096 * b.val + s.val = 2048 * (t.val % 4) + r.val) :
    iblk m c 0 t (ix2 r k) = m ((c : Thread nD τ).loc main_arg0) (ix3 b s k) := by
  unfold iblk
  rw [View.read_apply, cast_eq]
  refine Eq.trans (congrArg _ ?_) (V_u m c b s ⟨4096 * b.val + s.val, by omega⟩ k rfl)
  obtain ⟨e0, e1⟩ := idx0 t
  funext a; apply Fin.ext
  match a with
  | ⟨0, _⟩ => show win0_0.index t (0 : Fin 2) * 2048 + 1 * r.val = 4096 * b.val + s.val; omega
  | ⟨1, _⟩ => show win0_0.index t (1 : Fin 2) * 2048 + 1 * k.val = k.val; omega

/-- After every point the scratch holds the transposed weight block of the point's column tile. -/
theorem scratch (c : Dev nD) : ∀ (n : ℕ) (hn : n < cfg0.N) (k : Fin 2048) (l : Fin 1024) (L : Fin 20544), L.val = 1024 * (n / 4) + l.val →
    (outsAt0 m c n hn).2 (ix2 k l) = m ((c : Thread nD τ).loc main_arg1) (ix3 0 k L) := by
  have atA : ∀ (n : ℕ) (hn : n < cfg0.N) (h0 : n % 4 = 0) (k : Fin 2048) (l : Fin 1024) (L : Fin 20544), L.val = 1024 * (n / 4) + l.val →
      (outsAt0 m c n hn).2 (ix2 k l) = m ((c : Thread nD τ).loc main_arg1) (ix3 0 k L) := fun n hn h0 k l L hL => by
    rw [outsAt0_A m c ⟨n, hn⟩ h0]
    dsimp only
    rw [soutA, pay3_apply, iblk1 m c ⟨n, hn⟩ l k L hL]
  intro n
  induction n with
  | zero => exact fun hn => atA 0 hn rfl
  | succ n ih =>
    intro hn k l L hL
    by_cases h0 : (n + 1) % 4 = 0
    · exact atA (n + 1) hn h0 k l L hL
    · rw [outsAt0_B m c ⟨n + 1, hn⟩ h0]
      exact ih (Nat.lt_of_succ_lt hn) k l L (by omega)

/-- What every point leaves in the output block: the product of the activation rows with the weight columns of the
    point's tile, through the epilogue. -/
theorem out (c : Dev nD) (n : ℕ) (hn : n < cfg0.N) (r : Fin 2048) (l : Fin 1024) (b : Fin 2) (s : Fin 4096) (L : Fin 20544)
    (hr : 4096 * b.val + s.val = 2048 * (n % 4) + r.val) (hL : L.val = 1024 * (n / 4) + l.val) :
    (outsAt0 m c n hn).1 (ix2 r l)
      = siluK (entry (m ((c : Thread nD τ).loc main_arg0)) (m ((c : Thread nD τ).loc main_arg1)) b s L) := by
  have key : (outsAt0 m c n hn).1 = linTile (fun _ => siluK) (iblk m c 0 ⟨n, hn⟩) (outsAt0 m c n hn).2 := by
    by_cases h0 : n % 4 = 0
    · rw [outsAt0_A m c ⟨n, hn⟩ h0]
      dsimp only
      rw [outA, soutA]
    · rw [outsAt0_B m c ⟨n, hn⟩ h0]
      dsimp only
      rw [outB]
      rfl
  rw [key]
  refine congrArg siluK (Finset.sum_congr rfl fun k _ => ?_)
  exact congrArg₂ (fun p q : EReal => p * q) (iblk0 m c ⟨n, hn⟩ r k b s hr) (scratch m c n hn k l L hL)

/-- The array the call leaves, at row `R` (row `s` of sequence `b`) and column `L`. -/
theorem G2_apply (c : Dev nD) (R : Fin 8192) (C : Fin 4096) (b : Fin 2) (s : Fin 4096) (L : Fin 20544)
    (hR : R.val = 4096 * b.val + s.val) (hL : L.val = C.val) :
    G2 m c (ix2 R C)
      = siluK (entry (m ((c : Thread nD τ).loc main_arg0)) (m ((c : Thread nD τ).loc main_arg1)) b s L) := by
  have hp : pt2Of (ix2 R C) = R.val / 2048 + 4 * (C.val / 1024) := by
    show 1 * (R.val / 2048 - 0) + 4 * (C.val / 1024 - 0) = _
    omega
  have hlt : pt2Of (ix2 R C) < cfg0.N := by rw [hp, show cfg0.N = 16 from N_0]; omega
  unfold G2
  rw [dif_pos hlt, ← outsAt0_sweep m c _ hlt]
  have hl : loc2Of (ix2 R C) = ix2 ⟨R.val % 2048, Nat.mod_lt _ (by decide)⟩ ⟨C.val % 1024, Nat.mod_lt _ (by decide)⟩ := by
    funext a
    match a with
    | ⟨0, _⟩ => rfl
    | ⟨1, _⟩ => rfl
  rw [hl]
  refine out m c _ hlt _ _ b s L ?_ ?_
  · rw [hp]; show _ = 2048 * _ + R.val % 2048; omega
  · rw [hp]; show _ = 1024 * _ + C.val % 1024; omega

end Cert.KernelZIdeal.Value
end
-- ==== Proof.ZRef.lean ====
module

public import proofs.«01_k».proof.Proof.Silu
public import proofs.«01_k».proof.Proof.Gen.RefZIdeal.Run

@[expose] public section

noncomputable section

namespace Cert.RefZIdeal.Value

open Idealize.ShloMosaic Idealize.ShloMosaic.TcCoe Idealize.SL.Sem
open Cert.Rows Cert.Silu Cert.RefZIdeal Cert.RefZIdeal.Gen

/-- What the reference of the gate branch computes of its arguments. -/
def term (u : FVec Ideal S2x4096x2048 .f32) (w : FVec Ideal S1x2048x20544 .f32) : FVec Ideal S8192x4096 .bf16 :=
  truncf .bf16 (shapeCast _ (mulf (extractStridedSlice S2x4096x4096 ![0, 0, 0] (Host.dotGeneral dot_S2x4096x2048_S2048x20544_S2x4096x20544_2_0_01_1_n_n none u (shapeCast _ w shapeCasts_S1x2048x20544_S2048x20544)) slices_S2x4096x20544_S2x4096x4096_0_0_0) (Host.divf (broadcastInDim S2x4096x4096 ![] bcast_S_S2x4096x4096 (constant S_ .f32 0x3F800000#32)) (addf (broadcastInDim S2x4096x4096 ![] bcast_S_S2x4096x4096 (constant S_ .f32 0x3F800000#32)) (Host.exp (Host.negf (extractStridedSlice S2x4096x4096 ![0, 0, 0] (Host.dotGeneral dot_S2x4096x2048_S2048x20544_S2x4096x20544_2_0_01_1_n_n none u (shapeCast _ w shapeCasts_S1x2048x20544_S2048x20544)) slices_S2x4096x20544_S2x4096x4096_0_0_0)))))) shapeCasts_S2x4096x4096_S8192x4096) bitsLt_bf16_f32

/-- At row `s` of sequence `b` and column `L` of the in-projection it is `silu` of that entry. -/
theorem term_apply (u : FVec Ideal S2x4096x2048 .f32) (w : FVec Ideal S1x2048x20544 .f32) (R : Fin 8192) (C : Fin 4096)
    (b : Fin 2) (s : Fin 4096) (hR : R.val = 4096 * b.val + s.val) :
    term u w (ix2 R C) = siluR (entry u w b s ⟨C.val, by omega⟩) := by
  pointwise [term]
  have hs : ∀ k : Fin 2048, u (ix3 ⟨R.val / 4096, by omega⟩ ⟨R.val % 4096, by omega⟩ k) = u (ix3 b s k) := fun k =>
    split_row u R.val b s k hR _ _
  exact congrArg siluR (Finset.sum_congr rfl fun k _ => congrArg (fun z : EReal => z * w (ix3 0 k ⟨C.val, by omega⟩)) (hs k))

end Cert.RefZIdeal.Value

end
-- ==== Proof.Chunks.lean ====
/-
  What the convolving projections share: a body that works on a row tile of 2048 rows, 128 at a time, with the taps of a
  convolution in the rows of a small block, and what a buffer holds after stores that cover it. Nothing here names a program.
-/
module

public import Idealize.ShloMosaic.Lib.Pipeline.FrameBody
public import Idealize.ShloMosaic.Lib.Pipeline.Value
public import Idealize.ShloMosaic.Lib.Pointwise
public import Idealize.ShloMosaic.Lib.Tactic

@[expose] public section

set_option maxRecDepth 16384

noncomputable section

namespace Cert.Chunks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The `q`-th 128 rows of an activation block. -/
def rows (x : Vec F ⟨2, ![2048, 2048]⟩ .bf16) (q : ℕ) (hq : q < 16) : Vec F ⟨2, ![128, 2048]⟩ .bf16 :=
  fun z => x (ix2 (⟨128 * q + (z 0).val, by have h : (z 0).val < 128 := (z 0).isLt; omega⟩ : Fin 2048) (z 1))

/-- Row `k` of a convolution's weights. -/
def tap {K : ℕ} (w : Vec F ⟨2, ![K, 512]⟩ .f32) (k : Fin K) : Vec F ⟨2, ![1, 512]⟩ .f32 := fun z => w (ix2 k (z 1))

/-- A load through a whole memref that holds `x` reads `x` through the load's rectangle. -/
theorem readAt_unread {sig : RefSig} {κ : Kind} {sp : Space} {s : Shape} {e : EltTy} {arg : Memref sig κ sp s e} (h : arg.IsWhole) (x : Vec F s e) (r : Rect s) :
    View.readAt (Elt F) arg.view r.toLoadRect (h.unread x) = View.ld x r := by
  rw [View.readAt_eq_ld, h.read_unread]

/-- Loading 128 rows of the activations. -/
theorem ld_chunk (x : Vec F ⟨2, ![2048, 2048]⟩ .bf16) (q : ℕ) (hq : q < 16) (o : ℕ) (ho : o = 128 * q)
    (inb : ∀ a, (![o, 0] : Fin 2 → Nat) a + (⟨2, ![128, 2048]⟩ : Shape).size a ≤ (⟨2, ![2048, 2048]⟩ : Shape).size a) :
    View.ld x (Rect.unit (s := ⟨2, ![2048, 2048]⟩) ![o, 0] (⟨2, ![128, 2048]⟩ : Shape).size inb) = rows x q hq := by
  funext z
  refine congrArg x ?_
  funext a; apply Fin.ext
  match a with
  | ⟨0, _⟩ => show o + 1 * (z 0).val = 128 * q + (z 0).val; omega
  | ⟨1, _⟩ => show 0 + 1 * (z 1).val = (z 1).val; omega

/-- Loading a row of a convolution's weights. -/
theorem ld_tap {K : ℕ} (w : Vec F ⟨2, ![K, 512]⟩ .f32) (k : Fin K) (o : ℕ) (ho : o = k.val)
    (inb : ∀ a, (![o, 0] : Fin 2 → Nat) a + (⟨2, ![1, 512]⟩ : Shape).size a ≤ (⟨2, ![K, 512]⟩ : Shape).size a) :
    View.ld w (Rect.unit (s := ⟨2, ![K, 512]⟩) ![o, 0] (⟨2, ![1, 512]⟩ : Shape).size inb) = tap w k := by
  funext z
  refine congrArg w ?_
  funext a; apply Fin.ext
  match a with
  | ⟨0, _⟩ => show o + 1 * (z 0).val = k.val; have h : (z 0).val < 1 := (z 0).isLt; omega
  | ⟨1, _⟩ => show 0 + 1 * (z 1).val = (z 1).val; omega

/-- 128 rows of a block of 2048, from row `128 q`. -/
theorem chunk_inb (q : ℕ) (hq : q < 16) {N : ℕ} (a : Fin 2) : (![128 * q, 0] : Fin 2 → Nat) a + (![128, N] : Fin 2 → Nat) a ≤ (![2048, N] : Fin 2 → Nat) a := by
  match a with
  | ⟨0, _⟩ => show 128 * q + 128 ≤ 2048; omega
  | ⟨1, _⟩ => show 0 + N ≤ N; omega

/-- Where the rectangle of the `q`-th 128 rows puts an entry. -/
theorem chunk_row {N : ℕ} (q : ℕ) (o : ℕ) (ho : o = 128 * q)
    (inb : ∀ a, (![o, 0] : Fin 2 → Nat) a + (⟨2, ![128, N]⟩ : Shape).size a ≤ (⟨2, ![2048, N]⟩ : Shape).size a) (z : (⟨2, ![128, N]⟩ : Shape).Idx) :
    (((Rect.unit (s := ⟨2, ![2048, N]⟩) ![o, 0] (⟨2, ![128, N]⟩ : Shape).size inb).emb z) 0).val / 128 = q
      ∧ (((Rect.unit (s := ⟨2, ![2048, N]⟩) ![o, 0] (⟨2, ![128, N]⟩ : Shape).size inb).emb z) 0).val % 128 = (z 0).val
      ∧ ((Rect.unit (s := ⟨2, ![2048, N]⟩) ![o, 0] (⟨2, ![128, N]⟩ : Shape).size inb).emb z) 1 = z 1 := by
  have hz : (z 0).val < 128 := (z 0).isLt
  refine ⟨?_, ?_, Fin.ext ?_⟩
  · show (o + 1 * (z 0).val) / 128 = q; omega
  · show (o + 1 * (z 0).val) % 128 = (z 0).val; omega
  · show 0 + 1 * (z 1).val = (z 1).val; omega

section Owned

variable {nD : ℕ} {τ : Topo} {sig : RefSig}

local notation "𝕄" => MT nD τ sig Unit (Elt F) ℕ (UR sig nD τ) ℕ

/-- A buffer that holds anything reads as something. -/
theorem owns_any {sp : Space} {s : Shape} {e : EltTy} (th : Thread nD τ) (arg : Memref sig th.2.kind sp s e) :
    (iprop(∃ f, arg.view.loc th ↦[arg.view.set]{fullShare} f) : sProp 𝕄) ⊢ iprop(∃ d, owns th arg fullShare d) := by
  unfold owns
  iintro ⟨%f, H⟩
  iexists (arg.view.read (Elt F) f)
  iexists f
  isplitr
  · ipureintro; rfl
  · iexact H

/-- What a buffer holds after stores that cover it and agree with `G`. -/
theorem owns_of_pieces {sp : Space} {s : Shape} {e : EltTy} (th : Thread nD τ) (arg : Memref sig th.2.kind sp s e) (G : Vec F s e)
    (L : List (View.Piece (Elt F) s e)) (hG : ∀ p ∈ L, ∀ z, p.2 z = G (p.1.emb z)) (hL : ∀ y, ∃ p ∈ L, y ∈ p.1.set) :
    (iprop(∃ f, arg.view.loc th ↦[arg.view.set]{fullShare} arg.view.writes (Elt F) f L) : sProp 𝕄) ⊢ owns th arg fullShare G := by
  unfold owns
  iintro ⟨%f, H⟩
  iexists (arg.view.writes (Elt F) f L)
  isplitr
  · ipureintro
    rw [View.read_writes_eq_canon _ _ _ hL]
    exact funext fun y => View.canon_apply_of_pieces G L hG y (hL y)
  · iexact H

/-- What a buffer holds after stores that cover it and read as `G`. -/
theorem owns_of_whole {sp : Space} {s : Shape} {e : EltTy} (th : Thread nD τ) (arg : Memref sig th.2.kind sp s e) (G : Vec F s e)
    (L : List (View.Piece (Elt F) s e)) (hG : View.canon L = G) (hL : ∀ y, ∃ p ∈ L, y ∈ p.1.set) :
    (iprop(∃ f, arg.view.loc th ↦[arg.view.set]{fullShare} arg.view.writes (Elt F) f L) : sProp 𝕄) ⊢ owns th arg fullShare G := by
  unfold owns
  iintro ⟨%f, H⟩
  iexists (arg.view.writes (Elt F) f L)
  isplitr
  · ipureintro
    rw [View.read_writes_eq_canon _ _ _ hL, hG]
  · iexact H

end Owned

end Cert.Chunks

end
-- ==== Proof.XbcRun.lean ====
/-
  The body of the call `proj_xbc`, run once on any buffers: at the first row tile of a column tile (where it stages the
  weight block) and at the others.
-/
module

public import proofs.«01_k».proof.Proof.Gen.KernelXbcIdeal.Launch
public import proofs.«01_k».proof.Proof.Gen.KernelXbcIdeal.Skeleton
public import proofs.«01_k».proof.Proof.Gen.KernelXbcIdeal.Points
public import proofs.«01_k».proof.Proof.Chunks
public import Idealize.ShloMosaic.Lib.Ring
public import Idealize.ShloMosaic.Lib.WordCmp

@[expose] public section

set_option maxRecDepth 16384

noncomputable section

namespace Cert.KernelXbcIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelXbcIdeal Cert.KernelXbcIdeal.Gen

variable {F : FTy → Type} [FloatOps F]

local notation "𝕄" => MT nD τ sig Unit (Elt F) ℕ (UR sig nD τ) ℕ

/-- The row tile is the first of its column tile. -/
abbrev first (i : grid0.Coords) : Prop := (Scalar.cmpi .ne (Scalar.extui (Scalar.cmpi .eq (BitVec.ofNat 32 (i 1).val) 0#32)) 0#32) = 1#1

variable (c : Dev nD) (i : grid0.Coords) (arg2 : Memref sig .tc .vmem S2048x2048 .bf16) (harg2 : arg2.IsWhole)
  (arg3 : Memref sig .tc .vmem S512x2048 .f32) (harg3 : arg3.IsWhole) (arg4 : Memref sig .tc .vmem S4x512 .f32) (harg4 : arg4.IsWhole)
  (arg5 : Memref sig .tc .vmem S1x512 .f32) (harg5 : arg5.IsWhole) (arg6 : Memref sig .tc .vmem S2048x512 .bf16) (harg6 : arg6.IsWhole)
  (arg7 : Memref sig .tc .vmem S2048x512 .bf16) (harg7 : arg7.IsWhole) (arg8 : Memref sig .tc .vmem S8x512 .f32) (harg8 : arg8.IsWhole)
  (arg9 : Memref sig .tc .vmem S2x128x512 .f32) (harg9 : arg9.IsWhole)
  (x0 : Vec F S2048x2048 .bf16) (x1 : Vec F S512x2048 .f32) (x2 : Vec F S4x512 .f32) (x3 : Vec F S1x512 .f32)
  (s : Vec F S2048x512 .bf16) (tl : Vec F S8x512 .f32) (pk : Vec F S2x128x512 .f32)

/-- The four input blocks, held whole. -/
abbrev ins : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3)

set_option maxHeartbeats 8000000 in
/-- The body at a row tile that is not the first: the stores into the output block and into the carried rows, with the proof
    that the body runs from the buffers to them. The parked products are left as something. -/
noncomputable def later (hi : ¬ first i) :
    Σ' (L : List (View.Piece (Elt F) S2048x512 .bf16)), { T : List (View.Piece (Elt F) S8x512 .f32) //
      ∀ (E : Set ℕ) (K : PUnit → sProp 𝕄),
        iprop(ins c arg2 arg3 arg4 arg5 x0 x1 x2 x3 ∗ (∃ d, owns (c : Thread nD τ) arg6 fullShare d)
            ∗ owns (c : Thread nD τ) arg7 fullShare s ∗ owns (c : Thread nD τ) arg8 fullShare tl ∗ owns (c : Thread nD τ) arg9 fullShare pk
            ∗ (iprop(ins c arg2 arg3 arg4 arg5 x0 x1 x2 x3
                ∗ (∃ f, arg6.view.loc (c : Thread nD τ) ↦[arg6.view.set]{fullShare} arg6.view.writes (Elt F) f L)
                ∗ owns (c : Thread nD τ) arg7 fullShare s
                ∗ (∃ f, arg8.view.loc (c : Thread nD τ) ↦[arg8.view.set]{fullShare} arg8.view.writes (Elt F) f T)
                ∗ (∃ d, owns (c : Thread nD τ) arg9 fullShare d)) -∗ K ⟨⟩))
          ⊢ wp frame (wpE (defs₀ (F := F)) Variants.none c none) E (cc0_proj_xbc i arg2 harg2 arg3 harg3 arg4 harg4 arg5 harg5 arg6 harg6 arg7 harg7 arg8 harg8 arg9 harg9) K } := by
  refine ⟨?_, ?_, fun E K => ?run⟩
  case run =>
    simp only [cc0_proj_xbc_eq_skeleton]; unfold cc0_proj_xbc_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton, k0_part15_eq_skeleton,
      k0_part16_eq_skeleton, k0_part17_eq_skeleton, k0_part18_eq_skeleton, k0_part19_eq_skeleton, k0_part20_eq_skeleton,
      k0_part21_eq_skeleton, k0_part22_eq_skeleton, k0_part23_eq_skeleton, k0_part24_eq_skeleton, k0_part25_eq_skeleton,
      k0_part26_eq_skeleton]
    unfold ins owns
    iintro ⟨⟨⟨%f0, %hf0, H0⟩, ⟨%f1, %hf1, H1⟩, ⟨%f2, %hf2, H2⟩, ⟨%f3, %hf3, H3⟩⟩, ⟨%d6, %f6, -, H6⟩, ⟨%g0, %hg0, HS⟩, ⟨%g1, %hg1, HT⟩, ⟨%g2, %hg2, HP⟩, Hk⟩
    obtain rfl := harg2.eq_unread hf0; obtain rfl := harg3.eq_unread hf1; obtain rfl := harg4.eq_unread hf2; obtain rfl := harg5.eq_unread hf3
    obtain rfl := harg7.eq_unread hg0; obtain rfl := harg8.eq_unread hg1; obtain rfl := harg9.eq_unread hg2
    sl_exec (disch := first | sl_exact hi)
    sl_step
    iapply Hk
    isplitl [H0 H1 H2 H3]
    · isplitl [H0]; · iexists _; isplitr; · ipureintro; exact harg2.read_unread _
                      iexact H0
      isplitl [H1]; · iexists _; isplitr; · ipureintro; exact harg3.read_unread _
                      iexact H1
      isplitl [H2]; · iexists _; isplitr; · ipureintro; exact harg4.read_unread _
                      iexact H2
      iexists _; isplitr; · ipureintro; exact harg5.read_unread _
      iexact H3
    isplitl [H6]; · iexists _; iexact H6
    isplitl [HS]
    · iexists _; isplitr; · ipureintro; exact harg7.read_unread _
      iexact HS
    isplitl [HT]; · iexists _; iexact HT
    have hany := Cert.Chunks.owns_any (F := F) (c : Thread nD τ) arg9
    unfold owns at hany
    iapply hany
    iexists _; iexact HP

set_option maxHeartbeats 8000000 in
/-- The body at the first row tile of a column tile, from staged weights that may be anything: the stores into the output block,
    the staged weights and the carried rows, with the proof that the body runs from the buffers to them. -/
noncomputable def opening (hi : first i) :
    Σ' (L S : List (View.Piece (Elt F) S2048x512 .bf16)), { T : List (View.Piece (Elt F) S8x512 .f32) //
      ∀ (E : Set ℕ) (K : PUnit → sProp 𝕄),
        iprop(ins c arg2 arg3 arg4 arg5 x0 x1 x2 x3 ∗ (∃ d, owns (c : Thread nD τ) arg6 fullShare d)
            ∗ (∃ d, owns (c : Thread nD τ) arg7 fullShare d) ∗ owns (c : Thread nD τ) arg8 fullShare tl ∗ owns (c : Thread nD τ) arg9 fullShare pk
            ∗ (iprop(ins c arg2 arg3 arg4 arg5 x0 x1 x2 x3
                ∗ (∃ f, arg6.view.loc (c : Thread nD τ) ↦[arg6.view.set]{fullShare} arg6.view.writes (Elt F) f L)
                ∗ (∃ f, arg7.view.loc (c : Thread nD τ) ↦[arg7.view.set]{fullShare} arg7.view.writes (Elt F) f S)
                ∗ (∃ f, arg8.view.loc (c : Thread nD τ) ↦[arg8.view.set]{fullShare} arg8.view.writes (Elt F) f T)
                ∗ (∃ d, owns (c : Thread nD τ) arg9 fullShare d)) -∗ K ⟨⟩))
          ⊢ wp frame (wpE (defs₀ (F := F)) Variants.none c none) E (cc0_proj_xbc i arg2 harg2 arg3 harg3 arg4 harg4 arg5 harg5 arg6 harg6 arg7 harg7 arg8 harg8 arg9 harg9) K } := by
  refine ⟨?_, ?_, ?_, fun E K => ?run⟩
  case run =>
    simp only [cc0_proj_xbc_eq_skeleton]; unfold cc0_proj_xbc_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton, k0_part15_eq_skeleton,
      k0_part16_eq_skeleton, k0_part17_eq_skeleton, k0_part18_eq_skeleton, k0_part19_eq_skeleton, k0_part20_eq_skeleton,
      k0_part21_eq_skeleton, k0_part22_eq_skeleton, k0_part23_eq_skeleton, k0_part24_eq_skeleton, k0_part25_eq_skeleton,
      k0_part26_eq_skeleton]
    unfold ins owns
    iintro ⟨⟨⟨%f0, %hf0, H0⟩, ⟨%f1, %hf1, H1⟩, ⟨%f2, %hf2, H2⟩, ⟨%f3, %hf3, H3⟩⟩, ⟨%d6, %f6, -, H6⟩, ⟨%d7, %f7, -, HS⟩, ⟨%g1, %hg1, HT⟩, ⟨%g2, %hg2, HP⟩, Hk⟩
    obtain rfl := harg2.eq_unread hf0; obtain rfl := harg3.eq_unread hf1; obtain rfl := harg4.eq_unread hf2; obtain rfl := harg5.eq_unread hf3
    obtain rfl := harg8.eq_unread hg1; obtain rfl := harg9.eq_unread hg2
    sl_exec (disch := first | sl_exact hi)
    sl_step
    iapply Hk
    isplitl [H0 H1 H2 H3]
    · isplitl [H0]; · iexists _; isplitr; · ipureintro; exact harg2.read_unread _
                      iexact H0
      isplitl [H1]; · iexists _; isplitr; · ipureintro; exact harg3.read_unread _
                      iexact H1
      isplitl [H2]; · iexists _; isplitr; · ipureintro; exact harg4.read_unread _
                      iexact H2
      iexists _; isplitr; · ipureintro; exact harg5.read_unread _
      iexact H3
    isplitl [H6]; · iexists _; iexact H6
    isplitl [HS]; · iexists _; iexact HS
    isplitl [HT]; · iexists _; iexact HT
    have hany := Cert.Chunks.owns_any (F := F) (c : Thread nD τ) arg9
    unfold owns at hany
    iapply hany
    iexists _; iexact HP

end Cert.KernelXbcIdeal.Run

end
-- ==== Proof.XbcBlock.lean ====
/-
  What the body of the call `proj_xbc` leaves in its buffers, as functions of the blocks it reads.
-/
module

public import proofs.«01_k».proof.Proof.XbcRun

@[expose] public section

set_option maxRecDepth 16384

noncomputable section

namespace Cert.KernelXbcIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Chunks Cert.KernelXbcIdeal Cert.KernelXbcIdeal.Gen

variable {F : FTy → Type} [FloatOps F]

local notation "𝕄" => MT nD τ sig Unit (Elt F) ℕ (UR sig nD τ) ℕ

/-- The last eight rows of the product of the `q`-th 128 rows with the staged weight block: what the next 128 rows need of
    the rows before them. -/
def handed (x : Vec F S2048x2048 .bf16) (W : Vec F S2048x512 .bf16) (q : ℕ) (hq : q < 16) : Vec F S8x512 .f32 :=
  k0_pay32 (k0_pay5 (rows x q hq) W)

/-- The rows before chunk `q`: `T` before the first, the last rows of the chunk before for the others. -/
def before (T : Vec F S8x512 .f32) (x : Vec F S2048x2048 .bf16) (W : Vec F S2048x512 .bf16) : (q : ℕ) → q < 16 → Vec F S8x512 .f32
  | 0, _ => T
  | q + 1, hq => handed x W q (by omega)

/-- The output block: 128 rows at a time, the convolution of the product through `silu`. -/
def outTile (T : Vec F S8x512 .f32) (x : Vec F S2048x2048 .bf16) (W : Vec F S2048x512 .bf16) (w : Vec F S4x512 .f32) (b : Vec F S1x512 .f32) :
    Vec F S2048x512 .bf16 :=
  fun y => k0_pay33 (k0_pay5 (rows x ((y 0).val / 128) (by have h : (y 0).val < 2048 := (y 0).isLt; omega)) W)
    (before T x W ((y 0).val / 128) (by have h : (y 0).val < 2048 := (y 0).isLt; omega)) b (tap w 0) (tap w 1) (tap w 2) (tap w 3)
    (ix2 (⟨(y 0).val % 128, Nat.mod_lt _ (by omega)⟩ : Fin 128) (y 1))

/-- Whether a row tile begins a sequence, as the body computes it: its number modulo the two tiles of a sequence is zero. -/
def fresh (a : BitVec 32) : BitVec 1 :=
  Scalar.cmpi .eq (Scalar.select
    (Scalar.andi (Scalar.xori (Scalar.cmpi .slt (Scalar.remsi a (Scalar.select (Scalar.cmpi .eq 2#32 0#32) 1#32 2#32)) 0#32)
      (Scalar.cmpi .slt (Scalar.select (Scalar.cmpi .eq 2#32 0#32) 1#32 2#32) 0#32))
      (Scalar.cmpi .ne (Scalar.remsi a (Scalar.select (Scalar.cmpi .eq 2#32 0#32) 1#32 2#32)) 0#32))
    (Scalar.addi (Scalar.remsi a (Scalar.select (Scalar.cmpi .eq 2#32 0#32) 1#32 2#32)) (Scalar.select (Scalar.cmpi .eq 2#32 0#32) 1#32 2#32))
    (Scalar.remsi a (Scalar.select (Scalar.cmpi .eq 2#32 0#32) 1#32 2#32))) 0#32

/-- The carried rows, or zeros when the row tile begins a sequence. -/
def carried (i : grid0.Coords) (T : Vec F S8x512 .f32) : Vec F S8x512 .f32 :=
  Scalar.select (fresh (BitVec.ofNat 32 (i 1).val)) (broadcast S8x512 (Scalar.ofBits .f32 0x00000000#32 : F .f32)) T

variable (T : Vec F S8x512 .f32) (x0 : Vec F S2048x2048 .bf16) (W : Vec F S2048x512 .bf16) (x2 : Vec F S4x512 .f32) (x3 : Vec F S1x512 .f32)

/-- A chunk's payload agrees with the output block where its store puts it. -/
theorem chunk_at (q : ℕ) (hq : q < 16)
    (inb : ∀ a, (![128 * q, 0] : Fin 2 → Nat) a + S128x512.size a ≤ S2048x512.size a) (z : S128x512.Idx) :
    k0_pay33 (k0_pay5 (rows x0 q hq) W) (before T x0 W q hq) x3 (tap x2 0) (tap x2 1) (tap x2 2) (tap x2 3) z
      = outTile T x0 W x2 x3 ((Rect.unit (s := S2048x512) ![128 * q, 0] S128x512.size inb).emb z) := by
  obtain ⟨g1, g2, g3⟩ := chunk_row q (128 * q) rfl inb z
  have key : ∀ (p : ℕ) (hp : p < 16) (r : ℕ) (hr : r < 128), p = q → r = (z 0).val →
      k0_pay33 (k0_pay5 (rows x0 q hq) W) (before T x0 W q hq) x3 (tap x2 0) (tap x2 1) (tap x2 2) (tap x2 3) z
        = k0_pay33 (k0_pay5 (rows x0 p hp) W) (before T x0 W p hp) x3 (tap x2 0) (tap x2 1) (tap x2 2) (tap x2 3)
            (ix2 (⟨r, hr⟩ : Fin 128) (z 1)) := by
    intro p hp r hr h1 h2
    subst h1 h2
    exact congrArg _ (eq_ix2 z)
  unfold outTile
  rw [g3]
  exact key _ _ _ _ g1 g2

variable (c : Dev nD) (i : grid0.Coords) (arg2 : Memref sig .tc .vmem S2048x2048 .bf16) (harg2 : arg2.IsWhole)
  (arg3 : Memref sig .tc .vmem S512x2048 .f32) (harg3 : arg3.IsWhole) (arg4 : Memref sig .tc .vmem S4x512 .f32) (harg4 : arg4.IsWhole)
  (arg5 : Memref sig .tc .vmem S1x512 .f32) (harg5 : arg5.IsWhole) (arg6 : Memref sig .tc .vmem S2048x512 .bf16) (harg6 : arg6.IsWhole)
  (arg7 : Memref sig .tc .vmem S2048x512 .bf16) (harg7 : arg7.IsWhole) (arg8 : Memref sig .tc .vmem S8x512 .f32) (harg8 : arg8.IsWhole)
  (arg9 : Memref sig .tc .vmem S2x128x512 .f32) (harg9 : arg9.IsWhole)
  (x1 : Vec F S512x2048 .f32) (s : Vec F S2048x512 .bf16) (tl : Vec F S8x512 .f32) (pk : Vec F S2x128x512 .f32)

/-- The slot the product of the `q`-th 128 rows is parked in. -/
def slot (q : ℕ) (hq : q < 16) : Rect S2x128x512 :=
  Rect.unit (s := S2x128x512) (k0_off1 i (BitVec.ofNat 32 q)) S1x128x512.size (k0_off1_inb i ⟨q, hq⟩)

/-- The product of the `q`-th 128 rows as it is parked, when the staged weights read as `S`. -/
def put (S : Vec F S2048x512 .bf16) (q : ℕ) (hq : q < 16) : Vec F S1x128x512 .f32 :=
  k0_pay3 (View.readAt (Elt F) arg2.view (Rect.unit (s := S2048x2048) ![128 * q, 0] S128x2048.size (chunk_inb q hq)).toLoadRect (harg2.unread x0)) S

/-- It is the chunk's product with the staged weights. -/
theorem put_eq (S : Vec F S2048x512 .bf16) (hS : S = W) (q : ℕ) (hq : q < 16) :
    put x0 arg2 harg2 S q hq = k0_pay3 (rows x0 q hq) W := by
  have h := (readAt_unread harg2 x0 (Rect.unit (s := S2048x2048) ![128 * q, 0] S128x2048.size (chunk_inb q hq))).trans
    (ld_chunk x0 q hq _ rfl (chunk_inb q hq))
  exact (congrArg (fun v => k0_pay3 v S) h).trans (congrArg (k0_pay3 (rows x0 q hq)) hS)

/-- The stores into the two slots up to the `q`-th product, the last first. -/
def parked (S : Vec F S2048x512 .bf16) : (q : ℕ) → q < 16 → List (View.Piece (Elt F) S2x128x512 .f32)
  | 0, hq => [⟨slot i 0 hq, put x0 arg2 harg2 S 0 hq⟩]
  | q + 1, hq => ⟨slot i (q + 1) hq, put x0 arg2 harg2 S (q + 1) hq⟩ :: parked S q (by omega)

/-- The product of the `q`-th 128 rows as it is read back. -/
def taken (S : Vec F S2048x512 .bf16) (q : ℕ) (hq : q < 16) : Vec F S128x512 .f32 :=
  k0_pay4 (arg9.view.readCov (parked x0 i arg2 harg2 S q hq) (slot i q hq).toLoadRect)

/-- Parking a product and reading it back changes its shape and changes it back. -/
theorem unparked (v : Vec F S128x2048 .bf16) (S : Vec F S2048x512 .bf16) : k0_pay4 (k0_pay3 v S) = k0_pay5 v S := by
  have h : ∀ p : FVec F S128x512 .f32,
      shapeCast S128x512 (shapeCast S1x128x512 p shapeCasts_S128x512_S1x128x512) shapeCasts_S1x128x512_S128x512 = p :=
    fun p => shapeCast_shapeCast p _ _
  exact h (k0_pay5 v S)

/-- It is the product itself: the slot read is the one just written. -/
theorem taken_eq (S : Vec F S2048x512 .bf16) (hS : S = W) (q : ℕ) (hq : q < 16) : taken x0 i arg2 harg2 arg9 S q hq = k0_pay5 (rows x0 q hq) W := by
  have hp : ∃ L, parked x0 i arg2 harg2 S q hq = ⟨slot i q hq, put x0 arg2 harg2 S q hq⟩ :: L := by
    cases q with
    | zero => exact ⟨[], rfl⟩
    | succ q => exact ⟨_, rfl⟩
  obtain ⟨L, hL⟩ := hp
  have h1 : arg9.view.readCov (parked x0 i arg2 harg2 S q hq) (slot i q hq).toLoadRect = k0_pay3 (rows x0 q hq) W := by
    rw [hL]
    exact (View.readCov_cons_toLoadRect _ _ _ _).trans (put_eq x0 W arg2 harg2 S hS q hq)
  unfold taken
  exact (congrArg k0_pay4 h1).trans (unparked (rows x0 q hq) W)

/-- The rows before chunk `q` as the body has them. -/
def beforeRead (S : Vec F S2048x512 .bf16) : (q : ℕ) → q < 16 → Vec F S8x512 .f32
  | 0, _ => carried i (View.readAt (Elt F) arg8.view (Rect.unit (s := S8x512) ![0, 0] S8x512.size inb_S8x512_S8x512_0_0).toLoadRect (harg8.unread tl))
  | q + 1, hq => k0_pay32 (taken x0 i arg2 harg2 arg9 S q (by omega))

/-- They are the rows before the chunk. -/
theorem beforeRead_eq (S : Vec F S2048x512 .bf16) (hS : S = W) (q : ℕ) (hq : q < 16) :
    beforeRead x0 i arg2 harg2 arg8 harg8 arg9 tl S q hq = before (carried i tl) x0 W q hq := by
  cases q with
  | zero =>
    exact congrArg (carried i) ((readAt_unread harg8 tl _).trans (View.ld_unit_zero (by decide) _ _))
  | succ q =>
    exact congrArg k0_pay32 (taken_eq x0 W i arg2 harg2 arg9 S hS q _)

/-- What the body stores of chunk `q`. -/
def stored (S : Vec F S2048x512 .bf16) (q : ℕ) (hq : q < 16) : View.Piece (Elt F) S2048x512 .bf16 :=
  ⟨Rect.unit (s := S2048x512) ![128 * q, 0] S128x512.size (chunk_inb q hq),
    k0_pay33 (taken x0 i arg2 harg2 arg9 S q hq) (beforeRead x0 i arg2 harg2 arg8 harg8 arg9 tl S q hq)
      (View.readAt (Elt F) arg5.view (Rect.unit (s := S1x512) ![0, 0] S1x512.size inb_S1x512_S1x512_0_0).toLoadRect (harg5.unread x3))
      (View.readAt (Elt F) arg4.view (Rect.unit (s := S4x512) ![0, 0] S1x512.size inb_S4x512_S1x512_0_0).toLoadRect (harg4.unread x2))
      (View.readAt (Elt F) arg4.view (Rect.unit (s := S4x512) ![1, 0] S1x512.size inb_S4x512_S1x512_1_0).toLoadRect (harg4.unread x2))
      (View.readAt (Elt F) arg4.view (Rect.unit (s := S4x512) ![2, 0] S1x512.size inb_S4x512_S1x512_2_0).toLoadRect (harg4.unread x2))
      (View.readAt (Elt F) arg4.view (Rect.unit (s := S4x512) ![3, 0] S1x512.size inb_S4x512_S1x512_3_0).toLoadRect (harg4.unread x2))⟩

/-- It agrees with the output block. -/
theorem stored_tile (S : Vec F S2048x512 .bf16) (hS : S = W) (q : ℕ) (hq : q < 16) (z : S128x512.Idx) :
    (stored x0 x2 x3 i arg2 harg2 arg4 harg4 arg5 harg5 arg8 harg8 arg9 tl S q hq).2 z
      = outTile (carried i tl) x0 W x2 x3 ((stored x0 x2 x3 i arg2 harg2 arg4 harg4 arg5 harg5 arg8 harg8 arg9 tl S q hq).1.emb z) := by
  refine Eq.trans ?_ (chunk_at (carried i tl) x0 W x2 x3 q hq (chunk_inb q hq) z)
  unfold stored
  dsimp only
  rw [taken_eq x0 W i arg2 harg2 arg9 S hS, beforeRead_eq x0 W i arg2 harg2 arg8 harg8 arg9 tl S hS, readAt_unread harg5, View.ld_unit_zero (by decide),
    readAt_unread harg4, readAt_unread harg4, readAt_unread harg4, readAt_unread harg4, ld_tap x2 0 0 rfl, ld_tap x2 1 1 rfl, ld_tap x2 2 2 rfl, ld_tap x2 3 3 rfl]

/-- The stores into the output block, the last chunk of rows first. -/
def laid (S : Vec F S2048x512 .bf16) : (q : ℕ) → q < 16 → List (View.Piece (Elt F) S2048x512 .bf16)
  | 0, hq => [stored x0 x2 x3 i arg2 harg2 arg4 harg4 arg5 harg5 arg8 harg8 arg9 tl S 0 hq]
  | q + 1, hq => stored x0 x2 x3 i arg2 harg2 arg4 harg4 arg5 harg5 arg8 harg8 arg9 tl S (q + 1) hq :: laid S q (by omega)

/-- Each of them agrees with the output block. -/
theorem laid_tile (S : Vec F S2048x512 .bf16) (hS : S = W) : ∀ (q : ℕ) (hq : q < 16),
    ∀ p ∈ laid x0 x2 x3 i arg2 harg2 arg4 harg4 arg5 harg5 arg8 harg8 arg9 tl S q hq, ∀ z, p.2 z = outTile (carried i tl) x0 W x2 x3 (p.1.emb z)
  | 0, hq => by
    unfold laid
    simp only [List.forall_mem_cons]
    exact ⟨stored_tile x0 W x2 x3 i arg2 harg2 arg4 harg4 arg5 harg5 arg8 harg8 arg9 tl S hS 0 hq, fun _ h => absurd h List.not_mem_nil⟩
  | q + 1, hq => by
    unfold laid
    simp only [List.forall_mem_cons]
    exact ⟨stored_tile x0 W x2 x3 i arg2 harg2 arg4 harg4 arg5 harg5 arg8 harg8 arg9 tl S hS (q + 1) hq, laid_tile S hS q (by omega)⟩

/-- They cover the output block. -/
theorem laid_cover (S : Vec F S2048x512 .bf16) (y : S2048x512.Idx) :
    ∃ p ∈ laid x0 x2 x3 i arg2 harg2 arg4 harg4 arg5 harg5 arg8 harg8 arg9 tl S 15 (Nat.lt_succ_self 15), y ∈ p.1.set :=
  View.cover_of_tiledL (laid x0 x2 x3 i arg2 harg2 arg4 harg4 arg5 harg5 arg8 harg8 arg9 tl S 15 (Nat.lt_succ_self 15)) S128x512.size (by sl_kernel_rfl) y

/-- The store into the carried rows. -/
def kept (S : Vec F S2048x512 .bf16) : List (View.Piece (Elt F) S8x512 .f32) :=
  [⟨Rect.unit (s := S8x512) ![0, 0] S8x512.size inb_S8x512_S8x512_0_0, k0_pay101 (taken x0 i arg2 harg2 arg9 S 15 (Nat.lt_succ_self 15))⟩]

/-- It covers the carried rows. -/
theorem kept_cover (S : Vec F S2048x512 .bf16) (y : S8x512.Idx) : ∃ p ∈ kept x0 i arg2 harg2 arg9 S, y ∈ p.1.set :=
  View.cover_of_tiledL (kept x0 i arg2 harg2 arg9 S) S8x512.size (by sl_kernel_rfl) y

/-- It leaves the last rows of the block's product there. -/
theorem kept_handed (S : Vec F S2048x512 .bf16) (hS : S = W) :
    View.canon (kept x0 i arg2 harg2 arg9 S) = handed x0 W 15 (Nat.lt_succ_self 15) := by
  unfold kept
  refine (View.canon_unit_zero (by decide) _ _).trans ?_
  rw [taken_eq x0 W i arg2 harg2 arg9 S hS]
  exact shapeCast_self _ _

/-- A store of a whole staged weight block covers it -/
theorem staged_cover (v : Vec F S2048x512 .bf16) (y : S2048x512.Idx) :
    ∃ p ∈ ([⟨Rect.unit (s := S2048x512) ![0, 0] S2048x512.size inb_S2048x512_S2048x512_0_0, v⟩] : List (View.Piece (Elt F) S2048x512 .bf16)), y ∈ p.1.set :=
  View.cover_of_tiledL [⟨Rect.unit (s := S2048x512) ![0, 0] S2048x512.size inb_S2048x512_S2048x512_0_0, v⟩] S2048x512.size (by sl_kernel_rfl) y

/-- and leaves it there. -/
theorem staged_canon (v : Vec F S2048x512 .bf16) :
    View.canon ([⟨Rect.unit (s := S2048x512) ![0, 0] S2048x512.size inb_S2048x512_S2048x512_0_0, v⟩] : List (View.Piece (Elt F) S2048x512 .bf16)) = v :=
  View.canon_unit_zero (by decide) _ _

/-- At a row tile that is not the first the body, from the staged weights `s` and the carried rows `tl`, leaves the tile in
    the output block and the last rows of its product in the carried rows. -/
theorem run_later (hi : ¬ first i) (E : Set ℕ) (K : PUnit → sProp 𝕄) :
    iprop(ins c arg2 arg3 arg4 arg5 x0 x1 x2 x3 ∗ (∃ d, owns (c : Thread nD τ) arg6 fullShare d)
        ∗ owns (c : Thread nD τ) arg7 fullShare s ∗ owns (c : Thread nD τ) arg8 fullShare tl ∗ owns (c : Thread nD τ) arg9 fullShare pk
        ∗ (iprop(ins c arg2 arg3 arg4 arg5 x0 x1 x2 x3
            ∗ owns (c : Thread nD τ) arg6 fullShare (outTile (carried i tl) x0 s x2 x3)
            ∗ owns (c : Thread nD τ) arg7 fullShare s
            ∗ owns (c : Thread nD τ) arg8 fullShare (handed x0 s 15 (Nat.lt_succ_self 15))
            ∗ (∃ d, owns (c : Thread nD τ) arg9 fullShare d)) -∗ K ⟨⟩))
      ⊢ wp frame (wpE (defs₀ (F := F)) Variants.none c none) E (cc0_proj_xbc i arg2 harg2 arg3 harg3 arg4 harg4 arg5 harg5 arg6 harg6 arg7 harg7 arg8 harg8 arg9 harg9) K := by
  have h7 : (View.readAt (Elt F) arg7.view (Rect.unit (s := S2048x512) ![0, 0] S2048x512.size inb_S2048x512_S2048x512_0_0).toLoadRect (harg7.unread s)) = s :=
    (readAt_unread harg7 s _).trans (View.ld_unit_zero (by decide) _ _)
  have hL : (later c i arg2 harg2 arg3 harg3 arg4 harg4 arg5 harg5 arg6 harg6 arg7 harg7 arg8 harg8 arg9 harg9 x0 x1 x2 x3 s tl pk hi).1
      = laid x0 x2 x3 i arg2 harg2 arg4 harg4 arg5 harg5 arg8 harg8 arg9 tl
          (View.readAt (Elt F) arg7.view (Rect.unit (s := S2048x512) ![0, 0] S2048x512.size inb_S2048x512_S2048x512_0_0).toLoadRect (harg7.unread s)) 15 (Nat.lt_succ_self 15) := rfl
  have hT : (later c i arg2 harg2 arg3 harg3 arg4 harg4 arg5 harg5 arg6 harg6 arg7 harg7 arg8 harg8 arg9 harg9 x0 x1 x2 x3 s tl pk hi).2.1
      = kept x0 i arg2 harg2 arg9
          (View.readAt (Elt F) arg7.view (Rect.unit (s := S2048x512) ![0, 0] S2048x512.size inb_S2048x512_S2048x512_0_0).toLoadRect (harg7.unread s)) := rfl
  generalize later c i arg2 harg2 arg3 harg3 arg4 harg4 arg5 harg5 arg6 harg6 arg7 harg7 arg8 harg8 arg9 harg9 x0 x1 x2 x3 s tl pk hi = R at hL hT
  obtain ⟨L, T, hrun⟩ := R
  dsimp only at hL hT
  subst hL hT
  refine .trans ?_ (hrun E K)
  iintro ⟨Hi, Ho, H7, H8, H9, Hk⟩
  isplitl [Hi]; · iexact Hi
  isplitl [Ho]; · iexact Ho
  isplitl [H7]; · iexact H7
  isplitl [H8]; · iexact H8
  isplitl [H9]; · iexact H9
  iintro ⟨Hi, Ho, H7, H8, H9⟩
  iapply Hk
  isplitl [Hi]; · iexact Hi
  isplitl [Ho]
  · iapply (owns_of_pieces (c : Thread nD τ) arg6 _ _ (laid_tile x0 s x2 x3 i arg2 harg2 arg4 harg4 arg5 harg5 arg8 harg8 arg9 tl _ h7 15 (Nat.lt_succ_self 15))
      (laid_cover x0 x2 x3 i arg2 harg2 arg4 harg4 arg5 harg5 arg8 harg8 arg9 tl _))
    iexact Ho
  isplitl [H7]; · iexact H7
  isplitl [H8]
  · iapply (owns_of_whole (c : Thread nD τ) arg8 (handed x0 s 15 (Nat.lt_succ_self 15)) _ (kept_handed x0 s i arg2 harg2 arg9 _ h7) (kept_cover x0 i arg2 harg2 arg9 _))
    iexact H8
  iexact H9

/-- At the first row tile of a column tile the body stages the weight block and then does the same. -/
theorem run_opening (hi : first i) (E : Set ℕ) (K : PUnit → sProp 𝕄) :
    iprop(ins c arg2 arg3 arg4 arg5 x0 x1 x2 x3 ∗ (∃ d, owns (c : Thread nD τ) arg6 fullShare d)
        ∗ (∃ d, owns (c : Thread nD τ) arg7 fullShare d) ∗ owns (c : Thread nD τ) arg8 fullShare tl ∗ owns (c : Thread nD τ) arg9 fullShare pk
        ∗ (iprop(ins c arg2 arg3 arg4 arg5 x0 x1 x2 x3
            ∗ owns (c : Thread nD τ) arg6 fullShare (outTile (carried i tl) x0 (k0_pay2 x1) x2 x3)
            ∗ owns (c : Thread nD τ) arg7 fullShare (k0_pay2 x1)
            ∗ owns (c : Thread nD τ) arg8 fullShare (handed x0 (k0_pay2 x1) 15 (Nat.lt_succ_self 15))
            ∗ (∃ d, owns (c : Thread nD τ) arg9 fullShare d)) -∗ K ⟨⟩))
      ⊢ wp frame (wpE (defs₀ (F := F)) Variants.none c none) E (cc0_proj_xbc i arg2 harg2 arg3 harg3 arg4 harg4 arg5 harg5 arg6 harg6 arg7 harg7 arg8 harg8 arg9 harg9) K := by
  have e3 : (View.readAt (Elt F) arg3.view (Rect.unit (s := S512x2048) ![0, 0] S512x2048.size inb_S512x2048_S512x2048_0_0).toLoadRect (harg3.unread x1)) = x1 :=
    (readAt_unread harg3 x1 _).trans (View.ld_unit_zero (by decide) _ _)
  have h7 : opening.sl.v5 c arg3 harg3 arg7 x1 = k0_pay2 x1 := by
    unfold opening.sl.v5 opening.sl.HS_1
    exact (View.readCov_unit_zero arg7.view (by decide) _ _).trans (congrArg _ e3)
  have hL : (opening c i arg2 harg2 arg3 harg3 arg4 harg4 arg5 harg5 arg6 harg6 arg7 harg7 arg8 harg8 arg9 harg9 x0 x1 x2 x3 tl pk hi).1
      = laid x0 x2 x3 i arg2 harg2 arg4 harg4 arg5 harg5 arg8 harg8 arg9 tl (opening.sl.v5 c arg3 harg3 arg7 x1) 15 (Nat.lt_succ_self 15) := rfl
  have hT : (opening c i arg2 harg2 arg3 harg3 arg4 harg4 arg5 harg5 arg6 harg6 arg7 harg7 arg8 harg8 arg9 harg9 x0 x1 x2 x3 tl pk hi).2.2.1
      = kept x0 i arg2 harg2 arg9 (opening.sl.v5 c arg3 harg3 arg7 x1) := rfl
  have hS : (opening c i arg2 harg2 arg3 harg3 arg4 harg4 arg5 harg5 arg6 harg6 arg7 harg7 arg8 harg8 arg9 harg9 x0 x1 x2 x3 tl pk hi).2.1
      = [⟨Rect.unit (s := S2048x512) ![0, 0] S2048x512.size inb_S2048x512_S2048x512_0_0, k0_pay2 x1⟩] := by
    refine Eq.trans (b := [⟨Rect.unit (s := S2048x512) ![0, 0] S2048x512.size inb_S2048x512_S2048x512_0_0, k0_pay2 (View.readAt (Elt F) arg3.view (Rect.unit (s := S512x2048) ![0, 0] S512x2048.size inb_S512x2048_S512x2048_0_0).toLoadRect (harg3.unread x1))⟩]) rfl ?_
    rw [e3]
  generalize opening c i arg2 harg2 arg3 harg3 arg4 harg4 arg5 harg5 arg6 harg6 arg7 harg7 arg8 harg8 arg9 harg9 x0 x1 x2 x3 tl pk hi = R at hL hT hS
  obtain ⟨L, S, T, hrun⟩ := R
  dsimp only at hL hT hS
  subst hL hT hS
  refine .trans ?_ (hrun E K)
  iintro ⟨Hi, Ho, H7, H8, H9, Hk⟩
  isplitl [Hi]; · iexact Hi
  isplitl [Ho]; · iexact Ho
  isplitl [H7]; · iexact H7
  isplitl [H8]; · iexact H8
  isplitl [H9]; · iexact H9
  iintro ⟨Hi, Ho, H7, H8, H9⟩
  iapply Hk
  isplitl [Hi]; · iexact Hi
  isplitl [Ho]
  · iapply (owns_of_pieces (c : Thread nD τ) arg6 _ _ (laid_tile x0 (k0_pay2 x1) x2 x3 i arg2 harg2 arg4 harg4 arg5 harg5 arg8 harg8 arg9 tl _ h7 15 (Nat.lt_succ_self 15))
      (laid_cover x0 x2 x3 i arg2 harg2 arg4 harg4 arg5 harg5 arg8 harg8 arg9 tl _))
    iexact Ho
  isplitl [H7]
  · iapply (owns_of_whole (c : Thread nD τ) arg7 (k0_pay2 x1) _ (staged_canon (k0_pay2 x1)) (staged_cover (k0_pay2 x1)))
    iexact H7
  isplitl [H8]
  · iapply (owns_of_whole (c : Thread nD τ) arg8 (handed x0 (k0_pay2 x1) 15 (Nat.lt_succ_self 15)) _ (kept_handed x0 (k0_pay2 x1) i arg2 harg2 arg9 _ h7) (kept_cover x0 i arg2 harg2 arg9 _))
    iexact H8
  iexact H9

/-- At the first row tile nothing of the carried rows is used. -/
theorem carried_first (hi : first i) (T T' : Vec F S8x512 .f32) : carried i T = carried i T' := by
  have h : ∀ j : Fin 4, (Scalar.cmpi .ne (Scalar.extui (Scalar.cmpi .eq (BitVec.ofNat 32 j.val) 0#32)) 0#32) = 1#1 → j.val = 0 := by decide
  have h0 : (i 1).val = 0 := h (i 1) hi
  have hp : fresh (BitVec.ofNat 32 (i 1).val) = 1#1 := by
    rw [h0]; decide
  unfold carried
  rw [hp]
  rfl

end Cert.KernelXbcIdeal.Run

end
-- ==== Proof.XbcFrame.lean ====
/-
  The whole run of the call `proj_xbc`: what its staging buffers and carried scratches hold after each grid point, and that
  the program runs to the end, leaving its arguments as they were.
-/
module

public import proofs.«01_k».proof.Proof.XbcBlock

@[expose] public section

set_option maxRecDepth 16384

noncomputable section

namespace Cert.KernelXbcIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Chunks Cert.KernelXbcIdeal Cert.KernelXbcIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers when the grid begins: after the host operations. -/
abbrev V (c : Dev nD) (b : Ref sig .tc) : Buf (Elt F) ((c : Thread nD τ).loc b) := StableHlo.after hostOps0 (fun b => m (c, b)) b

/-- The host operations allocate nothing. -/
theorem hostOps0_fresh : (hostOps0 : List (HloOp τ sig (Elt F))).Forall fun op => op.fresh = ∅ := by
  simp only [List.Forall]; repeat' constructor

set_option maxHeartbeats 800000 in
/-- The program up to the grid. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write no argument. -/
theorem V_arg (c : Dev nD) (b : Ref sig .tc) (hb : b = main_arg0 ∨ b = main_arg1 ∨ b = main_arg2 ∨ b = main_arg3) :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    rcases hb with rfl | rfl | rfl | rfl
    all_goals
      repeat' apply And.intro
      all_goals exact StableHlo.devRef_ne_of_ne (by decide)))

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's condition holds at the first of every four points. -/
theorem first_iff (t : Fin cfg0.N) : first (grid0.coords t) ↔ t.val % 4 = 0 := by
  have ht : t.val < 48 := Nat.lt_of_lt_of_eq t.isLt N_0
  have e1 : (grid0.coords t 1).val = t.val / 1 % 4 := Pipeline.Grid.coords_val t 1 (by decide) rfl
  simp only [first, e1]
  word_cmp

/-- The point at which the weights of point `n` were staged. -/
def begun (n : ℕ) (hn : n < cfg0.N) : Fin cfg0.N := ⟨4 * (n / 4), by omega⟩

/-- The staged weights at point `n`. -/
def wts (c : Dev nD) (n : ℕ) (hn : n < cfg0.N) : Vec F S2048x512 .bf16 := k0_pay2 (iblk m c 1 (begun n hn))

/-- The carried rows after point `n`. -/
def tail (c : Dev nD) (n : ℕ) (hn : n < cfg0.N) : Vec F S8x512 .f32 :=
  handed (iblk m c 0 ⟨n, hn⟩) (wts m c n hn) 15 (Nat.lt_succ_self 15)

/-- The carried rows before point `n`; before the first point, zeros stand for whatever is there. -/
def tailBefore (c : Dev nD) : (n : ℕ) → n < cfg0.N → Vec F S8x512 .f32
  | 0, _ => broadcast S8x512 (Scalar.ofBits .f32 0x00000000#32 : F .f32)
  | n + 1, hn => tail m c n (by omega)

/-- The output block after point `n`. -/
def outAt (c : Dev nD) (n : ℕ) (hn : n < cfg0.N) : Vec F S2048x512 .bf16 :=
  outTile (carried (grid0.coords ⟨n, hn⟩) (tailBefore m c n hn)) (iblk m c 0 ⟨n, hn⟩) (wts m c n hn) (iblk m c 2 ⟨n, hn⟩) (iblk m c 3 ⟨n, hn⟩)

abbrev M0 : Memref sig .tc .vmem S2048x512 .bf16 := Memref.whole cc0_scratch0
abbrev M1 : Memref sig .tc .vmem S8x512 .f32 := Memref.whole cc0_scratch1
abbrev M2 : Memref sig .tc .vmem S2x128x512 .f32 := Memref.whole cc0_scratch2

/-- Before the grid the scratches hold anything. -/
theorem PhiA0_eq (c : Dev nD) :
    (Pipeline.ΦA spec0 c : sProp 𝕄)
      = iprop(iprop((∃ d, owns (c : Thread nD τ) M0 fullShare d) ∗ (∃ d, owns (c : Thread nD τ) M1 fullShare d) ∗ (∃ d, owns (c : Thread nD τ) M2 fullShare d)) ∗ (∃ r, prngReg c r)) := by
  unfold Pipeline.ΦA; rw [scopedRest0_eq]; simp only [M0, M1, M2, owns_whole]; try rfl

/-- What holds before point `n`: anything in the scratches before the first, then the staged weights and the carried rows
    of the point before, and anything in the slots of the parked products. -/
def PhiS (c : Dev nD) : (n : ℕ) → n ≤ cfg0.N → sProp 𝕄
  | 0, _ => Pipeline.ΦA spec0 c
  | n + 1, hn => iprop(iprop(owns (c : Thread nD τ) M0 fullShare (wts m c n hn) ∗ owns (c : Thread nD τ) M1 fullShare (tail m c n hn)
      ∗ (∃ d, owns (c : Thread nD τ) M2 fullShare d)) ∗ (∃ r, prngReg c r))

/-- In any case the scratches hold something. -/
theorem Phi_any (c : Dev nD) (n : ℕ) (hn : n ≤ cfg0.N) :
    PhiS m c n hn ⊢ iprop(iprop((∃ d, owns (c : Thread nD τ) M0 fullShare d) ∗ (∃ d, owns (c : Thread nD τ) M1 fullShare d) ∗ (∃ d, owns (c : Thread nD τ) M2 fullShare d)) ∗ (∃ r, prngReg c r)) := by
  cases n with
  | zero => unfold PhiS; rw [PhiA0_eq]
  | succ n =>
    unfold PhiS
    iintro ⟨⟨H7, H8, H9⟩, Hg⟩
    isplitl [H7 H8 H9]
    · isplitl [H7]; · iexists _; iexact H7
      isplitl [H8]; · iexists _; iexact H8
      iexact H9
    iexact Hg

/-- The proof data of the grid. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t.val t.isLt
  Φ t := PhiS m c t.val (Nat.le_of_lt_succ t.isLt)
  q _ := fullShare
  owed _ := 0

/-- The windows' arrays as the grid finds them. -/
theorem A_eq (c : Dev nD) (w : Fin cfg0.W) : (dats m 0 c).A w = V m c (Pipeline.arrRef spec0 w) := by
  dsimp only [dats]

/-- What the body leaves in the staging buffers. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t.val t.isLt := by dsimp only [dats]

/-- Each input's staging buffer holds its block when the body begins. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-- The staging memrefs of point `t`. -/
abbrev ms0 (t : Fin cfg0.N) : Memref sig .tc .vmem S2048x2048 .bf16 := win0_0.stage (cfg0.slots t 0)
abbrev ms1 (t : Fin cfg0.N) : Memref sig .tc .vmem S512x2048 .f32 := win0_1.stage (cfg0.slots t 1)
abbrev ms2 (t : Fin cfg0.N) : Memref sig .tc .vmem S4x512 .f32 := win0_2.stage (cfg0.slots t 2)
abbrev ms3 (t : Fin cfg0.N) : Memref sig .tc .vmem S1x512 .f32 := win0_3.stage (cfg0.slots t 3)
abbrev ms4 (t : Fin cfg0.N) : Memref sig .tc .vmem S2048x512 .bf16 := win0_4.stage (cfg0.slots t 4)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

/-- At the first row tile of a column tile the body runs from any staged weights and any carried rows. -/
theorem body_first (c : Dev nD) (t : Fin cfg0.N) (h0 : t.val % 4 = 0) (K : PUnit → sProp 𝕄) :
    iprop(ins c (ms0 t) (ms1 t) (ms2 t) (ms3 t) (iblk m c 0 t) (iblk m c 1 t) (iblk m c 2 t) (iblk m c 3 t)
        ∗ (∃ d, owns (c : Thread nD τ) (ms4 t) fullShare d)
        ∗ (∃ d, owns (c : Thread nD τ) M0 fullShare d) ∗ (∃ d, owns (c : Thread nD τ) M1 fullShare d) ∗ (∃ d, owns (c : Thread nD τ) M2 fullShare d)
        ∗ (iprop(ins c (ms0 t) (ms1 t) (ms2 t) (ms3 t) (iblk m c 0 t) (iblk m c 1 t) (iblk m c 2 t) (iblk m c 3 t)
            ∗ owns (c : Thread nD τ) (ms4 t) fullShare (outAt m c t.val t.isLt)
            ∗ owns (c : Thread nD τ) M0 fullShare (wts m c t.val t.isLt) ∗ owns (c : Thread nD τ) M1 fullShare (tail m c t.val t.isLt)
            ∗ (∃ d, owns (c : Thread nD τ) M2 fullShare d)) -∗ K ⟨⟩))
      ⊢ wp frame (wpE (defs₀ (F := F)) Variants.none c none) Set.univ (bodyAt0 t) K := by
  have hb : begun t.val t.isLt = t := Fin.ext (by show 4 * (t.val / 4) = t.val; omega)
  have hi : first (grid0.coords t) := (first_iff t).mpr h0
  unfold bodyAt0
  iintro ⟨Hi, Ho, H7, ⟨%tl, H8⟩, ⟨%pk, H9⟩, Hk⟩
  iapply (run_opening (iblk m c 0 t) (iblk m c 2 t) (iblk m c 3 t) c (grid0.coords t) _ _ _ _ _ _ _ _ _ _ _ _ _ _ _ _
    (iblk m c 1 t) tl pk hi Set.univ K)
  isplitl [Hi]; · iexact Hi
  isplitl [Ho]; · iexact Ho
  isplitl [H7]; · iexact H7
  isplitl [H8]; · iexact H8
  isplitl [H9]; · iexact H9
  unfold outAt tail wts
  rw [hb, carried_first _ hi tl (tailBefore m c t.val t.isLt)]
  iexact Hk

/-- At the others it runs from what the point before left. -/
theorem body_later (c : Dev nD) (n : ℕ) (hn : n + 1 < cfg0.N) (h0 : (n + 1) % 4 ≠ 0) (K : PUnit → sProp 𝕄) :
    iprop(ins c (ms0 ⟨n + 1, hn⟩) (ms1 ⟨n + 1, hn⟩) (ms2 ⟨n + 1, hn⟩) (ms3 ⟨n + 1, hn⟩) (iblk m c 0 ⟨n + 1, hn⟩) (iblk m c 1 ⟨n + 1, hn⟩) (iblk m c 2 ⟨n + 1, hn⟩) (iblk m c 3 ⟨n + 1, hn⟩)
        ∗ (∃ d, owns (c : Thread nD τ) (ms4 ⟨n + 1, hn⟩) fullShare d)
        ∗ owns (c : Thread nD τ) M0 fullShare (wts m c n (by omega)) ∗ owns (c : Thread nD τ) M1 fullShare (tail m c n (by omega))
        ∗ (∃ d, owns (c : Thread nD τ) M2 fullShare d)
        ∗ (iprop(ins c (ms0 ⟨n + 1, hn⟩) (ms1 ⟨n + 1, hn⟩) (ms2 ⟨n + 1, hn⟩) (ms3 ⟨n + 1, hn⟩) (iblk m c 0 ⟨n + 1, hn⟩) (iblk m c 1 ⟨n + 1, hn⟩) (iblk m c 2 ⟨n + 1, hn⟩) (iblk m c 3 ⟨n + 1, hn⟩)
            ∗ owns (c : Thread nD τ) (ms4 ⟨n + 1, hn⟩) fullShare (outAt m c (n + 1) hn)
            ∗ owns (c : Thread nD τ) M0 fullShare (wts m c (n + 1) hn) ∗ owns (c : Thread nD τ) M1 fullShare (tail m c (n + 1) hn)
            ∗ (∃ d, owns (c : Thread nD τ) M2 fullShare d)) -∗ K ⟨⟩))
      ⊢ wp frame (wpE (defs₀ (F := F)) Variants.none c none) Set.univ (bodyAt0 ⟨n + 1, hn⟩) K := by
  have hb : begun (n + 1) hn = begun n (by omega) := Fin.ext (by show 4 * ((n + 1) / 4) = 4 * (n / 4); omega)
  have hi : ¬ first (grid0.coords ⟨n + 1, hn⟩) := fun h => h0 ((first_iff ⟨n + 1, hn⟩).mp h)
  have e0 : wts m c (n + 1) hn = wts m c n (by omega) := by unfold wts; rw [hb]
  unfold bodyAt0
  iintro ⟨Hi, Ho, H7, H8, ⟨%pk, H9⟩, Hk⟩
  iapply (run_later (iblk m c 0 ⟨n + 1, hn⟩) (iblk m c 2 ⟨n + 1, hn⟩) (iblk m c 3 ⟨n + 1, hn⟩) c (grid0.coords ⟨n + 1, hn⟩) _ _ _ _ _ _ _ _ _ _ _ _ _ _ _ _
    (iblk m c 1 ⟨n + 1, hn⟩) _ _ pk hi Set.univ K)
  isplitl [Hi]; · iexact Hi
  isplitl [Ho]; · iexact Ho
  isplitl [H7]; · iexact H7
  isplitl [H8]; · iexact H8
  isplitl [H9]; · iexact H9
  unfold outAt
  rw [show tail m c (n + 1) hn = handed (iblk m c 0 ⟨n + 1, hn⟩) (wts m c (n + 1) hn) 15 (Nat.lt_succ_self 15) from rfl, e0]
  iexact Hk

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3]
  rw [show (dats m 0 c).owesAt () t.succ = (dats m 0 c).owesAt () t.castSucc from rfl, after0, after1, after2, after3, after4]
  rw [show (dats m 0 c).Φ t.succ = PhiS m c (t.val + 1) t.isLt from rfl, show (dats m 0 c).Φ t.castSucc = PhiS m c t.val (Nat.le_of_lt t.isLt) from rfl]
  obtain ⟨n, hn⟩ := t
  by_cases h0 : n % 4 = 0
  · iintro ⟨HΦ, Ho, ⟨%d0, H0⟩, ⟨%d1, H1⟩, ⟨%d2, H2⟩, ⟨%d3, H3⟩, ⟨%d4, H4⟩⟩
    ihave HΦ' := (Phi_any m c n (Nat.le_of_lt hn)) $$ HΦ
    icases HΦ' with ⟨⟨H7, H8, H9⟩, Hg⟩
    iapply (body_first m c ⟨n, hn⟩ h0 _)
    isplitl [H0 H1 H2 H3]
    · unfold ins
      isplitl [H0]; · iexact H0
      isplitl [H1]; · iexact H1
      isplitl [H2]; · iexact H2
      iexact H3
    isplitl [H4]; · iexists _; iexact H4
    isplitl [H7]; · iexact H7
    isplitl [H8]; · iexact H8
    isplitl [H9]; · iexact H9
    unfold ins
    iintro ⟨⟨H0, H1, H2, H3⟩, H4, H7, H8, H9⟩
    isplitl [H7 H8 H9 Hg]
    · unfold PhiS
      isplitl [H7 H8 H9]
      · isplitl [H7]; · iexact H7
        isplitl [H8]; · iexact H8
        iexact H9
      iexact Hg
    isplitl [Ho]; · iexact Ho
    isplitl [H0]; · iexact H0
    isplitl [H1]; · iexact H1
    isplitl [H2]; · iexact H2
    isplitl [H3]; · iexact H3
    iexact H4
  · obtain ⟨n, rfl⟩ : ∃ k, n = k + 1 := ⟨n - 1, by omega⟩
    iintro ⟨HΦ, Ho, ⟨%d0, H0⟩, ⟨%d1, H1⟩, ⟨%d2, H2⟩, ⟨%d3, H3⟩, ⟨%d4, H4⟩⟩
    unfold PhiS
    icases HΦ with ⟨⟨H7, H8, H9⟩, Hg⟩
    iapply (body_later m c n hn h0 _)
    isplitl [H0 H1 H2 H3]
    · unfold ins
      isplitl [H0]; · iexact H0
      isplitl [H1]; · iexact H1
      isplitl [H2]; · iexact H2
      iexact H3
    isplitl [H4]; · iexists _; iexact H4
    isplitl [H7]; · iexact H7
    isplitl [H8]; · iexact H8
    isplitl [H9]; · iexact H9
    unfold ins
    iintro ⟨⟨H0, H1, H2, H3⟩, H4, H7, H8, H9⟩
    isplitl [H7 H8 H9 Hg]
    · isplitl [H7 H8 H9]
      · isplitl [H7]; · iexact H7
        isplitl [H8]; · iexact H8
        iexact H9
      iexact Hg
    isplitl [Ho]; · iexact Ho
    isplitl [H0]; · iexact H0
    isplitl [H1]; · iexact H1
    isplitl [H2]; · iexact H2
    isplitl [H3]; · iexact H3
    iexact H4

/-- The body table's row is the body. -/
theorem defs₀_row (t : Fin cfg0.N) : defs₀ (F := F) .tc cfg0.body (cfg0.bodyArgs t (cfg0.slots t)) = bodyAt0 t := by
  unfold defs₀; rw [Defs.onTc_tc]

/-- The body does at every point what the proof data say. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl]
  exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  exact Phi_any m c _ _

set_option backward.isDefEq.respectTransparency.types false in
/-- The program runs to the end; every array of the grid is what the proof data says, the other buffers are as the grid
    found them, and every semaphore is at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run leaves the arguments as they were. -/
theorem kept_args (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_arg m c _ (by tauto)),
    ((h c).2 main_arg1 (Pipeline.mem_restRefs_of main_arg1 (by decide) (by decide))).trans (V_arg m c _ (by tauto)),
    ((h c).2 main_arg2 (Pipeline.mem_restRefs_of main_arg2 (by decide) (by decide))).trans (V_arg m c _ (by tauto)),
    ((h c).2 main_arg3 (Pipeline.mem_restRefs_of main_arg3 (by decide) (by decide))).trans (V_arg m c _ (by tauto))⟩

/-- The frame: the program runs to the end, its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨kept_args m r h.1, h.2⟩) (run_quiescent m ρ)

end Cert.KernelXbcIdeal.Run

end
-- ==== Proof.XbcBits.lean ====
/-
  The call `proj_xbc` printed for the device's words is the same text as the one printed for the reals, so its run is the run
  over an arbitrary float instance, at the words.
-/
module

public import proofs.«01_k».proof.Proof.Gen.KernelXbc.Launch
public import proofs.«01_k».proof.Proof.XbcFrame

@[expose] public section

noncomputable section

namespace Cert.KernelXbc.Run

open Idealize.ShloMosaic Idealize.SL.Sem

/-- The bodies behind the labels are the same. -/
theorem defs₀_eq : Cert.KernelXbc.defs₀ (F := Bits) = Cert.KernelXbcIdeal.defs₀ (F := Bits) := by
  unfold Cert.KernelXbc.defs₀ Cert.KernelXbcIdeal.defs₀
  refine congrArg Defs.onTc ?_
  funext l a
  match l, a with
  | 0, (t, s) => rfl

/-- So are the programs' bodies. -/
theorem defs_eq : Cert.KernelXbc.defs (F := Bits) = Cert.KernelXbcIdeal.defs (F := Bits) := by
  unfold Cert.KernelXbc.defs Cert.KernelXbcIdeal.defs
  rw [defs₀_eq]
  rfl

/-- The call runs to the end, its arguments as they were and every semaphore at zero. -/
theorem frame (m : (ℓ : Loc nD τ sig) → Buf (Elt Bits) ℓ) (ρ : Dev nD → PrngReg) :
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq]
  exact Cert.KernelXbcIdeal.Run.frame (F := Bits) m ρ

end Cert.KernelXbc.Run

end
-- ==== Proof.Conv.lean ====
/-
  The causal convolution down a sequence of 4096 rows, one column at a time.
-/
module

public import proofs.«01_k».proof.Proof.Silu

@[expose] public section

noncomputable section

namespace Cert.Conv

open Idealize.ShloMosaic
open Cert.Rows Cert.Silu

/-- The entry `k` rows before row `s` of a column, zero before the sequence begins. -/
def lag (a : Fin 4096 → EReal) (s : Fin 4096) (k : ℕ) : EReal := if k ≤ s.val then a ⟨s.val - k, by omega⟩ else 0

/-- Three taps: the bias, then the taps from the furthest row to the row itself. -/
def conv3 (b w0 w1 w2 h2 h1 h0 : EReal) : EReal := ((b + w0 * h2) + w1 * h1) + w2 * h0

/-- Four taps. -/
def conv4 (b w0 w1 w2 w3 h3 h2 h1 h0 : EReal) : EReal := (((b + w0 * h3) + w1 * h2) + w2 * h1) + w3 * h0

/-- An entry of the product of an activation block with a weight block. -/
def prod (x : (⟨2, ![2048, 2048]⟩ : Shape).Idx → EReal) (W : (⟨2, ![2048, 512]⟩ : Shape).Idx → EReal) (j : Fin 2048) (l : Fin 512) : EReal :=
  ∑ k : Fin 2048, x (ix2 j k) * W (ix2 k l)

/-- The entry `k` rows before row `j` of a column of a block: one of the column's own, or one of the eight rows `T` before the
    block. -/
def back (T : (⟨2, ![8, 512]⟩ : Shape).Idx → EReal) (a : Fin 2048 → EReal) (l : Fin 512) (j : Fin 2048) (k : ℕ) (hk : 1 ≤ k) : EReal :=
  if k ≤ j.val then a ⟨j.val - k, by omega⟩ else T (ix2 (⟨(8 + j.val - k) % 8, Nat.mod_lt _ (by omega)⟩ : Fin 8) l)

/-- A body works 128 rows at a time: it puts the eight rows `B` before chunk `q` above the chunk's own rows `A` and rotates the
    136 rows. What then stands `k` rows before row `r` of the chunk is what stands `k` rows before it in the block: `B` is `T`
    for the first chunk and the last rows of the chunk before for the others. -/
theorem hist (T B : (⟨2, ![8, 512]⟩ : Shape).Idx → EReal) (A : (⟨2, ![128, 512]⟩ : Shape).Idx → EReal) (a : Fin 2048 → EReal) (q : ℕ) (l : Fin 512)
    (hA : ∀ (r : Fin 128) (j : Fin 2048), j.val = 128 * q + r.val → A (ix2 r l) = a j)
    (h0 : q = 0 → ∀ e : Fin 8, B (ix2 e l) = T (ix2 e l))
    (hB : ∀ p, q = p + 1 → ∀ (e : Fin 8) (j : Fin 2048), j.val = 128 * p + 120 + e.val → B (ix2 e l) = a j)
    (r : Fin 128) (j : Fin 2048) (hj : j.val = 128 * q + r.val) (k : ℕ) (hk : 1 ≤ k) (h8 : k ≤ 8) :
    (if h : (8 + r.val + 136 - k) % 136 < 8 then B (ix2 ⟨(8 + r.val + 136 - k) % 136, h⟩ l)
        else A (ix2 ⟨(8 + r.val + 136 - k) % 136 - 8, by omega⟩ l))
      = back T a l j k hk := by
  have hr := r.isLt
  unfold back
  by_cases h : k ≤ r.val
  · rw [dif_neg (by omega), if_pos (by omega)]
    exact hA _ _ (by show j.val - k = 128 * q + ((8 + r.val + 136 - k) % 136 - 8); omega)
  · rw [dif_pos (by omega)]
    match q with
    | 0 =>
      rw [if_neg (by omega)]
      refine (h0 rfl _).trans (congrArg T ?_)
      funext a
      match a with
      | ⟨0, _⟩ => exact Fin.ext (by show (8 + r.val + 136 - k) % 136 = (8 + j.val - k) % 8; omega)
      | ⟨1, _⟩ => rfl
    | q + 1 =>
      rw [if_pos (by omega)]
      exact hB q rfl _ _ (by show j.val - k = 128 * q + 120 + (8 + r.val + 136 - k) % 136; omega)

/-- Entry `C` of row `s` of sequence `b` of the projection to the hidden layer. -/
def hid (u : (⟨3, ![2, 4096, 2048]⟩ : Shape).Idx → EReal) (w : (⟨3, ![1, 2048, 11264]⟩ : Shape).Idx → EReal)
    (b : Fin 2) (s : Fin 4096) (C : Fin 11264) : EReal :=
  ∑ k : Fin 2048, u (ix3 b s k) * w (ix3 0 k C)

/-- The convolution of the first half's column `C` of the hidden projection at row `s` of sequence `b`. -/
def hidConv (u : (⟨3, ![2, 4096, 2048]⟩ : Shape).Idx → EReal) (w : (⟨3, ![1, 2048, 11264]⟩ : Shape).Idx → EReal)
    (cw : (⟨3, ![1, 3, 5632]⟩ : Shape).Idx → EReal) (cb : (⟨2, ![1, 5632]⟩ : Shape).Idx → EReal)
    (b : Fin 2) (s : Fin 4096) (C : Fin 5632) : EReal :=
  conv3 (cb (ix2 0 C)) (cw (ix3 0 0 C)) (cw (ix3 0 1 C)) (cw (ix3 0 2 C))
    (lag (fun s => hid u w b s ⟨C.val, by omega⟩) s 2) (lag (fun s => hid u w b s ⟨C.val, by omega⟩) s 1) (hid u w b s ⟨C.val, by omega⟩)

/-- The convolution of column `4096 + C` of the in-projection at row `s` of sequence `b`. -/
def entryConv (u : (⟨3, ![2, 4096, 2048]⟩ : Shape).Idx → EReal) (w : (⟨3, ![1, 2048, 20544]⟩ : Shape).Idx → EReal)
    (cw : (⟨3, ![1, 4, 6144]⟩ : Shape).Idx → EReal) (cb : (⟨2, ![1, 6144]⟩ : Shape).Idx → EReal)
    (b : Fin 2) (s : Fin 4096) (C : Fin 6144) : EReal :=
  conv4 (cb (ix2 0 C)) (cw (ix3 0 0 C)) (cw (ix3 0 1 C)) (cw (ix3 0 2 C)) (cw (ix3 0 3 C))
    (lag (fun s => entry u w b s ⟨4096 + C.val, by omega⟩) s 3) (lag (fun s => entry u w b s ⟨4096 + C.val, by omega⟩) s 2)
    (lag (fun s => entry u w b s ⟨4096 + C.val, by omega⟩) s 1) (entry u w b s ⟨4096 + C.val, by omega⟩)

/-- A column of reals, looked back on, is real. -/
theorem isReal_lag {a : Fin 4096 → EReal} (h : ∀ s, IsReal (a s)) (s : Fin 4096) (k : ℕ) : IsReal (lag a s k) := by
  unfold lag
  split
  · exact h _
  · exact ⟨0, rfl⟩

/-- Of finite arguments the convolution is a real. -/
theorem isReal_hidConv (u : (⟨3, ![2, 4096, 2048]⟩ : Shape).Idx → EReal) (w : (⟨3, ![1, 2048, 11264]⟩ : Shape).Idx → EReal)
    (cw : (⟨3, ![1, 3, 5632]⟩ : Shape).Idx → EReal) (cb : (⟨2, ![1, 5632]⟩ : Shape).Idx → EReal)
    (hu : ∀ i, IsReal (u i)) (hw : ∀ i, IsReal (w i)) (hcw : ∀ i, IsReal (cw i)) (hcb : ∀ i, IsReal (cb i))
    (b : Fin 2) (s : Fin 4096) (C : Fin 5632) : IsReal (hidConv u w cw cb b s C) := by
  have hh : ∀ s, IsReal (hid u w b s ⟨C.val, by omega⟩) := fun s => IsReal.sum _ _ fun k _ => (hu _).mul (hw _)
  exact (((hcb _).add ((hcw _).mul (isReal_lag hh s 2))).add ((hcw _).mul (isReal_lag hh s 1))).add ((hcw _).mul (hh s))

/-- And that of the in-projection. -/
theorem isReal_entryConv (u : (⟨3, ![2, 4096, 2048]⟩ : Shape).Idx → EReal) (w : (⟨3, ![1, 2048, 20544]⟩ : Shape).Idx → EReal)
    (cw : (⟨3, ![1, 4, 6144]⟩ : Shape).Idx → EReal) (cb : (⟨2, ![1, 6144]⟩ : Shape).Idx → EReal)
    (hu : ∀ i, IsReal (u i)) (hw : ∀ i, IsReal (w i)) (hcw : ∀ i, IsReal (cw i)) (hcb : ∀ i, IsReal (cb i))
    (b : Fin 2) (s : Fin 4096) (C : Fin 6144) : IsReal (entryConv u w cw cb b s C) := by
  have hh : ∀ s, IsReal (entry u w b s ⟨4096 + C.val, by omega⟩) := fun s => IsReal.sum _ _ fun k _ => (hu _).mul (hw _)
  exact ((((hcb _).add ((hcw _).mul (isReal_lag hh s 3))).add ((hcw _).mul (isReal_lag hh s 2))).add ((hcw _).mul (isReal_lag hh s 1))).add
    ((hcw _).mul (hh s))

end Cert.Conv

end
-- ==== Proof.XbcTile.lean ====
/-
  The output block of the call `proj_xbc`, entry by entry: the convolution of the product's column down the rows, through
  `silu`.
-/
module

public import proofs.«01_k».proof.Proof.XbcFrame
public import proofs.«01_k».proof.Proof.Conv

@[expose] public section

set_option maxRecDepth 16384

noncomputable section

namespace Cert.KernelXbcIdeal.Run

open Idealize.ShloMosaic Idealize.ShloMosaic.TcCoe Idealize.ShloMosaic.Tactic
open Idealize.SL Idealize.SL.Sem
open Cert.Chunks Cert.Rows Cert.Silu Cert.Conv Cert.KernelXbcIdeal Cert.KernelXbcIdeal.Gen

/-- A chunk's payload, entry by entry. -/
theorem chunk_apply (A : FVec Ideal S128x512 .f32) (T : FVec Ideal S8x512 .f32) (b w0 w1 w2 w3 : Vec Ideal S1x512 .f32) (r : Fin 128) (l : Fin 512) :
    k0_pay33 A T b w0 w1 w2 w3 (ix2 r l)
      = siluK (conv4 (b (ix2 0 l)) (w0 (ix2 0 l)) (w1 (ix2 0 l)) (w2 (ix2 0 l)) (w3 (ix2 0 l))
          (if h : (8 + r.val + 136 - 3) % 136 < 8 then T (ix2 ⟨(8 + r.val + 136 - 3) % 136, h⟩ l)
            else A (ix2 ⟨(8 + r.val + 136 - 3) % 136 - 8, by omega⟩ l))
          (if h : (8 + r.val + 136 - 2) % 136 < 8 then T (ix2 ⟨(8 + r.val + 136 - 2) % 136, h⟩ l)
            else A (ix2 ⟨(8 + r.val + 136 - 2) % 136 - 8, by omega⟩ l))
          (if h : (8 + r.val + 136 - 1) % 136 < 8 then T (ix2 ⟨(8 + r.val + 136 - 1) % 136, h⟩ l)
            else A (ix2 ⟨(8 + r.val + 136 - 1) % 136 - 8, by omega⟩ l))
          (A (ix2 r l))) := by
  pointwise [k0_pay33]
  rfl

/-- The product of 128 rows is the block's product on those rows. -/
theorem pay5_apply (x : Vec Ideal S2048x2048 .bf16) (W : Vec Ideal S2048x512 .bf16) (q : ℕ) (hq : q < 16) (r : Fin 128) (l : Fin 512)
    (j : Fin 2048) (hj : j.val = 128 * q + r.val) :
    k0_pay5 (rows x q hq) W (ix2 r l) = prod x W j l := by
  pointwise [k0_pay5]
  refine Finset.sum_congr rfl fun k _ => congrArg (fun z : EReal => z * W (ix2 k l)) (congrArg x ?_)
  funext a
  match a with
  | ⟨0, _⟩ => exact Fin.ext hj.symm
  | ⟨1, _⟩ => rfl

/-- The rows handed on are the last eight of the 128. -/
theorem handed_apply (x : Vec Ideal S2048x2048 .bf16) (W : Vec Ideal S2048x512 .bf16) (q : ℕ) (hq : q < 16) (e : Fin 8) (l : Fin 512)
    (j : Fin 2048) (hj : j.val = 128 * q + 120 + e.val) :
    handed x W q hq (ix2 e l) = prod x W j l := by
  unfold handed
  refine Eq.trans ?_ (pay5_apply x W q hq ⟨120 + e.val, by omega⟩ l j (by rw [hj]; show _ = 128 * q + (120 + e.val); omega))
  pointwise [k0_pay32]

/-- What the rotated history of a chunk holds `k` rows before its row `r`. -/
theorem hist_chunk (T : Vec Ideal S8x512 .f32) (x : Vec Ideal S2048x2048 .bf16) (W : Vec Ideal S2048x512 .bf16) (q : ℕ) (hq : q < 16)
    (r : Fin 128) (l : Fin 512) (j : Fin 2048) (hj : j.val = 128 * q + r.val) (k : ℕ) (hk : 1 ≤ k) (h8 : k ≤ 8) :
    (if h : (8 + r.val + 136 - k) % 136 < 8 then before T x W q hq (ix2 ⟨(8 + r.val + 136 - k) % 136, h⟩ l)
        else k0_pay5 (rows x q hq) W (ix2 ⟨(8 + r.val + 136 - k) % 136 - 8, by omega⟩ l))
      = back T (fun j => prod x W j l) l j k hk :=
  hist T (before T x W q hq) (k0_pay5 (rows x q hq) W) (fun j => prod x W j l) q l (fun r j h => pay5_apply x W q hq r l j h)
    (fun h e => by subst h; rfl) (fun p h e j' hj' => by subst h; exact handed_apply x W p (by omega) e l j' hj') r j hj k hk h8

/-- The output block at row `j` and column `l`. -/
theorem outTile_apply (T : Vec Ideal S8x512 .f32) (x : Vec Ideal S2048x2048 .bf16) (W : Vec Ideal S2048x512 .bf16) (w : Vec Ideal S4x512 .f32)
    (b : Vec Ideal S1x512 .f32) (j : Fin 2048) (l : Fin 512) :
    outTile T x W w b (ix2 j l)
      = siluK (conv4 (b (ix2 0 l)) (w (ix2 0 l)) (w (ix2 1 l)) (w (ix2 2 l)) (w (ix2 3 l))
          (back T (fun j => prod x W j l) l j 3 (by omega)) (back T (fun j => prod x W j l) l j 2 (by omega))
          (back T (fun j => prod x W j l) l j 1 (by omega)) (prod x W j l)) := by
  have hj := j.isLt
  have e : j.val = 128 * (j.val / 128) + j.val % 128 := by omega
  unfold outTile
  refine (chunk_apply _ _ _ _ _ _ _ _ _).trans ?_
  exact congrArg siluK (congrArg₂ (fun p q : EReal => p + q) (congrArg₂ (fun p q : EReal => p + q) (congrArg₂ (fun p q : EReal => p + q)
      (congrArg (fun p : EReal => b (ix2 0 l) + w (ix2 0 l) * p) (hist_chunk T x W _ _ _ l j e 3 (by omega) (by omega)))
      (congrArg (fun p : EReal => w (ix2 1 l) * p) (hist_chunk T x W _ _ _ l j e 2 (by omega) (by omega))))
      (congrArg (fun p : EReal => w (ix2 2 l) * p) (hist_chunk T x W _ _ _ l j e 1 (by omega) (by omega))))
    (congrArg (fun p : EReal => w (ix2 3 l) * p) (pay5_apply x W _ _ _ l j e)))

/-- At a row tile that begins a sequence the rows before are zeros, at any other the carried ones. -/
theorem carried_apply (n : ℕ) (hn : n < cfg0.N) (T : Vec Ideal S8x512 .f32) (e : Fin 8) (l : Fin 512) :
    carried (grid0.coords ⟨n, hn⟩) T (ix2 e l) = if n % 2 = 0 then (0 : EReal) else T (ix2 e l) := by
  have ht : n < 48 := Nat.lt_of_lt_of_eq hn N_0
  have e1 : (grid0.coords ⟨n, hn⟩ 1).val = n / 1 % 4 := Pipeline.Grid.coords_val ⟨n, hn⟩ 1 (by decide) rfl
  have hp : fresh (BitVec.ofNat 32 (grid0.coords ⟨n, hn⟩ 1).val) = if n % 2 = 0 then 1#1 else 0#1 := by
    have h4 : (grid0.coords ⟨n, hn⟩ 1).val < 4 := (grid0.coords ⟨n, hn⟩ 1).isLt
    have hq : n % 2 = (grid0.coords ⟨n, hn⟩ 1).val % 2 := by omega
    rw [hq]
    generalize (grid0.coords ⟨n, hn⟩ 1).val = v at h4
    interval_cases v <;> decide
  unfold carried
  rw [hp]
  by_cases h : n % 2 = 0
  · rw [if_pos h, if_pos h]
    show Ideal.ofBits .f32 0x00000000#32 = 0
    exact Ideal.ofBits_zero _
  · rw [if_neg h, if_neg h]; rfl

end Cert.KernelXbcIdeal.Run

end
-- ==== Proof.XbcArray.lean ====
/-
  What the call `proj_xbc` leaves in its array: at each row and column `silu` of the convolved projection.
-/
module

public import proofs.«01_k».proof.Proof.XbcTile
public import Idealize.ShloMosaic.Lib.Claim
public import Idealize.ShloMosaic.Lib.StableHlo.ReadAt

@[expose] public section

set_option maxRecDepth 16384

noncomputable section

namespace Cert.KernelXbcIdeal.Run

open Idealize.ShloMosaic Idealize.ShloMosaic.TcCoe Idealize.ShloMosaic.Tactic
open Idealize.SL Idealize.SL.Sem
open Cert.Chunks Cert.Rows Cert.Silu Cert.Conv Cert.KernelXbcIdeal Cert.KernelXbcIdeal.Gen

variable (m : (ℓ : Loc nD τ sig) → Buf (Elt Ideal) ℓ) (ρ : Dev nD → PrngReg)

/-- What the windows' arrays hold when the grid begins, entry by entry: the activations, -/
theorem V_u (c : Dev nD) (b : Fin 2) (s : Fin 4096) (R : Fin 8192) (k : Fin 2048) (hR : R.val = 4096 * b.val + s.val) :
    V m c main_v4 (ix2 R k) = m ((c : Thread nD τ).loc main_arg0) (ix3 b s k) := by
  unfold V
  after_reads_at
  exact split_row (m ((c : Thread nD τ).loc main_arg0)) R.val b s k hR _ _

/-- the transposed weights, -/
theorem V_w (c : Dev nD) (L : Fin 20544) (k : Fin 2048) :
    V m c main_v6 (ix2 L k) = m ((c : Thread nD τ).loc main_arg1) (ix3 0 k L) := by
  unfold V
  after_reads_at

/-- the convolution's weights -/
theorem V_cw (c : Dev nD) (k : Fin 4) (C : Fin 6144) :
    V m c main_v0 (ix2 k C) = m ((c : Thread nD τ).loc main_arg2) (ix3 0 k C) := by
  unfold V
  after_reads_at

/-- and its bias. -/
theorem V_cb (c : Dev nD) (C : Fin 6144) :
    V m c main_v2 (ix2 0 C) = m ((c : Thread nD τ).loc main_arg3) (ix2 0 C) := by
  unfold V
  after_reads_at

/-- The blocks each window stages at a point; the weights' window names its first row, 4096 rows into the array. -/
theorem idx0 : ∀ t : Fin cfg0.N, win0_0.index t (0 : Fin 2) = t.val % 4 ∧ win0_0.index t (1 : Fin 2) = 0 :=
  (by decide +kernel : ∀ t : Fin grid0.N, _)
theorem idx1 : ∀ t : Fin cfg0.N, cc0_transform_1 (grid0.coords t) (0 : Fin 2) = 4096 + 512 * (t.val / 4) ∧ cc0_transform_1 (grid0.coords t) (1 : Fin 2) = 0 :=
  (by decide +kernel : ∀ t : Fin grid0.N, _)
theorem idx2 : ∀ t : Fin cfg0.N, win0_2.index t (0 : Fin 2) = 0 ∧ win0_2.index t (1 : Fin 2) = t.val / 4 :=
  (by decide +kernel : ∀ t : Fin grid0.N, _)
theorem idx3 : ∀ t : Fin cfg0.N, win0_3.index t (0 : Fin 2) = 0 ∧ win0_3.index t (1 : Fin 2) = t.val / 4 :=
  (by decide +kernel : ∀ t : Fin grid0.N, _)
theorem idx4 : ∀ t : Fin cfg0.N, win0_4.index t (0 : Fin 2) = t.val % 4 ∧ win0_4.index t (1 : Fin 2) = t.val / 4 :=
  (by decide +kernel : ∀ t : Fin grid0.N, _)

/-- The blocks, entry by entry, in the arguments: 2048 rows of the activations, -/
theorem iblk0 (c : Dev nD) (t : Fin cfg0.N) (r : Fin 2048) (k : Fin 2048) (b : Fin 2) (s : Fin 4096)
    (h : 4096 * b.val + s.val = 2048 * (t.val % 4) + r.val) :
    iblk m c 0 t (ix2 r k) = m ((c : Thread nD τ).loc main_arg0) (ix3 b s k) := by
  unfold iblk
  rw [View.read_apply, cast_eq]
  refine Eq.trans (congrArg _ ?_) (V_u m c b s ⟨4096 * b.val + s.val, by omega⟩ k rfl)
  obtain ⟨e0, e1⟩ := idx0 t
  funext a; apply Fin.ext
  match a with
  | ⟨0, _⟩ => show win0_0.index t (0 : Fin 2) * 2048 + 1 * r.val = 4096 * b.val + s.val; omega
  | ⟨1, _⟩ => show win0_0.index t (1 : Fin 2) * 2048 + 1 * k.val = k.val; omega

/-- 512 columns of the weights, -/
theorem iblk1 (c : Dev nD) (t : Fin cfg0.N) (l : Fin 512) (k : Fin 2048) (L : Fin 20544) (hL : L.val = 4096 + 512 * (t.val / 4) + l.val) :
    iblk m c 1 t (ix2 l k) = m ((c : Thread nD τ).loc main_arg1) (ix3 0 k L) := by
  unfold iblk
  rw [View.read_apply, cast_eq]
  refine Eq.trans (congrArg _ ?_) (V_w m c L k)
  obtain ⟨e0, e1⟩ := idx1 t
  funext a; apply Fin.ext
  match a with
  | ⟨0, _⟩ => show cc0_transform_1 (grid0.coords t) (0 : Fin 2) + 1 * l.val = L.val; omega
  | ⟨1, _⟩ => show cc0_transform_1 (grid0.coords t) (1 : Fin 2) + 1 * k.val = k.val; omega

/-- 512 columns of the convolution's weights -/
theorem iblk2 (c : Dev nD) (t : Fin cfg0.N) (k : Fin 4) (l : Fin 512) (C : Fin 6144) (hC : C.val = 512 * (t.val / 4) + l.val) :
    iblk m c 2 t (ix2 k l) = m ((c : Thread nD τ).loc main_arg2) (ix3 0 k C) := by
  unfold iblk
  rw [View.read_apply, cast_eq]
  refine Eq.trans (congrArg _ ?_) (V_cw m c k C)
  obtain ⟨e0, e1⟩ := idx2 t
  funext a; apply Fin.ext
  match a with
  | ⟨0, _⟩ => show win0_2.index t (0 : Fin 2) * 4 + 1 * k.val = k.val; omega
  | ⟨1, _⟩ => show win0_2.index t (1 : Fin 2) * 512 + 1 * l.val = C.val; omega

/-- and of its bias. -/
theorem iblk3 (c : Dev nD) (t : Fin cfg0.N) (l : Fin 512) (C : Fin 6144) (hC : C.val = 512 * (t.val / 4) + l.val) :
    iblk m c 3 t (ix2 0 l) = m ((c : Thread nD τ).loc main_arg3) (ix2 0 C) := by
  unfold iblk
  rw [View.read_apply, cast_eq]
  refine Eq.trans (congrArg _ ?_) (V_cb m c C)
  obtain ⟨e0, e1⟩ := idx3 t
  funext a; apply Fin.ext
  match a with
  | ⟨0, _⟩ => show win0_3.index t (0 : Fin 2) * 1 + 1 * 0 = 0; omega
  | ⟨1, _⟩ => show win0_3.index t (1 : Fin 2) * 512 + 1 * l.val = C.val; omega

/-- The staged weight block is the transposed block of the point's column tile. -/
theorem wts_apply (c : Dev nD) (n : ℕ) (hn : n < cfg0.N) (k : Fin 2048) (l : Fin 512) (L : Fin 20544) (hL : L.val = 4096 + 512 * (n / 4) + l.val) :
    wts m c n hn (ix2 k l) = m ((c : Thread nD τ).loc main_arg1) (ix3 0 k L) := by
  unfold wts
  refine Eq.trans ?_ (iblk1 m c (begun n hn) l k L (by show L.val = 4096 + 512 * (4 * (n / 4) / 4) + l.val; omega))
  pointwise [k0_pay2]

/-- The products of a point are entries of the in-projection. -/
theorem prod_wts (c : Dev nD) (n : ℕ) (hn : n < cfg0.N) (r : Fin 2048) (l : Fin 512) (b : Fin 2) (s : Fin 4096) (L : Fin 20544)
    (hr : 4096 * b.val + s.val = 2048 * (n % 4) + r.val) (hL : L.val = 4096 + 512 * (n / 4) + l.val) :
    prod (iblk m c 0 ⟨n, hn⟩) (wts m c n hn) r l
      = entry (m ((c : Thread nD τ).loc main_arg0)) (m ((c : Thread nD τ).loc main_arg1)) b s L :=
  Finset.sum_congr rfl fun k _ => congrArg₂ (fun p q : EReal => p * q) (iblk0 m c ⟨n, hn⟩ r k b s hr) (wts_apply m c n hn k l L hL)

/-- The rows before a row, across the chunks and the row tiles, are the sequence's own, with zeros before it. -/
theorem back_eq (c : Dev nD) (n : ℕ) (hn : n < cfg0.N) (r : Fin 2048) (l : Fin 512) (b : Fin 2) (s : Fin 4096) (L : Fin 20544)
    (hr : 4096 * b.val + s.val = 2048 * (n % 4) + r.val) (hL : L.val = 4096 + 512 * (n / 4) + l.val) (k : ℕ) (hk : 1 ≤ k) (h8 : k ≤ 8) :
    back (carried (grid0.coords ⟨n, hn⟩) (tailBefore m c n hn)) (fun j => prod (iblk m c 0 ⟨n, hn⟩) (wts m c n hn) j l) l r k hk
      = lag (fun s => entry (m ((c : Thread nD τ).loc main_arg0)) (m ((c : Thread nD τ).loc main_arg1)) b s L) s k := by
  have hrlt := r.isLt
  unfold back lag
  by_cases h : k ≤ r.val
  · rw [if_pos h, if_pos (by omega)]
    exact prod_wts m c n hn _ l b _ L (by show 4096 * b.val + (s.val - k) = 2048 * (n % 4) + (r.val - k); omega) hL
  · rw [if_neg h, carried_apply]
    by_cases h2 : n % 2 = 0
    · rw [if_pos h2, if_neg (by omega)]
    · rw [if_neg h2, if_pos (by omega)]
      match n with
      | n + 1 =>
        show tail m c n (by omega) _ = _
        unfold tail
        refine (handed_apply _ _ 15 _ _ l ⟨2048 + r.val - k, by omega⟩
          (by show 2048 + r.val - k = 128 * 15 + 120 + (8 + r.val - k) % 8; omega)).trans ?_
        exact prod_wts m c n (by omega) _ l b _ L
          (by show 4096 * b.val + (s.val - k) = 2048 * (n % 4) + (2048 + r.val - k); omega) (by omega)

/-- What every point leaves in the output block. -/
theorem out (c : Dev nD) (n : ℕ) (hn : n < cfg0.N) (r : Fin 2048) (l : Fin 512) (b : Fin 2) (s : Fin 4096) (C : Fin 6144)
    (hr : 4096 * b.val + s.val = 2048 * (n % 4) + r.val) (hC : C.val = 512 * (n / 4) + l.val) :
    outAt m c n hn (ix2 r l)
      = siluK (entryConv (m ((c : Thread nD τ).loc main_arg0)) (m ((c : Thread nD τ).loc main_arg1)) (m ((c : Thread nD τ).loc main_arg2))
          (m ((c : Thread nD τ).loc main_arg3)) b s C) := by
  have hL : 4096 + C.val = 4096 + 512 * (n / 4) + l.val := by omega
  unfold outAt
  rw [outTile_apply, back_eq m c n hn r l b s ⟨4096 + C.val, by omega⟩ hr hL 3 _ (by omega), back_eq m c n hn r l b s ⟨4096 + C.val, by omega⟩ hr hL 2 _ (by omega),
    back_eq m c n hn r l b s ⟨4096 + C.val, by omega⟩ hr hL 1 _ (by omega), prod_wts m c n hn r l b s ⟨4096 + C.val, by omega⟩ hr hL,
    iblk3 m c ⟨n, hn⟩ l C hC, iblk2 m c ⟨n, hn⟩ 0 l C hC, iblk2 m c ⟨n, hn⟩ 1 l C hC, iblk2 m c ⟨n, hn⟩ 2 l C hC, iblk2 m c ⟨n, hn⟩ 3 l C hC]
  rfl

/-- The array the call leaves: entry by entry what the point of its block computes. -/
def G (c : Dev nD) : Buf (Elt Ideal) ((c : Thread nD τ).loc main_v7) := fun i =>
  outAt m c ((i 0).val / 2048 + 4 * ((i 1).val / 512))
    (by have h0 : (i 0).val < 8192 := (i 0).isLt; have h1 : (i 1).val < 6144 := (i 1).isLt; rw [show cfg0.N = 48 from N_0]; omega)
    (ix2 (⟨(i 0).val % 2048, Nat.mod_lt _ (by omega)⟩ : Fin 2048) (⟨(i 1).val % 512, Nat.mod_lt _ (by omega)⟩ : Fin 512))

/-- Where an entry of a point's block lies in the array. -/
theorem G_blk (c : Dev nD) (t : Fin cfg0.N) (i : S8192x6144.Idx) (y : S2048x512.Idx)
    (h0 : (i 0).val = 2048 * (t.val % 4) + (y 0).val) (h1 : (i 1).val = 512 * (t.val / 4) + (y 1).val) :
    G m c i = outAt m c t.val t.isLt y := by
  have hy0 : (y 0).val < 2048 := (y 0).isLt
  have hy1 : (y 1).val < 512 := (y 1).isLt
  have key : ∀ (n : ℕ) (hn : n < cfg0.N) (p : Fin 2048) (q : Fin 512), n = t.val → p.val = (y 0).val → q.val = (y 1).val →
      outAt m c n hn (ix2 p q) = outAt m c t.val t.isLt y := by
    intro n hn p q h hp hq
    subst h
    refine congrArg _ ?_
    funext a
    match a with
    | ⟨0, _⟩ => exact Fin.ext hp
    | ⟨1, _⟩ => exact Fin.ext hq
  exact key _ _ _ _ (by omega) (by show (i 0).val % 2048 = _; omega) (by show (i 1).val % 512 = _; omega)

/-- What a point writes back is its block of that array. -/
theorem flushed (c : Dev nD) (t : Fin cfg0.N) (_ : (cfg0.win 4).flush t = true) :
    (dats m 0 c).flushed 4 t = ((cfg0.win 4).blk t).view.read (Elt Ideal) (G m c) := by
  show (cfg0.win 4).cut (grid0.coords t) ((dats m 0 c).after 4 t) = _
  rw [after4]
  obtain ⟨e0, e1⟩ := idx4 t
  funext y
  rw [View.read_apply, cast_eq]
  exact (G_blk m c t (((cfg0.win 4).blk t).view.emb y) ((cfg0.win 4).xinj (grid0.coords t) y)
    (by show win0_4.index t (0 : Fin 2) * 2048 + 1 * (y 0).val = 2048 * (t.val % 4) + (y 0).val; omega)
    (by show win0_4.index t (1 : Fin 2) * 512 + 1 * (y 1).val = 512 * (t.val / 4) + (y 1).val; omega)).symm

/-- Every block is some point's, and that point writes it back. -/
theorem idx_onto : ∀ (q0 : Fin 4) (q1 : Fin 12), ∃ t : Fin cfg0.N, (cfg0.win 4).flush t = true ∧ win0_4.index t = ![q0.val, q1.val] :=
  (by decide +kernel : ∀ (q0 : Fin 4) (q1 : Fin 12), ∃ t : Fin grid0.N, (cfg0.win 4).flush t = true ∧ win0_4.index t = ![q0.val, q1.val])

/-- Which entries of the result a point's block holds. -/
theorem mem_blk (t : Fin cfg0.N) (i : S8192x6144.Idx) :
    i ∈ ((cfg0.win 4).blk t).view.set
      ↔ ∀ a : Fin 2, win0_4.index t a * win0_4.size a ≤ (i a).val ∧ (i a).val < win0_4.index t a * win0_4.size a + win0_4.xsize (grid0.coords t) a := by
  show i ∈ ((View.whole main_v7).slice (win0_4.rect t)).set ↔ _
  rw [View.set_slice_whole, Rect.mem_set_unit]
  exact Iff.rfl

/-- The array after the run. -/
theorem final (c : Dev nD) : (dats m 0 c).arrAt 4 cfg0.N = G m c :=
  (dats m 0 c).arrAt_eq_of_cover 4 (G m c) (flushed m c) fun i => by
    have h0 : (i 0).val < 8192 := (i 0).isLt
    have h1 : (i 1).val < 6144 := (i 1).isLt
    obtain ⟨t, hf, hidx⟩ := idx_onto ⟨(i 0).val / 2048, by omega⟩ ⟨(i 1).val / 512, by omega⟩
    refine ⟨t, hf, (mem_blk t i).mpr fun a => ?_⟩
    match a with
    | ⟨0, _⟩ =>
      have e : win0_4.index t 0 = (i 0).val / 2048 := congrFun hidx 0
      show win0_4.index t 0 * 2048 ≤ (i 0).val ∧ (i 0).val < win0_4.index t 0 * 2048 + 2048
      omega
    | ⟨1, _⟩ =>
      have e : win0_4.index t 1 = (i 1).val / 512 := congrFun hidx 1
      show win0_4.index t 1 * 512 ≤ (i 1).val ∧ (i 1).val < win0_4.index t 1 * 512 + 512
      omega

/-- The array at row `R` (row `s` of sequence `b`) and column `C`. -/
theorem G_apply (c : Dev nD) (R : Fin 8192) (C : Fin 6144) (b : Fin 2) (s : Fin 4096) (hR : R.val = 4096 * b.val + s.val) :
    G m c (ix2 R C)
      = siluK (entryConv (m ((c : Thread nD τ).loc main_arg0)) (m ((c : Thread nD τ).loc main_arg1)) (m ((c : Thread nD τ).loc main_arg2))
          (m ((c : Thread nD τ).loc main_arg3)) b s C) := by
  have hRl := R.isLt
  have hCl := C.isLt
  exact out m c (R.val / 2048 + 4 * (C.val / 512)) (by rw [show cfg0.N = 48 from N_0]; omega) ⟨R.val % 2048, Nat.mod_lt _ (by omega)⟩
    ⟨C.val % 512, Nat.mod_lt _ (by omega)⟩ b s C
    (by show 4096 * b.val + s.val = 2048 * _ + R.val % 2048; omega) (by show C.val = 512 * _ + C.val % 512; omega)

/-- The run: the result is that array, the arguments are as they were. -/
theorem run : θ_run defs (onTc (τ := τ) (main (F := Ideal))) ⟨m, fun _ => 0, ρ⟩ fun r => ∀ c : Dev nD,
      r.2.mem ((c : Thread nD τ).loc main_v7) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h.1 c).1 4).trans (final m c), kept_args m r h.1 c⟩) (run_quiescent m ρ)

end Cert.KernelXbcIdeal.Run

end
-- ==== Proof.XbcRef.lean ====
/-
  What the reference of the convolved branch computes, entry by entry.
-/
module

public import proofs.«01_k».proof.Proof.Conv
public import proofs.«01_k».proof.Proof.Gen.RefXbcIdeal.Run

@[expose] public section

noncomputable section

namespace Cert.RefXbcIdeal.Value

open Idealize.ShloMosaic Idealize.ShloMosaic.TcCoe Idealize.SL.Sem
open Cert.Rows Cert.Silu Cert.Conv Cert.RefXbcIdeal Cert.RefXbcIdeal.Gen

set_option maxRecDepth 8192 in
/-- What the reference computes of its arguments. -/
def term (u : FVec Ideal S2x4096x2048 .f32) (w : FVec Ideal S1x2048x20544 .f32) (cw : FVec Ideal S1x4x6144 .f32) (cb : FVec Ideal S1x6144 .f32) :
    FVec Ideal S8192x6144 .bf16 :=
  truncf .bf16 (shapeCast _ (mulf (addf (addf (addf (addf (broadcastInDim S2x4096x6144 ![0, 1, 2] bcast_S1x1x6144_S2x4096x6144_0_1_2 (broadcastInDim S1x1x6144 ![2] bcast_S6144_S1x1x6144_2 (shapeCast _ cb shapeCasts_S1x6144_S6144))) (mulf (broadcastInDim S2x4096x6144 ![0, 1, 2] bcast_S1x1x6144_S2x4096x6144_0_1_2 (broadcastInDim S1x1x6144 ![2] bcast_S6144_S1x1x6144_2 (shapeCast _ (extractStridedSlice S1x6144 ![0, 0] (shapeCast _ cw shapeCasts_S1x4x6144_S4x6144) slices_S4x6144_S1x6144_0_0) shapeCasts_S1x6144_S6144))) (extractStridedSlice S2x4096x6144 ![0, 0, 0] (pad S2x4099x6144 ![0, 3, 0] ![0, 0, 0] ![0, 0, 0] (extractStridedSlice S2x4096x6144 ![0, 0, 4096] (Host.dotGeneral dot_S2x4096x2048_S2048x20544_S2x4096x20544_2_0_01_1_n_n none u (shapeCast _ w shapeCasts_S1x2048x20544_S2048x20544)) slices_S2x4096x20544_S2x4096x6144_0_0_4096) (sitofp .f32 (constantI S_ 32 0#32)) pads_S2x4096x6144_S2x4099x6144_000_300_000 h_S_) slices_S2x4099x6144_S2x4096x6144_0_0_0))) (mulf (broadcastInDim S2x4096x6144 ![0, 1, 2] bcast_S1x1x6144_S2x4096x6144_0_1_2 (broadcastInDim S1x1x6144 ![2] bcast_S6144_S1x1x6144_2 (shapeCast _ (extractStridedSlice S1x6144 ![1, 0] (shapeCast _ cw shapeCasts_S1x4x6144_S4x6144) slices_S4x6144_S1x6144_1_0) shapeCasts_S1x6144_S6144))) (extractStridedSlice S2x4096x6144 ![0, 1, 0] (pad S2x4099x6144 ![0, 3, 0] ![0, 0, 0] ![0, 0, 0] (extractStridedSlice S2x4096x6144 ![0, 0, 4096] (Host.dotGeneral dot_S2x4096x2048_S2048x20544_S2x4096x20544_2_0_01_1_n_n none u (shapeCast _ w shapeCasts_S1x2048x20544_S2048x20544)) slices_S2x4096x20544_S2x4096x6144_0_0_4096) (sitofp .f32 (constantI S_ 32 0#32)) pads_S2x4096x6144_S2x4099x6144_000_300_000 h_S_) slices_S2x4099x6144_S2x4096x6144_0_1_0))) (mulf (broadcastInDim S2x4096x6144 ![0, 1, 2] bcast_S1x1x6144_S2x4096x6144_0_1_2 (broadcastInDim S1x1x6144 ![2] bcast_S6144_S1x1x6144_2 (shapeCast _ (extractStridedSlice S1x6144 ![2, 0] (shapeCast _ cw shapeCasts_S1x4x6144_S4x6144) slices_S4x6144_S1x6144_2_0) shapeCasts_S1x6144_S6144))) (extractStridedSlice S2x4096x6144 ![0, 2, 0] (pad S2x4099x6144 ![0, 3, 0] ![0, 0, 0] ![0, 0, 0] (extractStridedSlice S2x4096x6144 ![0, 0, 4096] (Host.dotGeneral dot_S2x4096x2048_S2048x20544_S2x4096x20544_2_0_01_1_n_n none u (shapeCast _ w shapeCasts_S1x2048x20544_S2048x20544)) slices_S2x4096x20544_S2x4096x6144_0_0_4096) (sitofp .f32 (constantI S_ 32 0#32)) pads_S2x4096x6144_S2x4099x6144_000_300_000 h_S_) slices_S2x4099x6144_S2x4096x6144_0_2_0))) (mulf (broadcastInDim S2x4096x6144 ![0, 1, 2] bcast_S1x1x6144_S2x4096x6144_0_1_2 (broadcastInDim S1x1x6144 ![2] bcast_S6144_S1x1x6144_2 (shapeCast _ (extractStridedSlice S1x6144 ![3, 0] (shapeCast _ cw shapeCasts_S1x4x6144_S4x6144) slices_S4x6144_S1x6144_3_0) shapeCasts_S1x6144_S6144))) (extractStridedSlice S2x4096x6144 ![0, 3, 0] (pad S2x4099x6144 ![0, 3, 0] ![0, 0, 0] ![0, 0, 0] (extractStridedSlice S2x4096x6144 ![0, 0, 4096] (Host.dotGeneral dot_S2x4096x2048_S2048x20544_S2x4096x20544_2_0_01_1_n_n none u (shapeCast _ w shapeCasts_S1x2048x20544_S2048x20544)) slices_S2x4096x20544_S2x4096x6144_0_0_4096) (sitofp .f32 (constantI S_ 32 0#32)) pads_S2x4096x6144_S2x4099x6144_000_300_000 h_S_) slices_S2x4099x6144_S2x4096x6144_0_3_0))) (Host.divf (broadcastInDim S2x4096x6144 ![] bcast_S_S2x4096x6144 (constant S_ .f32 0x3F800000#32)) (addf (broadcastInDim S2x4096x6144 ![] bcast_S_S2x4096x6144 (constant S_ .f32 0x3F800000#32)) (Host.exp (Host.negf (addf (addf (addf (addf (broadcastInDim S2x4096x6144 ![0, 1, 2] bcast_S1x1x6144_S2x4096x6144_0_1_2 (broadcastInDim S1x1x6144 ![2] bcast_S6144_S1x1x6144_2 (shapeCast _ cb shapeCasts_S1x6144_S6144))) (mulf (broadcastInDim S2x4096x6144 ![0, 1, 2] bcast_S1x1x6144_S2x4096x6144_0_1_2 (broadcastInDim S1x1x6144 ![2] bcast_S6144_S1x1x6144_2 (shapeCast _ (extractStridedSlice S1x6144 ![0, 0] (shapeCast _ cw shapeCasts_S1x4x6144_S4x6144) slices_S4x6144_S1x6144_0_0) shapeCasts_S1x6144_S6144))) (extractStridedSlice S2x4096x6144 ![0, 0, 0] (pad S2x4099x6144 ![0, 3, 0] ![0, 0, 0] ![0, 0, 0] (extractStridedSlice S2x4096x6144 ![0, 0, 4096] (Host.dotGeneral dot_S2x4096x2048_S2048x20544_S2x4096x20544_2_0_01_1_n_n none u (shapeCast _ w shapeCasts_S1x2048x20544_S2048x20544)) slices_S2x4096x20544_S2x4096x6144_0_0_4096) (sitofp .f32 (constantI S_ 32 0#32)) pads_S2x4096x6144_S2x4099x6144_000_300_000 h_S_) slices_S2x4099x6144_S2x4096x6144_0_0_0))) (mulf (broadcastInDim S2x4096x6144 ![0, 1, 2] bcast_S1x1x6144_S2x4096x6144_0_1_2 (broadcastInDim S1x1x6144 ![2] bcast_S6144_S1x1x6144_2 (shapeCast _ (extractStridedSlice S1x6144 ![1, 0] (shapeCast _ cw shapeCasts_S1x4x6144_S4x6144) slices_S4x6144_S1x6144_1_0) shapeCasts_S1x6144_S6144))) (extractStridedSlice S2x4096x6144 ![0, 1, 0] (pad S2x4099x6144 ![0, 3, 0] ![0, 0, 0] ![0, 0, 0] (extractStridedSlice S2x4096x6144 ![0, 0, 4096] (Host.dotGeneral dot_S2x4096x2048_S2048x20544_S2x4096x20544_2_0_01_1_n_n none u (shapeCast _ w shapeCasts_S1x2048x20544_S2048x20544)) slices_S2x4096x20544_S2x4096x6144_0_0_4096) (sitofp .f32 (constantI S_ 32 0#32)) pads_S2x4096x6144_S2x4099x6144_000_300_000 h_S_) slices_S2x4099x6144_S2x4096x6144_0_1_0))) (mulf (broadcastInDim S2x4096x6144 ![0, 1, 2] bcast_S1x1x6144_S2x4096x6144_0_1_2 (broadcastInDim S1x1x6144 ![2] bcast_S6144_S1x1x6144_2 (shapeCast _ (extractStridedSlice S1x6144 ![2, 0] (shapeCast _ cw shapeCasts_S1x4x6144_S4x6144) slices_S4x6144_S1x6144_2_0) shapeCasts_S1x6144_S6144))) (extractStridedSlice S2x4096x6144 ![0, 2, 0] (pad S2x4099x6144 ![0, 3, 0] ![0, 0, 0] ![0, 0, 0] (extractStridedSlice S2x4096x6144 ![0, 0, 4096] (Host.dotGeneral dot_S2x4096x2048_S2048x20544_S2x4096x20544_2_0_01_1_n_n none u (shapeCast _ w shapeCasts_S1x2048x20544_S2048x20544)) slices_S2x4096x20544_S2x4096x6144_0_0_4096) (sitofp .f32 (constantI S_ 32 0#32)) pads_S2x4096x6144_S2x4099x6144_000_300_000 h_S_) slices_S2x4099x6144_S2x4096x6144_0_2_0))) (mulf (broadcastInDim S2x4096x6144 ![0, 1, 2] bcast_S1x1x6144_S2x4096x6144_0_1_2 (broadcastInDim S1x1x6144 ![2] bcast_S6144_S1x1x6144_2 (shapeCast _ (extractStridedSlice S1x6144 ![3, 0] (shapeCast _ cw shapeCasts_S1x4x6144_S4x6144) slices_S4x6144_S1x6144_3_0) shapeCasts_S1x6144_S6144))) (extractStridedSlice S2x4096x6144 ![0, 3, 0] (pad S2x4099x6144 ![0, 3, 0] ![0, 0, 0] ![0, 0, 0] (extractStridedSlice S2x4096x6144 ![0, 0, 4096] (Host.dotGeneral dot_S2x4096x2048_S2048x20544_S2x4096x20544_2_0_01_1_n_n none u (shapeCast _ w shapeCasts_S1x2048x20544_S2048x20544)) slices_S2x4096x20544_S2x4096x6144_0_0_4096) (sitofp .f32 (constantI S_ 32 0#32)) pads_S2x4096x6144_S2x4099x6144_000_300_000 h_S_) slices_S2x4099x6144_S2x4096x6144_0_3_0)))))))) shapeCasts_S2x4096x6144_S8192x6144) bitsLt_bf16_f32

/-- The padded columns, `p` rows down from the first padding row: the entry `k` rows before, or zero. -/
theorem padded (u : FVec Ideal S2x4096x2048 .f32) (w : FVec Ideal S1x2048x20544 .f32) (R : ℕ) (L : Fin 20544) (b : Fin 2) (s : Fin 4096)
    (hR : R = 4096 * b.val + s.val) (p k : ℕ) (hp : p + k = R % 4096 + 3) :
    (if h : R / 4096 < 2 ∧ 3 ≤ p ∧ p - 3 < 4096 then
        ∑ x : Fin 2048, u (ix3 ⟨R / 4096, h.1⟩ ⟨p - 3, h.2.2⟩ x) * w (ix3 0 x L)
      else (FloatOps.sitofp (F := Ideal) .f32 0#32 : EReal)) = lag (fun s => entry u w b s L) s k := by
  have hs := s.isLt
  unfold lag
  by_cases h : k ≤ s.val
  · rw [dif_pos (by omega), if_pos h]
    have e0 : (⟨R / 4096, by omega⟩ : Fin 2) = b := Fin.ext (by show R / 4096 = b.val; omega)
    have e1 : (⟨p - 3, by omega⟩ : Fin 4096) = ⟨s.val - k, by omega⟩ := Fin.ext (by show p - 3 = s.val - k; omega)
    show ∑ x : Fin 2048, u (ix3 (⟨R / 4096, _⟩ : Fin 2) (⟨p - 3, _⟩ : Fin 4096) x) * w (ix3 0 x L) = _
    rw [e0, e1]
    rfl
  · rw [dif_neg (by omega), if_neg h]
    show (((0#32 : BitVec 32).toInt : ℝ) : EReal) = 0
    simp

/-- A row of the projection at its place in its sequence. -/
theorem at_row (u : FVec Ideal S2x4096x2048 .f32) (w : FVec Ideal S1x2048x20544 .f32) (R : ℕ) (L : Fin 20544) (b : Fin 2) (s : Fin 4096)
    (hR : R = 4096 * b.val + s.val) (h0 : R / 4096 < 2) (h1 : R % 4096 < 4096) :
    ∑ x : Fin 2048, u (ix3 ⟨R / 4096, h0⟩ ⟨R % 4096, h1⟩ x) * w (ix3 0 x L) = entry u w b s L :=
  Finset.sum_congr rfl fun x _ => congrArg (fun z : EReal => z * w (ix3 0 x L)) (split_row u R b s x hR h0 h1)

/-- At row `s` of sequence `b` and column `C` it is `silu` of the convolution of column `4096 + C` of the in-projection. -/
theorem term_apply (u : FVec Ideal S2x4096x2048 .f32) (w : FVec Ideal S1x2048x20544 .f32) (cw : FVec Ideal S1x4x6144 .f32) (cb : FVec Ideal S1x6144 .f32)
    (R : Fin 8192) (C : Fin 6144) (b : Fin 2) (s : Fin 4096) (hR : R.val = 4096 * b.val + s.val) :
    term u w cw cb (ix2 R C) = siluR (entryConv u w cw cb b s C) := by
  pointwise [term]
  have hb := b.isLt
  have hs := s.isLt
  exact congrArg siluR (congrArg₂ (fun p q : EReal => p + q) (congrArg₂ (fun p q : EReal => p + q) (congrArg₂ (fun p q : EReal => p + q)
      (congrArg (fun p : EReal => cb (ix2 0 C) + cw (ix3 0 0 C) * p) (padded u w R.val ⟨4096 + C.val, by omega⟩ b s hR (R.val % 4096) 3 rfl))
      (congrArg (fun p : EReal => cw (ix3 0 1 C) * p) (padded u w R.val ⟨4096 + C.val, by omega⟩ b s hR (1 + R.val % 4096) 2 (by omega))))
      (congrArg (fun p : EReal => cw (ix3 0 2 C) * p) (padded u w R.val ⟨4096 + C.val, by omega⟩ b s hR (2 + R.val % 4096) 1 (by omega))))
    (congrArg (fun p : EReal => cw (ix3 0 3 C) * p)
      ((dif_pos ⟨by omega, by omega⟩).trans (at_row u w R.val ⟨4096 + C.val, by omega⟩ b s hR (by omega) (by omega)))))

end Cert.RefXbcIdeal.Value

end
-- ==== Proof.Norm.lean ====
/-
  The root-mean-square norm of a row, as both programs compute it.
-/
module

public import Idealize.ShloMosaic.Lib.Pointwise

@[expose] public section

noncomputable section

namespace Cert.Norm

open Idealize.ShloMosaic

/-- Entry `l` of the row `y` divided by the root of the mean of its squares, times the norm's weight there: `N` is the
    word of the number of entries, and the small constant under the root is the word of `1e-6`. -/
def rms {n : Nat} (N : BitVec 32) (y w : Fin n → EReal) (l : Fin n) : EReal :=
  y l * Ideal.rsqrt (Ideal.div (∑ k : Fin n, y k * y k) (Ideal.ofBits .f32 N) + Ideal.ofBits .f32 0x358637BD#32) * w l

end Cert.Norm

end
-- ==== Proof.Heads.lean ====
/-
  Columns of a projection normed head by head, 128 columns each, common to the calls that do so. Nothing here names a
  program.
-/
module

public import proofs.«01_k».proof.Proof.Rows
public import proofs.«01_k».proof.Proof.Norm

@[expose] public section

noncomputable section

namespace Cert.Heads

open Idealize.ShloMosaic Idealize.ShloMosaic.TcCoe
open Cert.Norm

/-- Column `k` of the head that the column `C` of a block belongs to. -/
def col (C : Fin 1024) (k : Fin 128) : Fin 1024 := ⟨128 * (C.val / 128) + k.val, by omega⟩

/-- What the body leaves at each entry of its output block: the entry's head of the product of the activation block `x`
    with the weight block `S`, normed with the weights `w`. -/
def headTile (x : (⟨2, ![2048, 2048]⟩ : Shape).Idx → EReal) (S : (⟨2, ![2048, 1024]⟩ : Shape).Idx → EReal)
    (w : Fin 128 → EReal) : (⟨2, ![2048, 1024]⟩ : Shape).Idx → EReal := fun y =>
  rms 0x43000000#32 (fun k => ∑ j : Fin 2048, x (ix2 (y 0) j) * S (ix2 j (col (y 1) k))) w
    ⟨(y 1).val % 128, Nat.mod_lt _ (by omega)⟩

/-- A payload that is the norm of the head at column `q` on the rows `o`, `o + 1`, … agrees with that function where
    the store's rectangle puts it. -/
theorem head_piece (x : (⟨2, ![2048, 2048]⟩ : Shape).Idx → EReal) (S : (⟨2, ![2048, 1024]⟩ : Shape).Idx → EReal)
    (w : Fin 128 → EReal) (o q : Nat) (hq : q % 128 = 0)
    (inb : ∀ a, (![o, q] : Fin 2 → Nat) a + (![128, 128] : Fin 2 → Nat) a ≤ (⟨2, ![2048, 1024]⟩ : Shape).size a)
    (pay : (⟨2, ![128, 128]⟩ : Shape).Idx → EReal)
    (hpay : ∀ (r l : Fin 128) (R : Fin 2048) (c : Fin 128 → Fin 1024), R.val = o + r.val → (∀ k, (c k).val = q + k.val) →
      pay (ix2 r l) = rms 0x43000000#32 (fun k => ∑ j : Fin 2048, x (ix2 R j) * S (ix2 j (c k))) w l)
    (y : (⟨2, ![128, 128]⟩ : Shape).Idx) :
    headTile x S w ((Rect.unit (s := ⟨2, ![2048, 1024]⟩) ![o, q] ![128, 128] inb).emb y) = pay y := by
  obtain ⟨r, l, rfl⟩ : ∃ (r l : Fin 128), y = ix2 r l := ⟨y 0, y 1, eq_ix2 y⟩
  have h0 : o + 128 ≤ 2048 := inb 0
  have h1 : q + 128 ≤ 1024 := inb 1
  have e : (Rect.unit (s := ⟨2, ![2048, 1024]⟩) ![o, q] ![128, 128] inb).emb (ix2 r l)
      = ix2 (⟨o + r.val, by omega⟩ : Fin 2048) (⟨q + l.val, by omega⟩ : Fin 1024) := by
    funext a; apply Fin.ext
    match a with
    | ⟨0, _⟩ => show o + 1 * r.val = o + r.val; omega
    | ⟨1, _⟩ => show q + 1 * l.val = q + l.val; omega
  rw [e, hpay r l ⟨o + r.val, by omega⟩ (fun k => col ⟨q + l.val, by omega⟩ k) rfl
    (fun k => by show 128 * ((q + l.val) / 128) + k.val = q + k.val; omega)]
  exact congrArg (rms 0x43000000#32 _ w) (Fin.ext (by show (q + l.val) % 128 = l.val; omega))

/-- An entry of the result: row `s` of sequence `b` of the columns from `L` on, normed with the weights `w` within the
    head of column `C`. -/
def heads (L : Nat) (hL : L + 2048 ≤ 20544) (u : (⟨3, ![2, 4096, 2048]⟩ : Shape).Idx → EReal)
    (wi : (⟨3, ![1, 2048, 20544]⟩ : Shape).Idx → EReal) (w : Fin 128 → EReal) (b : Fin 2) (s : Fin 4096) (C : Fin 2048) : EReal :=
  rms 0x43000000#32 (fun k => Cert.Rows.entry u wi b s ⟨L + 128 * (C.val / 128) + k.val, by omega⟩) w
    ⟨C.val % 128, Nat.mod_lt _ (by omega)⟩

/-- An entry of a block of tile `T` of the columns is an entry of the result: the block's rows are rows of the
    activations, its columns columns of the weights. -/
theorem headTile_eq (L : Nat) (hL : L + 2048 ≤ 20544) (u : (⟨3, ![2, 4096, 2048]⟩ : Shape).Idx → EReal)
    (wi : (⟨3, ![1, 2048, 20544]⟩ : Shape).Idx → EReal) (x : (⟨2, ![2048, 2048]⟩ : Shape).Idx → EReal)
    (S : (⟨2, ![2048, 1024]⟩ : Shape).Idx → EReal) (w w' : Fin 128 → EReal) (T : Nat) (r : Fin 2048) (l : Fin 1024)
    (b : Fin 2) (s : Fin 4096) (C : Fin 2048) (hC : C.val = 1024 * T + l.val) (hx : ∀ j, x (ix2 r j) = u (ix3 b s j))
    (hS : ∀ (j : Fin 2048) (l' : Fin 1024) (L' : Fin 20544), L'.val = L + 1024 * T + l'.val → S (ix2 j l') = wi (ix3 0 j L'))
    (hw : ∀ k, w k = w' k) : headTile x S w (ix2 r l) = heads L hL u wi w' b s C := by
  have hl : (⟨l.val % 128, Nat.mod_lt _ (by omega)⟩ : Fin 128) = ⟨C.val % 128, Nat.mod_lt _ (by omega)⟩ :=
    Fin.ext (by show l.val % 128 = C.val % 128; omega)
  show rms 0x43000000#32 _ _ ⟨l.val % 128, _⟩ = rms 0x43000000#32 _ _ ⟨C.val % 128, _⟩
  rw [hl]
  refine congrArg₂ (fun f g => rms 0x43000000#32 f g _) (funext fun k => Finset.sum_congr rfl fun j _ => ?_) (funext hw)
  exact congrArg₂ (fun p q : EReal => p * q) (hx j) (hS j (col l k) _
    (by show L + 128 * (C.val / 128) + k.val = L + 1024 * T + (128 * (l.val / 128) + k.val); omega))

end Cert.Heads

end
-- ==== Proof.KTile.lean ====
/-
  What one block of the call `proj_k` computes: the product of its activation rows with its weight columns, normed head by
  head.
-/
module

public import proofs.«01_k».proof.Proof.Gen.KernelKIdeal.Value
public import proofs.«01_k».proof.Proof.Heads

@[expose] public section

set_option maxRecDepth 16384

noncomputable section

namespace Cert.KernelKIdeal.Value

open Idealize.ShloMosaic Idealize.ShloMosaic.TcCoe Idealize.ShloMosaic.Tactic
open Idealize.SL Idealize.SL.Sem
open Cert.Rows Cert.Norm Cert.Heads Cert.KernelKIdeal Cert.KernelKIdeal.Gen

/-- The head at column `q` of a chunk's product `M`, normed with the weights `w`. -/
def head (M : FVec Ideal S128x1024 .f32) (w : FVec Ideal S1x128 .f32) (q : Nat) (hq : S128x1024.Slices ![0, q] S128x128) :
    FVec Ideal S128x128 .bf16 :=
  k0_pay8 w (extractStridedSlice S128x128 ![0, q] M hq)
    (shapeCast S128x1 (multiReduction .add [1] S128 (mulf (extractStridedSlice S128x128 ![0, q] M hq) (extractStridedSlice S128x128 ![0, q] M hq))
      0x00000000#32 reduces_S128x128_S128 (.inl rfl) rfl) shapeCasts_S128_S128x1) (Scalar.ofBits .f32 0x43000000#32)

/-- That head's entries. -/
theorem head_apply (M : FVec Ideal S128x1024 .f32) (w : FVec Ideal S1x128 .f32) (q : Nat)
    (hq : S128x1024.Slices ![0, q] S128x128) (r l : Fin 128) (c : Fin 128 → Fin 1024) (hc : ∀ k, (c k).val = q + k.val) :
    head M w q hq (ix2 r l) = rms 0x43000000#32 (fun k => M (ix2 r (c k))) (fun k => w (ix2 0 k)) l := by
  have hb : q + 128 ≤ 1024 := by
    obtain ⟨_, h⟩ := hq
    exact h 1
  obtain rfl : c = fun k => ⟨q + k.val, by omega⟩ := funext fun k => Fin.ext (hc k)
  pointwise [head, k0_pay8, rms]

/-- The entries of a chunk's product. -/
theorem product (a : Vec Ideal S128x2048 .bf16) (S : Vec Ideal S2048x1024 .bf16) (r : Fin 128) (l : Fin 1024) :
    k0_pay2 a S (ix2 r l) = ∑ j : Fin 2048, a (ix2 r j) * S (ix2 j l) := by
  pointwise [k0_pay2]

/-- The head at column `q` of the chunk of rows at `o`, read from an activation block that holds `x0` and contracted with
    the scratch's content. It holds of a memref of any program, so that `proj_q` uses it too. -/
theorem piece {sig : RefSig} (arg2 : Memref sig .tc .vmem S2048x2048 .bf16) (harg2 : arg2.IsWhole) (x0 : Vec Ideal S2048x2048 .bf16)
    (W : FVec Ideal S1x128 .f32) (T S : Vec Ideal S2048x1024 .bf16) (hT : T = S) (w : Fin 128 → EReal) (hW : ∀ k, W (ix2 0 k) = w k)
    (o q : Nat) (hq : S128x1024.Slices ![0, q] S128x128) (inb : ∀ a, (![o, 0] : Fin 2 → Nat) a + S128x2048.size a ≤ S2048x2048.size a)
    (inb' : ∀ a, (![o, q] : Fin 2 → Nat) a + S128x128.size a ≤ S2048x1024.size a) (hq0 : q % 128 = 0) (x : S128x128.Idx) :
    headTile x0 S w ((Rect.unit (s := S2048x1024) ![o, q] S128x128.size inb').emb x)
      = head (k0_pay2 (View.readAt (Elt Ideal) arg2.view (Rect.unit (s := S2048x2048) ![o, 0] S128x2048.size inb).toLoadRect (harg2.unread x0)) T)
          W q hq x := by
  rw [readAt_whole harg2, hT]
  refine head_piece x0 S w o q hq0 inb' _ (fun r l R cs hR hc => ?_) x
  rw [head_apply _ _ q hq r l cs hc]
  refine congrArg₂ (fun f g => rms 0x43000000#32 f g l) (funext fun k => (product _ S r (cs k)).trans (Finset.sum_congr rfl fun j _ => ?_))
    (funext hW)
  exact congrArg (fun z : EReal => z * S (ix2 j (cs k))) (ld_rows (e := .bf16) x0 inb r j R hR)

/-- The norm weights, which the body multiplies by one. -/
theorem weights (w : Vec Ideal S1x128 .f32) (k : Fin 128) : k0_pay4 w (ix2 0 k) = w (ix2 0 k) := by
  pointwise [k0_pay4]

/-- The scratch holds the weight block transposed. -/
theorem staged (w : Vec Ideal S1024x2048 .f32) (k : Fin 2048) (l : Fin 1024) : k0_pay1 w (ix2 k l) = w (ix2 l k) := by
  pointwise [k0_pay1]

variable (c : Dev nD) (i : grid0.Coords) (arg2 : Memref sig .tc .vmem S2048x2048 .bf16) (harg2 : arg2.IsWhole)
  (arg3 : Memref sig .tc .vmem S1024x2048 .f32) (harg3 : arg3.IsWhole) (arg4 : Memref sig .tc .vmem S1x128 .f32)
  (harg4 : arg4.IsWhole) (arg5 : Memref sig .tc .vmem S2048x1024 .bf16) (harg5 : arg5.IsWhole)
  (arg6 : Memref sig .tc .vmem S2048x1024 .bf16) (harg6 : arg6.IsWhole)
  (x0 : Vec Ideal S2048x2048 .bf16) (x1 : Vec Ideal S1024x2048 .f32) (x2 : Vec Ideal S1x128 .f32) (xs : Vec Ideal S2048x1024 .bf16)

/-- The norm weights as the body reads them. -/
theorem read_weights (k : Fin 128) :
    k0_pay4 (View.readAt (Elt Ideal) arg4.view (Rect.unit (s := S1x128) ![0, 0] S1x128.size inb_S1x128_S1x128_0_0).toLoadRect (harg4.unread x2)) (ix2 0 k)
      = x2 (ix2 0 k) := by
  rw [readAt_whole harg4, show View.ld x2 (Rect.unit (s := S1x128) ![0, 0] S1x128.size inb_S1x128_S1x128_0_0) = x2
    from View.ld_unit_zero (by decide) _ _]
  exact weights x2 k

/-- At the other row tiles it leaves in the output block the normed product with the scratch's content. -/
theorem outB (hc0 : ¬ cond0_0 i) :
    out0_B_3 c i arg2 harg2 arg3 harg3 arg4 harg4 arg5 harg5 arg6 harg6 hc0 x0 x1 x2 xs = headTile x0 xs (fun k => x2 (ix2 0 k)) := by
  unfold out0_B_3
  rw [View.read_writes_eq_canon _ _ _ (cover0_B_3 c i arg2 harg2 arg3 harg3 arg4 harg4 arg5 harg5 arg6 harg6 hc0 x0 x1 x2 xs)]
  funext y
  refine View.canon_apply_of_pieces (Val := Elt Ideal) (e := .bf16) (headTile x0 xs (fun k => x2 (ix2 0 k))) _ ?_ y
    (cover0_B_3 c i arg2 harg2 arg3 harg3 arg4 harg4 arg5 harg5 arg6 harg6 hc0 x0 x1 x2 xs y)
  have key := piece arg2 harg2 x0 _ (View.readAt (Elt Ideal) arg6.view
    (Rect.unit (s := S2048x1024) ![0, 0] ![2048, 1024] inb_S2048x1024_S2048x1024_0_0).toLoadRect (harg6.unread xs)) xs
    (by rw [readAt_whole harg6]; exact View.ld_unit_zero (by decide) _ _) _ (read_weights arg4 harg4 x2)
  unfold kernelRun0_B
  dsimp only
  simp only [List.forall_mem_cons]
  repeat refine ⟨fun x => (key _ _ (by decide) (by decide) _ rfl x).symm, ?_⟩
  exact fun _ h => absurd h List.not_mem_nil

/-- At the first row tile of a column tile the body leaves the transposed weight block in the scratch. -/
theorem soutA (hc0 : cond0_0 i) :
    sout0_A_0 c i arg2 harg2 arg3 harg3 arg4 harg4 arg5 harg5 arg6 harg6 hc0 x0 x1 x2 = k0_pay1 x1 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  refine (View.canon_unit_zero (by decide) _ _).trans ?_
  rw [readAt_whole harg3, View.ld_unit_zero (by decide)]

/-- and in the output block the normed product with it. -/
theorem outA (hc0 : cond0_0 i) :
    out0_A_3 c i arg2 harg2 arg3 harg3 arg4 harg4 arg5 harg5 arg6 harg6 hc0 x0 x1 x2 = headTile x0 (k0_pay1 x1) (fun k => x2 (ix2 0 k)) := by
  unfold out0_A_3
  rw [View.read_writes_eq_canon _ _ _ (cover0_A_3 c i arg2 harg2 arg3 harg3 arg4 harg4 arg5 harg5 arg6 harg6 hc0 x0 x1 x2)]
  funext y
  refine View.canon_apply_of_pieces (Val := Elt Ideal) (e := .bf16) (headTile x0 (k0_pay1 x1) (fun k => x2 (ix2 0 k))) _ ?_ y
    (cover0_A_3 c i arg2 harg2 arg3 harg3 arg4 harg4 arg5 harg5 arg6 harg6 hc0 x0 x1 x2 y)
  have key := piece arg2 harg2 x0 _ (kernelRun0_A.sl.v5 c arg3 harg3 arg6 x1) (k0_pay1 x1) (by
    unfold kernelRun0_A.sl.v5
    refine (View.readCov_unit_zero arg6.view (by decide) _ _).trans ?_
    rw [readAt_whole harg3, View.ld_unit_zero (by decide)]) _ (read_weights arg4 harg4 x2)
  unfold kernelRun0_A
  dsimp only
  simp only [List.forall_mem_cons]
  repeat refine ⟨fun x => (key _ _ (by decide) (by decide) _ rfl x).symm, ?_⟩
  exact fun _ h => absurd h List.not_mem_nil

end Cert.KernelKIdeal.Value

end
-- ==== Proof.QTile.lean ====
/-
  What one block of the call `proj_q` computes: the product of its activation rows with its weight columns, normed head by
  head, the norm weights scaled.
-/
module

public import proofs.«01_k».proof.Proof.Gen.KernelQIdeal.Value
public import proofs.«01_k».proof.Proof.KTile

@[expose] public section

set_option maxRecDepth 16384

noncomputable section

namespace Cert.KernelQIdeal.Value

open Idealize.ShloMosaic Idealize.ShloMosaic.TcCoe Idealize.ShloMosaic.Tactic
open Idealize.SL Idealize.SL.Sem
open Cert.KernelKIdeal.Value (piece)
open Cert.Rows Cert.Norm Cert.Heads Cert.KernelQIdeal Cert.KernelQIdeal.Gen

/-- The scale the call multiplies the norm weights with: `1 / (√128 · ln 2)`. -/
def scale : EReal := (((Real.log 2)⁻¹ * (Real.sqrt 128)⁻¹ : ℝ) : EReal)

/-- Weights multiplied by the scale. -/
def scaled (w : Fin 128 → EReal) : Fin 128 → EReal := fun k => w k * scale

/-- The norm weights, which the body multiplies by the scale. -/
theorem weights (w : Vec Ideal S1x128 .f32) (k : Fin 128) : k0_pay4 w (ix2 0 k) = w (ix2 0 k) * scale := by
  have h : Named.named (F := Ideal) Cert.KernelQIdeal.κ "scale_log2e" (φ := .f32) 0x3E0293EE#32 = scale :=
    IdealRules.named_const.ideal_named_scalar _ _ _ _ rfl
  pointwise [k0_pay4]
  exact congrArg (fun z : EReal => w (ix2 0 k) * z) h

/-- The scratch holds the weight block transposed. -/
theorem staged (w : Vec Ideal S1024x2048 .f32) (k : Fin 2048) (l : Fin 1024) : k0_pay1 w (ix2 k l) = w (ix2 l k) := by
  pointwise [k0_pay1]

variable (c : Dev nD) (i : grid0.Coords) (arg2 : Memref sig .tc .vmem S2048x2048 .bf16) (harg2 : arg2.IsWhole)
  (arg3 : Memref sig .tc .vmem S1024x2048 .f32) (harg3 : arg3.IsWhole) (arg4 : Memref sig .tc .vmem S1x128 .f32)
  (harg4 : arg4.IsWhole) (arg5 : Memref sig .tc .vmem S2048x1024 .bf16) (harg5 : arg5.IsWhole)
  (arg6 : Memref sig .tc .vmem S2048x1024 .bf16) (harg6 : arg6.IsWhole)
  (x0 : Vec Ideal S2048x2048 .bf16) (x1 : Vec Ideal S1024x2048 .f32) (x2 : Vec Ideal S1x128 .f32) (xs : Vec Ideal S2048x1024 .bf16)

/-- The norm weights as the body reads them. -/
theorem read_weights (k : Fin 128) :
    k0_pay4 (View.readAt (Elt Ideal) arg4.view (Rect.unit (s := S1x128) ![0, 0] S1x128.size inb_S1x128_S1x128_0_0).toLoadRect (harg4.unread x2)) (ix2 0 k)
      = x2 (ix2 0 k) * scale := by
  rw [readAt_whole harg4, show View.ld x2 (Rect.unit (s := S1x128) ![0, 0] S1x128.size inb_S1x128_S1x128_0_0) = x2
    from View.ld_unit_zero (by decide) _ _]
  exact weights x2 k

/-- At the other row tiles it leaves in the output block the normed product with the scratch's content. -/
theorem outB (hc0 : ¬ cond0_0 i) :
    out0_B_3 c i arg2 harg2 arg3 harg3 arg4 harg4 arg5 harg5 arg6 harg6 hc0 x0 x1 x2 xs = headTile x0 xs (scaled fun k => x2 (ix2 0 k)) := by
  unfold out0_B_3
  rw [View.read_writes_eq_canon _ _ _ (cover0_B_3 c i arg2 harg2 arg3 harg3 arg4 harg4 arg5 harg5 arg6 harg6 hc0 x0 x1 x2 xs)]
  funext y
  refine View.canon_apply_of_pieces (Val := Elt Ideal) (e := .bf16) (headTile x0 xs (scaled fun k => x2 (ix2 0 k))) _ ?_ y
    (cover0_B_3 c i arg2 harg2 arg3 harg3 arg4 harg4 arg5 harg5 arg6 harg6 hc0 x0 x1 x2 xs y)
  have key := piece arg2 harg2 x0 _ (View.readAt (Elt Ideal) arg6.view
    (Rect.unit (s := S2048x1024) ![0, 0] ![2048, 1024] inb_S2048x1024_S2048x1024_0_0).toLoadRect (harg6.unread xs)) xs
    (by rw [readAt_whole harg6]; exact View.ld_unit_zero (by decide) _ _) _ (read_weights arg4 harg4 x2)
  unfold kernelRun0_B
  dsimp only
  simp only [List.forall_mem_cons]
  repeat refine ⟨fun x => (key _ _ (by decide) (by decide) _ rfl x).symm, ?_⟩
  exact fun _ h => absurd h List.not_mem_nil

/-- At the first row tile of a column tile the body leaves the transposed weight block in the scratch. -/
theorem soutA (hc0 : cond0_0 i) :
    sout0_A_0 c i arg2 harg2 arg3 harg3 arg4 harg4 arg5 harg5 arg6 harg6 hc0 x0 x1 x2 = k0_pay1 x1 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  refine (View.canon_unit_zero (by decide) _ _).trans ?_
  rw [readAt_whole harg3, View.ld_unit_zero (by decide)]

/-- and in the output block the normed product with it. -/
theorem outA (hc0 : cond0_0 i) :
    out0_A_3 c i arg2 harg2 arg3 harg3 arg4 harg4 arg5 harg5 arg6 harg6 hc0 x0 x1 x2 = headTile x0 (k0_pay1 x1) (scaled fun k => x2 (ix2 0 k)) := by
  unfold out0_A_3
  rw [View.read_writes_eq_canon _ _ _ (cover0_A_3 c i arg2 harg2 arg3 harg3 arg4 harg4 arg5 harg5 arg6 harg6 hc0 x0 x1 x2)]
  funext y
  refine View.canon_apply_of_pieces (Val := Elt Ideal) (e := .bf16) (headTile x0 (k0_pay1 x1) (scaled fun k => x2 (ix2 0 k))) _ ?_ y
    (cover0_A_3 c i arg2 harg2 arg3 harg3 arg4 harg4 arg5 harg5 arg6 harg6 hc0 x0 x1 x2 y)
  have key := piece arg2 harg2 x0 _ (kernelRun0_A.sl.v5 c arg3 harg3 arg6 x1) (k0_pay1 x1) (by
    unfold kernelRun0_A.sl.v5
    refine (View.readCov_unit_zero arg6.view (by decide) _ _).trans ?_
    rw [readAt_whole harg3, View.ld_unit_zero (by decide)]) _ (read_weights arg4 harg4 x2)
  unfold kernelRun0_A
  dsimp only
  simp only [List.forall_mem_cons]
  repeat refine ⟨fun x => (key _ _ (by decide) (by decide) _ rfl x).symm, ?_⟩
  exact fun _ h => absurd h List.not_mem_nil

end Cert.KernelQIdeal.Value

end
-- ==== Proof.QArray.lean ====
/-
  What the call `proj_q` leaves in its array: at each row and column the entry of the in-projection, normed within its
  head.
-/
module

public import proofs.«01_k».proof.Proof.QTile
public import Idealize.ShloMosaic.Lib.Claim
public import Idealize.ShloMosaic.Lib.StableHlo.ReadAt

@[expose] public section

set_option maxRecDepth 16384

noncomputable section

namespace Cert.KernelQIdeal.Value

open Idealize.ShloMosaic Idealize.ShloMosaic.TcCoe Idealize.ShloMosaic.Tactic
open Idealize.SL Idealize.SL.Sem
open Cert.Rows Cert.Norm Cert.Heads Cert.KernelQIdeal Cert.KernelQIdeal.Gen

variable (m : (ℓ : Loc nD τ sig) → Buf (Elt Ideal) ℓ)

/-- What the windows' arrays hold when the grid begins, entry by entry. -/
theorem V_u (c : Dev nD) (b : Fin 2) (s : Fin 4096) (R : Fin 8192) (k : Fin 2048) (hR : R.val = 4096 * b.val + s.val) :
    V m c main_v3 (ix2 R k) = m ((c : Thread nD τ).loc main_arg0) (ix3 b s k) := by
  unfold V
  after_reads_at
  exact split_row (m ((c : Thread nD τ).loc main_arg0)) R.val b s k hR _ _

theorem V_w (c : Dev nD) (l : Fin 20544) (k : Fin 2048) :
    V m c main_v5 (ix2 l k) = m ((c : Thread nD τ).loc main_arg1) (ix3 0 k l) := by
  unfold V
  after_reads_at

theorem V_n (c : Dev nD) (k : Fin 128) : V m c main_v1 (ix2 0 k) = m ((c : Thread nD τ).loc main_arg2) (ix2 0 k) := by
  unfold V
  after_reads_at

/-- The numbers of the windows' blocks at each point. -/
theorem idx0 : ∀ t : Fin cfg0.N, win0_0.index t (0 : Fin 2) = t.val % 4 ∧ win0_0.index t (1 : Fin 2) = 0 :=
  (by decide +kernel : ∀ t : Fin grid0.N, _)
theorem idx1 : ∀ t : Fin cfg0.N, cc0_transform_1 (grid0.coords t) (0 : Fin 2) = 10304 + 1024 * (t.val / 4) ∧ cc0_transform_1 (grid0.coords t) (1 : Fin 2) = 0 :=
  (by decide +kernel : ∀ t : Fin grid0.N, _)

theorem idx2 : ∀ t : Fin cfg0.N, win0_2.index t (0 : Fin 2) = 0 ∧ win0_2.index t (1 : Fin 2) = 0 :=
  (by decide +kernel : ∀ t : Fin grid0.N, _)

/-- The windows' blocks at a point, entry by entry, as entries of the arguments. -/
theorem iblk2 (c : Dev nD) (t : Fin cfg0.N) (k : Fin 128) :
    iblk m c 2 t (ix2 0 k) = m ((c : Thread nD τ).loc main_arg2) (ix2 0 k) := by
  unfold iblk
  rw [View.read_apply, cast_eq]
  refine Eq.trans (congrArg _ ?_) (V_n m c k)
  obtain ⟨e0, e1⟩ := idx2 t
  funext a; apply Fin.ext
  match a with
  | ⟨0, _⟩ => show win0_2.index t (0 : Fin 2) * 1 + 1 * 0 = 0; omega
  | ⟨1, _⟩ => show win0_2.index t (1 : Fin 2) * 128 + 1 * k.val = k.val; omega

theorem iblk1 (c : Dev nD) (t : Fin cfg0.N) (l : Fin 1024) (k : Fin 2048) (L : Fin 20544) (hL : L.val = 10304 + 1024 * (t.val / 4) + l.val) :
    iblk m c 1 t (ix2 l k) = m ((c : Thread nD τ).loc main_arg1) (ix3 0 k L) := by
  unfold iblk
  rw [View.read_apply, cast_eq]
  refine Eq.trans (congrArg _ ?_) (V_w m c L k)
  obtain ⟨e0, e1⟩ := idx1 t
  funext a; apply Fin.ext
  match a with
  | ⟨0, _⟩ => show cc0_transform_1 (grid0.coords t) (0 : Fin 2) + 1 * l.val = L.val; omega
  | ⟨1, _⟩ => show cc0_transform_1 (grid0.coords t) (1 : Fin 2) + 1 * k.val = k.val; omega

theorem iblk0 (c : Dev nD) (t : Fin cfg0.N) (r : Fin 2048) (k : Fin 2048) (b : Fin 2) (s : Fin 4096) (h : 4096 * b.val + s.val = 2048 * (t.val % 4) + r.val) :
    iblk m c 0 t (ix2 r k) = m ((c : Thread nD τ).loc main_arg0) (ix3 b s k) := by
  unfold iblk
  rw [View.read_apply, cast_eq]
  refine Eq.trans (congrArg _ ?_) (V_u m c b s ⟨4096 * b.val + s.val, by omega⟩ k rfl)
  obtain ⟨e0, e1⟩ := idx0 t
  funext a; apply Fin.ext
  match a with
  | ⟨0, _⟩ => show win0_0.index t (0 : Fin 2) * 2048 + 1 * r.val = 4096 * b.val + s.val; omega
  | ⟨1, _⟩ => show win0_0.index t (1 : Fin 2) * 2048 + 1 * k.val = k.val; omega

/-- After every point the scratch holds the transposed weight block of the point's column tile. -/
theorem scratch (c : Dev nD) : ∀ (n : ℕ) (hn : n < cfg0.N) (k : Fin 2048) (l : Fin 1024) (L : Fin 20544), L.val = 10304 + 1024 * (n / 4) + l.val →
    (outsAt0 m c n hn).2 (ix2 k l) = m ((c : Thread nD τ).loc main_arg1) (ix3 0 k L) := by
  have atA : ∀ (n : ℕ) (hn : n < cfg0.N) (h0 : n % 4 = 0) (k : Fin 2048) (l : Fin 1024) (L : Fin 20544), L.val = 10304 + 1024 * (n / 4) + l.val →
      (outsAt0 m c n hn).2 (ix2 k l) = m ((c : Thread nD τ).loc main_arg1) (ix3 0 k L) := fun n hn h0 k l L hL => by
    rw [outsAt0_A m c ⟨n, hn⟩ h0]
    dsimp only
    rw [soutA, staged, iblk1 m c ⟨n, hn⟩ l k L hL]
  intro n
  induction n with
  | zero => exact fun hn => atA 0 hn rfl
  | succ n ih =>
    intro hn k l L hL
    by_cases h0 : (n + 1) % 4 = 0
    · exact atA (n + 1) hn h0 k l L hL
    · rw [outsAt0_B m c ⟨n + 1, hn⟩ h0]
      exact ih (Nat.lt_of_succ_lt hn) k l L (by omega)

/-- What every point leaves in the output block: the product of the activation rows with the weight columns of the
    point's tile, normed head by head. -/
theorem out (c : Dev nD) (n : ℕ) (hn : n < cfg0.N) (r : Fin 2048) (l : Fin 1024) (b : Fin 2) (s : Fin 4096) (C : Fin 2048)
    (hr : 4096 * b.val + s.val = 2048 * (n % 4) + r.val) (hC : C.val = 1024 * (n / 4) + l.val) :
    (outsAt0 m c n hn).1 (ix2 r l)
      = heads 10304 (by decide) (m ((c : Thread nD τ).loc main_arg0)) (m ((c : Thread nD τ).loc main_arg1))
          (scaled fun k => m ((c : Thread nD τ).loc main_arg2) (ix2 0 k)) b s C := by
  have key : (outsAt0 m c n hn).1 = headTile (iblk m c 0 ⟨n, hn⟩) (outsAt0 m c n hn).2 (scaled fun k => iblk m c 2 ⟨n, hn⟩ (ix2 0 k)) := by
    by_cases h0 : n % 4 = 0
    · rw [outsAt0_A m c ⟨n, hn⟩ h0]
      dsimp only
      rw [outA, soutA]
    · rw [outsAt0_B m c ⟨n, hn⟩ h0]
      dsimp only
      rw [outB]
      rfl
  rw [key]
  exact headTile_eq 10304 _ _ _ _ _ _ _ (n / 4) r l b s C hC (fun j => iblk0 m c ⟨n, hn⟩ r j b s hr)
    (fun j l' L' h => scratch m c n hn j l' L' h) (fun k => congrArg (fun z : EReal => z * scale) (iblk2 m c ⟨n, hn⟩ k))

/-- The array the call leaves, at row `R` (row `s` of sequence `b`) and column `C`. -/
theorem G3_apply (c : Dev nD) (R : Fin 8192) (C : Fin 2048) (b : Fin 2) (s : Fin 4096) (hR : R.val = 4096 * b.val + s.val) :
    G3 m c (ix2 R C)
      = heads 10304 (by decide) (m ((c : Thread nD τ).loc main_arg0)) (m ((c : Thread nD τ).loc main_arg1))
          (scaled fun k => m ((c : Thread nD τ).loc main_arg2) (ix2 0 k)) b s C := by
  have hp : pt3Of (ix2 R C) = R.val / 2048 + 4 * (C.val / 1024) := by
    show 1 * (R.val / 2048 - 0) + 4 * (C.val / 1024 - 0) = _
    omega
  have hlt : pt3Of (ix2 R C) < cfg0.N := by rw [hp, show cfg0.N = 8 from N_0]; omega
  unfold G3
  rw [dif_pos hlt, ← outsAt0_sweep m c _ hlt]
  have hl : loc3Of (ix2 R C) = ix2 ⟨R.val % 2048, Nat.mod_lt _ (by decide)⟩ ⟨C.val % 1024, Nat.mod_lt _ (by decide)⟩ := by
    funext a
    match a with
    | ⟨0, _⟩ => rfl
    | ⟨1, _⟩ => rfl
  rw [hl]
  refine out m c _ hlt _ _ b s C ?_ ?_
  · rw [hp]; show _ = 2048 * _ + R.val % 2048; omega
  · rw [hp]; show _ = 1024 * _ + C.val % 1024; omega

end Cert.KernelQIdeal.Value
end
-- ==== Proof.KArray.lean ====
/-
  What the call `proj_k` leaves in its array: at each row and column the entry of the in-projection, normed within its
  head.
-/
module

public import proofs.«01_k».proof.Proof.KTile
public import Idealize.ShloMosaic.Lib.Claim
public import Idealize.ShloMosaic.Lib.StableHlo.ReadAt

@[expose] public section

set_option maxRecDepth 16384

noncomputable section

namespace Cert.KernelKIdeal.Value

open Idealize.ShloMosaic Idealize.ShloMosaic.TcCoe Idealize.ShloMosaic.Tactic
open Idealize.SL Idealize.SL.Sem
open Cert.Rows Cert.Norm Cert.Heads Cert.KernelKIdeal Cert.KernelKIdeal.Gen

variable (m : (ℓ : Loc nD τ sig) → Buf (Elt Ideal) ℓ)

/-- What the windows' arrays hold when the grid begins, entry by entry. -/
theorem V_u (c : Dev nD) (b : Fin 2) (s : Fin 4096) (R : Fin 8192) (k : Fin 2048) (hR : R.val = 4096 * b.val + s.val) :
    V m c main_v3 (ix2 R k) = m ((c : Thread nD τ).loc main_arg0) (ix3 b s k) := by
  unfold V
  after_reads_at
  exact split_row (m ((c : Thread nD τ).loc main_arg0)) R.val b s k hR _ _

theorem V_w (c : Dev nD) (l : Fin 20544) (k : Fin 2048) :
    V m c main_v5 (ix2 l k) = m ((c : Thread nD τ).loc main_arg1) (ix3 0 k l) := by
  unfold V
  after_reads_at

theorem V_n (c : Dev nD) (k : Fin 128) : V m c main_v1 (ix2 0 k) = m ((c : Thread nD τ).loc main_arg2) (ix2 0 k) := by
  unfold V
  after_reads_at

/-- The numbers of the windows' blocks at each point. -/
theorem idx0 : ∀ t : Fin cfg0.N, win0_0.index t (0 : Fin 2) = t.val % 4 ∧ win0_0.index t (1 : Fin 2) = 0 :=
  (by decide +kernel : ∀ t : Fin grid0.N, _)
theorem idx1 : ∀ t : Fin cfg0.N, cc0_transform_1 (grid0.coords t) (0 : Fin 2) = 12352 + 1024 * (t.val / 4) ∧ cc0_transform_1 (grid0.coords t) (1 : Fin 2) = 0 :=
  (by decide +kernel : ∀ t : Fin grid0.N, _)

theorem idx2 : ∀ t : Fin cfg0.N, win0_2.index t (0 : Fin 2) = 0 ∧ win0_2.index t (1 : Fin 2) = 0 :=
  (by decide +kernel : ∀ t : Fin grid0.N, _)

/-- The windows' blocks at a point, entry by entry, as entries of the arguments. -/
theorem iblk2 (c : Dev nD) (t : Fin cfg0.N) (k : Fin 128) :
    iblk m c 2 t (ix2 0 k) = m ((c : Thread nD τ).loc main_arg2) (ix2 0 k) := by
  unfold iblk
  rw [View.read_apply, cast_eq]
  refine Eq.trans (congrArg _ ?_) (V_n m c k)
  obtain ⟨e0, e1⟩ := idx2 t
  funext a; apply Fin.ext
  match a with
  | ⟨0, _⟩ => show win0_2.index t (0 : Fin 2) * 1 + 1 * 0 = 0; omega
  | ⟨1, _⟩ => show win0_2.index t (1 : Fin 2) * 128 + 1 * k.val = k.val; omega

theorem iblk1 (c : Dev nD) (t : Fin cfg0.N) (l : Fin 1024) (k : Fin 2048) (L : Fin 20544) (hL : L.val = 12352 + 1024 * (t.val / 4) + l.val) :
    iblk m c 1 t (ix2 l k) = m ((c : Thread nD τ).loc main_arg1) (ix3 0 k L) := by
  unfold iblk
  rw [View.read_apply, cast_eq]
  refine Eq.trans (congrArg _ ?_) (V_w m c L k)
  obtain ⟨e0, e1⟩ := idx1 t
  funext a; apply Fin.ext
  match a with
  | ⟨0, _⟩ => show cc0_transform_1 (grid0.coords t) (0 : Fin 2) + 1 * l.val = L.val; omega
  | ⟨1, _⟩ => show cc0_transform_1 (grid0.coords t) (1 : Fin 2) + 1 * k.val = k.val; omega

theorem iblk0 (c : Dev nD) (t : Fin cfg0.N) (r : Fin 2048) (k : Fin 2048) (b : Fin 2) (s : Fin 4096) (h : 4096 * b.val + s.val = 2048 * (t.val % 4) + r.val) :
    iblk m c 0 t (ix2 r k) = m ((c : Thread nD τ).loc main_arg0) (ix3 b s k) := by
  unfold iblk
  rw [View.read_apply, cast_eq]
  refine Eq.trans (congrArg _ ?_) (V_u m c b s ⟨4096 * b.val + s.val, by omega⟩ k rfl)
  obtain ⟨e0, e1⟩ := idx0 t
  funext a; apply Fin.ext
  match a with
  | ⟨0, _⟩ => show win0_0.index t (0 : Fin 2) * 2048 + 1 * r.val = 4096 * b.val + s.val; omega
  | ⟨1, _⟩ => show win0_0.index t (1 : Fin 2) * 2048 + 1 * k.val = k.val; omega

/-- After every point the scratch holds the transposed weight block of the point's column tile. -/
theorem scratch (c : Dev nD) : ∀ (n : ℕ) (hn : n < cfg0.N) (k : Fin 2048) (l : Fin 1024) (L : Fin 20544), L.val = 12352 + 1024 * (n / 4) + l.val →
    (outsAt0 m c n hn).2 (ix2 k l) = m ((c : Thread nD τ).loc main_arg1) (ix3 0 k L) := by
  have atA : ∀ (n : ℕ) (hn : n < cfg0.N) (h0 : n % 4 = 0) (k : Fin 2048) (l : Fin 1024) (L : Fin 20544), L.val = 12352 + 1024 * (n / 4) + l.val →
      (outsAt0 m c n hn).2 (ix2 k l) = m ((c : Thread nD τ).loc main_arg1) (ix3 0 k L) := fun n hn h0 k l L hL => by
    rw [outsAt0_A m c ⟨n, hn⟩ h0]
    dsimp only
    rw [soutA, staged, iblk1 m c ⟨n, hn⟩ l k L hL]
  intro n
  induction n with
  | zero => exact fun hn => atA 0 hn rfl
  | succ n ih =>
    intro hn k l L hL
    by_cases h0 : (n + 1) % 4 = 0
    · exact atA (n + 1) hn h0 k l L hL
    · rw [outsAt0_B m c ⟨n + 1, hn⟩ h0]
      exact ih (Nat.lt_of_succ_lt hn) k l L (by omega)

/-- What every point leaves in the output block: the product of the activation rows with the weight columns of the
    point's tile, normed head by head. -/
theorem out (c : Dev nD) (n : ℕ) (hn : n < cfg0.N) (r : Fin 2048) (l : Fin 1024) (b : Fin 2) (s : Fin 4096) (C : Fin 2048)
    (hr : 4096 * b.val + s.val = 2048 * (n % 4) + r.val) (hC : C.val = 1024 * (n / 4) + l.val) :
    (outsAt0 m c n hn).1 (ix2 r l)
      = heads 12352 (by decide) (m ((c : Thread nD τ).loc main_arg0)) (m ((c : Thread nD τ).loc main_arg1))
          (fun k => m ((c : Thread nD τ).loc main_arg2) (ix2 0 k)) b s C := by
  have key : (outsAt0 m c n hn).1 = headTile (iblk m c 0 ⟨n, hn⟩) (outsAt0 m c n hn).2 (fun k => iblk m c 2 ⟨n, hn⟩ (ix2 0 k)) := by
    by_cases h0 : n % 4 = 0
    · rw [outsAt0_A m c ⟨n, hn⟩ h0]
      dsimp only
      rw [outA, soutA]
    · rw [outsAt0_B m c ⟨n, hn⟩ h0]
      dsimp only
      rw [outB]
      rfl
  rw [key]
  exact headTile_eq 12352 _ _ _ _ _ _ _ (n / 4) r l b s C hC (fun j => iblk0 m c ⟨n, hn⟩ r j b s hr)
    (fun j l' L' h => scratch m c n hn j l' L' h) (fun k => iblk2 m c ⟨n, hn⟩ k)

/-- The array the call leaves, at row `R` (row `s` of sequence `b`) and column `C`. -/
theorem G3_apply (c : Dev nD) (R : Fin 8192) (C : Fin 2048) (b : Fin 2) (s : Fin 4096) (hR : R.val = 4096 * b.val + s.val) :
    G3 m c (ix2 R C)
      = heads 12352 (by decide) (m ((c : Thread nD τ).loc main_arg0)) (m ((c : Thread nD τ).loc main_arg1))
          (fun k => m ((c : Thread nD τ).loc main_arg2) (ix2 0 k)) b s C := by
  have hp : pt3Of (ix2 R C) = R.val / 2048 + 4 * (C.val / 1024) := by
    show 1 * (R.val / 2048 - 0) + 4 * (C.val / 1024 - 0) = _
    omega
  have hlt : pt3Of (ix2 R C) < cfg0.N := by rw [hp, show cfg0.N = 8 from N_0]; omega
  unfold G3
  rw [dif_pos hlt, ← outsAt0_sweep m c _ hlt]
  have hl : loc3Of (ix2 R C) = ix2 ⟨R.val % 2048, Nat.mod_lt _ (by decide)⟩ ⟨C.val % 1024, Nat.mod_lt _ (by decide)⟩ := by
    funext a
    match a with
    | ⟨0, _⟩ => rfl
    | ⟨1, _⟩ => rfl
  rw [hl]
  refine out m c _ hlt _ _ b s C ?_ ?_
  · rw [hp]; show _ = 2048 * _ + R.val % 2048; omega
  · rw [hp]; show _ = 1024 * _ + C.val % 1024; omega

end Cert.KernelKIdeal.Value
end
-- ==== Proof.KRef.lean ====
/-
  What the reference of the keys computes, entry by entry.
-/
module

public import proofs.«01_k».proof.Proof.KArray
public import proofs.«01_k».proof.Proof.Gen.RefKIdeal.Run

@[expose] public section

noncomputable section

namespace Cert.RefKIdeal.Value

open Idealize.ShloMosaic Idealize.ShloMosaic.TcCoe Idealize.SL.Sem
open Cert.Rows Cert.Norm Cert.Heads Cert.RefKIdeal Cert.RefKIdeal.Gen

/-- The keys before the norm, head by head. -/
def split (u : FVec Ideal S2x4096x2048 .f32) (w : FVec Ideal S1x2048x20544 .f32) : FVec Ideal S2x4096x16x128 .f32 :=
  shapeCast _ (extractStridedSlice S2x4096x2048 ![0, 0, 12352] (Host.dotGeneral dot_S2x4096x2048_S2048x20544_S2x4096x20544_2_0_01_1_n_n none u (shapeCast _ w shapeCasts_S1x2048x20544_S2048x20544)) slices_S2x4096x20544_S2x4096x2048_0_0_12352) shapeCasts_S2x4096x2048_S2x4096x16x128

/-- The norm of each head. -/
def norm (y : FVec Ideal S2x4096x16x128 .f32) (nw : FVec Ideal S1x128 .f32) : FVec Ideal S2x4096x16x128 .f32 :=
  mulf (mulf y (broadcastInDim S2x4096x16x128 ![0, 1, 2, 3] bcast_S2x4096x16x1_S2x4096x16x128_0_1_2_3 (Host.rsqrt (addf (Host.divf (broadcastInDim S2x4096x16x1 ![0, 1, 2] bcast_S2x4096x16_S2x4096x16x1_0_1_2 (Host.reduceAdd (mulf y y) (constant S_ .f32 0x00000000#32) reducesTo_S2x4096x16x128_S2x4096x16_d3 h_S_)) (broadcastInDim S2x4096x16x1 ![] bcast_S_S2x4096x16x1 (constant S_ .f32 0x43000000#32))) (broadcastInDim S2x4096x16x1 ![] bcast_S_S2x4096x16x1 (constant S_ .f32 0x358637BD#32)))))) (broadcastInDim S2x4096x16x128 ![0, 1, 2, 3] bcast_S1x1x1x128_S2x4096x16x128_0_1_2_3 (broadcastInDim S1x1x1x128 ![3] bcast_S128_S1x1x1x128_3 (shapeCast _ nw shapeCasts_S1x128_S128)))

/-- The reference's result as a function of its arguments. -/
def term (u : FVec Ideal S2x4096x2048 .f32) (w : FVec Ideal S1x2048x20544 .f32) (nw : FVec Ideal S1x128 .f32) : FVec Ideal S8192x2048 .bf16 :=
  truncf .bf16 (shapeCast _ (norm (split u w) nw) shapeCasts_S2x4096x16x128_S8192x2048) bitsLt_bf16_f32

/-- Each entry of the columns, head by head. -/
theorem split_apply (u : FVec Ideal S2x4096x2048 .f32) (w : FVec Ideal S1x2048x20544 .f32) (b : Fin 2) (s : Fin 4096) (h : Fin 16) (k : Fin 128) :
    split u w (ix4 b s h k) = entry u w b s ⟨12352 + 128 * h.val + k.val, by omega⟩ := by
  pointwise [split, entry]
  exact Finset.sum_congr rfl fun x _ => congrArg (fun q => u (ix3 b s x) * w (ix3 0 x q)) (Fin.ext (by show 12352 + (h.val * 128 + k.val) = 12352 + 128 * h.val + k.val; omega))

/-- Each entry of the norm. -/
theorem norm_apply (y : FVec Ideal S2x4096x16x128 .f32) (nw : FVec Ideal S1x128 .f32) (b : Fin 2) (s : Fin 4096) (h : Fin 16) (k : Fin 128) :
    norm y nw (ix4 b s h k) = rms 0x43000000#32 (fun k => y (ix4 b s h k)) (fun k => nw (ix2 0 k)) k := by
  pointwise [norm, rms]

/-- Each entry of the reference's result. -/
theorem term_apply (u : FVec Ideal S2x4096x2048 .f32) (w : FVec Ideal S1x2048x20544 .f32) (nw : FVec Ideal S1x128 .f32)
    (R : Fin 8192) (C : Fin 2048) (b : Fin 2) (s : Fin 4096) (hR : R.val = 4096 * b.val + s.val) :
    term u w nw (ix2 R C) = heads 12352 (by decide) u w (fun k => nw (ix2 0 k)) b s C := by
  pointwise [term]
  have hb : (⟨R.val / 4096, by omega⟩ : Fin 2) = b := Fin.ext (by show R.val / 4096 = b.val; omega)
  have hs : (⟨R.val % 4096, by omega⟩ : Fin 4096) = s := Fin.ext (by show R.val % 4096 = s.val; omega)
  refine (congrArg₂ (fun p q => norm (split u w) nw (ix4 p q ⟨C.val / 128, _⟩ ⟨C.val % 128, _⟩)) hb hs).trans ?_
  rw [norm_apply]
  unfold heads
  exact congrArg (fun f => rms 0x43000000#32 f _ _) (funext fun k => split_apply u w b s _ k)

end Cert.RefKIdeal.Value

end
-- ==== Proof.QRef.lean ====
/-
  What the reference of the queries computes, entry by entry.
-/
module

public import proofs.«01_k».proof.Proof.QArray
public import proofs.«01_k».proof.Proof.KRef
public import proofs.«01_k».proof.Proof.Gen.RefQIdeal.Run

@[expose] public section

noncomputable section

namespace Cert.RefQIdeal.Value

open Idealize.ShloMosaic Idealize.ShloMosaic.TcCoe Idealize.SL.Sem
open Cert.RefKIdeal.Value (norm norm_apply)
open Cert.KernelQIdeal.Value (scale scaled)
open Cert.Rows Cert.Norm Cert.Heads Cert.RefQIdeal Cert.RefQIdeal.Gen

/-- The queries before the norm, head by head. -/
def split (u : FVec Ideal S2x4096x2048 .f32) (w : FVec Ideal S1x2048x20544 .f32) : FVec Ideal S2x4096x16x128 .f32 :=
  shapeCast _ (extractStridedSlice S2x4096x2048 ![0, 0, 10304] (Host.dotGeneral dot_S2x4096x2048_S2048x20544_S2x4096x20544_2_0_01_1_n_n none u (shapeCast _ w shapeCasts_S1x2048x20544_S2048x20544)) slices_S2x4096x20544_S2x4096x2048_0_0_10304) shapeCasts_S2x4096x2048_S2x4096x16x128

/-- The two factors of the scale, as the reference computes them: `1 / √128` and `1 / ln 2`. -/
def root : FVec Ideal S_ .f32 := Host.divf (constant S_ .f32 0x3F800000#32) (Host.sqrt (constant S_ .f32 0x43000000#32))

/-- One over the logarithm of 2, as the reference computes it. -/
def lg : FVec Ideal S_ .f32 := Host.divf (constant S_ .f32 0x3F800000#32) (Host.log (constant S_ .f32 0x40000000#32))

/-- The reference's result as a function of its arguments. -/
def term (u : FVec Ideal S2x4096x2048 .f32) (w : FVec Ideal S1x2048x20544 .f32) (nw : FVec Ideal S1x128 .f32) : FVec Ideal S8192x2048 .bf16 :=
  truncf .bf16 (shapeCast _ (mulf (mulf (norm (split u w) nw) (broadcastInDim S2x4096x16x128 ![] bcast_S_S2x4096x16x128 root))
    (broadcastInDim S2x4096x16x128 ![] bcast_S_S2x4096x16x128 lg)) shapeCasts_S2x4096x16x128_S8192x2048) bitsLt_bf16_f32

/-- Each entry of the columns, head by head. -/
theorem split_apply (u : FVec Ideal S2x4096x2048 .f32) (w : FVec Ideal S1x2048x20544 .f32) (b : Fin 2) (s : Fin 4096) (h : Fin 16) (k : Fin 128) :
    split u w (ix4 b s h k) = entry u w b s ⟨10304 + 128 * h.val + k.val, by omega⟩ := by
  pointwise [split, entry]
  exact Finset.sum_congr rfl fun x _ => congrArg (fun q => u (ix3 b s x) * w (ix3 0 x q)) (Fin.ext (by show 10304 + (h.val * 128 + k.val) = 10304 + 128 * h.val + k.val; omega))

/-- The three constants. -/
theorem ofBits_1 : Ideal.ofBits .f32 0x3F800000#32 = ((1 : ℝ) : EReal) := by
  simp [Ideal.ofBits, Ideal.ieee, -EReal.coe_mul]; norm_num

/-- What the bits of the constant 2 stand for, -/
theorem ofBits_2 : Ideal.ofBits .f32 0x40000000#32 = ((2 : ℝ) : EReal) := by
  simp [Ideal.ofBits, Ideal.ieee, -EReal.coe_mul]; norm_num

/-- and those of 128. -/
theorem ofBits_128 : Ideal.ofBits .f32 0x43000000#32 = ((128 : ℝ) : EReal) := by
  simp [Ideal.ofBits, Ideal.ieee, -EReal.coe_mul]; norm_num

/-- Their values. -/
theorem root_apply (i : S_.Idx) : root i = (((Real.sqrt 128)⁻¹ : ℝ) : EReal) := by
  simp only [root, Host.divf, Host.sqrt, constant, Ideal.hostDivf_def, Ideal.hostUnary_sqrt_def, Ideal.ofBits_def, ofBits_1, ofBits_128,
    Ideal.sqrt_coe, show ¬(128 : ℝ) < 0 from by norm_num, ↓reduceIte,
    Ideal.div_coe (show Real.sqrt 128 ≠ 0 from (Real.sqrt_pos.mpr (by norm_num)).ne'), one_div]
  rw [← EReal.coe_mul, one_mul]

/-- It is that number. -/
theorem lg_apply (i : S_.Idx) : lg i = (((Real.log 2)⁻¹ : ℝ) : EReal) := by
  simp only [lg, Host.divf, Host.log, constant, Ideal.hostDivf_def, Ideal.hostUnary_log_def, Ideal.ofBits_def, ofBits_1, ofBits_2,
    Ideal.log_coe, show ¬(2 : ℝ) ≤ 0 from by norm_num, ↓reduceIte,
    Ideal.div_coe (show Real.log 2 ≠ 0 from (Real.log_pos (by norm_num)).ne'), one_div]
  rw [← EReal.coe_mul, one_mul]

/-- The reference multiplies the norm by the two factors one after the other, the call the norm weights by their product. -/
theorem rms_scaled (y w : Fin 128 → EReal) (l : Fin 128) :
    rms 0x43000000#32 y w l * (((Real.sqrt 128)⁻¹ : ℝ) : EReal) * (((Real.log 2)⁻¹ : ℝ) : EReal) = rms 0x43000000#32 y (scaled w) l := by
  unfold rms scaled scale
  rw [EReal.coe_mul, mul_comm (((Real.log 2)⁻¹ : ℝ) : EReal)]
  simp only [mul_assoc]

/-- Each entry of the reference's result. -/
theorem term_apply (u : FVec Ideal S2x4096x2048 .f32) (w : FVec Ideal S1x2048x20544 .f32) (nw : FVec Ideal S1x128 .f32)
    (R : Fin 8192) (C : Fin 2048) (b : Fin 2) (s : Fin 4096) (hR : R.val = 4096 * b.val + s.val) :
    term u w nw (ix2 R C) = heads 10304 (by decide) u w (scaled fun k => nw (ix2 0 k)) b s C := by
  pointwise [term]
  have hb : (⟨R.val / 4096, by omega⟩ : Fin 2) = b := Fin.ext (by show R.val / 4096 = b.val; omega)
  have hs : (⟨R.val % 4096, by omega⟩ : Fin 4096) = s := Fin.ext (by show R.val % 4096 = s.val; omega)
  rw [root_apply, lg_apply]
  refine (congrArg₂ (fun p q => norm (split u w) nw (ix4 p q ⟨C.val / 128, _⟩ ⟨C.val % 128, _⟩) * (((Real.sqrt 128)⁻¹ : ℝ) : EReal)
    * (((Real.log 2)⁻¹ : ℝ) : EReal)) hb hs).trans ?_
  rw [norm_apply, rms_scaled]
  unfold heads
  exact congrArg (fun f => rms 0x43000000#32 f _ _) (funext fun k => split_apply u w b s _ k)

end Cert.RefQIdeal.Value

end
-- ==== Proof.VTile.lean ====
/-
  What one block of the call `proj_v` computes: the product of the activation rows with the weight columns, stored as it
  is. At the first row tile of a column tile (case A) the transposed weight block is put into the scratch first; at the
  others (case B) the scratch still holds it.
-/
module

public import proofs.«01_k».proof.Proof.Gen.KernelVIdeal.Value
public import proofs.«01_k».proof.Proof.Rows

@[expose] public section

set_option maxRecDepth 16384

noncomputable section

namespace Cert.KernelVIdeal.Value

open Idealize.ShloMosaic Idealize.ShloMosaic.TcCoe Idealize.ShloMosaic.Tactic
open Idealize.SL Idealize.SL.Sem
open Cert.Rows Cert.KernelVIdeal Cert.KernelVIdeal.Gen

/-- A chunk's payload is the product of its rows with the weight block. -/
theorem chunk (a : Vec Ideal S128x2048 .bf16) (S : Vec Ideal S2048x1024 .bf16) (r : Fin 128) (l : Fin 1024) :
    k0_pay3 a S (ix2 r l) = linTile (fun _ x => x) a S (ix2 r l) := by
  pointwise [k0_pay3, linTile]

/-- The weights are staged transposed. -/
theorem staged (w : Vec Ideal S1024x2048 .f32) (k : Fin 2048) (l : Fin 1024) : k0_pay6 w (ix2 k l) = w (ix2 l k) := by
  pointwise [k0_pay6]

variable (c : Dev nD) (i : grid0.Coords) (arg2 : Memref sig .tc .vmem S2048x2048 .bf16) (harg2 : arg2.IsWhole)
  (arg3 : Memref sig .tc .vmem S1024x2048 .f32) (harg3 : arg3.IsWhole) (arg4 : Memref sig .tc .vmem S2048x1024 .bf16)
  (harg4 : arg4.IsWhole) (arg5 : Memref sig .tc .vmem S2048x1024 .bf16) (harg5 : arg5.IsWhole)
  (x0 : Vec Ideal S2048x2048 .bf16) (x1 : Vec Ideal S1024x2048 .f32) (xs : Vec Ideal S2048x1024 .bf16)

/-- The chunk of rows at `o`, read from the activation block and contracted with the scratch's content. -/
theorem piece (T S : Vec Ideal S2048x1024 .bf16) (hT : T = S) (o : Nat)
    (inb : ∀ a, (![o, 0] : Fin 2 → Nat) a + S128x2048.size a ≤ S2048x2048.size a)
    (inb' : ∀ a, (![o, 0] : Fin 2 → Nat) a + S128x1024.size a ≤ S2048x1024.size a) (x : S128x1024.Idx) :
    k0_pay3 (View.readAt (Elt Ideal) arg2.view (Rect.unit (s := S2048x2048) ![o, 0] S128x2048.size inb).toLoadRect (harg2.unread x0)) T x
      = linTile (fun _ x => x) x0 S ((Rect.unit (s := S2048x1024) ![o, 0] S128x1024.size inb').emb x) := by
  rw [readAt_whole harg2, hT]
  exact chunk_piece _ _ S o inb inb' _ (chunk _ S) x

/-- At a later row tile the body leaves that block, made from the weights that the first one staged. -/
theorem outB (hc0 : ¬ cond0_0 i) :
    out0_B_2 c i arg2 harg2 arg3 harg3 arg4 harg4 arg5 harg5 hc0 x0 x1 xs = linTile (fun _ x => x) x0 xs := by
  unfold out0_B_2
  rw [View.read_writes_eq_canon _ _ _ (cover0_B_2 c i arg2 harg2 arg3 harg3 arg4 harg4 arg5 harg5 hc0 x0 x1 xs)]
  funext y
  refine View.canon_apply_of_pieces (linTile (fun _ x => x) x0 xs) _ ?_ y
    (cover0_B_2 c i arg2 harg2 arg3 harg3 arg4 harg4 arg5 harg5 hc0 x0 x1 xs y)
  have key := piece arg2 harg2 x0 (View.readAt (Elt Ideal) arg5.view
    (Rect.unit (s := S2048x1024) ![0, 0] ![2048, 1024] inb_S2048x1024_S2048x1024_0_0).toLoadRect (harg5.unread xs)) xs
    (by rw [readAt_whole harg5]; exact View.ld_unit_zero (by decide) _ _)
  unfold kernelRun0_B
  dsimp only
  simp only [List.forall_mem_cons]
  exact ⟨key 1920 inb_S2048x2048_S128x2048_1920_0 _, key 1792 inb_S2048x2048_S128x2048_1792_0 _,
    key 1664 inb_S2048x2048_S128x2048_1664_0 _, key 1536 inb_S2048x2048_S128x2048_1536_0 _,
    key 1408 inb_S2048x2048_S128x2048_1408_0 _, key 1280 inb_S2048x2048_S128x2048_1280_0 _,
    key 1152 inb_S2048x2048_S128x2048_1152_0 _, key 1024 inb_S2048x2048_S128x2048_1024_0 _, key 896 _ _,
    key 768 inb_S2048x2048_S128x2048_768_0 _, key 640 _ _, key 512 _ _, key 384 inb_S2048x2048_S128x2048_384_0 _,
    key 256 _ _, key 128 _ _, key 0 _ _, fun _ h => absurd h List.not_mem_nil⟩

/-- At the first row tile of a column tile the body leaves the transposed weight block in the scratch. -/
theorem soutA (hc0 : cond0_0 i) :
    sout0_A_0 c i arg2 harg2 arg3 harg3 arg4 harg4 arg5 harg5 hc0 x0 x1 = k0_pay6 x1 := by
  unfold sout0_A_0
  rw [View.read_writes_eq_canon _ _ _ (scover0_A_0 c i arg2 harg2 arg3 harg3 arg4 harg4 arg5 harg5 hc0 x0 x1)]
  unfold kernelRun0_A
  dsimp only
  refine (View.canon_unit_zero (by decide) _ _).trans ?_
  rw [readAt_whole harg3, View.ld_unit_zero (by decide)]

/-- and in the output block the product with it. -/
theorem outA (hc0 : cond0_0 i) :
    out0_A_2 c i arg2 harg2 arg3 harg3 arg4 harg4 arg5 harg5 hc0 x0 x1 = linTile (fun _ x => x) x0 (k0_pay6 x1) := by
  unfold out0_A_2
  rw [View.read_writes_eq_canon _ _ _ (cover0_A_2 c i arg2 harg2 arg3 harg3 arg4 harg4 arg5 harg5 hc0 x0 x1)]
  funext y
  refine View.canon_apply_of_pieces (linTile (fun _ x => x) x0 (k0_pay6 x1)) _ ?_ y
    (cover0_A_2 c i arg2 harg2 arg3 harg3 arg4 harg4 arg5 harg5 hc0 x0 x1 y)
  have key := piece arg2 harg2 x0 (kernelRun0_A.sl.v81 c arg3 harg3 arg5 x1) (k0_pay6 x1) (by
    unfold kernelRun0_A.sl.v81
    refine (View.readCov_unit_zero arg5.view (by decide) _ _).trans ?_
    rw [readAt_whole harg3, View.ld_unit_zero (by decide)])
  unfold kernelRun0_A
  dsimp only
  simp only [List.forall_mem_cons]
  exact ⟨key 1920 inb_S2048x2048_S128x2048_1920_0 _, key 1792 inb_S2048x2048_S128x2048_1792_0 _,
    key 1664 inb_S2048x2048_S128x2048_1664_0 _, key 1536 inb_S2048x2048_S128x2048_1536_0 _,
    key 1408 inb_S2048x2048_S128x2048_1408_0 _, key 1280 inb_S2048x2048_S128x2048_1280_0 _,
    key 1152 inb_S2048x2048_S128x2048_1152_0 _, key 1024 inb_S2048x2048_S128x2048_1024_0 _, key 896 _ _,
    key 768 inb_S2048x2048_S128x2048_768_0 _, key 640 _ _, key 512 _ _, key 384 inb_S2048x2048_S128x2048_384_0 _,
    key 256 _ _, key 128 _ _, key 0 _ _, fun _ h => absurd h List.not_mem_nil⟩

end Cert.KernelVIdeal.Value

end
-- ==== Proof.VArray.lean ====
module

public import proofs.«01_k».proof.Proof.VTile
public import Idealize.ShloMosaic.Lib.Claim
public import Idealize.ShloMosaic.Lib.StableHlo.ReadAt

@[expose] public section

set_option maxRecDepth 16384

noncomputable section

namespace Cert.KernelVIdeal.Value

open Idealize.ShloMosaic Idealize.ShloMosaic.TcCoe Idealize.ShloMosaic.Tactic
open Idealize.SL Idealize.SL.Sem
open Cert.Rows Cert.KernelVIdeal Cert.KernelVIdeal.Gen

variable (m : (ℓ : Loc nD τ sig) → Buf (Elt Ideal) ℓ)

/-- What the windows' arrays hold when the grid begins, entry by entry. -/
theorem V_u (c : Dev nD) (b : Fin 2) (s : Fin 4096) (R : Fin 8192) (k : Fin 2048) (hR : R.val = 4096 * b.val + s.val) :
    V m c main_v1 (ix2 R k) = m ((c : Thread nD τ).loc main_arg0) (ix3 b s k) := by
  unfold V
  after_reads_at
  exact split_row (m ((c : Thread nD τ).loc main_arg0)) R.val b s k hR _ _

theorem V_w (c : Dev nD) (l : Fin 20544) (k : Fin 2048) :
    V m c main_v3 (ix2 l k) = m ((c : Thread nD τ).loc main_arg1) (ix3 0 k l) := by
  unfold V
  after_reads_at

/-- The numbers of the windows' blocks at each point. -/
theorem idx0 : ∀ t : Fin cfg0.N, win0_0.index t (0 : Fin 2) = t.val % 4 ∧ win0_0.index t (1 : Fin 2) = 0 :=
  (by decide +kernel : ∀ t : Fin grid0.N, _)
theorem idx1 : ∀ t : Fin cfg0.N, cc0_transform_1 (grid0.coords t) (0 : Fin 2) = 14400 + 1024 * (t.val / 4) ∧ cc0_transform_1 (grid0.coords t) (1 : Fin 2) = 0 :=
  (by decide +kernel : ∀ t : Fin grid0.N, _)

/-- The windows' blocks at a point, entry by entry, as entries of the arguments. -/
theorem iblk1 (c : Dev nD) (t : Fin cfg0.N) (l : Fin 1024) (k : Fin 2048) (L : Fin 20544) (hL : L.val = 14400 + 1024 * (t.val / 4) + l.val) :
    iblk m c 1 t (ix2 l k) = m ((c : Thread nD τ).loc main_arg1) (ix3 0 k L) := by
  unfold iblk
  rw [View.read_apply, cast_eq]
  refine Eq.trans (congrArg _ ?_) (V_w m c L k)
  obtain ⟨e0, e1⟩ := idx1 t
  funext a; apply Fin.ext
  match a with
  | ⟨0, _⟩ => show cc0_transform_1 (grid0.coords t) (0 : Fin 2) + 1 * l.val = L.val; omega
  | ⟨1, _⟩ => show cc0_transform_1 (grid0.coords t) (1 : Fin 2) + 1 * k.val = k.val; omega

theorem iblk0 (c : Dev nD) (t : Fin cfg0.N) (r : Fin 2048) (k : Fin 2048) (b : Fin 2) (s : Fin 4096) (h : 4096 * b.val + s.val = 2048 * (t.val % 4) + r.val) :
    iblk m c 0 t (ix2 r k) = m ((c : Thread nD τ).loc main_arg0) (ix3 b s k) := by
  unfold iblk
  rw [View.read_apply, cast_eq]
  refine Eq.trans (congrArg _ ?_) (V_u m c b s ⟨4096 * b.val + s.val, by omega⟩ k rfl)
  obtain ⟨e0, e1⟩ := idx0 t
  funext a; apply Fin.ext
  match a with
  | ⟨0, _⟩ => show win0_0.index t (0 : Fin 2) * 2048 + 1 * r.val = 4096 * b.val + s.val; omega
  | ⟨1, _⟩ => show win0_0.index t (1 : Fin 2) * 2048 + 1 * k.val = k.val; omega

/-- After every point the scratch holds the transposed weight block of the point's column tile. -/
theorem scratch (c : Dev nD) : ∀ (n : ℕ) (hn : n < cfg0.N) (k : Fin 2048) (l : Fin 1024) (L : Fin 20544), L.val = 14400 + 1024 * (n / 4) + l.val →
    (outsAt0 m c n hn).2 (ix2 k l) = m ((c : Thread nD τ).loc main_arg1) (ix3 0 k L) := by
  have atA : ∀ (n : ℕ) (hn : n < cfg0.N) (h0 : n % 4 = 0) (k : Fin 2048) (l : Fin 1024) (L : Fin 20544), L.val = 14400 + 1024 * (n / 4) + l.val →
      (outsAt0 m c n hn).2 (ix2 k l) = m ((c : Thread nD τ).loc main_arg1) (ix3 0 k L) := fun n hn h0 k l L hL => by
    rw [outsAt0_A m c ⟨n, hn⟩ h0]
    dsimp only
    rw [soutA, staged, iblk1 m c ⟨n, hn⟩ l k L hL]
  intro n
  induction n with
  | zero => exact fun hn => atA 0 hn rfl
  | succ n ih =>
    intro hn k l L hL
    by_cases h0 : (n + 1) % 4 = 0
    · exact atA (n + 1) hn h0 k l L hL
    · rw [outsAt0_B m c ⟨n + 1, hn⟩ h0]
      exact ih (Nat.lt_of_succ_lt hn) k l L (by omega)

/-- What every point leaves in the output block: the product of the activation rows with the weight columns of the
    point's tile, through the epilogue. -/
theorem out (c : Dev nD) (n : ℕ) (hn : n < cfg0.N) (r : Fin 2048) (l : Fin 1024) (b : Fin 2) (s : Fin 4096) (L : Fin 20544)
    (hr : 4096 * b.val + s.val = 2048 * (n % 4) + r.val) (hL : L.val = 14400 + 1024 * (n / 4) + l.val) :
    (outsAt0 m c n hn).1 (ix2 r l)
      = entry (m ((c : Thread nD τ).loc main_arg0)) (m ((c : Thread nD τ).loc main_arg1)) b s L := by
  have key : (outsAt0 m c n hn).1 = linTile (fun _ x => x) (iblk m c 0 ⟨n, hn⟩) (outsAt0 m c n hn).2 := by
    by_cases h0 : n % 4 = 0
    · rw [outsAt0_A m c ⟨n, hn⟩ h0]
      dsimp only
      rw [outA, soutA]
    · rw [outsAt0_B m c ⟨n, hn⟩ h0]
      dsimp only
      rw [outB]
      rfl
  rw [key]
  refine Finset.sum_congr rfl fun k _ => ?_
  exact congrArg₂ (fun p q : EReal => p * q) (iblk0 m c ⟨n, hn⟩ r k b s hr) (scratch m c n hn k l L hL)

/-- The array the call leaves, at row `R` (row `s` of sequence `b`) and column `L`. -/
theorem G2_apply (c : Dev nD) (R : Fin 8192) (C : Fin 2048) (b : Fin 2) (s : Fin 4096) (L : Fin 20544)
    (hR : R.val = 4096 * b.val + s.val) (hL : L.val = 14400 + C.val) :
    G2 m c (ix2 R C)
      = entry (m ((c : Thread nD τ).loc main_arg0)) (m ((c : Thread nD τ).loc main_arg1)) b s L := by
  have hp : pt2Of (ix2 R C) = R.val / 2048 + 4 * (C.val / 1024) := by
    show 1 * (R.val / 2048 - 0) + 4 * (C.val / 1024 - 0) = _
    omega
  have hlt : pt2Of (ix2 R C) < cfg0.N := by rw [hp, show cfg0.N = 8 from N_0]; omega
  unfold G2
  rw [dif_pos hlt, ← outsAt0_sweep m c _ hlt]
  have hl : loc2Of (ix2 R C) = ix2 ⟨R.val % 2048, Nat.mod_lt _ (by decide)⟩ ⟨C.val % 1024, Nat.mod_lt _ (by decide)⟩ := by
    funext a
    match a with
    | ⟨0, _⟩ => rfl
    | ⟨1, _⟩ => rfl
  rw [hl]
  refine out m c _ hlt _ _ b s L ?_ ?_
  · rw [hp]; show _ = 2048 * _ + R.val % 2048; omega
  · rw [hp]; show _ = 14400 + 1024 * _ + C.val % 1024; omega

end Cert.KernelVIdeal.Value
end
-- ==== Proof.VRef.lean ====
/-
  What the reference of the values `v` computes, entry by entry: the entry of the joint in-projection.
-/
module

public import proofs.«01_k».proof.Proof.Rows
public import proofs.«01_k».proof.Proof.Gen.RefVIdeal.Run

@[expose] public section

noncomputable section

namespace Cert.RefVIdeal.Value

open Idealize.ShloMosaic Idealize.ShloMosaic.TcCoe Idealize.SL.Sem
open Cert.Rows Cert.RefVIdeal Cert.RefVIdeal.Gen

/-- The reference's result as a function of its arguments. -/
def term (u : FVec Ideal S2x4096x2048 .f32) (w : FVec Ideal S1x2048x20544 .f32) : FVec Ideal S8192x2048 .bf16 :=
  truncf .bf16 (shapeCast _ (extractStridedSlice S2x4096x2048 ![0, 0, 14400] (Host.dotGeneral dot_S2x4096x2048_S2048x20544_S2x4096x20544_2_0_01_1_n_n none u (shapeCast _ w shapeCasts_S1x2048x20544_S2048x20544)) slices_S2x4096x20544_S2x4096x2048_0_0_14400) shapeCasts_S2x4096x2048_S8192x2048) bitsLt_bf16_f32

/-- Each entry of the reference's result. -/
theorem term_apply (u : FVec Ideal S2x4096x2048 .f32) (w : FVec Ideal S1x2048x20544 .f32) (R : Fin 8192) (C : Fin 2048)
    (b : Fin 2) (s : Fin 4096) (hR : R.val = 4096 * b.val + s.val) :
    term u w (ix2 R C) = entry u w b s ⟨14400 + C.val, by omega⟩ := by
  pointwise [term]
  exact Finset.sum_congr rfl fun k _ => congrArg (fun z : EReal => z * w (ix3 0 k ⟨14400 + C.val, by omega⟩))
    (split_row u R.val b s k hR _ _)

end Cert.RefVIdeal.Value

end
-- ==== Proof.GateTile.lean ====
/-
  What one block of the call `proj_gate` computes: the logistic function of the product of the activation rows with the
  weight columns plus the bias of the column.
-/
module

public import proofs.«01_k».proof.Proof.Gen.KernelGateIdeal.Value
public import proofs.«01_k».proof.Proof.Rows

@[expose] public section

set_option maxRecDepth 16384

noncomputable section

namespace Cert.KernelGateIdeal.Value

open Idealize.ShloMosaic Idealize.ShloMosaic.TcCoe Idealize.ShloMosaic.Tactic
open Idealize.SL Idealize.SL.Sem
open Cert.Rows Cert.KernelGateIdeal Cert.KernelGateIdeal.Gen

/-- The gate of a column's bias. -/
def gate (b : EReal) (x : EReal) : EReal := Ideal.div 1 (1 + Ideal.exp (-(x + b)))

/-- The biases of a column tile, one per column. -/
def gates (x2 : Vec Ideal S1x1024 .f32) : Fin 1024 → EReal → EReal := fun l => gate (x2 (ix2 0 l))

/-- A chunk's payload is the gate of the product of its rows with the weight block. -/
theorem chunk (a : Vec Ideal S128x2048 .bf16) (S : Vec Ideal S2048x1024 .bf16) (x2 : Vec Ideal S1x1024 .f32)
    (r : Fin 128) (l : Fin 1024) : k0_pay4 a S x2 (ix2 r l) = linTile (gates x2) a S (ix2 r l) := by
  pointwise [k0_pay4, linTile, gates, gate]
  rw [zero_sub]

/-- The weights are staged transposed. -/
theorem staged (w : Vec Ideal S1024x2048 .f32) (k : Fin 2048) (l : Fin 1024) : k0_pay2 w (ix2 k l) = w (ix2 l k) := by
  pointwise [k0_pay2]

variable (c : Dev nD) (i : grid0.Coords) (arg2 : Memref sig .tc .vmem S2048x2048 .bf16) (harg2 : arg2.IsWhole)
  (arg3 : Memref sig .tc .vmem S1024x2048 .f32) (harg3 : arg3.IsWhole) (arg4 : Memref sig .tc .vmem S1x1024 .f32)
  (harg4 : arg4.IsWhole) (arg5 : Memref sig .tc .vmem S2048x1024 .bf16)
  (harg5 : arg5.IsWhole) (arg6 : Memref sig .tc .vmem S2048x1024 .bf16) (harg6 : arg6.IsWhole)
  (x0 : Vec Ideal S2048x2048 .bf16) (x1 : Vec Ideal S1024x2048 .f32) (x2 : Vec Ideal S1x1024 .f32) (xs : Vec Ideal S2048x1024 .bf16)

/-- The chunk of rows at `o`, read from the activation block and contracted with the scratch's content. -/
theorem piece (T S : Vec Ideal S2048x1024 .bf16) (hT : T = S) (o : Nat)
    (inb : ∀ a, (![o, 0] : Fin 2 → Nat) a + S128x2048.size a ≤ S2048x2048.size a)
    (inb' : ∀ a, (![o, 0] : Fin 2 → Nat) a + S128x1024.size a ≤ S2048x1024.size a) (x : S128x1024.Idx) :
    k0_pay4 (View.readAt (Elt Ideal) arg2.view (Rect.unit (s := S2048x2048) ![o, 0] S128x2048.size inb).toLoadRect (harg2.unread x0)) T
        (View.readAt (Elt Ideal) arg4.view (Rect.unit (s := S1x1024) ![0, 0] ![1, 1024] inb_S1x1024_S1x1024_0_0).toLoadRect (harg4.unread x2)) x
      = linTile (gates x2) x0 S ((Rect.unit (s := S2048x1024) ![o, 0] S128x1024.size inb').emb x) := by
  rw [readAt_whole harg2, readAt_whole harg4, View.ld_unit_zero (by decide), hT]
  exact chunk_piece _ _ S o inb inb' _ (chunk _ S x2) x

/-- At a later row tile the body leaves that block, made from the weights that the first one staged. -/
theorem outB (hc0 : ¬ cond0_0 i) :
    out0_B_3 c i arg2 harg2 arg3 harg3 arg4 harg4 arg5 harg5 arg6 harg6 hc0 x0 x1 x2 xs = linTile (gates x2) x0 xs := by
  unfold out0_B_3
  rw [View.read_writes_eq_canon _ _ _ (cover0_B_3 c i arg2 harg2 arg3 harg3 arg4 harg4 arg5 harg5 arg6 harg6 hc0 x0 x1 x2 xs)]
  funext y
  refine View.canon_apply_of_pieces (linTile (gates x2) x0 xs) _ ?_ y
    (cover0_B_3 c i arg2 harg2 arg3 harg3 arg4 harg4 arg5 harg5 arg6 harg6 hc0 x0 x1 x2 xs y)
  have key := piece arg2 harg2 arg4 harg4 x0 x2 (View.readAt (Elt Ideal) arg6.view
    (Rect.unit (s := S2048x1024) ![0, 0] ![2048, 1024] inb_S2048x1024_S2048x1024_0_0).toLoadRect (harg6.unread xs)) xs
    (by rw [readAt_whole harg6]; exact View.ld_unit_zero (by decide) _ _)
  unfold kernelRun0_B
  dsimp only
  simp only [List.forall_mem_cons]
  exact ⟨key 1920 inb_S2048x2048_S128x2048_1920_0 _, key 1792 inb_S2048x2048_S128x2048_1792_0 _,
    key 1664 inb_S2048x2048_S128x2048_1664_0 _, key 1536 inb_S2048x2048_S128x2048_1536_0 _,
    key 1408 inb_S2048x2048_S128x2048_1408_0 _, key 1280 inb_S2048x2048_S128x2048_1280_0 _,
    key 1152 inb_S2048x2048_S128x2048_1152_0 _, key 1024 inb_S2048x2048_S128x2048_1024_0 _,
    key 896 inb_S2048x2048_S128x2048_896_0 _, key 768 inb_S2048x2048_S128x2048_768_0 _,
    key 640 inb_S2048x2048_S128x2048_640_0 _, key 512 inb_S2048x2048_S128x2048_512_0 _,
    key 384 inb_S2048x2048_S128x2048_384_0 _, key 256 inb_S2048x2048_S128x2048_256_0 _,
    key 128 inb_S2048x2048_S128x2048_128_0 _, key 0 _ _, fun _ h => absurd h List.not_mem_nil⟩

/-- At the first row tile of a column tile the body leaves the transposed weight block in the scratch. -/
theorem soutA (hc0 : cond0_0 i) :
    sout0_A_0 c i arg2 harg2 arg3 harg3 arg4 harg4 arg5 harg5 arg6 harg6 hc0 x0 x1 x2 = k0_pay2 x1 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  refine (View.canon_unit_zero (by decide) _ _).trans ?_
  rw [readAt_whole harg3, View.ld_unit_zero (by decide)]

/-- and in the output block the product with it. -/
theorem outA (hc0 : cond0_0 i) :
    out0_A_3 c i arg2 harg2 arg3 harg3 arg4 harg4 arg5 harg5 arg6 harg6 hc0 x0 x1 x2 = linTile (gates x2) x0 (k0_pay2 x1) := by
  unfold out0_A_3
  rw [View.read_writes_eq_canon _ _ _ (cover0_A_3 c i arg2 harg2 arg3 harg3 arg4 harg4 arg5 harg5 arg6 harg6 hc0 x0 x1 x2)]
  funext y
  refine View.canon_apply_of_pieces (linTile (gates x2) x0 (k0_pay2 x1)) _ ?_ y
    (cover0_A_3 c i arg2 harg2 arg3 harg3 arg4 harg4 arg5 harg5 arg6 harg6 hc0 x0 x1 x2 y)
  have key := piece arg2 harg2 arg4 harg4 x0 x2 (kernelRun0_A.sl.v5 c arg3 harg3 arg6 x1) (k0_pay2 x1) (by
    unfold kernelRun0_A.sl.v5 kernelRun0_A.sl.HS0_1
    refine (View.readCov_unit_zero arg6.view (by decide) _ _).trans ?_
    rw [readAt_whole harg3, View.ld_unit_zero (by decide)])
  unfold kernelRun0_A
  dsimp only
  simp only [List.forall_mem_cons]
  exact ⟨key 1920 inb_S2048x2048_S128x2048_1920_0 _, key 1792 inb_S2048x2048_S128x2048_1792_0 _,
    key 1664 inb_S2048x2048_S128x2048_1664_0 _, key 1536 inb_S2048x2048_S128x2048_1536_0 _,
    key 1408 inb_S2048x2048_S128x2048_1408_0 _, key 1280 inb_S2048x2048_S128x2048_1280_0 _,
    key 1152 inb_S2048x2048_S128x2048_1152_0 _, key 1024 inb_S2048x2048_S128x2048_1024_0 _,
    key 896 inb_S2048x2048_S128x2048_896_0 _, key 768 inb_S2048x2048_S128x2048_768_0 _,
    key 640 inb_S2048x2048_S128x2048_640_0 _, key 512 inb_S2048x2048_S128x2048_512_0 _,
    key 384 inb_S2048x2048_S128x2048_384_0 _, key 256 inb_S2048x2048_S128x2048_256_0 _,
    key 128 inb_S2048x2048_S128x2048_128_0 _, key 0 _ _, fun _ h => absurd h List.not_mem_nil⟩

end Cert.KernelGateIdeal.Value

end
-- ==== Proof.GateArray.lean ====
module

public import proofs.«01_k».proof.Proof.GateTile
public import Idealize.ShloMosaic.Lib.Claim
public import Idealize.ShloMosaic.Lib.StableHlo.ReadAt

@[expose] public section

set_option maxRecDepth 16384

noncomputable section

namespace Cert.KernelGateIdeal.Value

open Idealize.ShloMosaic Idealize.ShloMosaic.TcCoe Idealize.ShloMosaic.Tactic
open Idealize.SL Idealize.SL.Sem
open Cert.Rows Cert.KernelGateIdeal Cert.KernelGateIdeal.Gen

variable (m : (ℓ : Loc nD τ sig) → Buf (Elt Ideal) ℓ)

/-- What the windows' arrays hold when the grid begins, entry by entry. -/
theorem V_u (c : Dev nD) (b : Fin 2) (s : Fin 4096) (R : Fin 8192) (k : Fin 2048) (hR : R.val = 4096 * b.val + s.val) :
    V m c main_v3 (ix2 R k) = m ((c : Thread nD τ).loc main_arg0) (ix3 b s k) := by
  unfold V
  after_reads_at
  exact split_row (m ((c : Thread nD τ).loc main_arg0)) R.val b s k hR _ _

theorem V_w (c : Dev nD) (l : Fin 20544) (k : Fin 2048) :
    V m c main_v5 (ix2 l k) = m ((c : Thread nD τ).loc main_arg1) (ix3 0 k l) := by
  unfold V
  after_reads_at

theorem V_b (c : Dev nD) (C : Fin 4096) :
    V m c main_v1 (ix2 0 C) = m ((c : Thread nD τ).loc main_arg2) (ix2 0 C) := by
  unfold V
  after_reads_at

/-- The numbers of the windows' blocks at each point. -/
theorem idx0 : ∀ t : Fin cfg0.N, win0_0.index t (0 : Fin 2) = t.val % 4 ∧ win0_0.index t (1 : Fin 2) = 0 :=
  (by decide +kernel : ∀ t : Fin grid0.N, _)
theorem idx1 : ∀ t : Fin cfg0.N, cc0_transform_1 (grid0.coords t) (0 : Fin 2) = 16448 + 1024 * (t.val / 4) ∧ cc0_transform_1 (grid0.coords t) (1 : Fin 2) = 0 :=
  (by decide +kernel : ∀ t : Fin grid0.N, _)

theorem idx2 : ∀ t : Fin cfg0.N, win0_2.index t (0 : Fin 2) = 0 ∧ win0_2.index t (1 : Fin 2) = t.val / 4 :=
  (by decide +kernel : ∀ t : Fin grid0.N, _)

/-- The windows' blocks at a point, entry by entry, as entries of the arguments. -/
theorem iblk1 (c : Dev nD) (t : Fin cfg0.N) (l : Fin 1024) (k : Fin 2048) (L : Fin 20544) (hL : L.val = 16448 + 1024 * (t.val / 4) + l.val) :
    iblk m c 1 t (ix2 l k) = m ((c : Thread nD τ).loc main_arg1) (ix3 0 k L) := by
  unfold iblk
  rw [View.read_apply, cast_eq]
  refine Eq.trans (congrArg _ ?_) (V_w m c L k)
  obtain ⟨e0, e1⟩ := idx1 t
  funext a; apply Fin.ext
  match a with
  | ⟨0, _⟩ => show cc0_transform_1 (grid0.coords t) (0 : Fin 2) + 1 * l.val = L.val; omega
  | ⟨1, _⟩ => show cc0_transform_1 (grid0.coords t) (1 : Fin 2) + 1 * k.val = k.val; omega

theorem iblk0 (c : Dev nD) (t : Fin cfg0.N) (r : Fin 2048) (k : Fin 2048) (b : Fin 2) (s : Fin 4096) (h : 4096 * b.val + s.val = 2048 * (t.val % 4) + r.val) :
    iblk m c 0 t (ix2 r k) = m ((c : Thread nD τ).loc main_arg0) (ix3 b s k) := by
  unfold iblk
  rw [View.read_apply, cast_eq]
  refine Eq.trans (congrArg _ ?_) (V_u m c b s ⟨4096 * b.val + s.val, by omega⟩ k rfl)
  obtain ⟨e0, e1⟩ := idx0 t
  funext a; apply Fin.ext
  match a with
  | ⟨0, _⟩ => show win0_0.index t (0 : Fin 2) * 2048 + 1 * r.val = 4096 * b.val + s.val; omega
  | ⟨1, _⟩ => show win0_0.index t (1 : Fin 2) * 2048 + 1 * k.val = k.val; omega

theorem iblk2 (c : Dev nD) (t : Fin cfg0.N) (l : Fin 1024) (C : Fin 4096) (hC : C.val = 1024 * (t.val / 4) + l.val) :
    iblk m c 2 t (ix2 0 l) = m ((c : Thread nD τ).loc main_arg2) (ix2 0 C) := by
  unfold iblk
  rw [View.read_apply, cast_eq]
  refine Eq.trans (congrArg _ ?_) (V_b m c C)
  obtain ⟨e0, e1⟩ := idx2 t
  funext a; apply Fin.ext
  match a with
  | ⟨0, _⟩ => show win0_2.index t (0 : Fin 2) * 1 + 1 * 0 = 0; omega
  | ⟨1, _⟩ => show win0_2.index t (1 : Fin 2) * 1024 + 1 * l.val = C.val; omega

/-- After every point the scratch holds the transposed weight block of the point's column tile. -/
theorem scratch (c : Dev nD) : ∀ (n : ℕ) (hn : n < cfg0.N) (k : Fin 2048) (l : Fin 1024) (L : Fin 20544), L.val = 16448 + 1024 * (n / 4) + l.val →
    (outsAt0 m c n hn).2 (ix2 k l) = m ((c : Thread nD τ).loc main_arg1) (ix3 0 k L) := by
  have atA : ∀ (n : ℕ) (hn : n < cfg0.N) (h0 : n % 4 = 0) (k : Fin 2048) (l : Fin 1024) (L : Fin 20544), L.val = 16448 + 1024 * (n / 4) + l.val →
      (outsAt0 m c n hn).2 (ix2 k l) = m ((c : Thread nD τ).loc main_arg1) (ix3 0 k L) := fun n hn h0 k l L hL => by
    rw [outsAt0_A m c ⟨n, hn⟩ h0]
    dsimp only
    rw [soutA, staged, iblk1 m c ⟨n, hn⟩ l k L hL]
  intro n
  induction n with
  | zero => exact fun hn => atA 0 hn rfl
  | succ n ih =>
    intro hn k l L hL
    by_cases h0 : (n + 1) % 4 = 0
    · exact atA (n + 1) hn h0 k l L hL
    · rw [outsAt0_B m c ⟨n + 1, hn⟩ h0]
      exact ih (Nat.lt_of_succ_lt hn) k l L (by omega)

/-- What every point leaves in the output block: the product of the activation rows with the weight columns of the
    point's tile, through the gate of the column. -/
theorem out (c : Dev nD) (n : ℕ) (hn : n < cfg0.N) (r : Fin 2048) (l : Fin 1024) (b : Fin 2) (s : Fin 4096) (C : Fin 4096)
    (L : Fin 20544) (hr : 4096 * b.val + s.val = 2048 * (n % 4) + r.val) (hC : C.val = 1024 * (n / 4) + l.val)
    (hL : L.val = 16448 + 1024 * (n / 4) + l.val) :
    (outsAt0 m c n hn).1 (ix2 r l)
      = gate (m ((c : Thread nD τ).loc main_arg2) (ix2 0 C))
          (entry (m ((c : Thread nD τ).loc main_arg0)) (m ((c : Thread nD τ).loc main_arg1)) b s L) := by
  have key : (outsAt0 m c n hn).1 = linTile (gates (iblk m c 2 ⟨n, hn⟩)) (iblk m c 0 ⟨n, hn⟩) (outsAt0 m c n hn).2 := by
    by_cases h0 : n % 4 = 0
    · rw [outsAt0_A m c ⟨n, hn⟩ h0]
      dsimp only
      rw [outA, soutA]
    · rw [outsAt0_B m c ⟨n, hn⟩ h0]
      dsimp only
      rw [outB]
      rfl
  rw [key]
  refine congrArg₂ gate (iblk2 m c ⟨n, hn⟩ l C hC) (Finset.sum_congr rfl fun k _ => ?_)
  exact congrArg₂ (fun p q : EReal => p * q) (iblk0 m c ⟨n, hn⟩ r k b s hr) (scratch m c n hn k l L hL)

/-- The array the call leaves, at row `R` (row `s` of sequence `b`) and column `L`. -/
theorem G3_apply (c : Dev nD) (R : Fin 8192) (C : Fin 4096) (b : Fin 2) (s : Fin 4096) (L : Fin 20544)
    (hR : R.val = 4096 * b.val + s.val) (hL : L.val = 16448 + C.val) :
    G3 m c (ix2 R C)
      = gate (m ((c : Thread nD τ).loc main_arg2) (ix2 0 C))
          (entry (m ((c : Thread nD τ).loc main_arg0)) (m ((c : Thread nD τ).loc main_arg1)) b s L) := by
  have hp : pt3Of (ix2 R C) = R.val / 2048 + 4 * (C.val / 1024) := by
    show 1 * (R.val / 2048 - 0) + 4 * (C.val / 1024 - 0) = _
    omega
  have hlt : pt3Of (ix2 R C) < cfg0.N := by rw [hp, show cfg0.N = 16 from N_0]; omega
  unfold G3
  rw [dif_pos hlt, ← outsAt0_sweep m c _ hlt]
  have hl : loc3Of (ix2 R C) = ix2 ⟨R.val % 2048, Nat.mod_lt _ (by decide)⟩ ⟨C.val % 1024, Nat.mod_lt _ (by decide)⟩ := by
    funext a
    match a with
    | ⟨0, _⟩ => rfl
    | ⟨1, _⟩ => rfl
  rw [hl]
  refine out m c _ hlt _ _ b s C L ?_ ?_ ?_
  · rw [hp]; show _ = 2048 * _ + R.val % 2048; omega
  · rw [hp]; show _ = 1024 * _ + C.val % 1024; omega
  · rw [hp]; show _ = 16448 + 1024 * _ + C.val % 1024; omega

end Cert.KernelGateIdeal.Value
end
-- ==== Proof.GateRef.lean ====
/-
  What the reference of the branch gates computes, entry by entry: the logistic function of the entry of the joint
  in-projection plus the bias of its column.
-/
module

public import proofs.«01_k».proof.Proof.GateTile
public import proofs.«01_k».proof.Proof.Gen.RefGateIdeal.Run

@[expose] public section

noncomputable section

namespace Cert.RefGateIdeal.Value

open Idealize.ShloMosaic Idealize.ShloMosaic.TcCoe Idealize.SL.Sem
open Cert.Rows Cert.KernelGateIdeal.Value Cert.RefGateIdeal Cert.RefGateIdeal.Gen

/-- The reference's result as a function of its arguments. -/
def term (u : FVec Ideal S2x4096x2048 .f32) (w : FVec Ideal S1x2048x20544 .f32) (bias : FVec Ideal S1x4096 .f32) :
    FVec Ideal S8192x4096 .bf16 :=
  truncf .bf16 (shapeCast _ (Host.divf (broadcastInDim S2x4096x4096 ![] bcast_S_S2x4096x4096 (constant S_ .f32 0x3F800000#32)) (addf (broadcastInDim S2x4096x4096 ![] bcast_S_S2x4096x4096 (constant S_ .f32 0x3F800000#32)) (Host.exp (Host.negf (addf (extractStridedSlice S2x4096x4096 ![0, 0, 16448] (Host.dotGeneral dot_S2x4096x2048_S2048x20544_S2x4096x20544_2_0_01_1_n_n none u (shapeCast _ w shapeCasts_S1x2048x20544_S2048x20544)) slices_S2x4096x20544_S2x4096x4096_0_0_16448) (broadcastInDim S2x4096x4096 ![0, 1, 2] bcast_S1x1x4096_S2x4096x4096_0_1_2 (broadcastInDim S1x1x4096 ![2] bcast_S4096_S1x1x4096_2 (shapeCast _ bias shapeCasts_S1x4096_S4096)))))))) shapeCasts_S2x4096x4096_S8192x4096) bitsLt_bf16_f32

/-- Each entry of the reference's result. -/
theorem term_apply (u : FVec Ideal S2x4096x2048 .f32) (w : FVec Ideal S1x2048x20544 .f32) (bias : FVec Ideal S1x4096 .f32)
    (R : Fin 8192) (C : Fin 4096) (b : Fin 2) (s : Fin 4096) (hR : R.val = 4096 * b.val + s.val) :
    term u w bias (ix2 R C) = gate (bias (ix2 0 C)) (entry u w b s ⟨16448 + C.val, by omega⟩) := by
  pointwise [term]
  exact congrArg (gate (bias (ix2 0 C))) (Finset.sum_congr rfl fun k _ =>
    congrArg (fun z : EReal => z * w (ix3 0 k ⟨16448 + C.val, by omega⟩)) (split_row u R.val b s k hR _ _))

end Cert.RefGateIdeal.Value

end
-- ==== Proof.MixTile.lean ====
/-
  What one block of the call `mix` computes: the two branches' outputs, each the product of its rows with its weight
  columns, weighted by their gates and added.
-/
module

public import proofs.«01_k».proof.Proof.Gen.KernelMixIdeal.Value
public import proofs.«01_k».proof.Proof.Rows

@[expose] public section

set_option maxRecDepth 16384

noncomputable section

namespace Cert.KernelMixIdeal.Value

open Idealize.ShloMosaic Idealize.ShloMosaic.TcCoe Idealize.ShloMosaic.Tactic
open Idealize.SL Idealize.SL.Sem
open Cert.Rows Cert.KernelMixIdeal Cert.KernelMixIdeal.Gen

/-- The gate blocks `g0`, `g1` times the products of the blocks `x0`, `x1` with the weight blocks `S0`, `S1`. -/
def mixed {A : Nat} (x0 : (⟨2, ![A, 4096]⟩ : Shape).Idx → EReal) (x1 : (⟨2, ![A, 2048]⟩ : Shape).Idx → EReal)
    (S0 : (⟨2, ![4096, 512]⟩ : Shape).Idx → EReal) (S1 : (⟨2, ![2048, 512]⟩ : Shape).Idx → EReal)
    (g0 g1 : (⟨2, ![A, 512]⟩ : Shape).Idx → EReal) : (⟨2, ![A, 512]⟩ : Shape).Idx → EReal :=
  fun y => g0 y * (∑ k : Fin 4096, x0 (ix2 (y 0) k) * S0 (ix2 k (y 1)))
    + g1 y * (∑ k : Fin 2048, x1 (ix2 (y 0) k) * S1 (ix2 k (y 1)))

/-- A chunk's payload, entry by entry. -/
theorem chunk (a0 : Vec Ideal S128x4096 .bf16) (S0 : Vec Ideal S4096x512 .bf16) (a1 : Vec Ideal S128x2048 .bf16)
    (S1 : Vec Ideal S2048x512 .bf16) (g0 g1 : Vec Ideal S128x512 .bf16) (r : Fin 128) (l : Fin 512) :
    k0_pay7 a0 S0 a1 S1 g0 g1 (ix2 r l) = mixed a0 a1 S0 S1 g0 g1 (ix2 r l) := by
  pointwise [k0_pay7, mixed]

/-- The scratches hold the weight blocks as they are. -/
theorem staged0 (w : Vec Ideal S4096x512 .f32) : k0_pay3 w = w := by
  funext y
  obtain ⟨k, l, rfl⟩ : ∃ (k : Fin 4096) (l : Fin 512), y = ix2 k l := ⟨y 0, y 1, eq_ix2 y⟩
  pointwise [k0_pay3]

/-- So are the second branch's. -/
theorem staged1 (w : Vec Ideal S2048x512 .f32) : k0_pay4 w = w := by
  funext y
  obtain ⟨k, l, rfl⟩ : ∃ (k : Fin 2048) (l : Fin 512), y = ix2 k l := ⟨y 0, y 1, eq_ix2 y⟩
  pointwise [k0_pay4]

variable (c : Dev nD) (i : grid0.Coords) (arg2 : Memref sig .tc .vmem S512x4096 .bf16) (harg2 : arg2.IsWhole)
  (arg3 : Memref sig .tc .vmem S512x2048 .bf16) (harg3 : arg3.IsWhole) (arg4 : Memref sig .tc .vmem S4096x512 .f32)
  (harg4 : arg4.IsWhole) (arg5 : Memref sig .tc .vmem S2048x512 .f32) (harg5 : arg5.IsWhole)
  (arg6 : Memref sig .tc .vmem S512x512 .bf16) (harg6 : arg6.IsWhole) (arg7 : Memref sig .tc .vmem S512x512 .bf16)
  (harg7 : arg7.IsWhole) (arg8 : Memref sig .tc .vmem S512x512 .bf16) (harg8 : arg8.IsWhole)
  (arg9 : Memref sig .tc .vmem S4096x512 .bf16) (harg9 : arg9.IsWhole) (arg10 : Memref sig .tc .vmem S2048x512 .bf16)
  (harg10 : arg10.IsWhole)
  (x0 : Vec Ideal S512x4096 .bf16) (x1 : Vec Ideal S512x2048 .bf16) (x2 : Vec Ideal S4096x512 .f32)
  (x3 : Vec Ideal S2048x512 .f32) (x4 x5 : Vec Ideal S512x512 .bf16)
  (xs0 : Vec Ideal S4096x512 .bf16) (xs1 : Vec Ideal S2048x512 .bf16)

/-- The chunk of rows at `o`, read from the four blocks and contracted with the scratches' contents. -/
theorem piece (T0 S0 : Vec Ideal S4096x512 .bf16) (hT0 : T0 = S0) (T1 S1 : Vec Ideal S2048x512 .bf16) (hT1 : T1 = S1) (o : Nat)
    (inb0 : ∀ a, (![o, 0] : Fin 2 → Nat) a + S128x4096.size a ≤ S512x4096.size a)
    (inb1 : ∀ a, (![o, 0] : Fin 2 → Nat) a + S128x2048.size a ≤ S512x2048.size a)
    (inb2 inb3 inb' : ∀ a, (![o, 0] : Fin 2 → Nat) a + S128x512.size a ≤ S512x512.size a) (x : S128x512.Idx) :
    k0_pay7 (View.readAt (Elt Ideal) arg2.view (Rect.unit (s := S512x4096) ![o, 0] S128x4096.size inb0).toLoadRect (harg2.unread x0)) T0
        (View.readAt (Elt Ideal) arg3.view (Rect.unit (s := S512x2048) ![o, 0] S128x2048.size inb1).toLoadRect (harg3.unread x1)) T1
        (View.readAt (Elt Ideal) arg6.view (Rect.unit (s := S512x512) ![o, 0] S128x512.size inb2).toLoadRect (harg6.unread x4))
        (View.readAt (Elt Ideal) arg7.view (Rect.unit (s := S512x512) ![o, 0] S128x512.size inb3).toLoadRect (harg7.unread x5)) x
      = mixed x0 x1 S0 S1 x4 x5 ((Rect.unit (s := S512x512) ![o, 0] S128x512.size inb').emb x) := by
  rw [readAt_whole harg2, readAt_whole harg3, readAt_whole harg6, readAt_whole harg7, hT0, hT1]
  refine rows_piece (mixed x0 x1 S0 S1 x4 x5) o inb' _ (fun r l j hj => ?_) x
  rw [chunk]
  refine congrArg₂ (fun p q : EReal => p + q)
    (congrArg₂ (fun p q : EReal => p * q) (ld_rows (e := .bf16) x4 inb2 r l j hj) (Finset.sum_congr rfl fun k _ => ?_))
    (congrArg₂ (fun p q : EReal => p * q) (ld_rows (e := .bf16) x5 inb3 r l j hj) (Finset.sum_congr rfl fun k _ => ?_))
  · exact congrArg (fun z : EReal => z * S0 (ix2 k l)) (ld_rows (e := .bf16) x0 inb0 r k j hj)
  · exact congrArg (fun z : EReal => z * S1 (ix2 k l)) (ld_rows (e := .bf16) x1 inb1 r k j hj)

/-- At a later row tile the body leaves that block, made from the weights that the first one staged. -/
theorem outB (hc0 : ¬ cond0_0 i) :
    out0_B_6 c i arg2 harg2 arg3 harg3 arg4 harg4 arg5 harg5 arg6 harg6 arg7 harg7 arg8 harg8 arg9 harg9 arg10 harg10 hc0 x0 x1 x2 x3 x4 x5 xs0 xs1
      = mixed x0 x1 xs0 xs1 x4 x5 := by
  unfold out0_B_6
  rw [View.read_writes_eq_canon _ _ _ (cover0_B_6 c i arg2 harg2 arg3 harg3 arg4 harg4 arg5 harg5 arg6 harg6 arg7 harg7 arg8 harg8 arg9 harg9 arg10 harg10 hc0 x0 x1 x2 x3 x4 x5 xs0 xs1)]
  funext y
  refine View.canon_apply_of_pieces (mixed x0 x1 xs0 xs1 x4 x5) _ ?_ y
    (cover0_B_6 c i arg2 harg2 arg3 harg3 arg4 harg4 arg5 harg5 arg6 harg6 arg7 harg7 arg8 harg8 arg9 harg9 arg10 harg10 hc0 x0 x1 x2 x3 x4 x5 xs0 xs1 y)
  have key := piece arg2 harg2 arg3 harg3 arg6 harg6 arg7 harg7 x0 x1 x4 x5
    (View.readAt (Elt Ideal) arg9.view (Rect.unit (s := S4096x512) ![0, 0] ![4096, 512] inb_S4096x512_S4096x512_0_0).toLoadRect (harg9.unread xs0)) xs0
    (by rw [readAt_whole harg9]; exact View.ld_unit_zero (by decide) _ _)
    (View.readAt (Elt Ideal) arg10.view (Rect.unit (s := S2048x512) ![0, 0] ![2048, 512] inb_S2048x512_S2048x512_0_0).toLoadRect (harg10.unread xs1)) xs1
    (by rw [readAt_whole harg10]; exact View.ld_unit_zero (by decide) _ _)
  unfold kernelRun0_B
  dsimp only
  simp only [List.forall_mem_cons]
  exact ⟨key 384 inb_S512x4096_S128x4096_384_0 inb_S512x2048_S128x2048_384_0 inb_S512x512_S128x512_384_0 inb_S512x512_S128x512_384_0 _,
    key 256 inb_S512x4096_S128x4096_256_0 inb_S512x2048_S128x2048_256_0 inb_S512x512_S128x512_256_0 inb_S512x512_S128x512_256_0 _,
    key 128 inb_S512x4096_S128x4096_128_0 inb_S512x2048_S128x2048_128_0 inb_S512x512_S128x512_128_0 inb_S512x512_S128x512_128_0 _,
    key 0 inb_S512x4096_S128x4096_0_0 inb_S512x2048_S128x2048_0_0 inb_S512x512_S128x512_0_0 inb_S512x512_S128x512_0_0 _,
    fun _ h => absurd h List.not_mem_nil⟩

/-- At the first row tile of a column tile the body leaves the weight blocks in the scratches. -/
theorem soutA0 (hc0 : cond0_0 i) :
    sout0_A_0 c i arg2 harg2 arg3 harg3 arg4 harg4 arg5 harg5 arg6 harg6 arg7 harg7 arg8 harg8 arg9 harg9 arg10 harg10 hc0 x0 x1 x2 x3 x4 x5 = k0_pay3 x2 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 x0 x1 x2 x3 x4 x5)]
  unfold kernelRun0_A
  dsimp only
  refine (View.canon_unit_zero (by decide) _ _).trans ?_
  rw [readAt_whole harg4, View.ld_unit_zero (by decide)]

/-- At the first row tile the body leaves the second branch's weights in its scratch. -/
theorem soutA1 (hc0 : cond0_0 i) :
    sout0_A_1 c i arg2 harg2 arg3 harg3 arg4 harg4 arg5 harg5 arg6 harg6 arg7 harg7 arg8 harg8 arg9 harg9 arg10 harg10 hc0 x0 x1 x2 x3 x4 x5 = k0_pay4 x3 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 x0 x1 x2 x3 x4 x5)]
  unfold kernelRun0_A
  dsimp only
  refine (View.canon_unit_zero (by decide) _ _).trans ?_
  rw [readAt_whole harg5, View.ld_unit_zero (by decide)]

/-- and in the output block the mixture of the products with them. -/
theorem outA (hc0 : cond0_0 i) :
    out0_A_6 c i arg2 harg2 arg3 harg3 arg4 harg4 arg5 harg5 arg6 harg6 arg7 harg7 arg8 harg8 arg9 harg9 arg10 harg10 hc0 x0 x1 x2 x3 x4 x5
      = mixed x0 x1 (k0_pay3 x2) (k0_pay4 x3) x4 x5 := by
  unfold out0_A_6
  rw [View.read_writes_eq_canon _ _ _ (cover0_A_6 c i arg2 harg2 arg3 harg3 arg4 harg4 arg5 harg5 arg6 harg6 arg7 harg7 arg8 harg8 arg9 harg9 arg10 harg10 hc0 x0 x1 x2 x3 x4 x5)]
  funext y
  refine View.canon_apply_of_pieces (mixed x0 x1 (k0_pay3 x2) (k0_pay4 x3) x4 x5) _ ?_ y
    (cover0_A_6 c i arg2 harg2 arg3 harg3 arg4 harg4 arg5 harg5 arg6 harg6 arg7 harg7 arg8 harg8 arg9 harg9 arg10 harg10 hc0 x0 x1 x2 x3 x4 x5 y)
  have key := piece arg2 harg2 arg3 harg3 arg6 harg6 arg7 harg7 x0 x1 x4 x5
    (kernelRun0_A.sl.v5 c arg4 harg4 arg9 x2) (k0_pay3 x2) (by
      unfold kernelRun0_A.sl.v5 kernelRun0_A.sl.HS0_1
      refine (View.readCov_unit_zero arg9.view (by decide) _ _).trans ?_
      rw [readAt_whole harg4, View.ld_unit_zero (by decide)])
    (kernelRun0_A.sl.v9 c arg5 harg5 arg10 x3) (k0_pay4 x3) (by
      unfold kernelRun0_A.sl.v9 kernelRun0_A.sl.HS1_1
      refine (View.readCov_unit_zero arg10.view (by decide) _ _).trans ?_
      rw [readAt_whole harg5, View.ld_unit_zero (by decide)])
  unfold kernelRun0_A
  dsimp only
  simp only [List.forall_mem_cons]
  exact ⟨key 384 inb_S512x4096_S128x4096_384_0 inb_S512x2048_S128x2048_384_0 inb_S512x512_S128x512_384_0 inb_S512x512_S128x512_384_0 _,
    key 256 inb_S512x4096_S128x4096_256_0 inb_S512x2048_S128x2048_256_0 inb_S512x512_S128x512_256_0 inb_S512x512_S128x512_256_0 _,
    key 128 inb_S512x4096_S128x4096_128_0 inb_S512x2048_S128x2048_128_0 inb_S512x512_S128x512_128_0 inb_S512x512_S128x512_128_0 _,
    key 0 inb_S512x4096_S128x4096_0_0 inb_S512x2048_S128x2048_0_0 inb_S512x512_S128x512_0_0 inb_S512x512_S128x512_0_0 _,
    fun _ h => absurd h List.not_mem_nil⟩

end Cert.KernelMixIdeal.Value

end
-- ==== Proof.MixArray.lean ====
/-
  What the call `mix` leaves in its array: at each row and column the two branches' projections, each weighted by its gate.
-/
module

public import proofs.«01_k».proof.Proof.MixTile
public import Idealize.ShloMosaic.Lib.Claim
public import Idealize.ShloMosaic.Lib.StableHlo.ReadAt

@[expose] public section

set_option maxRecDepth 16384

noncomputable section

namespace Cert.KernelMixIdeal.Value

open Idealize.ShloMosaic Idealize.ShloMosaic.TcCoe Idealize.ShloMosaic.Tactic
open Idealize.SL Idealize.SL.Sem
open Cert.Rows Cert.KernelMixIdeal Cert.KernelMixIdeal.Gen

variable (m : (ℓ : Loc nD τ sig) → Buf (Elt Ideal) ℓ)

/-- The result's entry: row `s` of sequence `b`, column `C`. The gates' first 2048 columns weight the first branch, the
    others the second. -/
def mix (y : (⟨3, ![2, 4096, 4096]⟩ : Shape).Idx → EReal) (a : (⟨3, ![2, 4096, 2048]⟩ : Shape).Idx → EReal)
    (g : (⟨3, ![2, 4096, 4096]⟩ : Shape).Idx → EReal) (ws : (⟨3, ![1, 4096, 2048]⟩ : Shape).Idx → EReal)
    (wa : (⟨3, ![1, 2048, 2048]⟩ : Shape).Idx → EReal) (b : Fin 2) (s : Fin 4096) (C : Fin 2048) : EReal :=
  g (ix3 b s ⟨C.val, by omega⟩) * (∑ k : Fin 4096, y (ix3 b s k) * ws (ix3 0 k C))
    + g (ix3 b s ⟨2048 + C.val, by omega⟩) * (∑ k : Fin 2048, a (ix3 b s k) * wa (ix3 0 k C))

/-- What the windows' arrays hold when the grid begins, entry by entry. -/
theorem V_y (c : Dev nD) (b : Fin 2) (s : Fin 4096) (R : Fin 8192) (k : Fin 4096) (hR : R.val = 4096 * b.val + s.val) :
    V m c main_v1 (ix2 R k) = m ((c : Thread nD τ).loc main_arg0) (ix3 b s k) := by
  unfold V
  after_reads_at
  exact split_row (m ((c : Thread nD τ).loc main_arg0)) R.val b s k hR _ _

theorem V_a (c : Dev nD) (b : Fin 2) (s : Fin 4096) (R : Fin 8192) (k : Fin 2048) (hR : R.val = 4096 * b.val + s.val) :
    V m c main_v3 (ix2 R k) = m ((c : Thread nD τ).loc main_arg1) (ix3 b s k) := by
  unfold V
  after_reads_at
  exact split_row (m ((c : Thread nD τ).loc main_arg1)) R.val b s k hR _ _

theorem V_g (c : Dev nD) (b : Fin 2) (s : Fin 4096) (R : Fin 8192) (k : Fin 4096) (hR : R.val = 4096 * b.val + s.val) :
    V m c main_v5 (ix2 R k) = m ((c : Thread nD τ).loc main_arg2) (ix3 b s k) := by
  unfold V
  after_reads_at
  exact split_row (m ((c : Thread nD τ).loc main_arg2)) R.val b s k hR _ _

theorem V_ws (c : Dev nD) (k : Fin 4096) (C : Fin 2048) :
    V m c main_v6 (ix2 k C) = m ((c : Thread nD τ).loc main_arg3) (ix3 0 k C) := by
  unfold V
  after_reads_at

theorem V_wa (c : Dev nD) (k : Fin 2048) (C : Fin 2048) :
    V m c main_v7 (ix2 k C) = m ((c : Thread nD τ).loc main_arg4) (ix3 0 k C) := by
  unfold V
  after_reads_at

/-- The numbers of the windows' blocks at each point. -/
theorem idx0 : ∀ t : Fin cfg0.N, win0_0.index t (0 : Fin 2) = t.val % 16 ∧ win0_0.index t (1 : Fin 2) = 0 :=
  (by decide +kernel : ∀ t : Fin grid0.N, _)
theorem idx1 : ∀ t : Fin cfg0.N, win0_1.index t (0 : Fin 2) = t.val % 16 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val / 16 :=
  (by decide +kernel : ∀ t : Fin grid0.N, _)
theorem idx3 : ∀ t : Fin cfg0.N, win0_3.index t (0 : Fin 2) = 0 ∧ win0_3.index t (1 : Fin 2) = t.val / 16 :=
  (by decide +kernel : ∀ t : Fin grid0.N, _)
theorem idx4 : ∀ t : Fin cfg0.N, win0_4.index t (0 : Fin 2) = t.val % 16 ∧ win0_4.index t (1 : Fin 2) = t.val / 16 :=
  (by decide +kernel : ∀ t : Fin grid0.N, _)
theorem idx5 : ∀ t : Fin cfg0.N, win0_5.index t (0 : Fin 2) = t.val % 16 ∧ win0_5.index t (1 : Fin 2) = t.val / 16 + 4 :=
  (by decide +kernel : ∀ t : Fin grid0.N, _)

/-- The windows' blocks at a point, entry by entry, as entries of the arguments. -/
theorem iblk0 (c : Dev nD) (t : Fin cfg0.N) (r : Fin 512) (k : Fin 4096) (b : Fin 2) (s : Fin 4096)
    (h : 4096 * b.val + s.val = 512 * (t.val % 16) + r.val) :
    iblk m c 0 t (ix2 r k) = m ((c : Thread nD τ).loc main_arg0) (ix3 b s k) := by
  unfold iblk
  rw [View.read_apply, cast_eq]
  refine Eq.trans (congrArg _ ?_) (V_y m c b s ⟨4096 * b.val + s.val, by omega⟩ k rfl)
  obtain ⟨e0, e1⟩ := idx0 t
  funext a; apply Fin.ext
  match a with
  | ⟨0, _⟩ => show win0_0.index t (0 : Fin 2) * 512 + 1 * r.val = 4096 * b.val + s.val; omega
  | ⟨1, _⟩ => show win0_0.index t (1 : Fin 2) * 4096 + 1 * k.val = k.val; omega

theorem iblk1 (c : Dev nD) (t : Fin cfg0.N) (r : Fin 512) (k : Fin 2048) (b : Fin 2) (s : Fin 4096)
    (h : 4096 * b.val + s.val = 512 * (t.val % 16) + r.val) :
    iblk m c 1 t (ix2 r k) = m ((c : Thread nD τ).loc main_arg1) (ix3 b s k) := by
  unfold iblk
  rw [View.read_apply, cast_eq]
  refine Eq.trans (congrArg _ ?_) (V_a m c b s ⟨4096 * b.val + s.val, by omega⟩ k rfl)
  obtain ⟨e0, e1⟩ := idx1 t
  funext a; apply Fin.ext
  match a with
  | ⟨0, _⟩ => show win0_1.index t (0 : Fin 2) * 512 + 1 * r.val = 4096 * b.val + s.val; omega
  | ⟨1, _⟩ => show win0_1.index t (1 : Fin 2) * 2048 + 1 * k.val = k.val; omega

theorem iblk2 (c : Dev nD) (t : Fin cfg0.N) (k : Fin 4096) (l : Fin 512) (C : Fin 2048) (hC : C.val = 512 * (t.val / 16) + l.val) :
    iblk m c 2 t (ix2 k l) = m ((c : Thread nD τ).loc main_arg3) (ix3 0 k C) := by
  unfold iblk
  rw [View.read_apply, cast_eq]
  refine Eq.trans (congrArg _ ?_) (V_ws m c k C)
  obtain ⟨e0, e1⟩ := idx2 t
  funext a; apply Fin.ext
  match a with
  | ⟨0, _⟩ => show win0_2.index t (0 : Fin 2) * 4096 + 1 * k.val = k.val; omega
  | ⟨1, _⟩ => show win0_2.index t (1 : Fin 2) * 512 + 1 * l.val = C.val; omega

theorem iblk3 (c : Dev nD) (t : Fin cfg0.N) (k : Fin 2048) (l : Fin 512) (C : Fin 2048) (hC : C.val = 512 * (t.val / 16) + l.val) :
    iblk m c 3 t (ix2 k l) = m ((c : Thread nD τ).loc main_arg4) (ix3 0 k C) := by
  unfold iblk
  rw [View.read_apply, cast_eq]
  refine Eq.trans (congrArg _ ?_) (V_wa m c k C)
  obtain ⟨e0, e1⟩ := idx3 t
  funext a; apply Fin.ext
  match a with
  | ⟨0, _⟩ => show win0_3.index t (0 : Fin 2) * 2048 + 1 * k.val = k.val; omega
  | ⟨1, _⟩ => show win0_3.index t (1 : Fin 2) * 512 + 1 * l.val = C.val; omega

theorem iblk4 (c : Dev nD) (t : Fin cfg0.N) (r : Fin 512) (l : Fin 512) (b : Fin 2) (s : Fin 4096) (K : Fin 4096)
    (h : 4096 * b.val + s.val = 512 * (t.val % 16) + r.val) (hK : K.val = 512 * (t.val / 16) + l.val) :
    iblk m c 4 t (ix2 r l) = m ((c : Thread nD τ).loc main_arg2) (ix3 b s K) := by
  unfold iblk
  rw [View.read_apply, cast_eq]
  refine Eq.trans (congrArg _ ?_) (V_g m c b s ⟨4096 * b.val + s.val, by omega⟩ K rfl)
  obtain ⟨e0, e1⟩ := idx4 t
  funext a; apply Fin.ext
  match a with
  | ⟨0, _⟩ => show win0_4.index t (0 : Fin 2) * 512 + 1 * r.val = 4096 * b.val + s.val; omega
  | ⟨1, _⟩ => show win0_4.index t (1 : Fin 2) * 512 + 1 * l.val = K.val; omega

theorem iblk5 (c : Dev nD) (t : Fin cfg0.N) (r : Fin 512) (l : Fin 512) (b : Fin 2) (s : Fin 4096) (K : Fin 4096)
    (h : 4096 * b.val + s.val = 512 * (t.val % 16) + r.val) (hK : K.val = 512 * (t.val / 16 + 4) + l.val) :
    iblk m c 5 t (ix2 r l) = m ((c : Thread nD τ).loc main_arg2) (ix3 b s K) := by
  unfold iblk
  rw [View.read_apply, cast_eq]
  refine Eq.trans (congrArg _ ?_) (V_g m c b s ⟨4096 * b.val + s.val, by omega⟩ K rfl)
  obtain ⟨e0, e1⟩ := idx5 t
  funext a; apply Fin.ext
  match a with
  | ⟨0, _⟩ => show win0_5.index t (0 : Fin 2) * 512 + 1 * r.val = 4096 * b.val + s.val; omega
  | ⟨1, _⟩ => show win0_5.index t (1 : Fin 2) * 512 + 1 * l.val = K.val; omega

/-- After every point the scratches hold the weight blocks of the point's column tile. -/
theorem scratch (c : Dev nD) : ∀ (n : ℕ) (hn : n < cfg0.N) (l : Fin 512) (C : Fin 2048), C.val = 512 * (n / 16) + l.val →
    (∀ k : Fin 4096, (outsAt0 m c n hn).2.1 (ix2 k l) = m ((c : Thread nD τ).loc main_arg3) (ix3 0 k C))
      ∧ ∀ k : Fin 2048, (outsAt0 m c n hn).2.2 (ix2 k l) = m ((c : Thread nD τ).loc main_arg4) (ix3 0 k C) := by
  have atA : ∀ (n : ℕ) (hn : n < cfg0.N) (h0 : n % 16 = 0) (l : Fin 512) (C : Fin 2048), C.val = 512 * (n / 16) + l.val →
      (∀ k : Fin 4096, (outsAt0 m c n hn).2.1 (ix2 k l) = m ((c : Thread nD τ).loc main_arg3) (ix3 0 k C))
        ∧ ∀ k : Fin 2048, (outsAt0 m c n hn).2.2 (ix2 k l) = m ((c : Thread nD τ).loc main_arg4) (ix3 0 k C) := fun n hn h0 l C hC => by
    rw [outsAt0_A m c ⟨n, hn⟩ h0]
    dsimp only
    refine ⟨fun k => ?_, fun k => ?_⟩
    · rw [soutA0, staged0, iblk2 m c ⟨n, hn⟩ k l C hC]
    · rw [soutA1, staged1, iblk3 m c ⟨n, hn⟩ k l C hC]
  intro n
  induction n with
  | zero => exact fun hn => atA 0 hn rfl
  | succ n ih =>
    intro hn l C hC
    by_cases h0 : (n + 1) % 16 = 0
    · exact atA (n + 1) hn h0 l C hC
    · rw [outsAt0_B m c ⟨n + 1, hn⟩ h0]
      exact ih (Nat.lt_of_succ_lt hn) l C (by omega)

/-- What every point leaves in the output block. -/
theorem out (c : Dev nD) (n : ℕ) (hn : n < cfg0.N) (r : Fin 512) (l : Fin 512) (b : Fin 2) (s : Fin 4096) (C : Fin 2048)
    (hr : 4096 * b.val + s.val = 512 * (n % 16) + r.val) (hC : C.val = 512 * (n / 16) + l.val) :
    (outsAt0 m c n hn).1 (ix2 r l)
      = mix (m ((c : Thread nD τ).loc main_arg0)) (m ((c : Thread nD τ).loc main_arg1)) (m ((c : Thread nD τ).loc main_arg2))
          (m ((c : Thread nD τ).loc main_arg3)) (m ((c : Thread nD τ).loc main_arg4)) b s C := by
  have key : (outsAt0 m c n hn).1 = mixed (iblk m c 0 ⟨n, hn⟩) (iblk m c 1 ⟨n, hn⟩) (outsAt0 m c n hn).2.1 (outsAt0 m c n hn).2.2
      (iblk m c 4 ⟨n, hn⟩) (iblk m c 5 ⟨n, hn⟩) := by
    by_cases h0 : n % 16 = 0
    · rw [outsAt0_A m c ⟨n, hn⟩ h0]
      dsimp only
      rw [outA, soutA0, soutA1]
    · rw [outsAt0_B m c ⟨n, hn⟩ h0]
      dsimp only
      rw [outB]
      rfl
  rw [key]
  obtain ⟨hs, ha⟩ := scratch m c n hn l C hC
  exact congrArg₂ (fun p q : EReal => p + q)
    (congrArg₂ (fun p q : EReal => p * q) (iblk4 m c ⟨n, hn⟩ r l b s ⟨C.val, by omega⟩ hr hC) (Finset.sum_congr rfl fun k _ =>
      congrArg₂ (fun p q : EReal => p * q) (iblk0 m c ⟨n, hn⟩ r k b s hr) (hs k)))
    (congrArg₂ (fun p q : EReal => p * q)
      (iblk5 m c ⟨n, hn⟩ r l b s ⟨2048 + C.val, by omega⟩ hr (by show 2048 + C.val = 512 * (n / 16 + 4) + l.val; omega))
      (Finset.sum_congr rfl fun k _ => congrArg₂ (fun p q : EReal => p * q) (iblk1 m c ⟨n, hn⟩ r k b s hr) (ha k)))

/-- The array the call leaves, at row `R` (row `s` of sequence `b`) and column `C`. -/
theorem G6_apply (c : Dev nD) (R : Fin 8192) (C : Fin 2048) (b : Fin 2) (s : Fin 4096) (hR : R.val = 4096 * b.val + s.val) :
    G6 m c (ix2 R C)
      = mix (m ((c : Thread nD τ).loc main_arg0)) (m ((c : Thread nD τ).loc main_arg1)) (m ((c : Thread nD τ).loc main_arg2))
          (m ((c : Thread nD τ).loc main_arg3)) (m ((c : Thread nD τ).loc main_arg4)) b s C := by
  have hp : pt6Of (ix2 R C) = R.val / 512 + 16 * (C.val / 512) := by
    show 1 * (R.val / 512 - 0) + 16 * (C.val / 512 - 0) = _
    omega
  have hlt : pt6Of (ix2 R C) < cfg0.N := by rw [hp, show cfg0.N = 64 from N_0]; omega
  unfold G6
  rw [dif_pos hlt, ← outsAt0_sweep m c _ hlt]
  have hl : loc6Of (ix2 R C) = ix2 ⟨R.val % 512, Nat.mod_lt _ (by decide)⟩ ⟨C.val % 512, Nat.mod_lt _ (by decide)⟩ := by
    funext a
    match a with
    | ⟨0, _⟩ => rfl
    | ⟨1, _⟩ => rfl
  rw [hl]
  refine out m c _ hlt _ _ b s C ?_ ?_
  · rw [hp]; show _ = 512 * _ + R.val % 512; omega
  · rw [hp]; show _ = 512 * _ + C.val % 512; omega

end Cert.KernelMixIdeal.Value

end
-- ==== Proof.MixRef.lean ====
/-
  What the reference of the mixture of the two branches computes, entry by entry.
-/
module

public import proofs.«01_k».proof.Proof.MixArray
public import proofs.«01_k».proof.Proof.Gen.RefMixIdeal.Run

@[expose] public section

noncomputable section

namespace Cert.RefMixIdeal.Value

open Idealize.ShloMosaic Idealize.ShloMosaic.TcCoe Idealize.SL.Sem
open Cert.Rows Cert.RefMixIdeal Cert.RefMixIdeal.Gen
open Cert.KernelMixIdeal.Value (mix)

/-- The first or second half of the gates' columns. -/
def half (g : FVec Ideal S2x4096x4096 .f32) (o : Fin 4 → Nat) (h : S2x4096x2x2048.Slices o S2x4096x1x2048) : FVec Ideal S2x4096x2048 .f32 :=
  shapeCast _ (extractStridedSlice S2x4096x1x2048 o (shapeCast _ g shapeCasts_S2x4096x4096_S2x4096x2x2048) h) shapeCasts_S2x4096x1x2048_S2x4096x2048

/-- The reference's result as a function of its arguments. -/
def term (y : FVec Ideal S2x4096x4096 .f32) (a : FVec Ideal S2x4096x2048 .f32) (g : FVec Ideal S2x4096x4096 .f32)
    (ws : FVec Ideal S1x4096x2048 .f32) (wa : FVec Ideal S1x2048x2048 .f32) : FVec Ideal S8192x2048 .bf16 :=
  truncf .bf16 (shapeCast _ (addf (mulf (half g ![0, 0, 0, 0] slices_S2x4096x2x2048_S2x4096x1x2048_0_0_0_0) (Host.dotGeneral dot_S2x4096x4096_S4096x2048_S2x4096x2048_2_0_01_1_n_n none y (shapeCast _ ws shapeCasts_S1x4096x2048_S4096x2048))) (mulf (half g ![0, 0, 1, 0] slices_S2x4096x2x2048_S2x4096x1x2048_0_0_1_0) (Host.dotGeneral dot_S2x4096x2048_S2048x2048_S2x4096x2048_2_0_01_1_n_n none a (shapeCast _ wa shapeCasts_S1x2048x2048_S2048x2048)))) shapeCasts_S2x4096x2048_S8192x2048) bitsLt_bf16_f32

/-- Each entry of the reference's result. -/
theorem term_apply (y : FVec Ideal S2x4096x4096 .f32) (a : FVec Ideal S2x4096x2048 .f32) (g : FVec Ideal S2x4096x4096 .f32)
    (ws : FVec Ideal S1x4096x2048 .f32) (wa : FVec Ideal S1x2048x2048 .f32)
    (R : Fin 8192) (C : Fin 2048) (b : Fin 2) (s : Fin 4096) (hR : R.val = 4096 * b.val + s.val) :
    term y a g ws wa (ix2 R C) = mix y a g ws wa b s C := by
  pointwise [term, half]
  exact congrArg₂ (fun p q : EReal => p + q)
    (congrArg₂ (fun p q : EReal => p * q) (split_row g R.val b s ⟨C.val, by omega⟩ hR _ _) (Finset.sum_congr rfl fun k _ =>
      congrArg (fun z : EReal => z * ws (ix3 0 k C)) (split_row y R.val b s k hR _ _)))
    (congrArg₂ (fun p q : EReal => p * q) (split_row g R.val b s ⟨2048 + C.val, by omega⟩ hR _ _) (Finset.sum_congr rfl fun k _ =>
      congrArg (fun z : EReal => z * wa (ix3 0 k C)) (split_row a R.val b s k hR _ _)))

end Cert.RefMixIdeal.Value

end
-- ==== Proof.OutTile.lean ====
/-
  What one block of the call `out_proj` computes: the residual stream plus the product of the mixed rows with the weights,
  and that sum's norm.
-/
module

public import proofs.«01_k».proof.Proof.Gen.KernelOutIdeal.Value
public import proofs.«01_k».proof.Proof.Rows
public import proofs.«01_k».proof.Proof.Norm

@[expose] public section

set_option maxRecDepth 16384

noncomputable section

namespace Cert.KernelOutIdeal.Value

open Idealize.ShloMosaic Idealize.ShloMosaic.TcCoe Idealize.ShloMosaic.Tactic
open Idealize.SL Idealize.SL.Sem
open Cert.Rows Cert.Norm Cert.KernelOutIdeal Cert.KernelOutIdeal.Gen

/-- The residual block `x2` plus the product of the block `x0` with the weights `x1`. -/
def plus (x0 : (⟨2, ![512, 2048]⟩ : Shape).Idx → EReal) (x1 : (⟨2, ![2048, 2048]⟩ : Shape).Idx → EReal)
    (x2 : (⟨2, ![512, 2048]⟩ : Shape).Idx → EReal) : (⟨2, ![512, 2048]⟩ : Shape).Idx → EReal :=
  fun y => x2 y + ∑ k : Fin 2048, x0 (ix2 (y 0) k) * x1 (ix2 k (y 1))

/-- The norm of each row of that sum, with the weights `x3`. -/
def normed (x0 : (⟨2, ![512, 2048]⟩ : Shape).Idx → EReal) (x1 : (⟨2, ![2048, 2048]⟩ : Shape).Idx → EReal)
    (x2 : (⟨2, ![512, 2048]⟩ : Shape).Idx → EReal) (x3 : (⟨2, ![1, 2048]⟩ : Shape).Idx → EReal) :
    (⟨2, ![512, 2048]⟩ : Shape).Idx → EReal :=
  fun y => rms 0x45000000#32 (fun k => plus x0 x1 x2 (ix2 (y 0) k)) (fun k => x3 (ix2 0 k)) (y 1)

/-- A chunk's sum, entry by entry. -/
theorem chunk (a : Vec Ideal S128x2048 .bf16) (S : Vec Ideal S2048x2048 .bf16) (x : Vec Ideal S128x2048 .f32)
    (r : Fin 128) (l : Fin 2048) : k0_pay5 a S x (ix2 r l) = x (ix2 r l) + ∑ k : Fin 2048, a (ix2 r k) * S (ix2 k l) := by
  pointwise [k0_pay5]

/-- A chunk's norm, entry by entry, of its sum. -/
theorem chunkNorm (a : Vec Ideal S128x2048 .bf16) (S : Vec Ideal S2048x2048 .bf16) (x : Vec Ideal S128x2048 .f32)
    (w : Vec Ideal S1x2048 .f32) (r : Fin 128) (l : Fin 2048) :
    k0_pay6 a S x w (ix2 r l) = rms 0x45000000#32 (fun k => k0_pay5 a S x (ix2 r k)) (fun k => w (ix2 0 k)) l := by
  pointwise [k0_pay6, rms]

variable (x0 : Vec Ideal S512x2048 .bf16) (x1 : Vec Ideal S2048x2048 .bf16) (x2 : Vec Ideal S512x2048 .f32) (x3 : Vec Ideal S1x2048 .f32)

/-- The chunk of rows at `o` is the block's sum on those rows, -/
theorem row (o : Nat) (inb : ∀ a, (![o, 0] : Fin 2 → Nat) a + S128x2048.size a ≤ S512x2048.size a) (r : Fin 128) (l : Fin 2048)
    (j : Fin 512) (hj : j.val = o + r.val) :
    k0_pay5 (View.ld x0 (Rect.unit (s := S512x2048) ![o, 0] S128x2048.size inb)) (View.ld x1 r0_1)
        (View.ld x2 (Rect.unit (s := S512x2048) ![o, 0] S128x2048.size inb)) (ix2 r l) = plus x0 x1 x2 (ix2 j l) := by
  rw [chunk, show View.ld x1 r0_1 = x1 from View.ld_unit_zero (by decide) _ _]
  refine congrArg₂ (fun p q : EReal => p + q) (ld_rows (e := .f32) x2 inb r l j hj) (Finset.sum_congr rfl fun k _ => ?_)
  exact congrArg (fun z : EReal => z * x1 (ix2 k l)) (ld_rows (e := .bf16) x0 inb r k j hj)

/-- Each chunk's payload is the block of sums, on that chunk's rows. -/
theorem piece (o : Nat) (inb : ∀ a, (![o, 0] : Fin 2 → Nat) a + S128x2048.size a ≤ S512x2048.size a) (x : S128x2048.Idx) :
    k0_pay5 (View.ld x0 (Rect.unit (s := S512x2048) ![o, 0] S128x2048.size inb)) (View.ld x1 r0_1)
        (View.ld x2 (Rect.unit (s := S512x2048) ![o, 0] S128x2048.size inb)) x
      = plus x0 x1 x2 ((Rect.unit (s := S512x2048) ![o, 0] S128x2048.size inb).emb x) :=
  rows_piece (plus x0 x1 x2) o inb _ (fun r l j hj => row x0 x1 x2 o inb r l j hj) x

/-- and its norm the block's norm. -/
theorem pieceNorm (o : Nat) (inb : ∀ a, (![o, 0] : Fin 2 → Nat) a + S128x2048.size a ≤ S512x2048.size a) (x : S128x2048.Idx) :
    k0_pay6 (View.ld x0 (Rect.unit (s := S512x2048) ![o, 0] S128x2048.size inb)) (View.ld x1 r0_1)
        (View.ld x2 (Rect.unit (s := S512x2048) ![o, 0] S128x2048.size inb)) (View.ld x3 r0_3) x
      = normed x0 x1 x2 x3 ((Rect.unit (s := S512x2048) ![o, 0] S128x2048.size inb).emb x) := by
  refine rows_piece (normed x0 x1 x2 x3) o inb _ (fun r l j hj => ?_) x
  rw [chunkNorm, show View.ld x3 r0_3 = x3 from View.ld_unit_zero (by decide) _ _]
  exact congrArg (fun f => rms 0x45000000#32 f (fun k => x3 (ix2 0 k)) l) (funext fun k => row x0 x1 x2 o inb r k j hj)

/-- The first result's block. -/
theorem out4_eq : out0_4 x0 x1 x2 x3 = plus x0 x1 x2 := by
  funext y
  refine View.canon_apply_of_pieces (Val := Elt Ideal) (e := .f32) (plus x0 x1 x2) _ ?_ y (cover0_4 _ _ _ _ y)
  simp only [List.forall_mem_cons]
  exact ⟨piece x0 x1 x2 384 inb_S512x2048_S128x2048_384_0, piece x0 x1 x2 256 inb_S512x2048_S128x2048_256_0,
    piece x0 x1 x2 128 inb_S512x2048_S128x2048_128_0, piece x0 x1 x2 0 inb_S512x2048_S128x2048_0_0,
    fun _ h => absurd h List.not_mem_nil⟩

/-- The second result's block. -/
theorem out5_eq : out0_5 x0 x1 x2 x3 = normed x0 x1 x2 x3 := by
  funext y
  refine View.canon_apply_of_pieces (Val := Elt Ideal) (e := .bf16) (normed x0 x1 x2 x3) _ ?_ y (cover0_5 _ _ _ _ y)
  simp only [List.forall_mem_cons]
  exact ⟨pieceNorm x0 x1 x2 x3 384 inb_S512x2048_S128x2048_384_0, pieceNorm x0 x1 x2 x3 256 inb_S512x2048_S128x2048_256_0,
    pieceNorm x0 x1 x2 x3 128 inb_S512x2048_S128x2048_128_0, pieceNorm x0 x1 x2 x3 0 inb_S512x2048_S128x2048_0_0,
    fun _ h => absurd h List.not_mem_nil⟩

end Cert.KernelOutIdeal.Value

end
-- ==== Proof.OutArray.lean ====
/-
  What the call `out_proj` leaves in its two arrays: at each row and column the residual stream plus the product of the
  mixed row with the column of the weights, and the norm of that row.
-/
module

public import proofs.«01_k».proof.Proof.OutTile
public import Idealize.ShloMosaic.Lib.Claim
public import Idealize.ShloMosaic.Lib.StableHlo.ReadAt

@[expose] public section

set_option maxRecDepth 16384

noncomputable section

namespace Cert.KernelOutIdeal.Value

open Idealize.ShloMosaic Idealize.ShloMosaic.TcCoe Idealize.ShloMosaic.Tactic
open Idealize.SL Idealize.SL.Sem
open Cert.Rows Cert.Norm Cert.KernelOutIdeal Cert.KernelOutIdeal.Gen

variable (m : (ℓ : Loc nD τ sig) → Buf (Elt Ideal) ℓ) (ρ : Dev nD → PrngReg)

/-- The first result's entry: row `s` of sequence `b`, column `C`. -/
def resid (a : (⟨3, ![2, 4096, 2048]⟩ : Shape).Idx → EReal) (x : (⟨3, ![2, 4096, 2048]⟩ : Shape).Idx → EReal)
    (w : (⟨3, ![1, 2048, 2048]⟩ : Shape).Idx → EReal) (b : Fin 2) (s : Fin 4096) (C : Fin 2048) : EReal :=
  x (ix3 b s C) + ∑ k : Fin 2048, a (ix3 b s k) * w (ix3 0 k C)

/-- The second result's entry: the norm of that row. -/
def residNorm (a : (⟨3, ![2, 4096, 2048]⟩ : Shape).Idx → EReal) (x : (⟨3, ![2, 4096, 2048]⟩ : Shape).Idx → EReal)
    (w : (⟨3, ![1, 2048, 2048]⟩ : Shape).Idx → EReal) (nw : (⟨2, ![1, 2048]⟩ : Shape).Idx → EReal)
    (b : Fin 2) (s : Fin 4096) (C : Fin 2048) : EReal :=
  rms 0x45000000#32 (fun k => resid a x w b s k) (fun k => nw (ix2 0 k)) C

/-- The arrays the staged windows read, in the arguments' entries. -/
theorem V_a (c : Dev nD) (b : Fin 2) (s : Fin 4096) (R : Fin 8192) (k : Fin 2048) (hR : R.val = 4096 * b.val + s.val) :
    V m c main_v1 (ix2 R k) = m ((c : Thread nD τ).loc main_arg0) (ix3 b s k) := by
  unfold V
  after_reads_at
  exact split_row (m ((c : Thread nD τ).loc main_arg0)) R.val b s k hR _ _

theorem V_w (c : Dev nD) (k : Fin 2048) (C : Fin 2048) :
    V m c main_v3 (ix2 k C) = m ((c : Thread nD τ).loc main_arg2) (ix3 0 k C) := by
  unfold V
  after_reads_at

theorem V_x (c : Dev nD) (b : Fin 2) (s : Fin 4096) (R : Fin 8192) (C : Fin 2048) (hR : R.val = 4096 * b.val + s.val) :
    V m c main_v4 (ix2 R C) = m ((c : Thread nD τ).loc main_arg1) (ix3 b s C) := by
  unfold V
  after_reads_at
  exact split_row (m ((c : Thread nD τ).loc main_arg1)) R.val b s C hR _ _

theorem V_n (c : Dev nD) (C : Fin 2048) : V m c main_v6 (ix2 0 C) = m ((c : Thread nD τ).loc main_arg3) (ix2 0 C) := by
  unfold V
  after_reads_at

/-- Point `t` stages the row tile `t` of the activations and of the residual stream, and the weights whole; it writes
    row tile `t` of each result. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)

/-- The staged blocks' entries. -/
theorem iblk0 (c : Dev nD) (t : Fin cfg0.N) (r : Fin 512) (k : Fin 2048) (b : Fin 2) (s : Fin 4096)
    (h : 4096 * b.val + s.val = 512 * t.val + r.val) :
    iblk m c 0 t (ix2 r k) = m ((c : Thread nD τ).loc main_arg0) (ix3 b s k) := by
  unfold iblk
  rw [View.read_apply, cast_eq]
  refine Eq.trans (congrArg _ ?_) (V_a m c b s ⟨4096 * b.val + s.val, by omega⟩ k rfl)
  obtain ⟨e0, e1⟩ := idx0 t
  funext a; apply Fin.ext
  match a with
  | ⟨0, _⟩ => show win0_0.index t (0 : Fin 2) * 512 + 1 * r.val = 4096 * b.val + s.val; omega
  | ⟨1, _⟩ => show win0_0.index t (1 : Fin 2) * 2048 + 1 * k.val = k.val; omega

theorem iblk1 (c : Dev nD) (t : Fin cfg0.N) (k : Fin 2048) (l : Fin 2048) :
    iblk m c 1 t (ix2 k l) = m ((c : Thread nD τ).loc main_arg2) (ix3 0 k l) := by
  unfold iblk
  rw [View.read_apply, cast_eq]
  refine Eq.trans (congrArg _ ?_) (V_w m c k l)
  obtain ⟨e0, e1⟩ := idx1 t
  funext a; apply Fin.ext
  match a with
  | ⟨0, _⟩ => show win0_1.index t (0 : Fin 2) * 2048 + 1 * k.val = k.val; omega
  | ⟨1, _⟩ => show win0_1.index t (1 : Fin 2) * 2048 + 1 * l.val = l.val; omega

theorem iblk2 (c : Dev nD) (t : Fin cfg0.N) (r : Fin 512) (l : Fin 2048) (b : Fin 2) (s : Fin 4096)
    (h : 4096 * b.val + s.val = 512 * t.val + r.val) :
    iblk m c 2 t (ix2 r l) = m ((c : Thread nD τ).loc main_arg1) (ix3 b s l) := by
  unfold iblk
  rw [View.read_apply, cast_eq]
  refine Eq.trans (congrArg _ ?_) (V_x m c b s ⟨4096 * b.val + s.val, by omega⟩ l rfl)
  obtain ⟨e0, e1⟩ := idx2 t
  funext a; apply Fin.ext
  match a with
  | ⟨0, _⟩ => show win0_2.index t (0 : Fin 2) * 512 + 1 * r.val = 4096 * b.val + s.val; omega
  | ⟨1, _⟩ => show win0_2.index t (1 : Fin 2) * 2048 + 1 * l.val = l.val; omega

theorem iblk3 (c : Dev nD) (t : Fin cfg0.N) (l : Fin 2048) :
    iblk m c 3 t (ix2 0 l) = m ((c : Thread nD τ).loc main_arg3) (ix2 0 l) := by
  unfold iblk
  rw [View.read_apply, cast_eq]
  refine Eq.trans (congrArg _ ?_) (V_n m c l)
  obtain ⟨e0, e1⟩ := idx3 t
  funext a; apply Fin.ext
  match a with
  | ⟨0, _⟩ => show win0_3.index t (0 : Fin 2) * 1 + 1 * 0 = 0; omega
  | ⟨1, _⟩ => show win0_3.index t (1 : Fin 2) * 2048 + 1 * l.val = l.val; omega

/-- The first result of the whole call, -/
def first (c : Dev nD) : Fin 2 → Fin 4096 → Fin 2048 → EReal :=
  resid (m ((c : Thread nD τ).loc main_arg0)) (m ((c : Thread nD τ).loc main_arg1)) (m ((c : Thread nD τ).loc main_arg2))

/-- and the second. -/
def second (c : Dev nD) : Fin 2 → Fin 4096 → Fin 2048 → EReal :=
  residNorm (m ((c : Thread nD τ).loc main_arg0)) (m ((c : Thread nD τ).loc main_arg1)) (m ((c : Thread nD τ).loc main_arg2))
    (m ((c : Thread nD τ).loc main_arg3))

/-- What a point computes is its rows of the results. -/
theorem plus_eq (c : Dev nD) (t : Fin cfg0.N) (r : Fin 512) (l : Fin 2048) (b : Fin 2) (s : Fin 4096)
    (h : 4096 * b.val + s.val = 512 * t.val + r.val) :
    plus (iblk m c 0 t) (iblk m c 1 t) (iblk m c 2 t) (ix2 r l) = first m c b s l :=
  congrArg₂ (fun p q : EReal => p + q) (iblk2 m c t r l b s h) (Finset.sum_congr rfl fun k _ =>
    congrArg₂ (fun p q : EReal => p * q) (iblk0 m c t r k b s h) (iblk1 m c t k l))

/-- The norm's block is a block of the second result. -/
theorem normed_eq (c : Dev nD) (t : Fin cfg0.N) (r : Fin 512) (l : Fin 2048) (b : Fin 2) (s : Fin 4096)
    (h : 4096 * b.val + s.val = 512 * t.val + r.val) :
    normed (iblk m c 0 t) (iblk m c 1 t) (iblk m c 2 t) (iblk m c 3 t) (ix2 r l) = second m c b s l :=
  congrArg₂ (fun f g => rms 0x45000000#32 f g l) (funext fun k => plus_eq m c t r k b s h) (funext fun k => iblk3 m c t k)

/-- What a point writes back is its block of the array. -/
theorem flushed4_flat (c : Dev nD) (t : Fin cfg0.N) (_ : (cfg0.win 4).flush t = true) :
    (dats m 0 c).flushed 4 t = ((cfg0.win 4).blk t).view.read (Elt Ideal) (flat (first m c)) := by
  rw [flushed4, out4_eq]
  obtain ⟨e0, e1⟩ := idx4 t
  funext y
  rw [View.read_apply, cast_eq]
  exact block_flat (first m c) 512 t.val _ (fun r l b s h => plus_eq m c t r l b s h) ((cfg0.win 4).xinj (grid0.coords t) y)
    (((cfg0.win 4).blk t).view.emb y)
    (by show win0_4.index t (0 : Fin 2) * 512 + 1 * (y 0).val = 512 * t.val + (y 0).val; omega)
    (by show win0_4.index t (1 : Fin 2) * 2048 + 1 * (y 1).val = (y 1).val; omega)

/-- What a point writes back of the second result. -/
theorem flushed5_flat (c : Dev nD) (t : Fin cfg0.N) (_ : (cfg0.win 5).flush t = true) :
    (dats m 0 c).flushed 5 t = ((cfg0.win 5).blk t).view.read (Elt Ideal) (flat (second m c)) := by
  rw [flushed5, out5_eq]
  obtain ⟨e0, e1⟩ := idx5 t
  funext y
  rw [View.read_apply, cast_eq]
  exact block_flat (second m c) 512 t.val _ (fun r l b s h => normed_eq m c t r l b s h) ((cfg0.win 5).xinj (grid0.coords t) y)
    (((cfg0.win 5).blk t).view.emb y)
    (by show win0_5.index t (0 : Fin 2) * 512 + 1 * (y 0).val = 512 * t.val + (y 0).val; omega)
    (by show win0_5.index t (1 : Fin 2) * 2048 + 1 * (y 1).val = (y 1).val; omega)

/-- Where a point's block lies in the array. -/
theorem mem_blk4 (t : Fin cfg0.N) (i : S8192x2048.Idx) :
    i ∈ ((cfg0.win 4).blk t).view.set
      ↔ ∀ a : Fin 2, win0_4.index t a * win0_4.size a ≤ (i a).val ∧ (i a).val < win0_4.index t a * win0_4.size a + win0_4.xsize (grid0.coords t) a := by
  show i ∈ ((View.whole main_v7_0).slice (win0_4.rect t)).set ↔ _
  rw [View.set_slice_whole, Rect.mem_set_unit]
  exact Iff.rfl

/-- Which entries of the second result a point's block holds. -/
theorem mem_blk5 (t : Fin cfg0.N) (i : S8192x2048.Idx) :
    i ∈ ((cfg0.win 5).blk t).view.set
      ↔ ∀ a : Fin 2, win0_5.index t a * win0_5.size a ≤ (i a).val ∧ (i a).val < win0_5.index t a * win0_5.size a + win0_5.xsize (grid0.coords t) a := by
  show i ∈ ((View.whole main_v7_1).slice (win0_5.rect t)).set ↔ _
  rw [View.set_slice_whole, Rect.mem_set_unit]
  exact Iff.rfl

/-- The arrays after the run. -/
theorem final4 (c : Dev nD) : (dats m 0 c).arrAt 4 cfg0.N = flat (first m c) :=
  (dats m 0 c).arrAt_eq_of_cover 4 (flat (first m c)) (flushed4_flat m c) fun i => by
    have h0 : (i 0).val < 8192 := (i 0).isLt
    have h1 : (i 1).val < 2048 := (i 1).isLt
    have hN : cfg0.N = 16 := N_0
    obtain ⟨e0, e1⟩ := idx4 ⟨(i 0).val / 512, by rw [hN]; omega⟩
    refine ⟨⟨(i 0).val / 512, by rw [hN]; omega⟩, flush0_4 _, (mem_blk4 _ i).mpr fun a => ?_⟩
    match a with
    | ⟨0, _⟩ =>
      show win0_4.index _ 0 * 512 ≤ (i 0).val ∧ (i 0).val < win0_4.index _ 0 * 512 + 512
      rw [e0]; dsimp only; omega
    | ⟨1, _⟩ =>
      show win0_4.index _ 1 * 2048 ≤ (i 1).val ∧ (i 1).val < win0_4.index _ 1 * 2048 + 2048
      rw [e1]; omega

/-- The array of the second result when the grid ends. -/
theorem final5 (c : Dev nD) : (dats m 0 c).arrAt 5 cfg0.N = flat (second m c) :=
  (dats m 0 c).arrAt_eq_of_cover 5 (flat (second m c)) (flushed5_flat m c) fun i => by
    have h0 : (i 0).val < 8192 := (i 0).isLt
    have h1 : (i 1).val < 2048 := (i 1).isLt
    have hN : cfg0.N = 16 := N_0
    obtain ⟨e0, e1⟩ := idx5 ⟨(i 0).val / 512, by rw [hN]; omega⟩
    refine ⟨⟨(i 0).val / 512, by rw [hN]; omega⟩, flush0_5 _, (mem_blk5 _ i).mpr fun a => ?_⟩
    match a with
    | ⟨0, _⟩ =>
      show win0_5.index _ 0 * 512 ≤ (i 0).val ∧ (i 0).val < win0_5.index _ 0 * 512 + 512
      rw [e0]; dsimp only; omega
    | ⟨1, _⟩ =>
      show win0_5.index _ 1 * 2048 ≤ (i 1).val ∧ (i 1).val < win0_5.index _ 1 * 2048 + 2048
      rw [e1]; omega

/-- The run: the results are those arrays, the arguments are as they were. -/
theorem run : θ_run defs (onTc (τ := τ) (main (F := Ideal))) ⟨m, fun _ => 0, ρ⟩ fun r => ∀ c : Dev nD,
      r.2.mem ((c : Thread nD τ).loc main_v7_0) = flat (first m c)
      ∧ r.2.mem ((c : Thread nD τ).loc main_v7_1) = flat (second m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1).trans (final4 m c), ((h c).2.1).trans (final5 m c), (h c).2.2⟩) (run_blocks m ρ)

end Cert.KernelOutIdeal.Value

end
-- ==== Proof.OutRef.lean ====
/-
  What the reference of the output projection computes, entry by entry.
-/
module

public import proofs.«01_k».proof.Proof.OutArray
public import proofs.«01_k».proof.Proof.Gen.RefOutIdeal.Run

@[expose] public section

noncomputable section

namespace Cert.RefOutIdeal.Value

open Idealize.ShloMosaic Idealize.ShloMosaic.TcCoe Idealize.SL.Sem
open Cert.Rows Cert.Norm Cert.RefOutIdeal Cert.RefOutIdeal.Gen
open Cert.KernelOutIdeal.Value (resid residNorm)

/-- The residual stream plus the projection. -/
def sum (a x : FVec Ideal S2x4096x2048 .f32) (w : FVec Ideal S1x2048x2048 .f32) : FVec Ideal S2x4096x2048 .f32 :=
  addf x (Host.dotGeneral dot_S2x4096x2048_S2048x2048_S2x4096x2048_2_0_01_1_n_n none a (shapeCast _ w shapeCasts_S1x2048x2048_S2048x2048))

/-- The norm of the rows of `y`. -/
def norm (y : FVec Ideal S2x4096x2048 .f32) (nw : FVec Ideal S1x2048 .f32) : FVec Ideal S2x4096x2048 .f32 :=
  mulf (mulf y (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf y y) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast _ nw shapeCasts_S1x2048_S2048)))

/-- The reference's two results as functions of its arguments. -/
def term0 (a x : FVec Ideal S2x4096x2048 .f32) (w : FVec Ideal S1x2048x2048 .f32) : FVec Ideal S8192x2048 .f32 :=
  shapeCast _ (sum a x w) shapeCasts_S2x4096x2048_S8192x2048

/-- The reference's second result as a function of its arguments. -/
def term1 (a x : FVec Ideal S2x4096x2048 .f32) (w : FVec Ideal S1x2048x2048 .f32) (nw : FVec Ideal S1x2048 .f32) : FVec Ideal S8192x2048 .bf16 :=
  truncf .bf16 (shapeCast _ (norm (sum a x w) nw) shapeCasts_S2x4096x2048_S8192x2048) bitsLt_bf16_f32

/-- Each entry of the sum. -/
theorem sum_apply (a x : FVec Ideal S2x4096x2048 .f32) (w : FVec Ideal S1x2048x2048 .f32) (b : Fin 2) (s : Fin 4096) (C : Fin 2048) :
    sum a x w (ix3 b s C) = resid a x w b s C := by
  pointwise [sum, resid]

/-- Each entry of the norm. -/
theorem norm_apply (y : FVec Ideal S2x4096x2048 .f32) (nw : FVec Ideal S1x2048 .f32) (b : Fin 2) (s : Fin 4096) (C : Fin 2048) :
    norm y nw (ix3 b s C) = rms 0x45000000#32 (fun k => y (ix3 b s k)) (fun k => nw (ix2 0 k)) C := by
  pointwise [norm, rms]

/-- Each entry of the first result. -/
theorem term0_apply (a x : FVec Ideal S2x4096x2048 .f32) (w : FVec Ideal S1x2048x2048 .f32) (R : Fin 8192) (C : Fin 2048)
    (b : Fin 2) (s : Fin 4096) (hR : R.val = 4096 * b.val + s.val) : term0 a x w (ix2 R C) = resid a x w b s C := by
  pointwise [term0]
  exact (split_row (sum a x w) R.val b s C hR _ _).trans (sum_apply a x w b s C)

/-- Each entry of the second result. -/
theorem term1_apply (a x : FVec Ideal S2x4096x2048 .f32) (w : FVec Ideal S1x2048x2048 .f32) (nw : FVec Ideal S1x2048 .f32)
    (R : Fin 8192) (C : Fin 2048) (b : Fin 2) (s : Fin 4096) (hR : R.val = 4096 * b.val + s.val) :
    term1 a x w nw (ix2 R C) = residNorm a x w nw b s C := by
  pointwise [term1]
  refine (split_row (norm (sum a x w) nw) R.val b s C hR _ _).trans ((norm_apply (sum a x w) nw b s C).trans ?_)
  exact congrArg (fun f => rms 0x45000000#32 f (fun k => nw (ix2 0 k)) C) (funext fun k => sum_apply a x w b s k)

end Cert.RefOutIdeal.Value

end
-- ==== Proof.UpRun.lean ====
/-
  The body of the call `ffn_up`, run once on any buffers: at the first row tile of a column tile (where it stages the two
  weight blocks) and at the others.
-/
module

public import proofs.«01_k».proof.Proof.Gen.KernelUpIdeal.Launch
public import proofs.«01_k».proof.Proof.Gen.KernelUpIdeal.Skeleton
public import proofs.«01_k».proof.Proof.Gen.KernelUpIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelUpIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelUpIdeal Cert.KernelUpIdeal.Gen

variable {F : FTy → Type} [FloatOps F]

local notation "𝕄" => MT nD τ sig Unit (Elt F) ℕ (UR sig nD τ) ℕ

/-- The row tile is the first of its column tile. -/
abbrev first (i : grid0.Coords) : Prop := (Scalar.cmpi .ne (Scalar.extui (Scalar.cmpi .eq (BitVec.ofNat 32 (i 1).val) 0#32)) 0#32) = 1#1

variable (c : Dev nD) (i : grid0.Coords) (arg2 : Memref sig .tc .vmem S2048x2048 .bf16) (harg2 : arg2.IsWhole)
  (arg3 : Memref sig .tc .vmem S2048x512 .f32) (harg3 : arg3.IsWhole) (arg4 : Memref sig .tc .vmem S2048x512 .f32) (harg4 : arg4.IsWhole)
  (arg5 : Memref sig .tc .vmem S3x512 .f32) (harg5 : arg5.IsWhole) (arg6 : Memref sig .tc .vmem S1x512 .f32) (harg6 : arg6.IsWhole)
  (arg7 : Memref sig .tc .vmem S2048x512 .bf16) (harg7 : arg7.IsWhole) (arg8 : Memref sig .tc .vmem S2048x512 .bf16) (harg8 : arg8.IsWhole)
  (arg9 : Memref sig .tc .vmem S2048x512 .bf16) (harg9 : arg9.IsWhole) (arg10 : Memref sig .tc .vmem S8x512 .f32) (harg10 : arg10.IsWhole)
  (x0 : Vec F S2048x2048 .bf16) (x1 x2 : Vec F S2048x512 .f32) (x3 : Vec F S3x512 .f32) (x4 : Vec F S1x512 .f32)
  (s0 s1 : Vec F S2048x512 .bf16) (tl : Vec F S8x512 .f32)

/-- The five input blocks, held whole. -/
abbrev ins : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4)

set_option maxHeartbeats 8000000 in
/-- The body at a row tile that is not the first: the stores into the output block and into the carried rows, with the proof
    that the body runs from the buffers to them. -/
noncomputable def later (hi : ¬ first i) :
    Σ' (L : List (View.Piece (Elt F) S2048x512 .bf16)), { T : List (View.Piece (Elt F) S8x512 .f32) //
      ∀ (E : Set ℕ) (K : PUnit → sProp 𝕄),
        iprop(ins c arg2 arg3 arg4 arg5 arg6 x0 x1 x2 x3 x4 ∗ (∃ d, owns (c : Thread nD τ) arg7 fullShare d)
            ∗ owns (c : Thread nD τ) arg8 fullShare s0 ∗ owns (c : Thread nD τ) arg9 fullShare s1 ∗ owns (c : Thread nD τ) arg10 fullShare tl
            ∗ (iprop(ins c arg2 arg3 arg4 arg5 arg6 x0 x1 x2 x3 x4
                ∗ (∃ f, arg7.view.loc (c : Thread nD τ) ↦[arg7.view.set]{fullShare} arg7.view.writes (Elt F) f L)
                ∗ owns (c : Thread nD τ) arg8 fullShare s0 ∗ owns (c : Thread nD τ) arg9 fullShare s1
                ∗ (∃ f, arg10.view.loc (c : Thread nD τ) ↦[arg10.view.set]{fullShare} arg10.view.writes (Elt F) f T)) -∗ K ⟨⟩))
          ⊢ wp frame (wpE (defs₀ (F := F)) Variants.none c none) E (cc0_ffn_up i arg2 harg2 arg3 harg3 arg4 harg4 arg5 harg5 arg6 harg6 arg7 harg7 arg8 harg8 arg9 harg9 arg10 harg10) K } := by
  refine ⟨?_, ?_, fun E K => ?run⟩
  case run =>
    simp only [cc0_ffn_up_eq_skeleton]; unfold cc0_ffn_up_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton, k0_part15_eq_skeleton,
      k0_part16_eq_skeleton, k0_part17_eq_skeleton]
    unfold ins owns
    iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%g0, %hg0, HS0⟩, ⟨%g1, %hg1, HS1⟩, ⟨%g2, %hg2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hg0; obtain rfl := harg9.eq_unread hg1; obtain rfl := harg10.eq_unread hg2
    sl_exec (disch := first | sl_exact hi)
    sl_step
    iapply Hk
    isplitl [H0 H1 H2 H3 H4]
    · isplitl [H0]; · iexists _; isplitr; · ipureintro; exact harg2.read_unread _
                      iexact H0
      isplitl [H1]; · iexists _; isplitr; · ipureintro; exact harg3.read_unread _
                      iexact H1
      isplitl [H2]; · iexists _; isplitr; · ipureintro; exact harg4.read_unread _
                      iexact H2
      isplitl [H3]; · iexists _; isplitr; · ipureintro; exact harg5.read_unread _
                      iexact H3
      iexists _; isplitr; · ipureintro; exact harg6.read_unread _
      iexact H4
    isplitl [H5]; · iexists _; iexact H5
    isplitl [HS0]
    · iexists _; isplitr; · ipureintro; exact harg8.read_unread _
      iexact HS0
    isplitl [HS1]
    · iexists _; isplitr; · ipureintro; exact harg9.read_unread _
      iexact HS1
    iexists _; iexact HS2

set_option maxHeartbeats 8000000 in
/-- The body at the first row tile of a column tile, from staged weights that may be anything: the stores into the output block,
    the two staged weights and the carried rows, with the proof that the body runs from the buffers to them. -/
noncomputable def opening (hi : first i) :
    Σ' (L S0 S1 : List (View.Piece (Elt F) S2048x512 .bf16)), { T : List (View.Piece (Elt F) S8x512 .f32) //
      ∀ (E : Set ℕ) (K : PUnit → sProp 𝕄),
        iprop(ins c arg2 arg3 arg4 arg5 arg6 x0 x1 x2 x3 x4 ∗ (∃ d, owns (c : Thread nD τ) arg7 fullShare d)
            ∗ (∃ d, owns (c : Thread nD τ) arg8 fullShare d) ∗ (∃ d, owns (c : Thread nD τ) arg9 fullShare d) ∗ owns (c : Thread nD τ) arg10 fullShare tl
            ∗ (iprop(ins c arg2 arg3 arg4 arg5 arg6 x0 x1 x2 x3 x4
                ∗ (∃ f, arg7.view.loc (c : Thread nD τ) ↦[arg7.view.set]{fullShare} arg7.view.writes (Elt F) f L)
                ∗ (∃ f, arg8.view.loc (c : Thread nD τ) ↦[arg8.view.set]{fullShare} arg8.view.writes (Elt F) f S0)
                ∗ (∃ f, arg9.view.loc (c : Thread nD τ) ↦[arg9.view.set]{fullShare} arg9.view.writes (Elt F) f S1)
                ∗ (∃ f, arg10.view.loc (c : Thread nD τ) ↦[arg10.view.set]{fullShare} arg10.view.writes (Elt F) f T)) -∗ K ⟨⟩))
          ⊢ wp frame (wpE (defs₀ (F := F)) Variants.none c none) E (cc0_ffn_up i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_ffn_up_eq_skeleton]; unfold cc0_ffn_up_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton, k0_part15_eq_skeleton,
      k0_part16_eq_skeleton, k0_part17_eq_skeleton]
    unfold ins owns
    iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%d6, %f6, -, HS0⟩, ⟨%d7, %f7, -, HS1⟩, ⟨%g2, %hg2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg10.eq_unread hg2
    sl_exec (disch := first | sl_exact hi)
    sl_step
    iapply Hk
    isplitl [H0 H1 H2 H3 H4]
    · isplitl [H0]; · iexists _; isplitr; · ipureintro; exact harg2.read_unread _
                      iexact H0
      isplitl [H1]; · iexists _; isplitr; · ipureintro; exact harg3.read_unread _
                      iexact H1
      isplitl [H2]; · iexists _; isplitr; · ipureintro; exact harg4.read_unread _
                      iexact H2
      isplitl [H3]; · iexists _; isplitr; · ipureintro; exact harg5.read_unread _
                      iexact H3
      iexists _; isplitr; · ipureintro; exact harg6.read_unread _
      iexact H4
    isplitl [H5]; · iexists _; iexact H5
    isplitl [HS0]; · iexists _; iexact HS0
    isplitl [HS1]; · iexists _; iexact HS1
    iexists _; iexact HS2

end Cert.KernelUpIdeal.Run

end
-- ==== Proof.UpBlock.lean ====
/-
  What the body of the call `ffn_up` leaves in its buffers, as functions of the blocks it reads.
-/
module

public import proofs.«01_k».proof.Proof.UpRun
public import proofs.«01_k».proof.Proof.Chunks

@[expose] public section

set_option maxRecDepth 16384

noncomputable section

namespace Cert.KernelUpIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Chunks Cert.KernelUpIdeal Cert.KernelUpIdeal.Gen

variable {F : FTy → Type} [FloatOps F]

local notation "𝕄" => MT nD τ sig Unit (Elt F) ℕ (UR sig nD τ) ℕ

/-- The last eight rows of the product of the `q`-th 128 rows with a staged weight block: what the next 128 rows need of
    the rows before them. -/
def handed (x : Vec F S2048x2048 .bf16) (W : Vec F S2048x512 .bf16) (q : ℕ) (hq : q < 16) : Vec F S8x512 .f32 :=
  k0_pay9 (k0_pay5 (rows x q hq) W)

/-- The rows before chunk `q`: `T` before the first, the last rows of the chunk before for the others. -/
def before (T : Vec F S8x512 .f32) (x : Vec F S2048x2048 .bf16) (W : Vec F S2048x512 .bf16) : (q : ℕ) → q < 16 → Vec F S8x512 .f32
  | 0, _ => T
  | q + 1, hq => handed x W q (by omega)

/-- The output block: 128 rows at a time, the convolution and the gating of the two products. -/
def outTile (T : Vec F S8x512 .f32) (x : Vec F S2048x2048 .bf16) (W W' : Vec F S2048x512 .bf16) (w : Vec F S3x512 .f32) (b : Vec F S1x512 .f32) :
    Vec F S2048x512 .bf16 :=
  fun y => k0_pay15 (k0_pay5 (rows x ((y 0).val / 128) (by have h : (y 0).val < 2048 := (y 0).isLt; omega)) W)
    (k0_pay5 (rows x ((y 0).val / 128) (by have h : (y 0).val < 2048 := (y 0).isLt; omega)) W')
    (before T x W ((y 0).val / 128) (by have h : (y 0).val < 2048 := (y 0).isLt; omega)) b (tap w 0) (tap w 1) (tap w 2)
    (ix2 (⟨(y 0).val % 128, Nat.mod_lt _ (by omega)⟩ : Fin 128) (y 1))

/-- The row tile's place in its sequence, as the body computes it. -/
def phase (i : grid0.Coords) : BitVec 32 := later.sl.v28 i

/-- The carried rows, or zeros when the row tile begins a sequence. -/
def carried (i : grid0.Coords) (T : Vec F S8x512 .f32) : Vec F S8x512 .f32 :=
  Scalar.select (Scalar.cmpi .eq (phase i) 0#32) (broadcast S8x512 (Scalar.ofBits .f32 0x00000000#32 : F .f32)) T

variable (T : Vec F S8x512 .f32) (x0 : Vec F S2048x2048 .bf16) (W W' : Vec F S2048x512 .bf16) (x3 : Vec F S3x512 .f32) (x4 : Vec F S1x512 .f32)

/-- A chunk's payload agrees with the output block where its store puts it. -/
theorem chunk_at (q : ℕ) (hq : q < 16) (o : ℕ) (ho : o = 128 * q)
    (inb : ∀ a, (![o, 0] : Fin 2 → Nat) a + S128x512.size a ≤ S2048x512.size a) (z : S128x512.Idx) :
    k0_pay15 (k0_pay5 (rows x0 q hq) W) (k0_pay5 (rows x0 q hq) W') (before T x0 W q hq) x4 (tap x3 0) (tap x3 1) (tap x3 2) z
      = outTile T x0 W W' x3 x4 ((Rect.unit (s := S2048x512) ![o, 0] S128x512.size inb).emb z) := by
  subst ho
  have hz : (z 0).val < 128 := (z 0).isLt
  have key : ∀ (p : ℕ) (hp : p < 16) (r : ℕ) (hr : r < 128), p = q → r = (z 0).val →
      k0_pay15 (k0_pay5 (rows x0 q hq) W) (k0_pay5 (rows x0 q hq) W') (before T x0 W q hq) x4 (tap x3 0) (tap x3 1) (tap x3 2) z
        = k0_pay15 (k0_pay5 (rows x0 p hp) W) (k0_pay5 (rows x0 p hp) W') (before T x0 W p hp) x4 (tap x3 0) (tap x3 1) (tap x3 2)
            (ix2 (⟨r, hr⟩ : Fin 128) (z 1)) := by
    intro p hp r hr h1 h2
    subst h1 h2
    exact congrArg _ (eq_ix2 z)
  have e1 : ((Rect.unit (s := S2048x512) ![128 * q, 0] S128x512.size inb).emb z) 1 = z 1 :=
    Fin.ext (by show 0 + 1 * (z 1).val = (z 1).val; omega)
  unfold outTile
  rw [e1]
  exact key _ _ _ _ (by show (128 * q + 1 * (z 0).val) / 128 = q; omega) (by show (128 * q + 1 * (z 0).val) % 128 = (z 0).val; omega)

variable (c : Dev nD) (i : grid0.Coords) (arg2 : Memref sig .tc .vmem S2048x2048 .bf16) (harg2 : arg2.IsWhole)
  (arg3 : Memref sig .tc .vmem S2048x512 .f32) (harg3 : arg3.IsWhole) (arg4 : Memref sig .tc .vmem S2048x512 .f32) (harg4 : arg4.IsWhole)
  (arg5 : Memref sig .tc .vmem S3x512 .f32) (harg5 : arg5.IsWhole) (arg6 : Memref sig .tc .vmem S1x512 .f32) (harg6 : arg6.IsWhole)
  (arg7 : Memref sig .tc .vmem S2048x512 .bf16) (harg7 : arg7.IsWhole) (arg8 : Memref sig .tc .vmem S2048x512 .bf16) (harg8 : arg8.IsWhole)
  (arg9 : Memref sig .tc .vmem S2048x512 .bf16) (harg9 : arg9.IsWhole) (arg10 : Memref sig .tc .vmem S8x512 .f32) (harg10 : arg10.IsWhole)
  (x1 x2 : Vec F S2048x512 .f32) (s0 s1 : Vec F S2048x512 .bf16) (tl : Vec F S8x512 .f32)

/-- What the product of 128 rows with the staged weights reads. -/
theorem prod_of (S : Vec F S2048x512 .bf16) (hS : S = W) (q : ℕ) (hq : q < 16) (o : ℕ) (ho : o = 128 * q)
    (inb : ∀ a, (![o, 0] : Fin 2 → Nat) a + S128x2048.size a ≤ S2048x2048.size a) :
    k0_pay5 (View.readAt (Elt F) arg2.view (Rect.unit (s := S2048x2048) ![o, 0] S128x2048.size inb).toLoadRect (harg2.unread x0)) S
      = k0_pay5 (rows x0 q hq) W := by
  rw [readAt_unread harg2, ld_chunk x0 q hq o ho inb, hS]

/-- The chunk of rows at `o`, the second or a later one, as the body computes it. -/
theorem piece (S S' : Vec F S2048x512 .bf16) (hS : S = W) (hS' : S' = W') (q : ℕ) (hq : q + 1 < 16) (p o : ℕ) (hp : p = 128 * q) (ho : o = 128 * (q + 1))
    (inbp : ∀ a, (![p, 0] : Fin 2 → Nat) a + S128x2048.size a ≤ S2048x2048.size a)
    (inbo : ∀ a, (![o, 0] : Fin 2 → Nat) a + S128x2048.size a ≤ S2048x2048.size a)
    (inb : ∀ a, (![o, 0] : Fin 2 → Nat) a + S128x512.size a ≤ S2048x512.size a) (z : S128x512.Idx) :
    k0_pay15 (k0_pay5 (View.readAt (Elt F) arg2.view (Rect.unit (s := S2048x2048) ![o, 0] S128x2048.size inbo).toLoadRect (harg2.unread x0)) S)
        (k0_pay5 (View.readAt (Elt F) arg2.view (Rect.unit (s := S2048x2048) ![o, 0] S128x2048.size inbo).toLoadRect (harg2.unread x0)) S')
        (k0_pay9 (k0_pay5 (View.readAt (Elt F) arg2.view (Rect.unit (s := S2048x2048) ![p, 0] S128x2048.size inbp).toLoadRect (harg2.unread x0)) S))
        (View.readAt (Elt F) arg6.view (Rect.unit (s := S1x512) ![0, 0] S1x512.size inb_S1x512_S1x512_0_0).toLoadRect (harg6.unread x4))
        (View.readAt (Elt F) arg5.view (Rect.unit (s := S3x512) ![0, 0] S1x512.size inb_S3x512_S1x512_0_0).toLoadRect (harg5.unread x3))
        (View.readAt (Elt F) arg5.view (Rect.unit (s := S3x512) ![1, 0] S1x512.size inb_S3x512_S1x512_1_0).toLoadRect (harg5.unread x3))
        (View.readAt (Elt F) arg5.view (Rect.unit (s := S3x512) ![2, 0] S1x512.size inb_S3x512_S1x512_2_0).toLoadRect (harg5.unread x3)) z
      = outTile T x0 W W' x3 x4 ((Rect.unit (s := S2048x512) ![o, 0] S128x512.size inb).emb z) := by
  rw [prod_of x0 W arg2 harg2 S hS (q + 1) hq o ho inbo, prod_of x0 W' arg2 harg2 S' hS' (q + 1) hq o ho inbo,
    prod_of x0 W arg2 harg2 S hS q (by omega) p hp inbp, readAt_unread harg6, View.ld_unit_zero (by decide),
    readAt_unread harg5, readAt_unread harg5, readAt_unread harg5, ld_tap x3 0 0 rfl, ld_tap x3 1 1 rfl, ld_tap x3 2 2 rfl]
  exact chunk_at T x0 W W' x3 x4 (q + 1) hq o ho inb z

/-- The first chunk, as the body computes it. -/
theorem piece_first (S S' : Vec F S2048x512 .bf16) (hS : S = W) (hS' : S' = W')
    (inb : ∀ a, (![0, 0] : Fin 2 → Nat) a + S128x512.size a ≤ S2048x512.size a) (z : S128x512.Idx) :
    k0_pay10 (k0_pay5 (View.readAt (Elt F) arg2.view (Rect.unit (s := S2048x2048) ![0, 0] S128x2048.size inb_S2048x2048_S128x2048_0_0).toLoadRect (harg2.unread x0)) S)
        (k0_pay5 (View.readAt (Elt F) arg2.view (Rect.unit (s := S2048x2048) ![0, 0] S128x2048.size inb_S2048x2048_S128x2048_0_0).toLoadRect (harg2.unread x0)) S')
        (phase i)
        (View.readAt (Elt F) arg10.view (Rect.unit (s := S8x512) ![0, 0] S8x512.size inb_S8x512_S8x512_0_0).toLoadRect (harg10.unread tl))
        (View.readAt (Elt F) arg6.view (Rect.unit (s := S1x512) ![0, 0] S1x512.size inb_S1x512_S1x512_0_0).toLoadRect (harg6.unread x4))
        (View.readAt (Elt F) arg5.view (Rect.unit (s := S3x512) ![0, 0] S1x512.size inb_S3x512_S1x512_0_0).toLoadRect (harg5.unread x3))
        (View.readAt (Elt F) arg5.view (Rect.unit (s := S3x512) ![1, 0] S1x512.size inb_S3x512_S1x512_1_0).toLoadRect (harg5.unread x3))
        (View.readAt (Elt F) arg5.view (Rect.unit (s := S3x512) ![2, 0] S1x512.size inb_S3x512_S1x512_2_0).toLoadRect (harg5.unread x3)) z
      = outTile (carried i tl) x0 W W' x3 x4 ((Rect.unit (s := S2048x512) ![0, 0] S128x512.size inb).emb z) := by
  rw [prod_of x0 W arg2 harg2 S hS 0 (by omega) 0 rfl, prod_of x0 W' arg2 harg2 S' hS' 0 (by omega) 0 rfl,
    readAt_unread harg6, View.ld_unit_zero (by decide), readAt_unread harg10, View.ld_unit_zero (by decide),
    readAt_unread harg5, readAt_unread harg5, readAt_unread harg5, ld_tap x3 0 0 rfl, ld_tap x3 1 1 rfl, ld_tap x3 2 2 rfl]
  exact chunk_at (carried i tl) x0 W W' x3 x4 0 (by omega) 0 rfl inb z

/-- The stores into the output block, the last chunk of rows first, when the staged weights read as `S` and `S'`. -/
def laid (S S' : Vec F S2048x512 .bf16) : (q : ℕ) → q < 16 → List (View.Piece (Elt F) S2048x512 .bf16)
  | 0, _ => [⟨Rect.unit (s := S2048x512) ![0, 0] S128x512.size inb_S2048x512_S128x512_0_0,
      k0_pay10 (k0_pay5 (View.readAt (Elt F) arg2.view (Rect.unit (s := S2048x2048) ![0, 0] S128x2048.size inb_S2048x2048_S128x2048_0_0).toLoadRect (harg2.unread x0)) S)
        (k0_pay5 (View.readAt (Elt F) arg2.view (Rect.unit (s := S2048x2048) ![0, 0] S128x2048.size inb_S2048x2048_S128x2048_0_0).toLoadRect (harg2.unread x0)) S')
        (phase i)
        (View.readAt (Elt F) arg10.view (Rect.unit (s := S8x512) ![0, 0] S8x512.size inb_S8x512_S8x512_0_0).toLoadRect (harg10.unread tl))
        (View.readAt (Elt F) arg6.view (Rect.unit (s := S1x512) ![0, 0] S1x512.size inb_S1x512_S1x512_0_0).toLoadRect (harg6.unread x4))
        (View.readAt (Elt F) arg5.view (Rect.unit (s := S3x512) ![0, 0] S1x512.size inb_S3x512_S1x512_0_0).toLoadRect (harg5.unread x3))
        (View.readAt (Elt F) arg5.view (Rect.unit (s := S3x512) ![1, 0] S1x512.size inb_S3x512_S1x512_1_0).toLoadRect (harg5.unread x3))
        (View.readAt (Elt F) arg5.view (Rect.unit (s := S3x512) ![2, 0] S1x512.size inb_S3x512_S1x512_2_0).toLoadRect (harg5.unread x3))⟩]
  | q + 1, hq => ⟨Rect.unit (s := S2048x512) ![128 * (q + 1), 0] S128x512.size (chunk_inb (q + 1) hq),
      k0_pay15 (k0_pay5 (View.readAt (Elt F) arg2.view (Rect.unit (s := S2048x2048) ![128 * (q + 1), 0] S128x2048.size (chunk_inb (q + 1) hq)).toLoadRect (harg2.unread x0)) S)
        (k0_pay5 (View.readAt (Elt F) arg2.view (Rect.unit (s := S2048x2048) ![128 * (q + 1), 0] S128x2048.size (chunk_inb (q + 1) hq)).toLoadRect (harg2.unread x0)) S')
        (k0_pay9 (k0_pay5 (View.readAt (Elt F) arg2.view (Rect.unit (s := S2048x2048) ![128 * q, 0] S128x2048.size (chunk_inb q (by omega))).toLoadRect (harg2.unread x0)) S))
        (View.readAt (Elt F) arg6.view (Rect.unit (s := S1x512) ![0, 0] S1x512.size inb_S1x512_S1x512_0_0).toLoadRect (harg6.unread x4))
        (View.readAt (Elt F) arg5.view (Rect.unit (s := S3x512) ![0, 0] S1x512.size inb_S3x512_S1x512_0_0).toLoadRect (harg5.unread x3))
        (View.readAt (Elt F) arg5.view (Rect.unit (s := S3x512) ![1, 0] S1x512.size inb_S3x512_S1x512_1_0).toLoadRect (harg5.unread x3))
        (View.readAt (Elt F) arg5.view (Rect.unit (s := S3x512) ![2, 0] S1x512.size inb_S3x512_S1x512_2_0).toLoadRect (harg5.unread x3))⟩
      :: laid S S' q (by omega)

/-- Each of those stores agrees with the output block. -/
theorem laid_tile (S S' : Vec F S2048x512 .bf16) (hS : S = W) (hS' : S' = W') : ∀ (q : ℕ) (hq : q < 16),
    ∀ p ∈ laid x0 x3 x4 i arg2 harg2 arg5 harg5 arg6 harg6 arg10 harg10 tl S S' q hq, ∀ z, p.2 z = outTile (carried i tl) x0 W W' x3 x4 (p.1.emb z)
  | 0, _ => by
    unfold laid
    simp only [List.forall_mem_cons]
    exact ⟨piece_first x0 W W' x3 x4 i arg2 harg2 arg5 harg5 arg6 harg6 arg10 harg10 tl _ _ hS hS' inb_S2048x512_S128x512_0_0,
      fun _ h => absurd h List.not_mem_nil⟩
  | q + 1, hq => by
    unfold laid
    simp only [List.forall_mem_cons]
    exact ⟨piece (carried i tl) x0 W W' x3 x4 arg2 harg2 arg5 harg5 arg6 harg6 _ _ hS hS' q hq _ _ rfl rfl _ _ _,
      laid_tile S S' hS hS' q (by omega)⟩

/-- They cover the output block. -/
theorem laid_cover (S S' : Vec F S2048x512 .bf16) (y : S2048x512.Idx) :
    ∃ p ∈ laid x0 x3 x4 i arg2 harg2 arg5 harg5 arg6 harg6 arg10 harg10 tl S S' 15 (Nat.lt_succ_self 15), y ∈ p.1.set :=
  View.cover_of_tiledL (laid x0 x3 x4 i arg2 harg2 arg5 harg5 arg6 harg6 arg10 harg10 tl S S' 15 (Nat.lt_succ_self 15)) S128x512.size (by sl_kernel_rfl) y

/-- The store into the carried rows, when the staged weights read as `S`. -/
def kept (S : Vec F S2048x512 .bf16) : List (View.Piece (Elt F) S8x512 .f32) :=
  [⟨Rect.unit (s := S8x512) ![0, 0] ![8, 512] inb_S8x512_S8x512_0_0,
    k0_pay1 (k0_pay5 (View.readAt (Elt F) arg2.view (Rect.unit (s := S2048x2048) ![1920, 0] S128x2048.size inb_S2048x2048_S128x2048_1920_0).toLoadRect (harg2.unread x0)) S)⟩]

/-- It covers the carried rows. -/
theorem kept_cover (S : Vec F S2048x512 .bf16) (y : S8x512.Idx) : ∃ p ∈ kept x0 arg2 harg2 S, y ∈ p.1.set :=
  View.cover_of_tiledL (kept x0 arg2 harg2 S) ![8, 512] (by sl_kernel_rfl) y

/-- It leaves the last rows of the block's product there. -/
theorem kept_handed (S : Vec F S2048x512 .bf16) (hS : S = W) : View.canon (kept x0 arg2 harg2 S) = handed x0 W 15 (Nat.lt_succ_self 15) := by
  unfold kept
  refine (View.canon_unit_zero (by decide) _ _).trans ?_
  rw [prod_of x0 W arg2 harg2 S hS 15 (Nat.lt_succ_self 15) 1920 rfl]
  exact shapeCast_self _ _

/-- A store of a whole staged weight block covers it -/
theorem staged_cover (v : Vec F S2048x512 .bf16) (y : S2048x512.Idx) :
    ∃ p ∈ ([⟨Rect.unit (s := S2048x512) ![0, 0] S2048x512.size inb_S2048x512_S2048x512_0_0, v⟩] : List (View.Piece (Elt F) S2048x512 .bf16)), y ∈ p.1.set :=
  View.cover_of_tiledL [⟨Rect.unit (s := S2048x512) ![0, 0] S2048x512.size inb_S2048x512_S2048x512_0_0, v⟩] S2048x512.size (by sl_kernel_rfl) y

/-- and leaves it there. -/
theorem staged_canon (v : Vec F S2048x512 .bf16) :
    View.canon ([⟨Rect.unit (s := S2048x512) ![0, 0] S2048x512.size inb_S2048x512_S2048x512_0_0, v⟩] : List (View.Piece (Elt F) S2048x512 .bf16)) = v :=
  View.canon_unit_zero (by decide) _ _

/-- At a row tile that is not the first the body, from the staged weights `s0`, `s1` and the carried rows `tl`, leaves the
    tile in the output block and the last rows of its product in the carried rows. -/
theorem run_later (hi : ¬ first i) (E : Set ℕ) (K : PUnit → sProp 𝕄) :
    iprop(ins c arg2 arg3 arg4 arg5 arg6 x0 x1 x2 x3 x4 ∗ (∃ d, owns (c : Thread nD τ) arg7 fullShare d)
        ∗ owns (c : Thread nD τ) arg8 fullShare s0 ∗ owns (c : Thread nD τ) arg9 fullShare s1 ∗ owns (c : Thread nD τ) arg10 fullShare tl
        ∗ (iprop(ins c arg2 arg3 arg4 arg5 arg6 x0 x1 x2 x3 x4
            ∗ owns (c : Thread nD τ) arg7 fullShare (outTile (carried i tl) x0 s0 s1 x3 x4)
            ∗ owns (c : Thread nD τ) arg8 fullShare s0 ∗ owns (c : Thread nD τ) arg9 fullShare s1
            ∗ owns (c : Thread nD τ) arg10 fullShare (handed x0 s0 15 (Nat.lt_succ_self 15))) -∗ K ⟨⟩))
      ⊢ wp frame (wpE (defs₀ (F := F)) Variants.none c none) E (cc0_ffn_up i arg2 harg2 arg3 harg3 arg4 harg4 arg5 harg5 arg6 harg6 arg7 harg7 arg8 harg8 arg9 harg9 arg10 harg10) K := by
  have h8 : (View.readAt (Elt F) arg8.view (Rect.unit (s := S2048x512) ![0, 0] S2048x512.size inb_S2048x512_S2048x512_0_0).toLoadRect (harg8.unread s0)) = s0 := by
    rw [readAt_unread harg8]; exact View.ld_unit_zero (by decide) _ _
  have h9 : (View.readAt (Elt F) arg9.view (Rect.unit (s := S2048x512) ![0, 0] S2048x512.size inb_S2048x512_S2048x512_0_0).toLoadRect (harg9.unread s1)) = s1 := by
    rw [readAt_unread harg9]; exact View.ld_unit_zero (by decide) _ _
  have hL : (later c i arg2 harg2 arg3 harg3 arg4 harg4 arg5 harg5 arg6 harg6 arg7 harg7 arg8 harg8 arg9 harg9 arg10 harg10 x0 x1 x2 x3 x4 s0 s1 tl hi).1
      = laid x0 x3 x4 i arg2 harg2 arg5 harg5 arg6 harg6 arg10 harg10 tl _ _ 15 (Nat.lt_succ_self 15) := rfl
  have hT : (later c i arg2 harg2 arg3 harg3 arg4 harg4 arg5 harg5 arg6 harg6 arg7 harg7 arg8 harg8 arg9 harg9 arg10 harg10 x0 x1 x2 x3 x4 s0 s1 tl hi).2.1
      = kept x0 arg2 harg2 _ := rfl
  generalize later c i arg2 harg2 arg3 harg3 arg4 harg4 arg5 harg5 arg6 harg6 arg7 harg7 arg8 harg8 arg9 harg9 arg10 harg10 x0 x1 x2 x3 x4 s0 s1 tl hi = R at hL hT
  obtain ⟨L, T, hrun⟩ := R
  dsimp only at hL hT
  subst hL hT
  refine .trans ?_ (hrun E K)
  iintro ⟨Hi, Ho, H8, H9, H10, Hk⟩
  isplitl [Hi]; · iexact Hi
  isplitl [Ho]; · iexact Ho
  isplitl [H8]; · iexact H8
  isplitl [H9]; · iexact H9
  isplitl [H10]; · iexact H10
  iintro ⟨Hi, Ho, H8, H9, H10⟩
  iapply Hk
  isplitl [Hi]; · iexact Hi
  isplitl [Ho]
  · iapply (owns_of_pieces (c : Thread nD τ) arg7 _ _ (laid_tile x0 s0 s1 x3 x4 i arg2 harg2 arg5 harg5 arg6 harg6 arg10 harg10 tl _ _ h8 h9 15 (Nat.lt_succ_self 15))
      (laid_cover x0 x3 x4 i arg2 harg2 arg5 harg5 arg6 harg6 arg10 harg10 tl _ _))
    iexact Ho
  isplitl [H8]; · iexact H8
  isplitl [H9]; · iexact H9
  iapply (owns_of_whole (c : Thread nD τ) arg10 (handed x0 s0 15 (Nat.lt_succ_self 15)) _ (kept_handed x0 s0 arg2 harg2 _ h8) (kept_cover x0 arg2 harg2 _))
  iexact H10

/-- At the first row tile of a column tile the body stages the weight blocks and then does the same. -/
theorem run_opening (hi : first i) (E : Set ℕ) (K : PUnit → sProp 𝕄) :
    iprop(ins c arg2 arg3 arg4 arg5 arg6 x0 x1 x2 x3 x4 ∗ (∃ d, owns (c : Thread nD τ) arg7 fullShare d)
        ∗ (∃ d, owns (c : Thread nD τ) arg8 fullShare d) ∗ (∃ d, owns (c : Thread nD τ) arg9 fullShare d) ∗ owns (c : Thread nD τ) arg10 fullShare tl
        ∗ (iprop(ins c arg2 arg3 arg4 arg5 arg6 x0 x1 x2 x3 x4
            ∗ owns (c : Thread nD τ) arg7 fullShare (outTile (carried i tl) x0 (k0_pay3 x1) (k0_pay4 x2) x3 x4)
            ∗ owns (c : Thread nD τ) arg8 fullShare (k0_pay3 x1) ∗ owns (c : Thread nD τ) arg9 fullShare (k0_pay4 x2)
            ∗ owns (c : Thread nD τ) arg10 fullShare (handed x0 (k0_pay3 x1) 15 (Nat.lt_succ_self 15))) -∗ K ⟨⟩))
      ⊢ wp frame (wpE (defs₀ (F := F)) Variants.none c none) E (cc0_ffn_up i arg2 harg2 arg3 harg3 arg4 harg4 arg5 harg5 arg6 harg6 arg7 harg7 arg8 harg8 arg9 harg9 arg10 harg10) K := by
  have e3 : (View.readAt (Elt F) arg3.view (Rect.unit (s := S2048x512) ![0, 0] S2048x512.size inb_S2048x512_S2048x512_0_0).toLoadRect (harg3.unread x1)) = x1 := by
    rw [readAt_unread harg3]; exact View.ld_unit_zero (by decide) _ _
  have e4 : (View.readAt (Elt F) arg4.view (Rect.unit (s := S2048x512) ![0, 0] S2048x512.size inb_S2048x512_S2048x512_0_0).toLoadRect (harg4.unread x2)) = x2 := by
    rw [readAt_unread harg4]; exact View.ld_unit_zero (by decide) _ _
  have h8 : opening.sl.v5 c arg3 harg3 arg8 x1 = k0_pay3 x1 := by
    unfold opening.sl.v5 opening.sl.HS0_1
    exact (View.readCov_unit_zero arg8.view (by decide) _ _).trans (congrArg _ e3)
  have h9 : opening.sl.v9 c arg4 harg4 arg9 x2 = k0_pay4 x2 := by
    unfold opening.sl.v9 opening.sl.HS1_1
    exact (View.readCov_unit_zero arg9.view (by decide) _ _).trans (congrArg _ e4)
  have hL : (opening c i arg2 harg2 arg3 harg3 arg4 harg4 arg5 harg5 arg6 harg6 arg7 harg7 arg8 harg8 arg9 harg9 arg10 harg10 x0 x1 x2 x3 x4 tl hi).1
      = laid x0 x3 x4 i arg2 harg2 arg5 harg5 arg6 harg6 arg10 harg10 tl (opening.sl.v5 c arg3 harg3 arg8 x1) (opening.sl.v9 c arg4 harg4 arg9 x2) 15 (Nat.lt_succ_self 15) := rfl
  have hT : (opening c i arg2 harg2 arg3 harg3 arg4 harg4 arg5 harg5 arg6 harg6 arg7 harg7 arg8 harg8 arg9 harg9 arg10 harg10 x0 x1 x2 x3 x4 tl hi).2.2.2.1
      = kept x0 arg2 harg2 (opening.sl.v5 c arg3 harg3 arg8 x1) := rfl
  have hS0 : (opening c i arg2 harg2 arg3 harg3 arg4 harg4 arg5 harg5 arg6 harg6 arg7 harg7 arg8 harg8 arg9 harg9 arg10 harg10 x0 x1 x2 x3 x4 tl hi).2.1
      = [⟨Rect.unit (s := S2048x512) ![0, 0] S2048x512.size inb_S2048x512_S2048x512_0_0, k0_pay3 x1⟩] := by
    refine Eq.trans (b := [⟨Rect.unit (s := S2048x512) ![0, 0] S2048x512.size inb_S2048x512_S2048x512_0_0, k0_pay3 (View.readAt (Elt F) arg3.view (Rect.unit (s := S2048x512) ![0, 0] S2048x512.size inb_S2048x512_S2048x512_0_0).toLoadRect (harg3.unread x1))⟩]) rfl ?_
    rw [e3]
  have hS1 : (opening c i arg2 harg2 arg3 harg3 arg4 harg4 arg5 harg5 arg6 harg6 arg7 harg7 arg8 harg8 arg9 harg9 arg10 harg10 x0 x1 x2 x3 x4 tl hi).2.2.1
      = [⟨Rect.unit (s := S2048x512) ![0, 0] S2048x512.size inb_S2048x512_S2048x512_0_0, k0_pay4 x2⟩] := by
    refine Eq.trans (b := [⟨Rect.unit (s := S2048x512) ![0, 0] S2048x512.size inb_S2048x512_S2048x512_0_0, k0_pay4 (View.readAt (Elt F) arg4.view (Rect.unit (s := S2048x512) ![0, 0] S2048x512.size inb_S2048x512_S2048x512_0_0).toLoadRect (harg4.unread x2))⟩]) rfl ?_
    rw [e4]
  generalize opening c i arg2 harg2 arg3 harg3 arg4 harg4 arg5 harg5 arg6 harg6 arg7 harg7 arg8 harg8 arg9 harg9 arg10 harg10 x0 x1 x2 x3 x4 tl hi = R at hL hT hS0 hS1
  obtain ⟨L, S0, S1, T, hrun⟩ := R
  dsimp only at hL hT hS0 hS1
  subst hL hT hS0 hS1
  refine .trans ?_ (hrun E K)
  iintro ⟨Hi, Ho, H8, H9, H10, Hk⟩
  isplitl [Hi]; · iexact Hi
  isplitl [Ho]; · iexact Ho
  isplitl [H8]; · iexact H8
  isplitl [H9]; · iexact H9
  isplitl [H10]; · iexact H10
  iintro ⟨Hi, Ho, H8, H9, H10⟩
  iapply Hk
  isplitl [Hi]; · iexact Hi
  isplitl [Ho]
  · iapply (owns_of_pieces (c : Thread nD τ) arg7 _ _ (laid_tile x0 (k0_pay3 x1) (k0_pay4 x2) x3 x4 i arg2 harg2 arg5 harg5 arg6 harg6 arg10 harg10 tl _ _ h8 h9 15 (Nat.lt_succ_self 15))
      (laid_cover x0 x3 x4 i arg2 harg2 arg5 harg5 arg6 harg6 arg10 harg10 tl _ _))
    iexact Ho
  isplitl [H8]
  · iapply (owns_of_whole (c : Thread nD τ) arg8 (k0_pay3 x1) _ (staged_canon (k0_pay3 x1)) (staged_cover (k0_pay3 x1)))
    iexact H8
  isplitl [H9]
  · iapply (owns_of_whole (c : Thread nD τ) arg9 (k0_pay4 x2) _ (staged_canon (k0_pay4 x2)) (staged_cover (k0_pay4 x2)))
    iexact H9
  iapply (owns_of_whole (c : Thread nD τ) arg10 (handed x0 (k0_pay3 x1) 15 (Nat.lt_succ_self 15)) _ (kept_handed x0 (k0_pay3 x1) arg2 harg2 _ h8) (kept_cover x0 arg2 harg2 _))
  iexact H10

/-- At the first row tile nothing of the carried rows is used. -/
theorem carried_first (hi : first i) (T T' : Vec F S8x512 .f32) : carried i T = carried i T' := by
  have h : ∀ j : Fin 4, (Scalar.cmpi .ne (Scalar.extui (Scalar.cmpi .eq (BitVec.ofNat 32 j.val) 0#32)) 0#32) = 1#1 → j.val = 0 := by decide
  have h0 : (i 1).val = 0 := h (i 1) hi
  have hp : phase i = 0#32 := by
    simp only [phase, later.sl.v28, later.sl.v27, later.sl.v26, later.sl.v25, later.sl.v23, later.sl.v22, later.sl.v21, h0]
    decide
  unfold carried
  rw [hp]
  rfl

end Cert.KernelUpIdeal.Run

end
-- ==== Proof.UpFrame.lean ====
/-
  The whole run of the call `ffn_up`: what its staging buffers and carried scratches hold after each grid point, and that
  the program runs to the end, leaving its arguments as they were.
-/
module

public import proofs.«01_k».proof.Proof.UpBlock

@[expose] public section

set_option maxRecDepth 16384

noncomputable section

namespace Cert.KernelUpIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Chunks Cert.KernelUpIdeal Cert.KernelUpIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers when the grid begins: after the host operations. -/
abbrev V (c : Dev nD) (b : Ref sig .tc) : Buf (Elt F) ((c : Thread nD τ).loc b) := StableHlo.after hostOps0 (fun b => m (c, b)) b

/-- The host operations allocate nothing. -/
theorem hostOps0_fresh : (hostOps0 : List (HloOp τ sig (Elt F))).Forall fun op => op.fresh = ∅ := by
  simp only [List.Forall]; repeat' constructor

set_option maxHeartbeats 800000 in
/-- The program up to the grid. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write no argument. -/
theorem V_arg (c : Dev nD) (b : Ref sig .tc) (hb : b = main_arg0 ∨ b = main_arg1 ∨ b = main_arg2 ∨ b = main_arg3) :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    rcases hb with rfl | rfl | rfl | rfl
    all_goals
      repeat' apply And.intro
      all_goals exact StableHlo.devRef_ne_of_ne (by decide)))

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's condition holds at the first of every four points. -/
theorem first_iff (t : Fin cfg0.N) : first (grid0.coords t) ↔ t.val % 4 = 0 := by
  have ht : t.val < 44 := Nat.lt_of_lt_of_eq t.isLt N_0
  have e1 : (grid0.coords t 1).val = t.val / 1 % 4 := Pipeline.Grid.coords_val t 1 (by decide) rfl
  simp only [first, e1]
  word_cmp

/-- The point at which the weights of point `n` were staged. -/
def begun (n : ℕ) (hn : n < cfg0.N) : Fin cfg0.N := ⟨4 * (n / 4), by omega⟩

/-- The staged weights at point `n`. -/
def wts (c : Dev nD) (n : ℕ) (hn : n < cfg0.N) : Vec F S2048x512 .bf16 := k0_pay3 (iblk m c 1 (begun n hn))
def wts' (c : Dev nD) (n : ℕ) (hn : n < cfg0.N) : Vec F S2048x512 .bf16 := k0_pay4 (iblk m c 2 (begun n hn))

/-- The carried rows after point `n`. -/
def tail (c : Dev nD) (n : ℕ) (hn : n < cfg0.N) : Vec F S8x512 .f32 :=
  handed (iblk m c 0 ⟨n, hn⟩) (wts m c n hn) 15 (Nat.lt_succ_self 15)

/-- The carried rows before point `n`; before the first point, zeros stand for whatever is there. -/
def tailBefore (c : Dev nD) : (n : ℕ) → n < cfg0.N → Vec F S8x512 .f32
  | 0, _ => broadcast S8x512 (Scalar.ofBits .f32 0x00000000#32 : F .f32)
  | n + 1, hn => tail m c n (by omega)

/-- The output block after point `n`. -/
def outAt (c : Dev nD) (n : ℕ) (hn : n < cfg0.N) : Vec F S2048x512 .bf16 :=
  outTile (carried (grid0.coords ⟨n, hn⟩) (tailBefore m c n hn)) (iblk m c 0 ⟨n, hn⟩) (wts m c n hn) (wts' m c n hn)
    (iblk m c 3 ⟨n, hn⟩) (iblk m c 4 ⟨n, hn⟩)

abbrev M0 : Memref sig .tc .vmem S2048x512 .bf16 := Memref.whole cc0_scratch0
abbrev M1 : Memref sig .tc .vmem S2048x512 .bf16 := Memref.whole cc0_scratch1
abbrev M2 : Memref sig .tc .vmem S8x512 .f32 := Memref.whole cc0_scratch2

/-- Before the grid the scratches hold anything. -/
theorem PhiA0_eq (c : Dev nD) :
    (Pipeline.ΦA spec0 c : sProp 𝕄)
      = iprop(iprop((∃ d, owns (c : Thread nD τ) M0 fullShare d) ∗ (∃ d, owns (c : Thread nD τ) M1 fullShare d) ∗ (∃ d, owns (c : Thread nD τ) M2 fullShare d)) ∗ (∃ r, prngReg c r)) := by
  unfold Pipeline.ΦA; rw [scopedRest0_eq]; simp only [M0, M1, M2, owns_whole]; try rfl

/-- What holds before point `n`: anything in the scratches before the first, then the staged weights and the carried rows
    of the point before. -/
def PhiS (c : Dev nD) : (n : ℕ) → n ≤ cfg0.N → sProp 𝕄
  | 0, _ => Pipeline.ΦA spec0 c
  | n + 1, hn => iprop(iprop(owns (c : Thread nD τ) M0 fullShare (wts m c n hn) ∗ owns (c : Thread nD τ) M1 fullShare (wts' m c n hn)
      ∗ owns (c : Thread nD τ) M2 fullShare (tail m c n hn)) ∗ (∃ r, prngReg c r))

/-- In any case the scratches hold something. -/
theorem Phi_any (c : Dev nD) (n : ℕ) (hn : n ≤ cfg0.N) :
    PhiS m c n hn ⊢ iprop(iprop((∃ d, owns (c : Thread nD τ) M0 fullShare d) ∗ (∃ d, owns (c : Thread nD τ) M1 fullShare d) ∗ (∃ d, owns (c : Thread nD τ) M2 fullShare d)) ∗ (∃ r, prngReg c r)) := by
  cases n with
  | zero => unfold PhiS; rw [PhiA0_eq]
  | succ n =>
    unfold PhiS
    iintro ⟨⟨H8, H9, H10⟩, Hg⟩
    isplitl [H8 H9 H10]
    · isplitl [H8]; · iexists _; iexact H8
      isplitl [H9]; · iexists _; iexact H9
      iexists _; iexact H10
    iexact Hg

/-- The proof data of the grid. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t.val t.isLt
  Φ t := PhiS m c t.val (Nat.le_of_lt_succ t.isLt)
  q w := Pipeline.shareOf spec0 w
  owed _ := 0

/-- The windows' arrays as the grid finds them. -/
theorem A_eq (c : Dev nD) (w : Fin cfg0.W) : (dats m 0 c).A w = V m c (Pipeline.arrRef spec0 w) := by
  dsimp only [dats]

/-- What the body leaves in the staging buffers. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t.val t.isLt := by dsimp only [dats]

/-- Each input's staging buffer holds its block when the body begins. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-- The staging memrefs of point `t`. -/
abbrev ms0 (t : Fin cfg0.N) : Memref sig .tc .vmem S2048x2048 .bf16 := win0_0.stage (cfg0.slots t 0)
abbrev ms1 (t : Fin cfg0.N) : Memref sig .tc .vmem S2048x512 .f32 := win0_1.stage (cfg0.slots t 1)
abbrev ms2 (t : Fin cfg0.N) : Memref sig .tc .vmem S2048x512 .f32 := win0_2.stage (cfg0.slots t 2)
abbrev ms3 (t : Fin cfg0.N) : Memref sig .tc .vmem S3x512 .f32 := win0_3.stage (cfg0.slots t 3)
abbrev ms4 (t : Fin cfg0.N) : Memref sig .tc .vmem S1x512 .f32 := win0_4.stage (cfg0.slots t 4)
abbrev ms5 (t : Fin cfg0.N) : Memref sig .tc .vmem S2048x512 .bf16 := win0_5.stage (cfg0.slots t 5)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

/-- At the first row tile of a column tile the body runs from any staged weights and any carried rows. -/
theorem body_first (c : Dev nD) (t : Fin cfg0.N) (h0 : t.val % 4 = 0) (K : PUnit → sProp 𝕄) :
    iprop(ins c (ms0 t) (ms1 t) (ms2 t) (ms3 t) (ms4 t) (iblk m c 0 t) (iblk m c 1 t) (iblk m c 2 t) (iblk m c 3 t) (iblk m c 4 t)
        ∗ (∃ d, owns (c : Thread nD τ) (ms5 t) fullShare d)
        ∗ (∃ d, owns (c : Thread nD τ) M0 fullShare d) ∗ (∃ d, owns (c : Thread nD τ) M1 fullShare d) ∗ (∃ d, owns (c : Thread nD τ) M2 fullShare d)
        ∗ (iprop(ins c (ms0 t) (ms1 t) (ms2 t) (ms3 t) (ms4 t) (iblk m c 0 t) (iblk m c 1 t) (iblk m c 2 t) (iblk m c 3 t) (iblk m c 4 t)
            ∗ owns (c : Thread nD τ) (ms5 t) fullShare (outAt m c t.val t.isLt)
            ∗ owns (c : Thread nD τ) M0 fullShare (wts m c t.val t.isLt) ∗ owns (c : Thread nD τ) M1 fullShare (wts' m c t.val t.isLt)
            ∗ owns (c : Thread nD τ) M2 fullShare (tail m c t.val t.isLt)) -∗ K ⟨⟩))
      ⊢ wp frame (wpE (defs₀ (F := F)) Variants.none c none) Set.univ (bodyAt0 t) K := by
  have hb : begun t.val t.isLt = t := Fin.ext (by show 4 * (t.val / 4) = t.val; omega)
  have hi : first (grid0.coords t) := (first_iff t).mpr h0
  unfold bodyAt0
  iintro ⟨Hi, Ho, H8, H9, ⟨%tl, H10⟩, Hk⟩
  iapply (run_opening (iblk m c 0 t) (iblk m c 3 t) (iblk m c 4 t) c (grid0.coords t) _ _ _ _ _ _ _ _ _ _ _ _ _ _ _ _ _ _
    (iblk m c 1 t) (iblk m c 2 t) tl hi Set.univ K)
  isplitl [Hi]; · iexact Hi
  isplitl [Ho]; · iexact Ho
  isplitl [H8]; · iexact H8
  isplitl [H9]; · iexact H9
  isplitl [H10]; · iexact H10
  unfold outAt tail wts wts'
  rw [hb, carried_first _ hi tl (tailBefore m c t.val t.isLt)]
  iexact Hk

/-- At the others it runs from what the point before left. -/
theorem body_later (c : Dev nD) (n : ℕ) (hn : n + 1 < cfg0.N) (h0 : (n + 1) % 4 ≠ 0) (K : PUnit → sProp 𝕄) :
    iprop(ins c (ms0 ⟨n + 1, hn⟩) (ms1 ⟨n + 1, hn⟩) (ms2 ⟨n + 1, hn⟩) (ms3 ⟨n + 1, hn⟩) (ms4 ⟨n + 1, hn⟩)
          (iblk m c 0 ⟨n + 1, hn⟩) (iblk m c 1 ⟨n + 1, hn⟩) (iblk m c 2 ⟨n + 1, hn⟩) (iblk m c 3 ⟨n + 1, hn⟩) (iblk m c 4 ⟨n + 1, hn⟩)
        ∗ (∃ d, owns (c : Thread nD τ) (ms5 ⟨n + 1, hn⟩) fullShare d)
        ∗ owns (c : Thread nD τ) M0 fullShare (wts m c n (by omega)) ∗ owns (c : Thread nD τ) M1 fullShare (wts' m c n (by omega))
        ∗ owns (c : Thread nD τ) M2 fullShare (tail m c n (by omega))
        ∗ (iprop(ins c (ms0 ⟨n + 1, hn⟩) (ms1 ⟨n + 1, hn⟩) (ms2 ⟨n + 1, hn⟩) (ms3 ⟨n + 1, hn⟩) (ms4 ⟨n + 1, hn⟩)
            (iblk m c 0 ⟨n + 1, hn⟩) (iblk m c 1 ⟨n + 1, hn⟩) (iblk m c 2 ⟨n + 1, hn⟩) (iblk m c 3 ⟨n + 1, hn⟩) (iblk m c 4 ⟨n + 1, hn⟩)
            ∗ owns (c : Thread nD τ) (ms5 ⟨n + 1, hn⟩) fullShare (outAt m c (n + 1) hn)
            ∗ owns (c : Thread nD τ) M0 fullShare (wts m c (n + 1) hn) ∗ owns (c : Thread nD τ) M1 fullShare (wts' m c (n + 1) hn)
            ∗ owns (c : Thread nD τ) M2 fullShare (tail m c (n + 1) hn)) -∗ K ⟨⟩))
      ⊢ wp frame (wpE (defs₀ (F := F)) Variants.none c none) Set.univ (bodyAt0 ⟨n + 1, hn⟩) K := by
  have hb : begun (n + 1) hn = begun n (by omega) := Fin.ext (by show 4 * ((n + 1) / 4) = 4 * (n / 4); omega)
  have hi : ¬ first (grid0.coords ⟨n + 1, hn⟩) := fun h => h0 ((first_iff ⟨n + 1, hn⟩).mp h)
  have e0 : wts m c (n + 1) hn = wts m c n (by omega) := by unfold wts; rw [hb]
  have e1 : wts' m c (n + 1) hn = wts' m c n (by omega) := by unfold wts'; rw [hb]
  unfold bodyAt0
  iintro ⟨Hi, Ho, H8, H9, H10, Hk⟩
  iapply (run_later (iblk m c 0 ⟨n + 1, hn⟩) (iblk m c 3 ⟨n + 1, hn⟩) (iblk m c 4 ⟨n + 1, hn⟩) c (grid0.coords ⟨n + 1, hn⟩) _ _ _ _ _ _ _ _ _ _ _ _ _ _ _ _ _ _
    (iblk m c 1 ⟨n + 1, hn⟩) (iblk m c 2 ⟨n + 1, hn⟩) _ _ _ hi Set.univ K)
  isplitl [Hi]; · iexact Hi
  isplitl [Ho]; · iexact Ho
  isplitl [H8]; · iexact H8
  isplitl [H9]; · iexact H9
  isplitl [H10]; · iexact H10
  unfold outAt
  rw [show tail m c (n + 1) hn = handed (iblk m c 0 ⟨n + 1, hn⟩) (wts m c (n + 1) hn) 15 (Nat.lt_succ_self 15) from rfl, e0, e1]
  iexact Hk

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4]
  rw [show (dats m 0 c).owesAt () t.succ = (dats m 0 c).owesAt () t.castSucc from rfl, after0, after1, after2, after3, after4, after5]
  rw [show (dats m 0 c).Φ t.succ = PhiS m c (t.val + 1) t.isLt from rfl, show (dats m 0 c).Φ t.castSucc = PhiS m c t.val (Nat.le_of_lt t.isLt) from rfl]
  obtain ⟨n, hn⟩ := t
  by_cases h0 : n % 4 = 0
  · iintro ⟨HΦ, Ho, ⟨%d0, H0⟩, ⟨%d1, H1⟩, ⟨%d2, H2⟩, ⟨%d3, H3⟩, ⟨%d4, H4⟩, ⟨%d5, H5⟩⟩
    ihave HΦ' := (Phi_any m c n (Nat.le_of_lt hn)) $$ HΦ
    icases HΦ' with ⟨⟨H8, H9, H10⟩, Hg⟩
    iapply (body_first m c ⟨n, hn⟩ h0 _)
    isplitl [H0 H1 H2 H3 H4]
    · unfold ins
      isplitl [H0]; · iexact H0
      isplitl [H1]; · iexact H1
      isplitl [H2]; · iexact H2
      isplitl [H3]; · iexact H3
      iexact H4
    isplitl [H5]; · iexists _; iexact H5
    isplitl [H8]; · iexact H8
    isplitl [H9]; · iexact H9
    isplitl [H10]; · iexact H10
    unfold ins
    iintro ⟨⟨H0, H1, H2, H3, H4⟩, H5, H8, H9, H10⟩
    isplitl [H8 H9 H10 Hg]
    · unfold PhiS
      isplitl [H8 H9 H10]
      · isplitl [H8]; · iexact H8
        isplitl [H9]; · iexact H9
        iexact H10
      iexact Hg
    isplitl [Ho]; · iexact Ho
    isplitl [H0]; · iexact H0
    isplitl [H1]; · iexact H1
    isplitl [H2]; · iexact H2
    isplitl [H3]; · iexact H3
    isplitl [H4]; · iexact H4
    iexact H5
  · obtain ⟨n, rfl⟩ : ∃ k, n = k + 1 := ⟨n - 1, by omega⟩
    iintro ⟨HΦ, Ho, ⟨%d0, H0⟩, ⟨%d1, H1⟩, ⟨%d2, H2⟩, ⟨%d3, H3⟩, ⟨%d4, H4⟩, ⟨%d5, H5⟩⟩
    unfold PhiS
    icases HΦ with ⟨⟨H8, H9, H10⟩, Hg⟩
    iapply (body_later m c n hn h0 _)
    isplitl [H0 H1 H2 H3 H4]
    · unfold ins
      isplitl [H0]; · iexact H0
      isplitl [H1]; · iexact H1
      isplitl [H2]; · iexact H2
      isplitl [H3]; · iexact H3
      iexact H4
    isplitl [H5]; · iexists _; iexact H5
    isplitl [H8]; · iexact H8
    isplitl [H9]; · iexact H9
    isplitl [H10]; · iexact H10
    unfold ins
    iintro ⟨⟨H0, H1, H2, H3, H4⟩, H5, H8, H9, H10⟩
    isplitl [H8 H9 H10 Hg]
    · isplitl [H8 H9 H10]
      · isplitl [H8]; · iexact H8
        isplitl [H9]; · iexact H9
        iexact H10
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl]
  exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  exact Phi_any m c _ _

set_option backward.isDefEq.respectTransparency.types false in
/-- The program runs to the end; every array of the grid is what the proof data says, the other buffers are as the grid
    found them, and every semaphore is at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The run leaves the arguments as they were. -/
theorem kept_args (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_arg m c _ (by tauto)),
    ((h c).2 main_arg1 (Pipeline.mem_restRefs_of main_arg1 (by decide) (by decide))).trans (V_arg m c _ (by tauto)),
    ((h c).2 main_arg2 (Pipeline.mem_restRefs_of main_arg2 (by decide) (by decide))).trans (V_arg m c _ (by tauto)),
    ((h c).2 main_arg3 (Pipeline.mem_restRefs_of main_arg3 (by decide) (by decide))).trans (V_arg m c _ (by tauto))⟩

/-- The frame: the program runs to the end, its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨kept_args m r h.1, h.2⟩) (run_quiescent m ρ)

end Cert.KernelUpIdeal.Run

end
-- ==== Proof.UpBits.lean ====
/-
  The call `ffn_up` printed for the device's words is the same text as the one printed for the reals, so its run is the run
  over an arbitrary float instance, at the words.
-/
module

public import proofs.«01_k».proof.Proof.Gen.KernelUp.Launch
public import proofs.«01_k».proof.Proof.UpFrame

@[expose] public section

noncomputable section

namespace Cert.KernelUp.Run

open Idealize.ShloMosaic Idealize.SL.Sem

/-- The bodies behind the labels are the same. -/
theorem defs₀_eq : Cert.KernelUp.defs₀ (F := Bits) = Cert.KernelUpIdeal.defs₀ (F := Bits) := by
  unfold Cert.KernelUp.defs₀ Cert.KernelUpIdeal.defs₀
  refine congrArg Defs.onTc ?_
  funext l a
  match l, a with
  | 0, (t, s) => rfl

/-- So are the programs' bodies. -/
theorem defs_eq : Cert.KernelUp.defs (F := Bits) = Cert.KernelUpIdeal.defs (F := Bits) := by
  unfold Cert.KernelUp.defs Cert.KernelUpIdeal.defs
  rw [defs₀_eq]
  rfl

/-- The call runs to the end, its arguments as they were and every semaphore at zero. -/
theorem frame (m : (ℓ : Loc nD τ sig) → Buf (Elt Bits) ℓ) (ρ : Dev nD → PrngReg) :
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq]
  exact Cert.KernelUpIdeal.Run.frame (F := Bits) m ρ

end Cert.KernelUp.Run

end
-- ==== Proof.UpTile.lean ====
/-
  The output block of the call `ffn_up`, entry by entry: the convolution of the first product's column down the rows, through
  `silu`, times the second product.
-/
module

public import proofs.«01_k».proof.Proof.UpFrame
public import proofs.«01_k».proof.Proof.Conv

@[expose] public section

set_option maxRecDepth 16384

noncomputable section

namespace Cert.KernelUpIdeal.Run

open Idealize.ShloMosaic Idealize.ShloMosaic.TcCoe Idealize.ShloMosaic.Tactic
open Idealize.SL Idealize.SL.Sem
open Cert.Chunks Cert.Rows Cert.Silu Cert.Conv Cert.KernelUpIdeal Cert.KernelUpIdeal.Gen

/-- A chunk's payload, entry by entry. -/
theorem chunk_apply (A B : FVec Ideal S128x512 .f32) (T : FVec Ideal S8x512 .f32) (b w0 w1 w2 : Vec Ideal S1x512 .f32) (r : Fin 128) (l : Fin 512) :
    k0_pay15 A B T b w0 w1 w2 (ix2 r l)
      = siluK (conv3 (b (ix2 0 l)) (w0 (ix2 0 l)) (w1 (ix2 0 l)) (w2 (ix2 0 l))
          (if h : (8 + r.val + 136 - 2) % 136 < 8 then T (ix2 ⟨(8 + r.val + 136 - 2) % 136, h⟩ l)
            else A (ix2 ⟨(8 + r.val + 136 - 2) % 136 - 8, by omega⟩ l))
          (if h : (8 + r.val + 136 - 1) % 136 < 8 then T (ix2 ⟨(8 + r.val + 136 - 1) % 136, h⟩ l)
            else A (ix2 ⟨(8 + r.val + 136 - 1) % 136 - 8, by omega⟩ l))
          (A (ix2 r l))) * B (ix2 r l) := by
  pointwise [k0_pay15]
  rfl

/-- The product of 128 rows is the block's product on those rows. -/
theorem pay5_apply (x : Vec Ideal S2048x2048 .bf16) (W : Vec Ideal S2048x512 .bf16) (q : ℕ) (hq : q < 16) (r : Fin 128) (l : Fin 512)
    (j : Fin 2048) (hj : j.val = 128 * q + r.val) :
    k0_pay5 (rows x q hq) W (ix2 r l) = prod x W j l := by
  pointwise [k0_pay5]
  refine Finset.sum_congr rfl fun k _ => congrArg (fun z : EReal => z * W (ix2 k l)) (congrArg x ?_)
  funext a
  match a with
  | ⟨0, _⟩ => exact Fin.ext hj.symm
  | ⟨1, _⟩ => rfl

/-- The rows handed on are the last eight of the 128. -/
theorem handed_apply (x : Vec Ideal S2048x2048 .bf16) (W : Vec Ideal S2048x512 .bf16) (q : ℕ) (hq : q < 16) (e : Fin 8) (l : Fin 512)
    (j : Fin 2048) (hj : j.val = 128 * q + 120 + e.val) :
    handed x W q hq (ix2 e l) = prod x W j l := by
  unfold handed
  refine Eq.trans ?_ (pay5_apply x W q hq ⟨120 + e.val, by omega⟩ l j (by rw [hj]; show _ = 128 * q + (120 + e.val); omega))
  pointwise [k0_pay9]

/-- What the rotated history of a chunk holds `k` rows before its row `r`. -/
theorem hist_chunk (T : Vec Ideal S8x512 .f32) (x : Vec Ideal S2048x2048 .bf16) (W : Vec Ideal S2048x512 .bf16) (q : ℕ) (hq : q < 16)
    (r : Fin 128) (l : Fin 512) (j : Fin 2048) (hj : j.val = 128 * q + r.val) (k : ℕ) (hk : 1 ≤ k) (h8 : k ≤ 8) :
    (if h : (8 + r.val + 136 - k) % 136 < 8 then before T x W q hq (ix2 ⟨(8 + r.val + 136 - k) % 136, h⟩ l)
        else k0_pay5 (rows x q hq) W (ix2 ⟨(8 + r.val + 136 - k) % 136 - 8, by omega⟩ l))
      = back T (fun j => prod x W j l) l j k hk :=
  hist T (before T x W q hq) (k0_pay5 (rows x q hq) W) (fun j => prod x W j l) q l (fun r j h => pay5_apply x W q hq r l j h)
    (fun h e => by subst h; rfl) (fun p h e j' hj' => by subst h; exact handed_apply x W p (by omega) e l j' hj') r j hj k hk h8

/-- The output block at row `j` and column `l`. -/
theorem outTile_apply (T : Vec Ideal S8x512 .f32) (x : Vec Ideal S2048x2048 .bf16) (W W' : Vec Ideal S2048x512 .bf16) (w : Vec Ideal S3x512 .f32)
    (b : Vec Ideal S1x512 .f32) (j : Fin 2048) (l : Fin 512) :
    outTile T x W W' w b (ix2 j l)
      = siluK (conv3 (b (ix2 0 l)) (w (ix2 0 l)) (w (ix2 1 l)) (w (ix2 2 l))
          (back T (fun j => prod x W j l) l j 2 (by omega)) (back T (fun j => prod x W j l) l j 1 (by omega)) (prod x W j l))
        * prod x W' j l := by
  have hj := j.isLt
  have e : j.val = 128 * (j.val / 128) + j.val % 128 := by omega
  unfold outTile
  refine (chunk_apply _ _ _ _ _ _ _ _ _).trans ?_
  exact congrArg₂ (fun p q : EReal => p * q)
    (congrArg siluK (congrArg₂ (fun p q : EReal => p + q) (congrArg₂ (fun p q : EReal => p + q)
      (congrArg (fun p : EReal => b (ix2 0 l) + w (ix2 0 l) * p) (hist_chunk T x W _ _ _ l j e 2 (by omega) (by omega)))
      (congrArg (fun p : EReal => w (ix2 1 l) * p) (hist_chunk T x W _ _ _ l j e 1 (by omega) (by omega))))
      (congrArg (fun p : EReal => w (ix2 2 l) * p) (pay5_apply x W _ _ _ l j e))))
    (pay5_apply x W' _ _ _ l j e)

/-- At a row tile that begins a sequence the rows before are zeros, at any other the carried ones. -/
theorem carried_apply (n : ℕ) (hn : n < cfg0.N) (T : Vec Ideal S8x512 .f32) (e : Fin 8) (l : Fin 512) :
    carried (grid0.coords ⟨n, hn⟩) T (ix2 e l) = if n % 2 = 0 then (0 : EReal) else T (ix2 e l) := by
  have ht : n < 44 := Nat.lt_of_lt_of_eq hn N_0
  have e1 : (grid0.coords ⟨n, hn⟩ 1).val = n / 1 % 4 := Pipeline.Grid.coords_val ⟨n, hn⟩ 1 (by decide) rfl
  have hp : Scalar.cmpi .eq (phase (grid0.coords ⟨n, hn⟩)) 0#32 = if n % 2 = 0 then 1#1 else 0#1 := by
    have h4 : (grid0.coords ⟨n, hn⟩ 1).val < 4 := (grid0.coords ⟨n, hn⟩ 1).isLt
    have hq : n % 2 = (grid0.coords ⟨n, hn⟩ 1).val % 2 := by omega
    rw [hq]
    simp only [phase, later.sl.v28, later.sl.v27, later.sl.v26, later.sl.v25, later.sl.v23, later.sl.v22, later.sl.v21]
    generalize (grid0.coords ⟨n, hn⟩ 1).val = v at h4
    interval_cases v <;> decide
  unfold carried
  rw [hp]
  by_cases h : n % 2 = 0
  · rw [if_pos h, if_pos h]
    show Ideal.ofBits .f32 0x00000000#32 = 0
    exact Ideal.ofBits_zero _
  · rw [if_neg h, if_neg h]; rfl

end Cert.KernelUpIdeal.Run

end
-- ==== Proof.UpArray.lean ====
/-
  What the call `ffn_up` leaves in its array: at each row and column the convolved and gated hidden activation.
-/
module

public import proofs.«01_k».proof.Proof.UpTile
public import Idealize.ShloMosaic.Lib.Claim
public import Idealize.ShloMosaic.Lib.StableHlo.ReadAt

@[expose] public section

set_option maxRecDepth 16384

noncomputable section

namespace Cert.KernelUpIdeal.Run

open Idealize.ShloMosaic Idealize.ShloMosaic.TcCoe Idealize.ShloMosaic.Tactic
open Idealize.SL Idealize.SL.Sem
open Cert.Rows Cert.Silu Cert.Conv Cert.KernelUpIdeal Cert.KernelUpIdeal.Gen

variable (m : (ℓ : Loc nD τ sig) → Buf (Elt Ideal) ℓ) (ρ : Dev nD → PrngReg)

/-- What the windows' arrays hold when the grid begins, entry by entry. -/
theorem V_u (c : Dev nD) (b : Fin 2) (s : Fin 4096) (R : Fin 8192) (k : Fin 2048) (hR : R.val = 4096 * b.val + s.val) :
    V m c main_v2 (ix2 R k) = m ((c : Thread nD τ).loc main_arg0) (ix3 b s k) := by
  unfold V
  after_reads_at
  exact split_row (m ((c : Thread nD τ).loc main_arg0)) R.val b s k hR _ _

theorem V_w (c : Dev nD) (k : Fin 2048) (C : Fin 11264) :
    V m c main_v0 (ix2 k C) = m ((c : Thread nD τ).loc main_arg1) (ix3 0 k C) := by
  unfold V
  after_reads_at

theorem V_cw (c : Dev nD) (k : Fin 3) (C : Fin 5632) :
    V m c main_v3 (ix2 k C) = m ((c : Thread nD τ).loc main_arg2) (ix3 0 k C) := by
  unfold V
  after_reads_at

theorem V_cb (c : Dev nD) (C : Fin 5632) :
    V m c main_v5 (ix2 0 C) = m ((c : Thread nD τ).loc main_arg3) (ix2 0 C) := by
  unfold V
  after_reads_at

/-- The blocks each window stages at a point. -/
theorem idx0 : ∀ t : Fin cfg0.N, win0_0.index t (0 : Fin 2) = t.val % 4 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val / 4 :=
  (by decide +kernel : ∀ t : Fin grid0.N, _)
theorem idx2 : ∀ t : Fin cfg0.N, win0_2.index t (0 : Fin 2) = 0 ∧ win0_2.index t (1 : Fin 2) = t.val / 4 + 11 :=
  (by decide +kernel : ∀ t : Fin grid0.N, _)
theorem idx3 : ∀ t : Fin cfg0.N, win0_3.index t (0 : Fin 2) = 0 ∧ win0_3.index t (1 : Fin 2) = t.val / 4 :=
  (by decide +kernel : ∀ t : Fin grid0.N, _)
theorem idx4 : ∀ t : Fin cfg0.N, win0_4.index t (0 : Fin 2) = 0 ∧ win0_4.index t (1 : Fin 2) = t.val / 4 :=
  (by decide +kernel : ∀ t : Fin grid0.N, _)
theorem idx5 : ∀ t : Fin cfg0.N, win0_5.index t (0 : Fin 2) = t.val % 4 ∧ win0_5.index t (1 : Fin 2) = t.val / 4 :=
  (by decide +kernel : ∀ t : Fin grid0.N, _)

/-- The windows' blocks at a point, entry by entry, as entries of the arguments. -/
theorem iblk0 (c : Dev nD) (t : Fin cfg0.N) (r : Fin 2048) (k : Fin 2048) (b : Fin 2) (s : Fin 4096)
    (h : 4096 * b.val + s.val = 2048 * (t.val % 4) + r.val) :
    iblk m c 0 t (ix2 r k) = m ((c : Thread nD τ).loc main_arg0) (ix3 b s k) := by
  unfold iblk
  rw [View.read_apply, cast_eq]
  refine Eq.trans (congrArg _ ?_) (V_u m c b s ⟨4096 * b.val + s.val, by omega⟩ k rfl)
  obtain ⟨e0, e1⟩ := idx0 t
  funext a; apply Fin.ext
  match a with
  | ⟨0, _⟩ => show win0_0.index t (0 : Fin 2) * 2048 + 1 * r.val = 4096 * b.val + s.val; omega
  | ⟨1, _⟩ => show win0_0.index t (1 : Fin 2) * 2048 + 1 * k.val = k.val; omega

theorem iblk1 (c : Dev nD) (t : Fin cfg0.N) (k : Fin 2048) (l : Fin 512) (C : Fin 11264) (hC : C.val = 512 * (t.val / 4) + l.val) :
    iblk m c 1 t (ix2 k l) = m ((c : Thread nD τ).loc main_arg1) (ix3 0 k C) := by
  unfold iblk
  rw [View.read_apply, cast_eq]
  refine Eq.trans (congrArg _ ?_) (V_w m c k C)
  obtain ⟨e0, e1⟩ := idx1 t
  funext a; apply Fin.ext
  match a with
  | ⟨0, _⟩ => show win0_1.index t (0 : Fin 2) * 2048 + 1 * k.val = k.val; omega
  | ⟨1, _⟩ => show win0_1.index t (1 : Fin 2) * 512 + 1 * l.val = C.val; omega

theorem iblk2 (c : Dev nD) (t : Fin cfg0.N) (k : Fin 2048) (l : Fin 512) (C : Fin 11264) (hC : C.val = 512 * (t.val / 4 + 11) + l.val) :
    iblk m c 2 t (ix2 k l) = m ((c : Thread nD τ).loc main_arg1) (ix3 0 k C) := by
  unfold iblk
  rw [View.read_apply, cast_eq]
  refine Eq.trans (congrArg _ ?_) (V_w m c k C)
  obtain ⟨e0, e1⟩ := idx2 t
  funext a; apply Fin.ext
  match a with
  | ⟨0, _⟩ => show win0_2.index t (0 : Fin 2) * 2048 + 1 * k.val = k.val; omega
  | ⟨1, _⟩ => show win0_2.index t (1 : Fin 2) * 512 + 1 * l.val = C.val; omega

theorem iblk3 (c : Dev nD) (t : Fin cfg0.N) (k : Fin 3) (l : Fin 512) (C : Fin 5632) (hC : C.val = 512 * (t.val / 4) + l.val) :
    iblk m c 3 t (ix2 k l) = m ((c : Thread nD τ).loc main_arg2) (ix3 0 k C) := by
  unfold iblk
  rw [View.read_apply, cast_eq]
  refine Eq.trans (congrArg _ ?_) (V_cw m c k C)
  obtain ⟨e0, e1⟩ := idx3 t
  funext a; apply Fin.ext
  match a with
  | ⟨0, _⟩ => show win0_3.index t (0 : Fin 2) * 3 + 1 * k.val = k.val; omega
  | ⟨1, _⟩ => show win0_3.index t (1 : Fin 2) * 512 + 1 * l.val = C.val; omega

theorem iblk4 (c : Dev nD) (t : Fin cfg0.N) (l : Fin 512) (C : Fin 5632) (hC : C.val = 512 * (t.val / 4) + l.val) :
    iblk m c 4 t (ix2 0 l) = m ((c : Thread nD τ).loc main_arg3) (ix2 0 C) := by
  unfold iblk
  rw [View.read_apply, cast_eq]
  refine Eq.trans (congrArg _ ?_) (V_cb m c C)
  obtain ⟨e0, e1⟩ := idx4 t
  funext a; apply Fin.ext
  match a with
  | ⟨0, _⟩ => show win0_4.index t (0 : Fin 2) * 1 + 1 * 0 = 0; omega
  | ⟨1, _⟩ => show win0_4.index t (1 : Fin 2) * 512 + 1 * l.val = C.val; omega

/-- The two staged weight blocks are the point's columns of the two halves of the weights. -/
theorem wts_apply (c : Dev nD) (n : ℕ) (hn : n < cfg0.N) (k : Fin 2048) (l : Fin 512) (C : Fin 11264) (hC : C.val = 512 * (n / 4) + l.val) :
    wts m c n hn (ix2 k l) = m ((c : Thread nD τ).loc main_arg1) (ix3 0 k C) := by
  unfold wts
  refine Eq.trans ?_ (iblk1 m c (begun n hn) k l C (by show C.val = 512 * (4 * (n / 4) / 4) + l.val; omega))
  pointwise [k0_pay3]

theorem wts'_apply (c : Dev nD) (n : ℕ) (hn : n < cfg0.N) (k : Fin 2048) (l : Fin 512) (C : Fin 11264) (hC : C.val = 512 * (n / 4 + 11) + l.val) :
    wts' m c n hn (ix2 k l) = m ((c : Thread nD τ).loc main_arg1) (ix3 0 k C) := by
  unfold wts'
  refine Eq.trans ?_ (iblk2 m c (begun n hn) k l C (by show C.val = 512 * (4 * (n / 4) / 4 + 11) + l.val; omega))
  pointwise [k0_pay4]

/-- The products of a point are entries of the hidden projection. -/
theorem prod_wts (c : Dev nD) (n : ℕ) (hn : n < cfg0.N) (r : Fin 2048) (l : Fin 512) (b : Fin 2) (s : Fin 4096) (C : Fin 11264)
    (hr : 4096 * b.val + s.val = 2048 * (n % 4) + r.val) (hC : C.val = 512 * (n / 4) + l.val) :
    prod (iblk m c 0 ⟨n, hn⟩) (wts m c n hn) r l
      = hid (m ((c : Thread nD τ).loc main_arg0)) (m ((c : Thread nD τ).loc main_arg1)) b s C :=
  Finset.sum_congr rfl fun k _ => congrArg₂ (fun p q : EReal => p * q) (iblk0 m c ⟨n, hn⟩ r k b s hr) (wts_apply m c n hn k l C hC)

theorem prod_wts' (c : Dev nD) (n : ℕ) (hn : n < cfg0.N) (r : Fin 2048) (l : Fin 512) (b : Fin 2) (s : Fin 4096) (C : Fin 11264)
    (hr : 4096 * b.val + s.val = 2048 * (n % 4) + r.val) (hC : C.val = 512 * (n / 4 + 11) + l.val) :
    prod (iblk m c 0 ⟨n, hn⟩) (wts' m c n hn) r l
      = hid (m ((c : Thread nD τ).loc main_arg0)) (m ((c : Thread nD τ).loc main_arg1)) b s C :=
  Finset.sum_congr rfl fun k _ => congrArg₂ (fun p q : EReal => p * q) (iblk0 m c ⟨n, hn⟩ r k b s hr) (wts'_apply m c n hn k l C hC)

/-- The rows before a row, across the chunks and the row tiles, are the sequence's own, with zeros before it. -/
theorem back_eq (c : Dev nD) (n : ℕ) (hn : n < cfg0.N) (r : Fin 2048) (l : Fin 512) (b : Fin 2) (s : Fin 4096) (C : Fin 11264)
    (hr : 4096 * b.val + s.val = 2048 * (n % 4) + r.val) (hC : C.val = 512 * (n / 4) + l.val) (k : ℕ) (hk : 1 ≤ k) (h8 : k ≤ 8) :
    back (carried (grid0.coords ⟨n, hn⟩) (tailBefore m c n hn)) (fun j => prod (iblk m c 0 ⟨n, hn⟩) (wts m c n hn) j l) l r k hk
      = lag (fun s => hid (m ((c : Thread nD τ).loc main_arg0)) (m ((c : Thread nD τ).loc main_arg1)) b s C) s k := by
  have hrlt := r.isLt
  unfold back lag
  by_cases h : k ≤ r.val
  · rw [if_pos h, if_pos (by omega)]
    exact prod_wts m c n hn _ l b _ C (by show 4096 * b.val + (s.val - k) = 2048 * (n % 4) + (r.val - k); omega) hC
  · rw [if_neg h, carried_apply]
    by_cases h2 : n % 2 = 0
    · rw [if_pos h2, if_neg (by omega)]
    · rw [if_neg h2, if_pos (by omega)]
      match n with
      | n + 1 =>
        show tail m c n (by omega) _ = _
        unfold tail
        refine (handed_apply _ _ 15 _ _ l ⟨2048 + r.val - k, by omega⟩
          (by show 2048 + r.val - k = 128 * 15 + 120 + (8 + r.val - k) % 8; omega)).trans ?_
        exact prod_wts m c n (by omega) _ l b _ C
          (by show 4096 * b.val + (s.val - k) = 2048 * (n % 4) + (2048 + r.val - k); omega) (by omega)

/-- What every point leaves in the output block. -/
theorem out (c : Dev nD) (n : ℕ) (hn : n < cfg0.N) (r : Fin 2048) (l : Fin 512) (b : Fin 2) (s : Fin 4096) (C : Fin 5632)
    (hr : 4096 * b.val + s.val = 2048 * (n % 4) + r.val) (hC : C.val = 512 * (n / 4) + l.val) :
    outAt m c n hn (ix2 r l)
      = siluK (hidConv (m ((c : Thread nD τ).loc main_arg0)) (m ((c : Thread nD τ).loc main_arg1)) (m ((c : Thread nD τ).loc main_arg2))
          (m ((c : Thread nD τ).loc main_arg3)) b s C)
        * hid (m ((c : Thread nD τ).loc main_arg0)) (m ((c : Thread nD τ).loc main_arg1)) b s ⟨5632 + C.val, by omega⟩ := by
  unfold outAt
  rw [outTile_apply, back_eq m c n hn r l b s ⟨C.val, by omega⟩ hr hC 2 _ (by omega), back_eq m c n hn r l b s ⟨C.val, by omega⟩ hr hC 1 _ (by omega),
    prod_wts m c n hn r l b s ⟨C.val, by omega⟩ hr hC,
    prod_wts' m c n hn r l b s ⟨5632 + C.val, by omega⟩ hr (by show 5632 + C.val = 512 * (n / 4 + 11) + l.val; omega),
    iblk4 m c ⟨n, hn⟩ l C hC, iblk3 m c ⟨n, hn⟩ 0 l C hC, iblk3 m c ⟨n, hn⟩ 1 l C hC, iblk3 m c ⟨n, hn⟩ 2 l C hC]
  rfl

/-- The array the call leaves: entry by entry what the point of its block computes. -/
def G (c : Dev nD) : Buf (Elt Ideal) ((c : Thread nD τ).loc main_v6) := fun i =>
  outAt m c ((i 0).val / 2048 + 4 * ((i 1).val / 512))
    (by have h0 : (i 0).val < 8192 := (i 0).isLt; have h1 : (i 1).val < 5632 := (i 1).isLt; rw [show cfg0.N = 44 from N_0]; omega)
    (ix2 (⟨(i 0).val % 2048, Nat.mod_lt _ (by omega)⟩ : Fin 2048) (⟨(i 1).val % 512, Nat.mod_lt _ (by omega)⟩ : Fin 512))

/-- Where an entry of a point's block lies in the array. -/
theorem G_blk (c : Dev nD) (t : Fin cfg0.N) (i : S8192x5632.Idx) (y : S2048x512.Idx)
    (h0 : (i 0).val = 2048 * (t.val % 4) + (y 0).val) (h1 : (i 1).val = 512 * (t.val / 4) + (y 1).val) :
    G m c i = outAt m c t.val t.isLt y := by
  have hy0 : (y 0).val < 2048 := (y 0).isLt
  have hy1 : (y 1).val < 512 := (y 1).isLt
  have key : ∀ (n : ℕ) (hn : n < cfg0.N) (p : Fin 2048) (q : Fin 512), n = t.val → p.val = (y 0).val → q.val = (y 1).val →
      outAt m c n hn (ix2 p q) = outAt m c t.val t.isLt y := by
    intro n hn p q h hp hq
    subst h
    refine congrArg _ ?_
    funext a
    match a with
    | ⟨0, _⟩ => exact Fin.ext hp
    | ⟨1, _⟩ => exact Fin.ext hq
  exact key _ _ _ _ (by omega) (by show (i 0).val % 2048 = _; omega) (by show (i 1).val % 512 = _; omega)

/-- What a point writes back is its block of that array. -/
theorem flushed (c : Dev nD) (t : Fin cfg0.N) (_ : (cfg0.win 5).flush t = true) :
    (dats m 0 c).flushed 5 t = ((cfg0.win 5).blk t).view.read (Elt Ideal) (G m c) := by
  show (cfg0.win 5).cut (grid0.coords t) ((dats m 0 c).after 5 t) = _
  rw [after5]
  obtain ⟨e0, e1⟩ := idx5 t
  funext y
  rw [View.read_apply, cast_eq]
  exact (G_blk m c t (((cfg0.win 5).blk t).view.emb y) ((cfg0.win 5).xinj (grid0.coords t) y)
    (by show win0_5.index t (0 : Fin 2) * 2048 + 1 * (y 0).val = 2048 * (t.val % 4) + (y 0).val; omega)
    (by show win0_5.index t (1 : Fin 2) * 512 + 1 * (y 1).val = 512 * (t.val / 4) + (y 1).val; omega)).symm

/-- Every block is some point's, and that point writes it back. -/
theorem idx_onto : ∀ (q0 : Fin 4) (q1 : Fin 11), ∃ t : Fin cfg0.N, (cfg0.win 5).flush t = true ∧ win0_5.index t = ![q0.val, q1.val] :=
  (by decide +kernel : ∀ (q0 : Fin 4) (q1 : Fin 11), ∃ t : Fin grid0.N, (cfg0.win 5).flush t = true ∧ win0_5.index t = ![q0.val, q1.val])

/-- Which entries of the result a point's block holds. -/
theorem mem_blk (t : Fin cfg0.N) (i : S8192x5632.Idx) :
    i ∈ ((cfg0.win 5).blk t).view.set
      ↔ ∀ a : Fin 2, win0_5.index t a * win0_5.size a ≤ (i a).val ∧ (i a).val < win0_5.index t a * win0_5.size a + win0_5.xsize (grid0.coords t) a := by
  show i ∈ ((View.whole main_v6).slice (win0_5.rect t)).set ↔ _
  rw [View.set_slice_whole, Rect.mem_set_unit]
  exact Iff.rfl

/-- The array after the run. -/
theorem final (c : Dev nD) : (dats m 0 c).arrAt 5 cfg0.N = G m c :=
  (dats m 0 c).arrAt_eq_of_cover 5 (G m c) (flushed m c) fun i => by
    have h0 : (i 0).val < 8192 := (i 0).isLt
    have h1 : (i 1).val < 5632 := (i 1).isLt
    obtain ⟨t, hf, hidx⟩ := idx_onto ⟨(i 0).val / 2048, by omega⟩ ⟨(i 1).val / 512, by omega⟩
    refine ⟨t, hf, (mem_blk t i).mpr fun a => ?_⟩
    match a with
    | ⟨0, _⟩ =>
      have e : win0_5.index t 0 = (i 0).val / 2048 := congrFun hidx 0
      show win0_5.index t 0 * 2048 ≤ (i 0).val ∧ (i 0).val < win0_5.index t 0 * 2048 + 2048
      omega
    | ⟨1, _⟩ =>
      have e : win0_5.index t 1 = (i 1).val / 512 := congrFun hidx 1
      show win0_5.index t 1 * 512 ≤ (i 1).val ∧ (i 1).val < win0_5.index t 1 * 512 + 512
      omega

/-- The array at row `R` (row `s` of sequence `b`) and column `C`. -/
theorem G_apply (c : Dev nD) (R : Fin 8192) (C : Fin 5632) (b : Fin 2) (s : Fin 4096) (hR : R.val = 4096 * b.val + s.val) :
    G m c (ix2 R C)
      = siluK (hidConv (m ((c : Thread nD τ).loc main_arg0)) (m ((c : Thread nD τ).loc main_arg1)) (m ((c : Thread nD τ).loc main_arg2))
          (m ((c : Thread nD τ).loc main_arg3)) b s C)
        * hid (m ((c : Thread nD τ).loc main_arg0)) (m ((c : Thread nD τ).loc main_arg1)) b s ⟨5632 + C.val, by omega⟩ := by
  have hRl := R.isLt
  have hCl := C.isLt
  exact out m c (R.val / 2048 + 4 * (C.val / 512)) (by rw [show cfg0.N = 44 from N_0]; omega) ⟨R.val % 2048, Nat.mod_lt _ (by omega)⟩
    ⟨C.val % 512, Nat.mod_lt _ (by omega)⟩ b s C
    (by show 4096 * b.val + s.val = 2048 * _ + R.val % 2048; omega) (by show C.val = 512 * _ + C.val % 512; omega)

/-- The run: the result is that array, the arguments are as they were. -/
theorem run : θ_run defs (onTc (τ := τ) (main (F := Ideal))) ⟨m, fun _ => 0, ρ⟩ fun r => ∀ c : Dev nD,
      r.2.mem ((c : Thread nD τ).loc main_v6) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h.1 c).1 5).trans (final m c), kept_args m r h.1 c⟩) (run_quiescent m ρ)

end Cert.KernelUpIdeal.Run

end
-- ==== Proof.UpRef.lean ====
/-
  What the reference of the feed-forward's first step computes, entry by entry.
-/
module

public import proofs.«01_k».proof.Proof.Conv
public import proofs.«01_k».proof.Proof.Gen.RefUpIdeal.Run

@[expose] public section

noncomputable section

namespace Cert.RefUpIdeal.Value

open Idealize.ShloMosaic Idealize.ShloMosaic.TcCoe Idealize.SL.Sem
open Cert.Rows Cert.Silu Cert.Conv Cert.RefUpIdeal Cert.RefUpIdeal.Gen

set_option maxRecDepth 8192 in
/-- What the reference computes of its arguments. -/
def term (u : FVec Ideal S2x4096x2048 .f32) (w : FVec Ideal S1x2048x11264 .f32) (cw : FVec Ideal S1x3x5632 .f32) (cb : FVec Ideal S1x5632 .f32) :
    FVec Ideal S8192x5632 .bf16 :=
  truncf .bf16 (shapeCast _ (mulf (mulf (addf (addf (addf (broadcastInDim S2x4096x5632 ![0, 1, 2] bcast_S1x1x5632_S2x4096x5632_0_1_2 (broadcastInDim S1x1x5632 ![2] bcast_S5632_S1x1x5632_2 (shapeCast _ cb shapeCasts_S1x5632_S5632))) (mulf (broadcastInDim S2x4096x5632 ![0, 1, 2] bcast_S1x1x5632_S2x4096x5632_0_1_2 (broadcastInDim S1x1x5632 ![2] bcast_S5632_S1x1x5632_2 (shapeCast _ (extractStridedSlice S1x5632 ![0, 0] (shapeCast _ cw shapeCasts_S1x3x5632_S3x5632) slices_S3x5632_S1x5632_0_0) shapeCasts_S1x5632_S5632))) (extractStridedSlice S2x4096x5632 ![0, 0, 0] (pad S2x4098x5632 ![0, 2, 0] ![0, 0, 0] ![0, 0, 0] (extractStridedSlice S2x4096x5632 ![0, 0, 0] (Host.dotGeneral dot_S2x4096x2048_S2048x11264_S2x4096x11264_2_0_01_1_n_n none u (shapeCast _ w shapeCasts_S1x2048x11264_S2048x11264)) slices_S2x4096x11264_S2x4096x5632_0_0_0) (sitofp .f32 (constantI S_ 32 0#32)) pads_S2x4096x5632_S2x4098x5632_000_200_000 h_S_) slices_S2x4098x5632_S2x4096x5632_0_0_0))) (mulf (broadcastInDim S2x4096x5632 ![0, 1, 2] bcast_S1x1x5632_S2x4096x5632_0_1_2 (broadcastInDim S1x1x5632 ![2] bcast_S5632_S1x1x5632_2 (shapeCast _ (extractStridedSlice S1x5632 ![1, 0] (shapeCast _ cw shapeCasts_S1x3x5632_S3x5632) slices_S3x5632_S1x5632_1_0) shapeCasts_S1x5632_S5632))) (extractStridedSlice S2x4096x5632 ![0, 1, 0] (pad S2x4098x5632 ![0, 2, 0] ![0, 0, 0] ![0, 0, 0] (extractStridedSlice S2x4096x5632 ![0, 0, 0] (Host.dotGeneral dot_S2x4096x2048_S2048x11264_S2x4096x11264_2_0_01_1_n_n none u (shapeCast _ w shapeCasts_S1x2048x11264_S2048x11264)) slices_S2x4096x11264_S2x4096x5632_0_0_0) (sitofp .f32 (constantI S_ 32 0#32)) pads_S2x4096x5632_S2x4098x5632_000_200_000 h_S_) slices_S2x4098x5632_S2x4096x5632_0_1_0))) (mulf (broadcastInDim S2x4096x5632 ![0, 1, 2] bcast_S1x1x5632_S2x4096x5632_0_1_2 (broadcastInDim S1x1x5632 ![2] bcast_S5632_S1x1x5632_2 (shapeCast _ (extractStridedSlice S1x5632 ![2, 0] (shapeCast _ cw shapeCasts_S1x3x5632_S3x5632) slices_S3x5632_S1x5632_2_0) shapeCasts_S1x5632_S5632))) (extractStridedSlice S2x4096x5632 ![0, 2, 0] (pad S2x4098x5632 ![0, 2, 0] ![0, 0, 0] ![0, 0, 0] (extractStridedSlice S2x4096x5632 ![0, 0, 0] (Host.dotGeneral dot_S2x4096x2048_S2048x11264_S2x4096x11264_2_0_01_1_n_n none u (shapeCast _ w shapeCasts_S1x2048x11264_S2048x11264)) slices_S2x4096x11264_S2x4096x5632_0_0_0) (sitofp .f32 (constantI S_ 32 0#32)) pads_S2x4096x5632_S2x4098x5632_000_200_000 h_S_) slices_S2x4098x5632_S2x4096x5632_0_2_0))) (Host.divf (broadcastInDim S2x4096x5632 ![] bcast_S_S2x4096x5632 (constant S_ .f32 0x3F800000#32)) (addf (broadcastInDim S2x4096x5632 ![] bcast_S_S2x4096x5632 (constant S_ .f32 0x3F800000#32)) (Host.exp (Host.negf (addf (addf (addf (broadcastInDim S2x4096x5632 ![0, 1, 2] bcast_S1x1x5632_S2x4096x5632_0_1_2 (broadcastInDim S1x1x5632 ![2] bcast_S5632_S1x1x5632_2 (shapeCast _ cb shapeCasts_S1x5632_S5632))) (mulf (broadcastInDim S2x4096x5632 ![0, 1, 2] bcast_S1x1x5632_S2x4096x5632_0_1_2 (broadcastInDim S1x1x5632 ![2] bcast_S5632_S1x1x5632_2 (shapeCast _ (extractStridedSlice S1x5632 ![0, 0] (shapeCast _ cw shapeCasts_S1x3x5632_S3x5632) slices_S3x5632_S1x5632_0_0) shapeCasts_S1x5632_S5632))) (extractStridedSlice S2x4096x5632 ![0, 0, 0] (pad S2x4098x5632 ![0, 2, 0] ![0, 0, 0] ![0, 0, 0] (extractStridedSlice S2x4096x5632 ![0, 0, 0] (Host.dotGeneral dot_S2x4096x2048_S2048x11264_S2x4096x11264_2_0_01_1_n_n none u (shapeCast _ w shapeCasts_S1x2048x11264_S2048x11264)) slices_S2x4096x11264_S2x4096x5632_0_0_0) (sitofp .f32 (constantI S_ 32 0#32)) pads_S2x4096x5632_S2x4098x5632_000_200_000 h_S_) slices_S2x4098x5632_S2x4096x5632_0_0_0))) (mulf (broadcastInDim S2x4096x5632 ![0, 1, 2] bcast_S1x1x5632_S2x4096x5632_0_1_2 (broadcastInDim S1x1x5632 ![2] bcast_S5632_S1x1x5632_2 (shapeCast _ (extractStridedSlice S1x5632 ![1, 0] (shapeCast _ cw shapeCasts_S1x3x5632_S3x5632) slices_S3x5632_S1x5632_1_0) shapeCasts_S1x5632_S5632))) (extractStridedSlice S2x4096x5632 ![0, 1, 0] (pad S2x4098x5632 ![0, 2, 0] ![0, 0, 0] ![0, 0, 0] (extractStridedSlice S2x4096x5632 ![0, 0, 0] (Host.dotGeneral dot_S2x4096x2048_S2048x11264_S2x4096x11264_2_0_01_1_n_n none u (shapeCast _ w shapeCasts_S1x2048x11264_S2048x11264)) slices_S2x4096x11264_S2x4096x5632_0_0_0) (sitofp .f32 (constantI S_ 32 0#32)) pads_S2x4096x5632_S2x4098x5632_000_200_000 h_S_) slices_S2x4098x5632_S2x4096x5632_0_1_0))) (mulf (broadcastInDim S2x4096x5632 ![0, 1, 2] bcast_S1x1x5632_S2x4096x5632_0_1_2 (broadcastInDim S1x1x5632 ![2] bcast_S5632_S1x1x5632_2 (shapeCast _ (extractStridedSlice S1x5632 ![2, 0] (shapeCast _ cw shapeCasts_S1x3x5632_S3x5632) slices_S3x5632_S1x5632_2_0) shapeCasts_S1x5632_S5632))) (extractStridedSlice S2x4096x5632 ![0, 2, 0] (pad S2x4098x5632 ![0, 2, 0] ![0, 0, 0] ![0, 0, 0] (extractStridedSlice S2x4096x5632 ![0, 0, 0] (Host.dotGeneral dot_S2x4096x2048_S2048x11264_S2x4096x11264_2_0_01_1_n_n none u (shapeCast _ w shapeCasts_S1x2048x11264_S2048x11264)) slices_S2x4096x11264_S2x4096x5632_0_0_0) (sitofp .f32 (constantI S_ 32 0#32)) pads_S2x4096x5632_S2x4098x5632_000_200_000 h_S_) slices_S2x4098x5632_S2x4096x5632_0_2_0)))))))) (extractStridedSlice S2x4096x5632 ![0, 0, 5632] (Host.dotGeneral dot_S2x4096x2048_S2048x11264_S2x4096x11264_2_0_01_1_n_n none u (shapeCast _ w shapeCasts_S1x2048x11264_S2048x11264)) slices_S2x4096x11264_S2x4096x5632_0_0_5632)) shapeCasts_S2x4096x5632_S8192x5632) bitsLt_bf16_f32

/-- The padded columns, `p` rows down from the first padding row: the entry `k` rows before, or zero. -/
theorem padded (u : FVec Ideal S2x4096x2048 .f32) (w : FVec Ideal S1x2048x11264 .f32) (R : ℕ) (L : Fin 11264) (b : Fin 2) (s : Fin 4096)
    (hR : R = 4096 * b.val + s.val) (p k : ℕ) (hp : p + k = R % 4096 + 2) :
    (if h : R / 4096 < 2 ∧ 2 ≤ p ∧ p - 2 < 4096 then
        ∑ x : Fin 2048, u (ix3 ⟨R / 4096, h.1⟩ ⟨p - 2, h.2.2⟩ x) * w (ix3 0 x L)
      else (FloatOps.sitofp (F := Ideal) .f32 0#32 : EReal)) = lag (fun s => hid u w b s L) s k := by
  have hs := s.isLt
  unfold lag
  by_cases h : k ≤ s.val
  · rw [dif_pos (by omega), if_pos h]
    have e0 : (⟨R / 4096, by omega⟩ : Fin 2) = b := Fin.ext (by show R / 4096 = b.val; omega)
    have e1 : (⟨p - 2, by omega⟩ : Fin 4096) = ⟨s.val - k, by omega⟩ := Fin.ext (by show p - 2 = s.val - k; omega)
    show ∑ x : Fin 2048, u (ix3 (⟨R / 4096, _⟩ : Fin 2) (⟨p - 2, _⟩ : Fin 4096) x) * w (ix3 0 x L) = _
    rw [e0, e1]
    rfl
  · rw [dif_neg (by omega), if_neg h]
    show (((0#32 : BitVec 32).toInt : ℝ) : EReal) = 0
    simp

/-- A row of the projection at its place in its sequence. -/
theorem at_row (u : FVec Ideal S2x4096x2048 .f32) (w : FVec Ideal S1x2048x11264 .f32) (R : ℕ) (L : Fin 11264) (b : Fin 2) (s : Fin 4096)
    (hR : R = 4096 * b.val + s.val) (h0 : R / 4096 < 2) (h1 : R % 4096 < 4096) :
    ∑ x : Fin 2048, u (ix3 ⟨R / 4096, h0⟩ ⟨R % 4096, h1⟩ x) * w (ix3 0 x L) = hid u w b s L :=
  Finset.sum_congr rfl fun x _ => congrArg (fun z : EReal => z * w (ix3 0 x L)) (split_row u R b s x hR h0 h1)

/-- At row `s` of sequence `b` and column `C` it is `silu` of the convolution of the first half's column, times the second
    half's entry. -/
theorem term_apply (u : FVec Ideal S2x4096x2048 .f32) (w : FVec Ideal S1x2048x11264 .f32) (cw : FVec Ideal S1x3x5632 .f32) (cb : FVec Ideal S1x5632 .f32)
    (R : Fin 8192) (C : Fin 5632) (b : Fin 2) (s : Fin 4096) (hR : R.val = 4096 * b.val + s.val) :
    term u w cw cb (ix2 R C) = siluR (hidConv u w cw cb b s C) * hid u w b s ⟨5632 + C.val, by omega⟩ := by
  pointwise [term]
  have hb := b.isLt
  have hs := s.isLt
  exact congrArg₂ (fun p q : EReal => p * q)
    (congrArg siluR (congrArg₂ (fun p q : EReal => p + q) (congrArg₂ (fun p q : EReal => p + q)
      (congrArg (fun p : EReal => cb (ix2 0 C) + cw (ix3 0 0 C) * p) (padded u w R.val ⟨C.val, by omega⟩ b s hR (R.val % 4096) 2 rfl))
      (congrArg (fun p : EReal => cw (ix3 0 1 C) * p) (padded u w R.val ⟨C.val, by omega⟩ b s hR (1 + R.val % 4096) 1 (by omega))))
      (congrArg (fun p : EReal => cw (ix3 0 2 C) * p)
        ((dif_pos ⟨by omega, by omega⟩).trans (at_row u w R.val ⟨C.val, by omega⟩ b s hR (by omega) (by omega))))))
    (at_row u w R.val ⟨5632 + C.val, by omega⟩ b s hR _ _)

end Cert.RefUpIdeal.Value

end
-- ==== Proof.DownTile.lean ====
/-
  What one block of the call `ffn_down` computes: the residual stream plus the product of the hidden rows with the weight
  columns.
-/
module

public import proofs.«01_k».proof.Proof.Gen.KernelDownIdeal.Value
public import proofs.«01_k».proof.Proof.Rows

@[expose] public section

set_option maxRecDepth 16384

noncomputable section

namespace Cert.KernelDownIdeal.Value

open Idealize.ShloMosaic Idealize.ShloMosaic.TcCoe Idealize.ShloMosaic.Tactic
open Idealize.SL Idealize.SL.Sem
open Cert.Rows Cert.KernelDownIdeal Cert.KernelDownIdeal.Gen

/-- The residual block `x2` plus the product of the block `x0` with the weight block `S`. -/
def plus (x0 : (⟨2, ![512, 5632]⟩ : Shape).Idx → EReal) (x2 : (⟨2, ![512, 512]⟩ : Shape).Idx → EReal)
    (S : (⟨2, ![5632, 512]⟩ : Shape).Idx → EReal) : (⟨2, ![512, 512]⟩ : Shape).Idx → EReal :=
  fun y => x2 y + ∑ k : Fin 5632, x0 (ix2 (y 0) k) * S (ix2 k (y 1))

/-- A chunk's payload, entry by entry. -/
theorem chunk (a : Vec Ideal S128x5632 .bf16) (S : Vec Ideal S5632x512 .bf16) (x2 : Vec Ideal S128x512 .f32)
    (r : Fin 128) (l : Fin 512) : k0_pay4 a S x2 (ix2 r l) = x2 (ix2 r l) + ∑ k : Fin 5632, a (ix2 r k) * S (ix2 k l) := by
  pointwise [k0_pay4]

/-- The scratch holds the weight block as it is. -/
theorem staged (w : Vec Ideal S5632x512 .f32) : k0_pay3 w = w := by
  funext y
  obtain ⟨k, l, rfl⟩ : ∃ (k : Fin 5632) (l : Fin 512), y = ix2 k l := ⟨y 0, y 1, eq_ix2 y⟩
  pointwise [k0_pay3]

variable (c : Dev nD) (i : grid0.Coords) (arg2 : Memref sig .tc .vmem S512x5632 .bf16) (harg2 : arg2.IsWhole)
  (arg3 : Memref sig .tc .vmem S5632x512 .f32) (harg3 : arg3.IsWhole) (arg4 : Memref sig .tc .vmem S512x512 .f32)
  (harg4 : arg4.IsWhole) (arg5 : Memref sig .tc .vmem S512x512 .f32)
  (harg5 : arg5.IsWhole) (arg6 : Memref sig .tc .vmem S5632x512 .bf16) (harg6 : arg6.IsWhole)
  (x0 : Vec Ideal S512x5632 .bf16) (x1 : Vec Ideal S5632x512 .f32) (x2 : Vec Ideal S512x512 .f32) (xs : Vec Ideal S5632x512 .bf16)

/-- The chunk of rows at `o`, read from the hidden and the residual block and contracted with the scratch's content. -/
theorem piece (T S : Vec Ideal S5632x512 .bf16) (hT : T = S) (o : Nat)
    (inb : ∀ a, (![o, 0] : Fin 2 → Nat) a + S128x5632.size a ≤ S512x5632.size a)
    (inb2 inb' : ∀ a, (![o, 0] : Fin 2 → Nat) a + S128x512.size a ≤ S512x512.size a) (x : S128x512.Idx) :
    k0_pay4 (View.readAt (Elt Ideal) arg2.view (Rect.unit (s := S512x5632) ![o, 0] S128x5632.size inb).toLoadRect (harg2.unread x0)) T
        (View.readAt (Elt Ideal) arg4.view (Rect.unit (s := S512x512) ![o, 0] S128x512.size inb2).toLoadRect (harg4.unread x2)) x
      = plus x0 x2 S ((Rect.unit (s := S512x512) ![o, 0] S128x512.size inb').emb x) := by
  rw [readAt_whole harg2, readAt_whole harg4, hT]
  refine rows_piece (plus x0 x2 S) o inb' _ (fun r l j hj => ?_) x
  rw [chunk]
  refine congrArg₂ (fun p q : EReal => p + q) (ld_rows (e := .f32) x2 inb2 r l j hj) (Finset.sum_congr rfl fun k _ => ?_)
  exact congrArg (fun z : EReal => z * S (ix2 k l)) (ld_rows (e := .bf16) x0 inb r k j hj)

/-- At a later row tile the body leaves that block, made from the weights that the first one staged. -/
theorem outB (hc0 : ¬ cond0_0 i) :
    out0_B_3 c i arg2 harg2 arg3 harg3 arg4 harg4 arg5 harg5 arg6 harg6 hc0 x0 x1 x2 xs = plus x0 x2 xs := by
  unfold out0_B_3
  rw [View.read_writes_eq_canon _ _ _ (cover0_B_3 c i arg2 harg2 arg3 harg3 arg4 harg4 arg5 harg5 arg6 harg6 hc0 x0 x1 x2 xs)]
  funext y
  refine View.canon_apply_of_pieces (plus x0 x2 xs) _ ?_ y
    (cover0_B_3 c i arg2 harg2 arg3 harg3 arg4 harg4 arg5 harg5 arg6 harg6 hc0 x0 x1 x2 xs y)
  have key := piece arg2 harg2 arg4 harg4 x0 x2 (View.readAt (Elt Ideal) arg6.view
    (Rect.unit (s := S5632x512) ![0, 0] ![5632, 512] inb_S5632x512_S5632x512_0_0).toLoadRect (harg6.unread xs)) xs
    (by rw [readAt_whole harg6]; exact View.ld_unit_zero (by decide) _ _)
  unfold kernelRun0_B
  dsimp only
  simp only [List.forall_mem_cons]
  exact ⟨key 384 inb_S512x5632_S128x5632_384_0 inb_S512x512_S128x512_384_0 _,
    key 256 inb_S512x5632_S128x5632_256_0 inb_S512x512_S128x512_256_0 _,
    key 128 inb_S512x5632_S128x5632_128_0 inb_S512x512_S128x512_128_0 _,
    key 0 inb_S512x5632_S128x5632_0_0 inb_S512x512_S128x512_0_0 _,
    fun _ h => absurd h List.not_mem_nil⟩

/-- At the first row tile of a column tile the body leaves the transposed weight block in the scratch. -/
theorem soutA (hc0 : cond0_0 i) :
    sout0_A_0 c i arg2 harg2 arg3 harg3 arg4 harg4 arg5 harg5 arg6 harg6 hc0 x0 x1 x2 = k0_pay3 x1 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  refine (View.canon_unit_zero (by decide) _ _).trans ?_
  rw [readAt_whole harg3, View.ld_unit_zero (by decide)]

/-- and in the output block the product with it. -/
theorem outA (hc0 : cond0_0 i) :
    out0_A_3 c i arg2 harg2 arg3 harg3 arg4 harg4 arg5 harg5 arg6 harg6 hc0 x0 x1 x2 = plus x0 x2 (k0_pay3 x1) := by
  unfold out0_A_3
  rw [View.read_writes_eq_canon _ _ _ (cover0_A_3 c i arg2 harg2 arg3 harg3 arg4 harg4 arg5 harg5 arg6 harg6 hc0 x0 x1 x2)]
  funext y
  refine View.canon_apply_of_pieces (plus x0 x2 (k0_pay3 x1)) _ ?_ y
    (cover0_A_3 c i arg2 harg2 arg3 harg3 arg4 harg4 arg5 harg5 arg6 harg6 hc0 x0 x1 x2 y)
  have key := piece arg2 harg2 arg4 harg4 x0 x2 (kernelRun0_A.sl.v5 c arg3 harg3 arg6 x1) (k0_pay3 x1) (by
    unfold kernelRun0_A.sl.v5 kernelRun0_A.sl.HS0_1
    refine (View.readCov_unit_zero arg6.view (by decide) _ _).trans ?_
    rw [readAt_whole harg3, View.ld_unit_zero (by decide)])
  unfold kernelRun0_A
  dsimp only
  simp only [List.forall_mem_cons]
  exact ⟨key 384 inb_S512x5632_S128x5632_384_0 inb_S512x512_S128x512_384_0 _,
    key 256 inb_S512x5632_S128x5632_256_0 inb_S512x512_S128x512_256_0 _,
    key 128 inb_S512x5632_S128x5632_128_0 inb_S512x512_S128x512_128_0 _,
    key 0 inb_S512x5632_S128x5632_0_0 inb_S512x512_S128x512_0_0 _,
    fun _ h => absurd h List.not_mem_nil⟩

end Cert.KernelDownIdeal.Value

end
-- ==== Proof.DownArray.lean ====
/-
  What the call `ffn_down` leaves in its array: at each row and column the residual stream plus the product of the hidden
  row with the column of the weights.
-/
module

public import proofs.«01_k».proof.Proof.DownTile
public import Idealize.ShloMosaic.Lib.Claim
public import Idealize.ShloMosaic.Lib.StableHlo.ReadAt

@[expose] public section

set_option maxRecDepth 16384

noncomputable section

namespace Cert.KernelDownIdeal.Value

open Idealize.ShloMosaic Idealize.ShloMosaic.TcCoe Idealize.ShloMosaic.Tactic
open Idealize.SL Idealize.SL.Sem
open Cert.Rows Cert.KernelDownIdeal Cert.KernelDownIdeal.Gen

variable (m : (ℓ : Loc nD τ sig) → Buf (Elt Ideal) ℓ)

/-- The result's entry: row `s` of sequence `b`, column `C`. -/
def down (h : (⟨3, ![2, 4096, 5632]⟩ : Shape).Idx → EReal) (x : (⟨3, ![2, 4096, 2048]⟩ : Shape).Idx → EReal)
    (w : (⟨3, ![1, 5632, 2048]⟩ : Shape).Idx → EReal) (b : Fin 2) (s : Fin 4096) (C : Fin 2048) : EReal :=
  x (ix3 b s C) + ∑ k : Fin 5632, h (ix3 b s k) * w (ix3 0 k C)

/-- What the windows' arrays hold when the grid begins, entry by entry. -/
theorem V_h (c : Dev nD) (b : Fin 2) (s : Fin 4096) (R : Fin 8192) (k : Fin 5632) (hR : R.val = 4096 * b.val + s.val) :
    V m c main_v1 (ix2 R k) = m ((c : Thread nD τ).loc main_arg0) (ix3 b s k) := by
  unfold V
  after_reads_at
  exact split_row (m ((c : Thread nD τ).loc main_arg0)) R.val b s k hR _ _

theorem V_w (c : Dev nD) (k : Fin 5632) (C : Fin 2048) :
    V m c main_v2 (ix2 k C) = m ((c : Thread nD τ).loc main_arg2) (ix3 0 k C) := by
  unfold V
  after_reads_at

theorem V_x (c : Dev nD) (b : Fin 2) (s : Fin 4096) (R : Fin 8192) (C : Fin 2048) (hR : R.val = 4096 * b.val + s.val) :
    V m c main_v3 (ix2 R C) = m ((c : Thread nD τ).loc main_arg1) (ix3 b s C) := by
  unfold V
  after_reads_at
  exact split_row (m ((c : Thread nD τ).loc main_arg1)) R.val b s C hR _ _

/-- The numbers of the windows' blocks at each point. -/
theorem idx0 : ∀ t : Fin cfg0.N, win0_0.index t (0 : Fin 2) = t.val % 16 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val / 16 :=
  (by decide +kernel : ∀ t : Fin grid0.N, _)
theorem idx2 : ∀ t : Fin cfg0.N, win0_2.index t (0 : Fin 2) = t.val % 16 ∧ win0_2.index t (1 : Fin 2) = t.val / 16 :=
  (by decide +kernel : ∀ t : Fin grid0.N, _)

/-- The windows' blocks at a point, entry by entry, as entries of the arguments. -/
theorem iblk0 (c : Dev nD) (t : Fin cfg0.N) (r : Fin 512) (k : Fin 5632) (b : Fin 2) (s : Fin 4096)
    (h : 4096 * b.val + s.val = 512 * (t.val % 16) + r.val) :
    iblk m c 0 t (ix2 r k) = m ((c : Thread nD τ).loc main_arg0) (ix3 b s k) := by
  unfold iblk
  rw [View.read_apply, cast_eq]
  refine Eq.trans (congrArg _ ?_) (V_h m c b s ⟨4096 * b.val + s.val, by omega⟩ k rfl)
  obtain ⟨e0, e1⟩ := idx0 t
  funext a; apply Fin.ext
  match a with
  | ⟨0, _⟩ => show win0_0.index t (0 : Fin 2) * 512 + 1 * r.val = 4096 * b.val + s.val; omega
  | ⟨1, _⟩ => show win0_0.index t (1 : Fin 2) * 5632 + 1 * k.val = k.val; omega

theorem iblk1 (c : Dev nD) (t : Fin cfg0.N) (k : Fin 5632) (l : Fin 512) (C : Fin 2048) (hC : C.val = 512 * (t.val / 16) + l.val) :
    iblk m c 1 t (ix2 k l) = m ((c : Thread nD τ).loc main_arg2) (ix3 0 k C) := by
  unfold iblk
  rw [View.read_apply, cast_eq]
  refine Eq.trans (congrArg _ ?_) (V_w m c k C)
  obtain ⟨e0, e1⟩ := idx1 t
  funext a; apply Fin.ext
  match a with
  | ⟨0, _⟩ => show win0_1.index t (0 : Fin 2) * 5632 + 1 * k.val = k.val; omega
  | ⟨1, _⟩ => show win0_1.index t (1 : Fin 2) * 512 + 1 * l.val = C.val; omega

theorem iblk2 (c : Dev nD) (t : Fin cfg0.N) (r : Fin 512) (l : Fin 512) (b : Fin 2) (s : Fin 4096) (C : Fin 2048)
    (h : 4096 * b.val + s.val = 512 * (t.val % 16) + r.val) (hC : C.val = 512 * (t.val / 16) + l.val) :
    iblk m c 2 t (ix2 r l) = m ((c : Thread nD τ).loc main_arg1) (ix3 b s C) := by
  unfold iblk
  rw [View.read_apply, cast_eq]
  refine Eq.trans (congrArg _ ?_) (V_x m c b s ⟨4096 * b.val + s.val, by omega⟩ C rfl)
  obtain ⟨e0, e1⟩ := idx2 t
  funext a; apply Fin.ext
  match a with
  | ⟨0, _⟩ => show win0_2.index t (0 : Fin 2) * 512 + 1 * r.val = 4096 * b.val + s.val; omega
  | ⟨1, _⟩ => show win0_2.index t (1 : Fin 2) * 512 + 1 * l.val = C.val; omega

/-- After every point the scratch holds the weight block of the point's column tile. -/
theorem scratch (c : Dev nD) : ∀ (n : ℕ) (hn : n < cfg0.N) (k : Fin 5632) (l : Fin 512) (C : Fin 2048), C.val = 512 * (n / 16) + l.val →
    (outsAt0 m c n hn).2 (ix2 k l) = m ((c : Thread nD τ).loc main_arg2) (ix3 0 k C) := by
  have atA : ∀ (n : ℕ) (hn : n < cfg0.N) (h0 : n % 16 = 0) (k : Fin 5632) (l : Fin 512) (C : Fin 2048), C.val = 512 * (n / 16) + l.val →
      (outsAt0 m c n hn).2 (ix2 k l) = m ((c : Thread nD τ).loc main_arg2) (ix3 0 k C) := fun n hn h0 k l C hC => by
    rw [outsAt0_A m c ⟨n, hn⟩ h0]
    dsimp only
    rw [soutA, staged, iblk1 m c ⟨n, hn⟩ k l C hC]
  intro n
  induction n with
  | zero => exact fun hn => atA 0 hn rfl
  | succ n ih =>
    intro hn k l C hC
    by_cases h0 : (n + 1) % 16 = 0
    · exact atA (n + 1) hn h0 k l C hC
    · rw [outsAt0_B m c ⟨n + 1, hn⟩ h0]
      exact ih (Nat.lt_of_succ_lt hn) k l C (by omega)

/-- What every point leaves in the output block. -/
theorem out (c : Dev nD) (n : ℕ) (hn : n < cfg0.N) (r : Fin 512) (l : Fin 512) (b : Fin 2) (s : Fin 4096) (C : Fin 2048)
    (hr : 4096 * b.val + s.val = 512 * (n % 16) + r.val) (hC : C.val = 512 * (n / 16) + l.val) :
    (outsAt0 m c n hn).1 (ix2 r l)
      = down (m ((c : Thread nD τ).loc main_arg0)) (m ((c : Thread nD τ).loc main_arg1)) (m ((c : Thread nD τ).loc main_arg2)) b s C := by
  have key : (outsAt0 m c n hn).1 = plus (iblk m c 0 ⟨n, hn⟩) (iblk m c 2 ⟨n, hn⟩) (outsAt0 m c n hn).2 := by
    by_cases h0 : n % 16 = 0
    · rw [outsAt0_A m c ⟨n, hn⟩ h0]
      dsimp only
      rw [outA, soutA]
    · rw [outsAt0_B m c ⟨n, hn⟩ h0]
      dsimp only
      rw [outB]
      rfl
  rw [key]
  refine congrArg₂ (fun p q : EReal => p + q) (iblk2 m c ⟨n, hn⟩ r l b s C hr hC) (Finset.sum_congr rfl fun k _ => ?_)
  exact congrArg₂ (fun p q : EReal => p * q) (iblk0 m c ⟨n, hn⟩ r k b s hr) (scratch m c n hn k l C hC)

/-- The array the call leaves, at row `R` (row `s` of sequence `b`) and column `C`. -/
theorem G3_apply (c : Dev nD) (R : Fin 8192) (C : Fin 2048) (b : Fin 2) (s : Fin 4096) (hR : R.val = 4096 * b.val + s.val) :
    G3 m c (ix2 R C)
      = down (m ((c : Thread nD τ).loc main_arg0)) (m ((c : Thread nD τ).loc main_arg1)) (m ((c : Thread nD τ).loc main_arg2)) b s C := by
  have hp : pt3Of (ix2 R C) = R.val / 512 + 16 * (C.val / 512) := by
    show 1 * (R.val / 512 - 0) + 16 * (C.val / 512 - 0) = _
    omega
  have hlt : pt3Of (ix2 R C) < cfg0.N := by rw [hp, show cfg0.N = 64 from N_0]; omega
  unfold G3
  rw [dif_pos hlt, ← outsAt0_sweep m c _ hlt]
  have hl : loc3Of (ix2 R C) = ix2 ⟨R.val % 512, Nat.mod_lt _ (by decide)⟩ ⟨C.val % 512, Nat.mod_lt _ (by decide)⟩ := by
    funext a
    match a with
    | ⟨0, _⟩ => rfl
    | ⟨1, _⟩ => rfl
  rw [hl]
  refine out m c _ hlt _ _ b s C ?_ ?_
  · rw [hp]; show _ = 512 * _ + R.val % 512; omega
  · rw [hp]; show _ = 512 * _ + C.val % 512; omega

end Cert.KernelDownIdeal.Value

end
-- ==== Proof.DownRef.lean ====
/-
  What the reference of the layer's last step computes, entry by entry.
-/
module

public import proofs.«01_k».proof.Proof.DownArray
public import proofs.«01_k».proof.Proof.Gen.RefDownIdeal.Run

@[expose] public section

noncomputable section

namespace Cert.RefDownIdeal.Value

open Idealize.ShloMosaic Idealize.ShloMosaic.TcCoe Idealize.SL.Sem
open Cert.Rows Cert.RefDownIdeal Cert.RefDownIdeal.Gen
open Cert.KernelDownIdeal.Value (down)

/-- The reference's result as a function of its arguments. -/
def term (h : FVec Ideal S2x4096x5632 .f32) (x : FVec Ideal S2x4096x2048 .f32) (w : FVec Ideal S1x5632x2048 .f32) :
    FVec Ideal S8192x2048 .f32 :=
  shapeCast _ (addf x (Host.dotGeneral dot_S2x4096x5632_S5632x2048_S2x4096x2048_2_0_01_1_n_n none h (shapeCast _ w shapeCasts_S1x5632x2048_S5632x2048))) shapeCasts_S2x4096x2048_S8192x2048

/-- Each entry of the reference's result. -/
theorem term_apply (h : FVec Ideal S2x4096x5632 .f32) (x : FVec Ideal S2x4096x2048 .f32) (w : FVec Ideal S1x5632x2048 .f32)
    (R : Fin 8192) (C : Fin 2048) (b : Fin 2) (s : Fin 4096) (hR : R.val = 4096 * b.val + s.val) :
    term h x w (ix2 R C) = down h x w b s C := by
  pointwise [term]
  exact congrArg₂ (fun p q : EReal => p + q) (split_row x R.val b s C hR _ _) (Finset.sum_congr rfl fun k _ =>
    congrArg (fun z : EReal => z * w (ix3 0 k C)) (split_row h R.val b s k hR _ _))

end Cert.RefDownIdeal.Value

end
-- ==== Proof.NormTile.lean ====
/-
  What one block of the call `rmsnorm_dt` computes: the norm of its rows, and `softplus` of the product of the normed rows
  with the step's weights plus their bias.
-/
module

public import proofs.«01_k».proof.Proof.Gen.KernelNormIdeal.Value
public import proofs.«01_k».proof.Proof.Rows
public import proofs.«01_k».proof.Proof.Norm

@[expose] public section

set_option maxRecDepth 16384

noncomputable section

namespace Cert.KernelNormIdeal.Value

open Idealize.ShloMosaic Idealize.ShloMosaic.TcCoe Idealize.ShloMosaic.Tactic
open Idealize.SL Idealize.SL.Sem
open Cert.Rows Cert.Norm Cert.KernelNormIdeal Cert.KernelNormIdeal.Gen

/-- `log (1 + exp z)` as both programs compute it: the larger of `z` and zero, plus `log (1 + exp (−|z|))`. -/
def softplus (z : EReal) : EReal := max z 0 + Ideal.log1p (Ideal.exp (0 - FloatOps.absf (F := Ideal) (φ := .f32) z))

/-- The norm of each row of the block `x0`, with the weights `x1`. -/
def normed (x0 : (⟨2, ![1024, 2048]⟩ : Shape).Idx → EReal) (x1 : (⟨2, ![1, 2048]⟩ : Shape).Idx → EReal) :
    (⟨2, ![1024, 2048]⟩ : Shape).Idx → EReal :=
  fun y => rms 0x45000000#32 (fun k => x0 (ix2 (y 0) k)) (fun k => x1 (ix2 0 k)) (y 1)

/-- `softplus` of the product of the normed rows with the rows of the weights `x2`, plus the bias `x3`. -/
def steps (x0 : (⟨2, ![1024, 2048]⟩ : Shape).Idx → EReal) (x1 : (⟨2, ![1, 2048]⟩ : Shape).Idx → EReal)
    (x2 : (⟨2, ![128, 2048]⟩ : Shape).Idx → EReal) (x3 : (⟨2, ![1, 128]⟩ : Shape).Idx → EReal) :
    (⟨2, ![1024, 128]⟩ : Shape).Idx → EReal :=
  fun y => softplus (∑ k : Fin 2048, normed x0 x1 (ix2 (y 0) k) * x2 (ix2 (y 1) k) + x3 (ix2 0 (y 1)))

/-- The body's first stored value, entry by entry, -/
theorem pay1 (x : Vec Ideal S1024x2048 .f32) (w : Vec Ideal S1x2048 .f32) (r : Fin 1024) (l : Fin 2048) :
    k0_pay1 x w (ix2 r l) = normed x w (ix2 r l) := by
  show k0_pay1 x w (ix2 r l) = rms 0x45000000#32 (fun k => x (ix2 r k)) (fun k => w (ix2 0 k)) l
  pointwise [k0_pay1, rms]

/-- and its second. -/
theorem pay2 (x : Vec Ideal S1024x2048 .f32) (w : Vec Ideal S1x2048 .f32) (d : Vec Ideal S128x2048 .bf16) (e : Vec Ideal S1x128 .f32)
    (r : Fin 1024) (l : Fin 128) :
    k0_pay2 x w d e (ix2 r l) = steps x w d e (ix2 r l) := by
  have h : k0_pay2 x w d e (ix2 r l) = softplus (∑ k : Fin 2048, k0_pay1 x w (ix2 r k) * d (ix2 l k) + e (ix2 0 l)) := by
    pointwise [k0_pay2, softplus]
  rw [h]
  exact congrArg (fun z : EReal => softplus (z + e (ix2 0 l))) (Finset.sum_congr rfl fun k _ =>
    congrArg (fun z : EReal => z * d (ix2 l k)) (pay1 x w r k))

variable (x0 : Vec Ideal S1024x2048 .f32) (x1 : Vec Ideal S1x2048 .f32) (x2 : Vec Ideal S128x2048 .bf16) (x3 : Vec Ideal S1x128 .f32)

/-- The first result's block. -/
theorem out4_eq : out0_4 x0 x1 x2 x3 = normed x0 x1 := by
  unfold out0_4
  rw [View.canon_unit_zero (by decide)]
  rw [show View.ld x0 r0_0 = x0 from View.ld_unit_zero (by decide) _ _, show View.ld x1 r0_1 = x1 from View.ld_unit_zero (by decide) _ _]
  funext y
  obtain ⟨r, l, rfl⟩ : ∃ (r : Fin 1024) (l : Fin 2048), y = ix2 r l := ⟨y 0, y 1, eq_ix2 y⟩
  exact pay1 x0 x1 r l

/-- The second result's block. -/
theorem out5_eq : out0_5 x0 x1 x2 x3 = steps x0 x1 x2 x3 := by
  unfold out0_5
  rw [View.canon_unit_zero (by decide)]
  rw [show View.ld x0 r0_0 = x0 from View.ld_unit_zero (by decide) _ _, show View.ld x1 r0_1 = x1 from View.ld_unit_zero (by decide) _ _,
    show View.ld x2 r0_2 = x2 from View.ld_unit_zero (by decide) _ _, show View.ld x3 r0_3 = x3 from View.ld_unit_zero (by decide) _ _]
  funext y
  obtain ⟨r, l, rfl⟩ : ∃ (r : Fin 1024) (l : Fin 128), y = ix2 r l := ⟨y 0, y 1, eq_ix2 y⟩
  exact pay2 x0 x1 x2 x3 r l

end Cert.KernelNormIdeal.Value

end
-- ==== Proof.NormArray.lean ====
/-
  What the call `rmsnorm_dt` leaves in its two arrays: the norm of each row, and each row's step widths, padded to 128
  lanes of which the last 64 hold `softplus` of zero.
-/
module

public import proofs.«01_k».proof.Proof.NormTile
public import Idealize.ShloMosaic.Lib.Claim
public import Idealize.ShloMosaic.Lib.StableHlo.ReadAt

@[expose] public section

set_option maxRecDepth 16384

noncomputable section

namespace Cert.KernelNormIdeal.Value

open Idealize.ShloMosaic Idealize.ShloMosaic.TcCoe Idealize.ShloMosaic.Tactic
open Idealize.SL Idealize.SL.Sem
open Cert.Rows Cert.Norm Cert.KernelNormIdeal Cert.KernelNormIdeal.Gen

variable (m : (ℓ : Loc nD τ sig) → Buf (Elt Ideal) ℓ) (ρ : Dev nD → PrngReg)

/-- The first result's entry: the norm of row `s` of sequence `b`, at column `C`. -/
def unit (x : (⟨3, ![2, 4096, 2048]⟩ : Shape).Idx → EReal) (nw : (⟨2, ![1, 2048]⟩ : Shape).Idx → EReal)
    (b : Fin 2) (s : Fin 4096) (C : Fin 2048) : EReal :=
  rms 0x45000000#32 (fun k => x (ix3 b s k)) (fun k => nw (ix2 0 k)) C

/-- The step's weights at lane `l`: column `10240 + l` of the in-projection's, or zero in the padding, -/
def lane (w : (⟨3, ![1, 2048, 20544]⟩ : Shape).Idx → EReal) (l : Fin 128) (k : Fin 2048) : EReal :=
  if h : l.val < 64 then w (ix3 0 k ⟨10240 + l.val, by omega⟩) else 0

/-- and its bias there. -/
def laneBias (e : (⟨2, ![1, 64]⟩ : Shape).Idx → EReal) (l : Fin 128) : EReal :=
  if h : l.val < 64 then e (ix2 0 ⟨l.val, h⟩) else 0

/-- The second result's entry: the step width of row `s` of sequence `b` at lane `l`. -/
def width (x : (⟨3, ![2, 4096, 2048]⟩ : Shape).Idx → EReal) (nw : (⟨2, ![1, 2048]⟩ : Shape).Idx → EReal)
    (w : (⟨3, ![1, 2048, 20544]⟩ : Shape).Idx → EReal) (e : (⟨2, ![1, 64]⟩ : Shape).Idx → EReal)
    (b : Fin 2) (s : Fin 4096) (l : Fin 128) : EReal :=
  softplus (∑ k : Fin 2048, unit x nw b s k * lane w l k + laneBias e l)

/-- The value the padding holds is zero. -/
theorem pad_zero : (FloatOps.sitofp (F := Ideal) .f32 0#32 : EReal) = 0 := by
  show (((0#32 : BitVec 32).toInt : ℝ) : EReal) = 0
  simp

/-- The arrays the staged windows read, in the arguments' entries: the activations, -/
theorem V_x (c : Dev nD) (b : Fin 2) (s : Fin 4096) (R : Fin 8192) (k : Fin 2048) (hR : R.val = 4096 * b.val + s.val) :
    V m c main_v5 (ix2 R k) = m ((c : Thread nD τ).loc main_arg0) (ix3 b s k) := by
  unfold V
  after_reads_at
  exact split_row (m ((c : Thread nD τ).loc main_arg0)) R.val b s k hR _ _

/-- the norm's weights, -/
theorem V_n (c : Dev nD) (C : Fin 2048) : V m c main_v10 (ix2 0 C) = m ((c : Thread nD τ).loc main_arg1) (ix2 0 C) := by
  unfold V
  after_reads_at

/-- the step's weights -/
theorem V_d (c : Dev nD) (l : Fin 128) (k : Fin 2048) :
    V m c main_v4 (ix2 l k) = lane (m ((c : Thread nD τ).loc main_arg2)) l k := by
  unfold V
  after_reads_at
  rw [pad_zero]
  rfl

/-- and their bias. -/
theorem V_e (c : Dev nD) (l : Fin 128) : V m c main_v9 (ix2 0 l) = laneBias (m ((c : Thread nD τ).loc main_arg3)) l := by
  unfold V
  after_reads_at
  rw [pad_zero]
  rfl

/-- Point `t` stages the row tile `t` of the activations, and the weights and the bias whole; it writes row tile `t` of
    each result. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)

/-- The staged blocks' entries. -/
theorem iblk0 (c : Dev nD) (t : Fin cfg0.N) (r : Fin 1024) (k : Fin 2048) (b : Fin 2) (s : Fin 4096)
    (h : 4096 * b.val + s.val = 1024 * t.val + r.val) :
    iblk m c 0 t (ix2 r k) = m ((c : Thread nD τ).loc main_arg0) (ix3 b s k) := by
  unfold iblk
  rw [View.read_apply, cast_eq]
  refine Eq.trans (congrArg _ ?_) (V_x m c b s ⟨4096 * b.val + s.val, by omega⟩ k rfl)
  obtain ⟨e0, e1⟩ := idx0 t
  funext a; apply Fin.ext
  match a with
  | ⟨0, _⟩ => show win0_0.index t (0 : Fin 2) * 1024 + 1 * r.val = 4096 * b.val + s.val; omega
  | ⟨1, _⟩ => show win0_0.index t (1 : Fin 2) * 2048 + 1 * k.val = k.val; omega

theorem iblk1 (c : Dev nD) (t : Fin cfg0.N) (l : Fin 2048) :
    iblk m c 1 t (ix2 0 l) = m ((c : Thread nD τ).loc main_arg1) (ix2 0 l) := by
  unfold iblk
  rw [View.read_apply, cast_eq]
  refine Eq.trans (congrArg _ ?_) (V_n m c l)
  obtain ⟨e0, e1⟩ := idx1 t
  funext a; apply Fin.ext
  match a with
  | ⟨0, _⟩ => show win0_1.index t (0 : Fin 2) * 1 + 1 * 0 = 0; omega
  | ⟨1, _⟩ => show win0_1.index t (1 : Fin 2) * 2048 + 1 * l.val = l.val; omega

theorem iblk2 (c : Dev nD) (t : Fin cfg0.N) (l : Fin 128) (k : Fin 2048) :
    iblk m c 2 t (ix2 l k) = lane (m ((c : Thread nD τ).loc main_arg2)) l k := by
  unfold iblk
  rw [View.read_apply, cast_eq]
  refine Eq.trans (congrArg _ ?_) (V_d m c l k)
  obtain ⟨e0, e1⟩ := idx2 t
  funext a; apply Fin.ext
  match a with
  | ⟨0, _⟩ => show win0_2.index t (0 : Fin 2) * 128 + 1 * l.val = l.val; omega
  | ⟨1, _⟩ => show win0_2.index t (1 : Fin 2) * 2048 + 1 * k.val = k.val; omega

theorem iblk3 (c : Dev nD) (t : Fin cfg0.N) (l : Fin 128) :
    iblk m c 3 t (ix2 0 l) = laneBias (m ((c : Thread nD τ).loc main_arg3)) l := by
  unfold iblk
  rw [View.read_apply, cast_eq]
  refine Eq.trans (congrArg _ ?_) (V_e m c l)
  obtain ⟨e0, e1⟩ := idx3 t
  funext a; apply Fin.ext
  match a with
  | ⟨0, _⟩ => show win0_3.index t (0 : Fin 2) * 1 + 1 * 0 = 0; omega
  | ⟨1, _⟩ => show win0_3.index t (1 : Fin 2) * 128 + 1 * l.val = l.val; omega

/-- The first result of the whole call, -/
def first (c : Dev nD) : Fin 2 → Fin 4096 → Fin 2048 → EReal :=
  unit (m ((c : Thread nD τ).loc main_arg0)) (m ((c : Thread nD τ).loc main_arg1))

/-- and the second. -/
def second (c : Dev nD) : Fin 2 → Fin 4096 → Fin 128 → EReal :=
  width (m ((c : Thread nD τ).loc main_arg0)) (m ((c : Thread nD τ).loc main_arg1)) (m ((c : Thread nD τ).loc main_arg2))
    (m ((c : Thread nD τ).loc main_arg3))

/-- What a point computes is its rows of the results. -/
theorem normed_eq (c : Dev nD) (t : Fin cfg0.N) (r : Fin 1024) (l : Fin 2048) (b : Fin 2) (s : Fin 4096)
    (h : 4096 * b.val + s.val = 1024 * t.val + r.val) :
    normed (iblk m c 0 t) (iblk m c 1 t) (ix2 r l) = first m c b s l :=
  congrArg₂ (fun f g => rms 0x45000000#32 f g l) (funext fun k => iblk0 m c t r k b s h) (funext fun k => iblk1 m c t k)

/-- The step widths' block is a block of the second result. -/
theorem steps_eq (c : Dev nD) (t : Fin cfg0.N) (r : Fin 1024) (l : Fin 128) (b : Fin 2) (s : Fin 4096)
    (h : 4096 * b.val + s.val = 1024 * t.val + r.val) :
    steps (iblk m c 0 t) (iblk m c 1 t) (iblk m c 2 t) (iblk m c 3 t) (ix2 r l) = second m c b s l :=
  congrArg softplus (congrArg₂ (fun p q : EReal => p + q) (Finset.sum_congr rfl fun k _ =>
    congrArg₂ (fun p q : EReal => p * q) (normed_eq m c t r k b s h) (iblk2 m c t l k)) (iblk3 m c t l))

/-- What a point writes back is its block of the array. -/
theorem flushed4_flat (c : Dev nD) (t : Fin cfg0.N) (_ : (cfg0.win 4).flush t = true) :
    (dats m 0 c).flushed 4 t = ((cfg0.win 4).blk t).view.read (Elt Ideal) (flat (first m c)) := by
  rw [flushed4, out4_eq]
  obtain ⟨e0, e1⟩ := idx4 t
  funext y
  rw [View.read_apply, cast_eq]
  exact block_flat (first m c) 1024 t.val _ (fun r l b s h => normed_eq m c t r l b s h) ((cfg0.win 4).xinj (grid0.coords t) y)
    (((cfg0.win 4).blk t).view.emb y)
    (by show win0_4.index t (0 : Fin 2) * 1024 + 1 * (y 0).val = 1024 * t.val + (y 0).val; omega)
    (by show win0_4.index t (1 : Fin 2) * 2048 + 1 * (y 1).val = (y 1).val; omega)

/-- What a point writes back of the second result. -/
theorem flushed5_flat (c : Dev nD) (t : Fin cfg0.N) (_ : (cfg0.win 5).flush t = true) :
    (dats m 0 c).flushed 5 t = ((cfg0.win 5).blk t).view.read (Elt Ideal) (flat (second m c)) := by
  rw [flushed5, out5_eq]
  obtain ⟨e0, e1⟩ := idx5 t
  funext y
  rw [View.read_apply, cast_eq]
  exact block_flat (second m c) 1024 t.val _ (fun r l b s h => steps_eq m c t r l b s h) ((cfg0.win 5).xinj (grid0.coords t) y)
    (((cfg0.win 5).blk t).view.emb y)
    (by show win0_5.index t (0 : Fin 2) * 1024 + 1 * (y 0).val = 1024 * t.val + (y 0).val; omega)
    (by show win0_5.index t (1 : Fin 2) * 128 + 1 * (y 1).val = (y 1).val; omega)

/-- Where a point's block lies in the array. -/
theorem mem_blk4 (t : Fin cfg0.N) (i : S8192x2048.Idx) :
    i ∈ ((cfg0.win 4).blk t).view.set
      ↔ ∀ a : Fin 2, win0_4.index t a * win0_4.size a ≤ (i a).val ∧ (i a).val < win0_4.index t a * win0_4.size a + win0_4.xsize (grid0.coords t) a := by
  show i ∈ ((View.whole main_v11_0).slice (win0_4.rect t)).set ↔ _
  rw [View.set_slice_whole, Rect.mem_set_unit]
  exact Iff.rfl

/-- Which entries of the second result a point's block holds. -/
theorem mem_blk5 (t : Fin cfg0.N) (i : S8192x128.Idx) :
    i ∈ ((cfg0.win 5).blk t).view.set
      ↔ ∀ a : Fin 2, win0_5.index t a * win0_5.size a ≤ (i a).val ∧ (i a).val < win0_5.index t a * win0_5.size a + win0_5.xsize (grid0.coords t) a := by
  show i ∈ ((View.whole main_v11_1).slice (win0_5.rect t)).set ↔ _
  rw [View.set_slice_whole, Rect.mem_set_unit]
  exact Iff.rfl

/-- The arrays after the run. -/
theorem final4 (c : Dev nD) : (dats m 0 c).arrAt 4 cfg0.N = flat (first m c) :=
  (dats m 0 c).arrAt_eq_of_cover 4 (flat (first m c)) (flushed4_flat m c) fun i => by
    have h0 : (i 0).val < 8192 := (i 0).isLt
    have h1 : (i 1).val < 2048 := (i 1).isLt
    have hN : cfg0.N = 8 := N_0
    obtain ⟨e0, e1⟩ := idx4 ⟨(i 0).val / 1024, by rw [hN]; omega⟩
    refine ⟨⟨(i 0).val / 1024, by rw [hN]; omega⟩, flush0_4 _, (mem_blk4 _ i).mpr fun a => ?_⟩
    match a with
    | ⟨0, _⟩ =>
      show win0_4.index _ 0 * 1024 ≤ (i 0).val ∧ (i 0).val < win0_4.index _ 0 * 1024 + 1024
      rw [e0]; dsimp only; omega
    | ⟨1, _⟩ =>
      show win0_4.index _ 1 * 2048 ≤ (i 1).val ∧ (i 1).val < win0_4.index _ 1 * 2048 + 2048
      rw [e1]; omega

/-- The array of the second result when the grid ends. -/
theorem final5 (c : Dev nD) : (dats m 0 c).arrAt 5 cfg0.N = flat (second m c) :=
  (dats m 0 c).arrAt_eq_of_cover 5 (flat (second m c)) (flushed5_flat m c) fun i => by
    have h0 : (i 0).val < 8192 := (i 0).isLt
    have h1 : (i 1).val < 128 := (i 1).isLt
    have hN : cfg0.N = 8 := N_0
    obtain ⟨e0, e1⟩ := idx5 ⟨(i 0).val / 1024, by rw [hN]; omega⟩
    refine ⟨⟨(i 0).val / 1024, by rw [hN]; omega⟩, flush0_5 _, (mem_blk5 _ i).mpr fun a => ?_⟩
    match a with
    | ⟨0, _⟩ =>
      show win0_5.index _ 0 * 1024 ≤ (i 0).val ∧ (i 0).val < win0_5.index _ 0 * 1024 + 1024
      rw [e0]; dsimp only; omega
    | ⟨1, _⟩ =>
      show win0_5.index _ 1 * 128 ≤ (i 1).val ∧ (i 1).val < win0_5.index _ 1 * 128 + 128
      rw [e1]; omega

/-- The run: the results are those arrays, the arguments are as they were. -/
theorem run : θ_run defs (onTc (τ := τ) (main (F := Ideal))) ⟨m, fun _ => 0, ρ⟩ fun r => ∀ c : Dev nD,
      r.2.mem ((c : Thread nD τ).loc main_v11_0) = flat (first m c)
      ∧ r.2.mem ((c : Thread nD τ).loc main_v11_1) = flat (second m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1).trans (final4 m c), ((h c).2.1).trans (final5 m c), (h c).2.2⟩) (run_blocks m ρ)

end Cert.KernelNormIdeal.Value

end
-- ==== Proof.NormRef.lean ====
/-
  What the reference of the norm and the step widths computes, entry by entry.
-/
module

public import proofs.«01_k».proof.Proof.NormArray
public import proofs.«01_k».proof.Proof.Gen.RefNormIdeal.Run

@[expose] public section

noncomputable section

namespace Cert.RefNormIdeal.Value

open Idealize.ShloMosaic Idealize.ShloMosaic.TcCoe Idealize.SL.Sem
open Cert.Rows Cert.Norm Cert.RefNormIdeal Cert.RefNormIdeal.Gen
open Cert.KernelNormIdeal.Value (unit width lane laneBias softplus pad_zero)

/-- The norm of the rows of `x`. -/
def norm (x : FVec Ideal S2x4096x2048 .f32) (nw : FVec Ideal S1x2048 .f32) : FVec Ideal S2x4096x2048 .f32 :=
  mulf (mulf x (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf x x) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast _ nw shapeCasts_S1x2048_S2048)))

/-- The step's columns of the in-projection plus their bias, padded with zero to 128 lanes. -/
def raw (x : FVec Ideal S2x4096x2048 .f32) (nw : FVec Ideal S1x2048 .f32) (w : FVec Ideal S1x2048x20544 .f32) (e : FVec Ideal S1x64 .f32) :
    FVec Ideal S2x4096x128 .f32 :=
  pad S2x4096x128 ![0, 0, 0] ![0, 0, 64] ![0, 0, 0] (addf (extractStridedSlice S2x4096x64 ![0, 0, 10240] (Host.dotGeneral dot_S2x4096x2048_S2048x20544_S2x4096x20544_2_0_01_1_n_n none (norm x nw) (shapeCast _ w shapeCasts_S1x2048x20544_S2048x20544)) slices_S2x4096x20544_S2x4096x64_0_0_10240) (broadcastInDim S2x4096x64 ![0, 1, 2] bcast_S1x1x64_S2x4096x64_0_1_2 (broadcastInDim S1x1x64 ![2] bcast_S64_S1x1x64_2 (shapeCast _ e shapeCasts_S1x64_S64)))) (sitofp .f32 (constantI S_ 32 0#32)) pads_S2x4096x64_S2x4096x128_000_000_0640 h_S_

/-- `softplus`, as the reference's function computes it on each entry. -/
def soft (z : FVec Ideal S2x4096x128 .f32) : FVec Ideal S2x4096x128 .f32 :=
  select (cmpf .une (subf z (broadcastInDim S2x4096x128 ![] bcast_S_S2x4096x128 (constant S_ .f32 0x00000000#32))) (subf z (broadcastInDim S2x4096x128 ![] bcast_S_S2x4096x128 (constant S_ .f32 0x00000000#32)))) (addf z (broadcastInDim S2x4096x128 ![] bcast_S_S2x4096x128 (constant S_ .f32 0x00000000#32))) (addf (maximumf z (broadcastInDim S2x4096x128 ![] bcast_S_S2x4096x128 (constant S_ .f32 0x00000000#32))) (Host.log1p (Host.exp (Host.negf (Host.absf (subf z (broadcastInDim S2x4096x128 ![] bcast_S_S2x4096x128 (constant S_ .f32 0x00000000#32))))))))

/-- The reference's two results as functions of its arguments. -/
def term0 (x : FVec Ideal S2x4096x2048 .f32) (nw : FVec Ideal S1x2048 .f32) : FVec Ideal S8192x2048 .bf16 :=
  truncf .bf16 (shapeCast _ (norm x nw) shapeCasts_S2x4096x2048_S8192x2048) bitsLt_bf16_f32

/-- The reference's second result as a function of its arguments. -/
def term1 (x : FVec Ideal S2x4096x2048 .f32) (nw : FVec Ideal S1x2048 .f32) (w : FVec Ideal S1x2048x20544 .f32) (e : FVec Ideal S1x64 .f32) :
    FVec Ideal S8192x128 .f32 :=
  shapeCast _ (soft (raw x nw w e)) shapeCasts_S2x4096x128_S8192x128

/-- Each entry of the norm. -/
theorem norm_apply (x : FVec Ideal S2x4096x2048 .f32) (nw : FVec Ideal S1x2048 .f32) (b : Fin 2) (s : Fin 4096) (C : Fin 2048) :
    norm x nw (ix3 b s C) = unit x nw b s C := by
  pointwise [norm, unit, rms]

/-- Each entry of the padded columns. -/
theorem raw_apply (x : FVec Ideal S2x4096x2048 .f32) (nw : FVec Ideal S1x2048 .f32) (w : FVec Ideal S1x2048x20544 .f32) (e : FVec Ideal S1x64 .f32)
    (b : Fin 2) (s : Fin 4096) (l : Fin 128) :
    raw x nw w e (ix3 b s l) = ∑ k : Fin 2048, unit x nw b s k * lane w l k + laneBias e l := by
  pointwise [raw]
  unfold lane laneBias
  by_cases h : l.val < 64
  · simp only [dif_pos h]
    exact congrArg (fun z : EReal => z + e (ix2 0 ⟨l.val, h⟩)) (Finset.sum_congr rfl fun k _ =>
      congrArg (fun z : EReal => z * w (ix3 0 k ⟨10240 + l.val, by omega⟩)) (norm_apply x nw b s k))
  · simp only [dif_neg h, mul_zero, Finset.sum_const_zero, add_zero]
    exact pad_zero

/-- Each entry of `softplus`. -/
theorem soft_apply (z : FVec Ideal S2x4096x128 .f32) (b : Fin 2) (s : Fin 4096) (l : Fin 128) :
    soft z (ix3 b s l) = softplus (z (ix3 b s l)) := by
  pointwise [soft, softplus]
  rw [if_neg (fun h => h rfl), zero_sub]

/-- Row `4096 b + s` of the results. -/
theorem term0_apply (x : FVec Ideal S2x4096x2048 .f32) (nw : FVec Ideal S1x2048 .f32)
    (R : Fin 8192) (C : Fin 2048) (b : Fin 2) (s : Fin 4096) (hR : R.val = 4096 * b.val + s.val) :
    term0 x nw (ix2 R C) = unit x nw b s C := by
  pointwise [term0]
  exact (split_row (norm x nw) R.val b s C hR _ _).trans (norm_apply x nw b s C)

/-- Each entry of the second result. -/
theorem term1_apply (x : FVec Ideal S2x4096x2048 .f32) (nw : FVec Ideal S1x2048 .f32) (w : FVec Ideal S1x2048x20544 .f32) (e : FVec Ideal S1x64 .f32)
    (R : Fin 8192) (l : Fin 128) (b : Fin 2) (s : Fin 4096) (hR : R.val = 4096 * b.val + s.val) :
    term1 x nw w e (ix2 R l) = width x nw w e b s l := by
  pointwise [term1]
  exact (split_row (soft (raw x nw w e)) R.val b s l hR _ _).trans ((soft_apply _ b s l).trans (congrArg softplus (raw_apply x nw w e b s l)))

end Cert.RefNormIdeal.Value

end
-- ==== Proof.AttRun.lean ====
/-
  The body of the call `stickbreak_attn`, run on any buffers: its loop over the earlier key blocks ends, since the block's
  number falls at each turn, and the body leaves the four heads' results in the output block.
-/
module

public import Idealize.ShloMosaic.Lib.WordArith
public import proofs.«01_k».proof.Proof.Gen.KernelAttIdeal.Launch
public import proofs.«01_k».proof.Proof.Chunks
public import Idealize.ShloMosaic.Lib.Pipeline.FrameBody
public import Idealize.ShloMosaic.Lib.Ring
public import Idealize.ShloMosaic.Lib.Tactic
public import Idealize.ShloMosaic.Lib.Tactic.Disch
public import Idealize.ShloMosaic.Lib.WordCmp

@[expose] public section

set_option maxRecDepth 16384

noncomputable section

namespace Cert.KernelAttIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelAttIdeal Cert.KernelAttIdeal.Gen

variable {F : FTy → Type} [FloatOps F]

local notation "𝕄" => MT nD τ sig Unit (Elt F) ℕ (UR sig nD τ) ℕ

/-- The loop's turns to come are counted. -/
abbrev turns : Variants := Variants.nat

/-- A key block with a number from 0 to 15 lies inside the sequence. -/
theorem inside (kb : BitVec 32) (h0 : 0 ≤ kb.toInt) (h1 : kb.toInt ≤ 15) : k0_chk1 kb := by
  have hall : ∀ n : Fin 16, k0_chk1 (BitVec.ofNat 32 n.val) := by decide
  have hkb : kb = BitVec.ofNat 32 kb.toNat := by simp
  have hlt : kb.toNat < 16 := by
    rw [BitVec.toInt_eq_toNat_cond] at h0 h1
    have := kb.isLt
    split at h1 <;> omega
  rw [hkb]
  exact hall ⟨kb.toNat, hlt⟩

/-- The loop goes on only from a key block whose number isn't negative. -/
theorem nonneg_of_goes (kb : BitVec 32) (lv : BitVec 1) (h : Scalar.andi (Scalar.cmpi .sge kb 0#32) lv = 1#1) : 0 ≤ kb.toInt := by
  have hand : ∀ a b : BitVec 1, Scalar.andi a b = 1#1 → a = 1#1 := by decide
  exact IntOp.cmpi_sge.mp (hand _ _ h)

/-- The next key block's number is one less. -/
theorem next_toInt (kb : BitVec 32) (h0 : 0 ≤ kb.toInt) : (Scalar.subi kb 1#32).toInt = kb.toInt - 1 :=
  WordArith.toInt_subi_of_nonneg kb 1#32 h0 (by decide)

/-- What the loop carries: the next key block, whether any weight is left, the four heads' sums and their decays. -/
abbrev Carried (F : FTy → Type) : Type := BitVec 32 × BitVec 1 × FVec F S256x128 .f32 × FVec F S256x128 .f32 × FVec F S256x128 .f32 × FVec F S256x128 .f32
  × FVec F S256x1 .f32 × FVec F S256x1 .f32 × FVec F S256x1 .f32 × FVec F S256x1 .f32

variable (c : Dev nD) (i : grid0.Coords) (arg3 : Memref sig .tc .vmem S256x512 .bf16) (harg3 : arg3.IsWhole)
  (arg4 : Memref sig .tc .vmem S4096x512 .bf16) (harg4 : arg4.IsWhole) (arg5 : Memref sig .tc .vmem S4096x512 .bf16) (harg5 : arg5.IsWhole)
  (x0 : Vec F S256x512 .bf16) (x1 x2 : Vec F S4096x512 .bf16)

/-- The blocks of queries, keys and values, held whole. -/
abbrev held : sProp 𝕄 :=
  iprop((arg3.view.loc (c : Thread nD τ) ↦[arg3.view.set]{fullShare} harg3.unread x0)
    ∗ (arg4.view.loc (c : Thread nD τ) ↦[arg4.view.set]{fullShare} harg4.unread x1)
    ∗ (arg5.view.loc (c : Thread nD τ) ↦[arg5.view.set]{fullShare} harg5.unread x2))

/-- The loop's specification: it returns `r` and the blocks as they were. -/
def spec (r : Carried F) : sWPT 𝕄 (Carried F) := do
  sWPT.consume (held c arg3 harg3 arg4 harg4 arg5 harg5 x0 x1 x2)
  sWPT.produce (held c arg3 harg3 arg4 harg4 arg5 harg5 x0 x1 x2)
  pure r

/-- The specification written out. -/
theorem spec_apply (r : Carried F) (K : Carried F → sProp 𝕄) : spec c arg3 harg3 arg4 harg4 arg5 harg5 x0 x1 x2 r K
    = iprop(held c arg3 harg3 arg4 harg4 arg5 harg5 x0 x1 x2 ∗ (held c arg3 harg3 arg4 harg4 arg5 harg5 x0 x1 x2 -∗ K r)) := rfl

set_option maxHeartbeats 4000000 in
/-- From a key block below `n` the loop ends after at most `n` turns, with some values. -/
theorem loop_ends (v1 : FVec F S256x256 .bf16) (E : Set ℕ) : ∀ (n : ℕ) (x : Carried F), x.1.toInt + 1 ≤ n → x.1.toInt ≤ 15 →
    ∃ r : Carried F, ∀ K, spec c arg3 harg3 arg4 harg4 arg5 harg5 x0 x1 x2 r K
      ⊢ wp frame (wpE (defs₀ (F := F)) turns (c : Thread nD τ) (some n)) E
          (defs₀ (F := F) .tc 1 ⟨i, arg4, harg4, arg5, harg5, arg3, harg3, v1, x.1, x.2.1, x.2.2.1, x.2.2.2.1, x.2.2.2.2.1, x.2.2.2.2.2.1,
            x.2.2.2.2.2.2.1, x.2.2.2.2.2.2.2.1, x.2.2.2.2.2.2.2.2.1, x.2.2.2.2.2.2.2.2.2⟩) K := by
  intro n
  induction n with
  | zero =>
    rintro ⟨kb, lv, a0, a1, a2, a3, r0, r1, r2, r3⟩ hn h15
    refine ⟨(kb, lv, a0, a1, a2, a3, r0, r1, r2, r3), fun K => ?_⟩
    have hc : ¬ Scalar.andi (Scalar.cmpi .sge kb 0#32) lv = 1#1 := fun h => by
      have := nonneg_of_goes kb lv h
      simp only at hn
      omega
    show _ ⊢ wp frame (wpE (defs₀ (F := F)) turns (c : Thread nD τ) (some 0)) E
      (cc0_while1 i arg4 harg4 arg5 harg5 arg3 harg3 v1 kb lv a0 a1 a2 a3 r0 r1 r2 r3) K
    unfold cc0_while1
    simp only [hc, ↓reduceIte, Prog.pure_eq_ret]
    rw [spec_apply]
    iintro ⟨H, Hk⟩
    rw [wp_ret]; imodintro
    iapply Hk
    iexact H
  | succ n ih =>
    rintro ⟨kb, lv, a0, a1, a2, a3, r0, r1, r2, r3⟩ hn h15
    by_cases hc : Scalar.andi (Scalar.cmpi .sge kb 0#32) lv = 1#1
    · have h0 : 0 ≤ kb.toInt := nonneg_of_goes kb lv hc
      have hchk := inside kb h0 h15
      have hs : (Scalar.subi kb 1#32).toInt + 1 ≤ n ∧ (Scalar.subi kb 1#32).toInt ≤ 15 := by
        rw [next_toInt kb h0]
        simp only at hn h15
        omega
      refine ⟨?_, fun K => ?run⟩
      case run =>
        show _ ⊢ wp frame (wpE (defs₀ (F := F)) turns (c : Thread nD τ) (some (n + 1))) E
          (cc0_while1 i arg4 harg4 arg5 harg5 arg3 harg3 v1 kb lv a0 a1 a2 a3 r0 r1 r2 r3) K
        unfold cc0_while1
        unfold k0_part9 k0_part10 k0_part11
        simp only [hc, ↓reduceIte]
        rw [spec_apply]
        iintro ⟨⟨H3, H4, H5⟩, Hk⟩
        sl_exec (disch := first | sl_exact hchk)
        iapply (wp_call_spec turns (c : Thread nD τ) (some (n + 1)) E
          (spec c arg3 harg3 arg4 harg4 arg5 harg5 x0 x1 x2 (ih (_, _, _, _, _, _, _, _, _, _) hs.1 hs.2).choose) n
          (fun u hu => by cases hu; exact Nat.lt_succ_self n) (ih (_, _, _, _, _, _, _, _, _, _) hs.1 hs.2).choose_spec)
        rw [spec_apply]
        isplitl [H3 H4 H5]
        · isplitl [H3]; · iexact H3
          isplitl [H4]; · iexact H4
          iexact H5
        iintro H
        rw [wp_ret]; imodintro
        iapply Hk
        iexact H
    · refine ⟨(kb, lv, a0, a1, a2, a3, r0, r1, r2, r3), fun K => ?_⟩
      show _ ⊢ wp frame (wpE (defs₀ (F := F)) turns (c : Thread nD τ) (some (n + 1))) E
        (cc0_while1 i arg4 harg4 arg5 harg5 arg3 harg3 v1 kb lv a0 a1 a2 a3 r0 r1 r2 r3) K
      unfold cc0_while1
      simp only [hc, ↓reduceIte, Prog.pure_eq_ret]
      rw [spec_apply]
      iintro ⟨H, Hk⟩
      rw [wp_ret]; imodintro
      iapply Hk
      iexact H

/-- The first key block that the loop takes is at most 13. -/
theorem start_le (i : grid0.Coords) : (Scalar.subi (BitVec.ofNat 32 (i 2).val) 2#32).toInt ≤ 13 := by
  have hall : ∀ n : Fin 16, (Scalar.subi (BitVec.ofNat 32 n.val) 2#32).toInt ≤ 13 := by decide
  exact hall (i 2)

/-- What the loop returns from the first key block `kb` on. -/
noncomputable def ending (v1 : FVec F S256x256 .bf16) (kb : BitVec 32) (h : kb.toInt ≤ 13) (lv : BitVec 1)
    (a0 a1 a2 a3 : FVec F S256x128 .f32) (r0 r1 r2 r3 : FVec F S256x1 .f32) : Carried F :=
  (loop_ends c i arg3 harg3 arg4 harg4 arg5 harg5 x0 x1 x2 v1 Set.univ 16 (kb, lv, a0, a1, a2, a3, r0, r1, r2, r3)
    (show kb.toInt + 1 ≤ ((16 : ℕ) : ℤ) by omega) (show kb.toInt ≤ 15 by omega)).choose

/-- The loop meets its specification there. -/
theorem loop_runs {v1 : FVec F S256x256 .bf16} {kb : BitVec 32} (h : kb.toInt ≤ 13) {lv : BitVec 1}
    {a0 a1 a2 a3 : FVec F S256x128 .f32} {r0 r1 r2 r3 : FVec F S256x1 .f32} (K : Carried F → sProp 𝕄) :
    spec c arg3 harg3 arg4 harg4 arg5 harg5 x0 x1 x2 (ending c i arg3 harg3 arg4 harg4 arg5 harg5 x0 x1 x2 v1 kb h lv a0 a1 a2 a3 r0 r1 r2 r3) K
      ⊢ wp frame (wpE (defs₀ (F := F)) turns (c : Thread nD τ) (some 16)) Set.univ
          (defs₀ (F := F) .tc 1 ⟨i, arg4, harg4, arg5, harg5, arg3, harg3, v1, kb, lv, a0, a1, a2, a3, r0, r1, r2, r3⟩) K :=
  (loop_ends c i arg3 harg3 arg4 harg4 arg5 harg5 x0 x1 x2 v1 Set.univ 16 (kb, lv, a0, a1, a2, a3, r0, r1, r2, r3)
    (show kb.toInt + 1 ≤ ((16 : ℕ) : ℤ) by omega) (show kb.toInt ≤ 15 by omega)).choose_spec K

variable (arg6 : Memref sig .tc .vmem S256x256 .bf16) (harg6 : arg6.IsWhole) (arg7 : Memref sig .tc .vmem S256x512 .bf16) (harg7 : arg7.IsWhole)
  (x3 : Vec F S256x256 .bf16)

set_option maxHeartbeats 8000000 in
/-- The body: the stores into the output block, with the proof that the body runs from the buffers to them. -/
noncomputable def whole : { L : List (View.Piece (Elt F) S256x512 .bf16) //
    ∀ (K : PUnit → sProp 𝕄),
      iprop(owns (c : Thread nD τ) arg3 fullShare x0 ∗ owns (c : Thread nD τ) arg4 fullShare x1 ∗ owns (c : Thread nD τ) arg5 fullShare x2
          ∗ owns (c : Thread nD τ) arg6 fullShare x3 ∗ (∃ d, owns (c : Thread nD τ) arg7 fullShare d)
          ∗ (iprop(owns (c : Thread nD τ) arg3 fullShare x0 ∗ owns (c : Thread nD τ) arg4 fullShare x1 ∗ owns (c : Thread nD τ) arg5 fullShare x2
            ∗ owns (c : Thread nD τ) arg6 fullShare x3
            ∗ (∃ f, arg7.view.loc (c : Thread nD τ) ↦[arg7.view.set]{fullShare} arg7.view.writes (Elt F) f L)) -∗ K ⟨⟩))
        ⊢ wp frame (wpE (defs₀ (F := F)) turns c none) Set.univ (cc0_stickbreak_attn i arg3 harg3 arg4 harg4 arg5 harg5 arg6 harg6 arg7 harg7) K } := by
  have hst := start_le i
  refine ⟨?_, fun K => ?run⟩
  case run =>
    unfold cc0_stickbreak_attn
    unfold k0_part1 k0_part2 k0_part3 k0_part4 k0_part5 k0_part6 k0_part7 k0_part8
    unfold owns
    iintro ⟨⟨%f0, %hf0, H3⟩, ⟨%f1, %hf1, H4⟩, ⟨%f2, %hf2, H5⟩, ⟨%f3, %hf3, H6⟩, ⟨%d4, %f4, -, H7⟩, Hk⟩
    obtain rfl := harg3.eq_unread hf0; obtain rfl := harg4.eq_unread hf1; obtain rfl := harg5.eq_unread hf2; obtain rfl := harg6.eq_unread hf3
    sl_exec
    iapply (wp_call_spec turns (c : Thread nD τ) none Set.univ _ 16 (fun u hu => nomatch hu)
      (loop_runs c i arg3 harg3 arg4 harg4 arg5 harg5 x0 x1 x2 hst))
    rw [spec_apply]
    isplitl [H3 H4 H5]
    · isplitl [H3]; · iexact H3
      isplitl [H4]; · iexact H4
      iexact H5
    iintro ⟨H3, H4, H5⟩
    sl_exec
    sl_step
    iapply Hk
    isplitl [H3]; · iexists _; isplitr; · ipureintro; exact harg3.read_unread _
                    iexact H3
    isplitl [H4]; · iexists _; isplitr; · ipureintro; exact harg4.read_unread _
                    iexact H4
    isplitl [H5]; · iexists _; isplitr; · ipureintro; exact harg5.read_unread _
                    iexact H5
    isplitl [H6]; · iexists _; isplitr; · ipureintro; exact harg6.read_unread _
                    iexact H6
    iexists _; iexact H7

/-- Its stores cover the output block. -/
theorem whole_cover (y : S256x512.Idx) :
    ∃ p ∈ (whole c i arg3 harg3 arg4 harg4 arg5 harg5 x0 x1 x2 arg6 harg6 arg7 harg7 x3).1, y ∈ p.1.set :=
  View.cover_of_tiledL (whole c i arg3 harg3 arg4 harg4 arg5 harg5 x0 x1 x2 arg6 harg6 arg7 harg7 x3).1 S256x128.size (by sl_kernel_rfl) y

end Cert.KernelAttIdeal.Run

end
-- ==== Proof.AttFrame.lean ====
/-
  The whole run of the attention's call: what its staging buffers hold after each grid point, and that the program runs to
  the end, leaving its arguments as they were.
-/
module

public import proofs.«01_k».proof.Proof.AttRun
public import proofs.«01_k».proof.Proof.Chunks

@[expose] public section

set_option maxRecDepth 16384

noncomputable section

namespace Cert.KernelAttIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Chunks Cert.KernelAttIdeal Cert.KernelAttIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers when the grid begins: after the host operations. -/
abbrev V (c : Dev nD) (b : Ref sig .tc) : Buf (Elt F) ((c : Thread nD τ).loc b) := StableHlo.after hostOps0 (fun b => m (c, b)) b

/-- The host operations allocate nothing. -/
theorem hostOps0_fresh : (hostOps0 : List (HloOp τ sig (Elt F))).Forall fun op => op.fresh = ∅ := by
  simp only [List.Forall]; repeat' constructor

set_option maxHeartbeats 800000 in
/-- The program up to the grid. -/
theorem hmain (𝒱₀ : Variants) : Pipeline.HMain (Ix := Unit) (Name := ℕ) (U := UR sig nD τ) (Lvl := ℕ) (cfgs (F := F)) 0 defs₀ 𝒱₀ m (main (F := F)) (V m) :=
  Pipeline.hmain_prefix (cfgs (F := F)) 0 defs₀ 𝒱₀ m main hostOps0 hostOps0_sub hostOps0_fresh main_chain

/-- The host operations write no argument. -/
theorem V_arg (c : Dev nD) (b : Ref sig .tc) (hb : b = main_arg0 ∨ b = main_arg1 ∨ b = main_arg2) :
    V m c b = m ((c : Thread nD τ).loc b) :=
  StableHlo.after_of_forall_not_mem (b := Proc.devRef .tc b) _ _ (List.forall_iff_forall_mem.mp (by
    simp only [hostOps0, List.Forall, StableHlo.nullary_writes, StableHlo.unary_writes, StableHlo.binary_writes, StableHlo.reshape_writes, Finset.mem_singleton]
    rcases hb with rfl | rfl | rfl
    all_goals
      repeat' apply And.intro
      all_goals exact StableHlo.devRef_ne_of_ne (by decide)))

/-- Window `w`'s block at point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The staging memrefs of point `t`. -/
abbrev ms0 (t : Fin (cfg0 (F := F)).N) : Memref sig .tc .vmem S256x512 .bf16 := win0_0.stage ((cfg0 (F := F)).slots t 0)
abbrev ms1 (t : Fin (cfg0 (F := F)).N) : Memref sig .tc .vmem S4096x512 .bf16 := win0_1.stage ((cfg0 (F := F)).slots t 1)
abbrev ms2 (t : Fin (cfg0 (F := F)).N) : Memref sig .tc .vmem S4096x512 .bf16 := win0_2.stage ((cfg0 (F := F)).slots t 2)
abbrev ms3 (t : Fin (cfg0 (F := F)).N) : Memref sig .tc .vmem S256x256 .bf16 := win0_3.stage ((cfg0 (F := F)).slots t 3)
abbrev ms4 (t : Fin (cfg0 (F := F)).N) : Memref sig .tc .vmem S256x512 .bf16 := win0_4.stage ((cfg0 (F := F)).slots t 4)

/-- They are whole buffers. -/
abbrev hms0 (t : Fin (cfg0 (F := F)).N) : (ms0 t).IsWhole := hstage0_0 (((cfg0 (F := F)).slots t 0).cast nbuf0_0)
abbrev hms1 (t : Fin (cfg0 (F := F)).N) : (ms1 t).IsWhole := hstage0_1 (((cfg0 (F := F)).slots t 1).cast nbuf0_1)
abbrev hms2 (t : Fin (cfg0 (F := F)).N) : (ms2 t).IsWhole := hstage0_2 (((cfg0 (F := F)).slots t 2).cast nbuf0_2)
abbrev hms3 (t : Fin (cfg0 (F := F)).N) : (ms3 t).IsWhole := hstage0_3 (((cfg0 (F := F)).slots t 3).cast nbuf0_3)
abbrev hms4 (t : Fin (cfg0 (F := F)).N) : (ms4 t).IsWhole := hstage0_4 (((cfg0 (F := F)).slots t 4).cast nbuf0_4)

/-- The body at point `t`, on the buffers that the grid gives it. -/
abbrev bodyAt (t : Fin (cfg0 (F := F)).N) : Prog (TpuEff nD τ sig (Elt F) (Λ₀ F) .tc) PUnit :=
  cc0_stickbreak_attn (grid0.coords t) (ms0 t) (hms0 t) (ms1 t) (hms1 t) (ms2 t) (hms2 t) (ms3 t) (hms3 t) (ms4 t) (hms4 t)

/-- The body's run at point `t`. -/
abbrev runAt (c : Dev nD) (t : Fin (cfg0 (F := F)).N) :=
  whole (F := F) c (grid0.coords t) (ms0 t) (hms0 t) (ms1 t) (hms1 t) (ms2 t) (hms2 t) (iblk m c 0 t) (iblk m c 1 t) (iblk m c 2 t)
    (ms3 t) (hms3 t) (ms4 t) (hms4 t) (iblk m c 3 t)

/-- The output block after point `t`: what the stores of the four heads leave. -/
def outAt (c : Dev nD) (t : Fin (cfg0 (F := F)).N) : Vec F S256x512 .bf16 := View.canon (runAt m c t).1

/-- The proof data of the grid. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

/-- The windows' arrays as the grid finds them. -/
theorem A_eq (c : Dev nD) (w : Fin (cfg0 (F := F)).W) : (dats m 0 c).A w = V m c (Pipeline.arrRef spec0 w) := by
  dsimp only [dats]

/-- What the body leaves in the staging buffers. -/
theorem after0 (c : Dev nD) (t : Fin (cfg0 (F := F)).N) : (dats m 0 c).after 0 t = iblk m c 0 t := rfl
theorem after1 (c : Dev nD) (t : Fin (cfg0 (F := F)).N) : (dats m 0 c).after 1 t = iblk m c 1 t := rfl
theorem after2 (c : Dev nD) (t : Fin (cfg0 (F := F)).N) : (dats m 0 c).after 2 t = iblk m c 2 t := rfl
theorem after3 (c : Dev nD) (t : Fin (cfg0 (F := F)).N) : (dats m 0 c).after 3 t = iblk m c 3 t := rfl
theorem after4 (c : Dev nD) (t : Fin (cfg0 (F := F)).N) : (dats m 0 c).after 4 t = outAt m c t := rfl

/-- Each input's staging buffer holds its block when the body begins. -/
theorem before0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfg0 (F := F)).N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfg0 (F := F)).N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin (cfg0 (F := F)).N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

/-- The body at any point. -/
theorem sound_body (c : Dev nD) (t : Fin (cfg0 (F := F)).N) :
    bodyPre m c t ⊢ wp frame (wpE (defs₀ (F := F)) turns c none) Set.univ (bodyAt t) (fun _ => bodyPost m c t) := by
  unfold bodyPre bodyPost
  simp only [before0, before1, before2, before3]
  rw [show (dats m 0 c).owesAt () t.succ = (dats m 0 c).owesAt () t.castSucc from rfl, after0, after1, after2, after3, after4]
  rw [show (dats m 0 c).Φ t.succ = Pipeline.ΦA spec0 c from rfl, show (dats m 0 c).Φ t.castSucc = Pipeline.ΦA spec0 c from rfl]
  iintro ⟨HΦ, Ho, ⟨%d0, H0⟩, ⟨%d1, H1⟩, ⟨%d2, H2⟩, ⟨%d3, H3⟩, ⟨%d4, H4⟩⟩
  iapply ((runAt m c t).2 _)
  isplitl [H0]; · iexact H0
  isplitl [H1]; · iexact H1
  isplitl [H2]; · iexact H2
  isplitl [H3]; · iexact H3
  isplitl [H4]; · iexists _; iexact H4
  iintro ⟨H0, H1, H2, H3, H4⟩
  ihave H4' := (owns_of_whole (c : Thread nD τ) (ms4 t) (outAt m c t) (runAt m c t).1 rfl (whole_cover _ _ _ _ _ _ _ _ _ _ _ _ _ _ _ _)) $$ H4
  isplitl [HΦ]; · iexact HΦ
  isplitl [Ho]; · iexact Ho
  isplitl [H0]; · iexact H0
  isplitl [H1]; · iexact H1
  isplitl [H2]; · iexact H2
  isplitl [H3]; · iexact H3
  iexact H4'

/-- The body table's row is the body. -/
theorem defs₀_row (t : Fin (cfg0 (F := F)).N) : defs₀ (F := F) .tc (cfg0 (F := F)).body (cfg0.bodyArgs t (cfg0.slots t)) = bodyAt t := by
  unfold defs₀; rw [Defs.onTc_tc]

theorem body_obligation (c : Dev nD) : BodyObligation (dats (F := F) m 0 c) (defs₀ (F := F)) turns () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

theorem hout (c : Dev nD) : (dats m 0 c).Φ (Fin.last (cfg0 (F := F)).N) ⊢ Pipeline.ΦA spec0 c := Idealize.SL.BI.Entails.refl _

set_option backward.isDefEq.respectTransparency.types false in
/-- The program runs to the end; every array of the grid is what the proof data says, the other buffers are as the grid
    found them, and every semaphore is at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ turns m ρ main
    (hbody := fun c => (body_obligation m c).loose) (hshare := fun c => (dats m 0 c).share_full fun _ => rfl)
    (howed := fun _ _ => rfl) (V := V m) (hmain := hmain m turns) (hA := A_eq m) (hin := hin m) (hout := hout m)

/-- The run leaves the arguments as they were. -/
theorem kept_args (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide : ∀ w, (spec0 w).arr.view.ref ≠ main_arg0))).trans (V_arg m c _ (by tauto)),
    ((h c).2 main_arg1 (Pipeline.mem_restRefs_of main_arg1 (by decide) (by decide : ∀ w, (spec0 w).arr.view.ref ≠ main_arg1))).trans (V_arg m c _ (by tauto)),
    ((h c).2 main_arg2 (Pipeline.mem_restRefs_of main_arg2 (by decide) (by decide : ∀ w, (spec0 w).arr.view.ref ≠ main_arg2))).trans (V_arg m c _ (by tauto))⟩

/-- The frame: the program runs to the end, its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨kept_args m r h.1, h.2⟩) (run_quiescent m ρ)

end Cert.KernelAttIdeal.Run

end
-- ==== Proof.lean ====
module

public import proofs.«01_k».proof.Defs
public import proofs.«01_k».proof.Proof.Gen.KernelZ.Frame
public import proofs.«01_k».proof.Proof.Gen.KernelZIdeal.Value
public import proofs.«01_k».proof.Proof.Gen.RefZIdeal.Run
public import proofs.«01_k».proof.Proof.Gen.KernelXbc.Launch
public import proofs.«01_k».proof.Proof.Gen.KernelXbcIdeal.Launch
public import proofs.«01_k».proof.Proof.Gen.KernelXbcIdeal.Skeleton
public import proofs.«01_k».proof.Proof.Gen.KernelXbcIdeal.Points
public import proofs.«01_k».proof.Proof.Gen.RefXbcIdeal.Run
public import proofs.«01_k».proof.Proof.Gen.KernelQ.Frame
public import proofs.«01_k».proof.Proof.Gen.KernelQIdeal.Value
public import proofs.«01_k».proof.Proof.Gen.RefQIdeal.Run
public import proofs.«01_k».proof.Proof.Gen.KernelK.Frame
public import proofs.«01_k».proof.Proof.Gen.KernelKIdeal.Value
public import proofs.«01_k».proof.Proof.Gen.RefKIdeal.Run
public import proofs.«01_k».proof.Proof.Gen.KernelV.Frame
public import proofs.«01_k».proof.Proof.Gen.KernelVIdeal.Value
public import proofs.«01_k».proof.Proof.Gen.RefVIdeal.Run
public import proofs.«01_k».proof.Proof.Gen.KernelGate.Frame
public import proofs.«01_k».proof.Proof.Gen.KernelGateIdeal.Value
public import proofs.«01_k».proof.Proof.Gen.RefGateIdeal.Run
public import proofs.«01_k».proof.Proof.Gen.KernelMix.Frame
public import proofs.«01_k».proof.Proof.Gen.KernelMixIdeal.Value
public import proofs.«01_k».proof.Proof.Gen.RefMixIdeal.Run
public import proofs.«01_k».proof.Proof.Gen.KernelOut.Frame
public import proofs.«01_k».proof.Proof.Gen.KernelOutIdeal.Value
public import proofs.«01_k».proof.Proof.Gen.RefOutIdeal.Run
public import proofs.«01_k».proof.Proof.Gen.KernelUp.Launch
public import proofs.«01_k».proof.Proof.Gen.KernelUpIdeal.Launch
public import proofs.«01_k».proof.Proof.Gen.KernelUpIdeal.Skeleton
public import proofs.«01_k».proof.Proof.Gen.KernelUpIdeal.Points
public import proofs.«01_k».proof.Proof.Gen.RefUpIdeal.Run
public import proofs.«01_k».proof.Proof.Gen.KernelDown.Frame
public import proofs.«01_k».proof.Proof.Gen.KernelDownIdeal.Value
public import proofs.«01_k».proof.Proof.Gen.RefDownIdeal.Run
public import proofs.«01_k».proof.Proof.Gen.KernelNorm.Frame
public import proofs.«01_k».proof.Proof.Gen.KernelNormIdeal.Value
public import proofs.«01_k».proof.Proof.Gen.RefNormIdeal.Run
public import proofs.«01_k».proof.Proof.Gen.KernelSsd.Frame
public import proofs.«01_k».proof.Proof.Gen.KernelSsdIdeal.Frame
public import proofs.«01_k».proof.Proof.ZArray
public import proofs.«01_k».proof.Proof.ZRef
public import proofs.«01_k».proof.Proof.Silu
public import proofs.«01_k».proof.Proof.XbcBits
public import proofs.«01_k».proof.Proof.XbcArray
public import proofs.«01_k».proof.Proof.XbcRef
public import proofs.«01_k».proof.Proof.QArray
public import proofs.«01_k».proof.Proof.QRef
public import proofs.«01_k».proof.Proof.KArray
public import proofs.«01_k».proof.Proof.KRef
public import proofs.«01_k».proof.Proof.VArray
public import proofs.«01_k».proof.Proof.VRef
public import proofs.«01_k».proof.Proof.GateArray
public import proofs.«01_k».proof.Proof.GateRef
public import proofs.«01_k».proof.Proof.MixArray
public import proofs.«01_k».proof.Proof.MixRef
public import proofs.«01_k».proof.Proof.OutArray
public import proofs.«01_k».proof.Proof.OutRef
public import proofs.«01_k».proof.Proof.UpBits
public import proofs.«01_k».proof.Proof.UpArray
public import proofs.«01_k».proof.Proof.UpRef
public import proofs.«01_k».proof.Proof.DownArray
public import proofs.«01_k».proof.Proof.DownRef
public import proofs.«01_k».proof.Proof.NormArray
public import proofs.«01_k».proof.Proof.NormRef
public import Idealize.ShloMosaic.Adequacy
public import Idealize.ShloMosaic.Init
public import Idealize.ShloMosaic.Lib.Quiescent
public import Idealize.ShloMosaic.Lib.Tactic.ValueTie
public import proofs.«01_k».proof.Proof.AttFrame
public import proofs.«01_k».proof.Proof.AttWordsFrame

@[expose] public section

noncomputable section

namespace Cert.Proof

open Idealize.ShloMosaic Idealize.SL.Sem

/-- The precondition's side conditions. -/
theorem facts_finite : Cert.Pre_finite.Facts where
  bcast_S_S2x4096x2048 := by decide
  bcast_S_S1x2048x20544 := by decide

/-- The reference of the gate branch `z` runs, leaves its arguments and every counter as they were. -/
theorem quiescent_RefZIdeal : quiescent_RefZIdeal := fun m ρ _ =>
  (θ_run Cert.RefZIdeal.defs _ _).mono (fun r h => ⟨fun c => (h c).2, sem_eq_zero_of_no_sems (by decide) r.2⟩)
    (Cert.RefZIdeal.Value.run (F := Ideal) m ρ)

/-- The call `proj_z` computes `silu` of its columns of the in-projection, for finite arguments. -/
theorem algebraic_KernelZIdeal_RefZIdeal : algebraic_KernelZIdeal_RefZIdeal_pre_finite (hPre_finite := facts_finite) := by
  intro m ρ m' ρ' hpre hagree
  refine ⟨_, Cert.KernelZIdeal.Value.run (F := Ideal) m ρ, ?_⟩
  refine (θ_run Cert.RefZIdeal.defs _ _).mono (fun _ h c => ⟨?_, (h c).2⟩) (Cert.RefZIdeal.Value.run (F := Ideal) m' ρ')
  rw [(h c).1]
  simp only [hagree c]
  have hu := Cert.Silu.isReal_of_lt _ _ (hpre c).1
  have hw := Cert.Silu.isReal_of_lt _ _ (hpre c).2
  funext i
  obtain ⟨R, C, rfl⟩ : ∃ (R : Fin 8192) (C : Fin 4096), i = ix2 R C := ⟨i 0, i 1, eq_ix2 i⟩
  obtain ⟨b, s, hR⟩ := Cert.Rows.exists_row R
  refine Eq.trans ?_ (Cert.KernelZIdeal.Value.G2_apply m c R C b s ⟨C.val, by omega⟩ hR rfl).symm
  refine Eq.trans ?_ (Cert.Silu.siluK_eq (Cert.Silu.IsReal.sum _ _ fun k _ => (hu _).mul (hw _))).symm
  exact Cert.RefZIdeal.Value.term_apply _ _ R C b s hR

/-- The side conditions of the precondition of `proj_xbc`. -/
theorem facts_finite_xbc : Cert.Pre_finite_xbc.Facts where
  bcast_S_S2x4096x2048 := by decide
  bcast_S_S1x2048x20544 := by decide
  bcast_S_S1x4x6144 := by decide
  bcast_S_S1x6144 := by decide

/-- The call `proj_xbc` runs, leaves its arguments and every counter as they were: the run over an arbitrary float
    instance, at the device's words and at the reals. -/
theorem quiescent_KernelXbc : quiescent_KernelXbc := fun m ρ _ => Cert.KernelXbc.Run.frame m ρ

/-- The same of its ideal program. -/
theorem quiescent_KernelXbcIdeal : quiescent_KernelXbcIdeal := fun m ρ _ => Cert.KernelXbcIdeal.Run.frame (F := Ideal) m ρ

/-- The reference of the convolved branch runs, leaves its arguments and every counter as they were. -/
theorem quiescent_RefXbcIdeal : quiescent_RefXbcIdeal := fun m ρ _ =>
  (θ_run Cert.RefXbcIdeal.defs _ _).mono (fun r h => ⟨fun c => (h c).2, sem_eq_zero_of_no_sems (by decide) r.2⟩)
    (Cert.RefXbcIdeal.Value.run (F := Ideal) m ρ)

/-- The call `proj_xbc` computes `silu` of the convolution of its columns of the in-projection, for finite arguments. -/
theorem algebraic_KernelXbcIdeal_RefXbcIdeal :
    algebraic_KernelXbcIdeal_RefXbcIdeal_pre_finite_xbc (hPre_finite_xbc := facts_finite_xbc) := by
  intro m ρ m' ρ' hpre hagree
  refine ⟨_, Cert.KernelXbcIdeal.Run.run m ρ, ?_⟩
  refine (θ_run Cert.RefXbcIdeal.defs _ _).mono (fun _ h c => ⟨?_, (h c).2⟩) (Cert.RefXbcIdeal.Value.run (F := Ideal) m' ρ')
  rw [(h c).1]
  unfold Cert.RefXbcIdeal.Value.res_main_v38
  simp only [hagree c]
  funext i
  obtain ⟨R, C, rfl⟩ : ∃ (R : Fin 8192) (C : Fin 6144), i = ix2 R C := ⟨i 0, i 1, eq_ix2 i⟩
  obtain ⟨b, s, hR⟩ := Cert.Rows.exists_row R
  obtain ⟨hu, hw, hcw, hcb⟩ := hpre c
  refine Eq.trans ?_ (Cert.KernelXbcIdeal.Run.G_apply m c R C b s hR).symm
  rw [Cert.Silu.siluK_eq (Cert.Conv.isReal_entryConv _ _ _ _ (Cert.Silu.isReal_of_lt _ _ hu) (Cert.Silu.isReal_of_lt _ _ hw)
    (Cert.Silu.isReal_of_lt _ _ hcw) (Cert.Silu.isReal_of_lt _ _ hcb) b s C)]
  exact Cert.RefXbcIdeal.Value.term_apply _ _ _ _ R C b s hR

/-- The reference of the queries runs, leaves its arguments and every counter as they were. -/
theorem quiescent_RefQIdeal : quiescent_RefQIdeal := fun m ρ _ =>
  (θ_run Cert.RefQIdeal.defs _ _).mono (fun r h => ⟨fun c => (h c).2, sem_eq_zero_of_no_sems (by decide) r.2⟩)
    (Cert.RefQIdeal.Value.run (F := Ideal) m ρ)

/-- The call `proj_q` computes its columns of the in-projection, normed head by head and scaled. -/
theorem algebraic_KernelQIdeal_RefQIdeal : algebraic_KernelQIdeal_RefQIdeal := by
  intro m ρ m' ρ' _ hagree
  refine ⟨_, Cert.KernelQIdeal.Value.run (F := Ideal) m ρ, ?_⟩
  refine (θ_run Cert.RefQIdeal.defs _ _).mono (fun _ h c => ⟨?_, (h c).2⟩) (Cert.RefQIdeal.Value.run (F := Ideal) m' ρ')
  rw [(h c).1]
  simp only [hagree c]
  funext i
  obtain ⟨R, C, rfl⟩ : ∃ (R : Fin 8192) (C : Fin 2048), i = ix2 R C := ⟨i 0, i 1, eq_ix2 i⟩
  obtain ⟨b, s, hR⟩ := Cert.Rows.exists_row R
  refine Eq.trans ?_ (Cert.KernelQIdeal.Value.G3_apply m c R C b s hR).symm
  exact Cert.RefQIdeal.Value.term_apply _ _ _ R C b s hR

/-- Idealizing names the scale: its value there is the real number it was rounded from. -/
theorem preserves_KernelQ_KernelQIdeal : preserves_KernelQ_KernelQIdeal :=
  IdealRules.named_const.statement Cert.KernelQIdeal.κ "scale_log2e" .f32 0x3E0293EE#32
    (((Real.log 2)⁻¹ * (Real.sqrt 128)⁻¹ : ℝ) : EReal) rfl

/-- The reference of the keys runs, leaves its arguments and every counter as they were. -/
theorem quiescent_RefKIdeal : quiescent_RefKIdeal := fun m ρ _ =>
  (θ_run Cert.RefKIdeal.defs _ _).mono (fun r h => ⟨fun c => (h c).2, sem_eq_zero_of_no_sems (by decide) r.2⟩)
    (Cert.RefKIdeal.Value.run (F := Ideal) m ρ)

/-- The call `proj_k` computes its columns of the in-projection, normed head by head. -/
theorem algebraic_KernelKIdeal_RefKIdeal : algebraic_KernelKIdeal_RefKIdeal := by
  intro m ρ m' ρ' _ hagree
  refine ⟨_, Cert.KernelKIdeal.Value.run (F := Ideal) m ρ, ?_⟩
  refine (θ_run Cert.RefKIdeal.defs _ _).mono (fun _ h c => ⟨?_, (h c).2⟩) (Cert.RefKIdeal.Value.run (F := Ideal) m' ρ')
  rw [(h c).1]
  simp only [hagree c]
  funext i
  obtain ⟨R, C, rfl⟩ : ∃ (R : Fin 8192) (C : Fin 2048), i = ix2 R C := ⟨i 0, i 1, eq_ix2 i⟩
  obtain ⟨b, s, hR⟩ := Cert.Rows.exists_row R
  refine Eq.trans ?_ (Cert.KernelKIdeal.Value.G3_apply m c R C b s hR).symm
  exact Cert.RefKIdeal.Value.term_apply _ _ _ R C b s hR

/-- The reference of v runs, leaves its arguments and every counter as they were. -/
theorem quiescent_RefVIdeal : quiescent_RefVIdeal := fun m ρ _ =>
  (θ_run Cert.RefVIdeal.defs _ _).mono (fun r h => ⟨fun c => (h c).2, sem_eq_zero_of_no_sems (by decide) r.2⟩)
    (Cert.RefVIdeal.Value.run (F := Ideal) m ρ)

/-- The call `proj_v` computes its columns of the in-projection. -/
theorem algebraic_KernelVIdeal_RefVIdeal : algebraic_KernelVIdeal_RefVIdeal := by
  intro m ρ m' ρ' _ hagree
  refine ⟨_, Cert.KernelVIdeal.Value.run (F := Ideal) m ρ, ?_⟩
  refine (θ_run Cert.RefVIdeal.defs _ _).mono (fun _ h c => ⟨?_, (h c).2⟩) (Cert.RefVIdeal.Value.run (F := Ideal) m' ρ')
  rw [(h c).1]
  simp only [hagree c]
  funext i
  obtain ⟨R, C, rfl⟩ : ∃ (R : Fin 8192) (C : Fin 2048), i = ix2 R C := ⟨i 0, i 1, eq_ix2 i⟩
  obtain ⟨b, s, hR⟩ := Cert.Rows.exists_row R
  refine Eq.trans ?_ (Cert.KernelVIdeal.Value.G2_apply m c R C b s ⟨14400 + C.val, by omega⟩ hR rfl).symm
  exact Cert.RefVIdeal.Value.term_apply _ _ R C b s hR

/-- The reference of the gates runs, leaves its arguments and every counter as they were. -/
theorem quiescent_RefGateIdeal : quiescent_RefGateIdeal := fun m ρ _ =>
  (θ_run Cert.RefGateIdeal.defs _ _).mono (fun r h => ⟨fun c => (h c).2, sem_eq_zero_of_no_sems (by decide) r.2⟩)
    (Cert.RefGateIdeal.Value.run (F := Ideal) m ρ)

/-- The call `proj_gate` computes the sigmoid of its columns of the in-projection plus their bias. -/
theorem algebraic_KernelGateIdeal_RefGateIdeal : algebraic_KernelGateIdeal_RefGateIdeal := by
  intro m ρ m' ρ' _ hagree
  refine ⟨_, Cert.KernelGateIdeal.Value.run (F := Ideal) m ρ, ?_⟩
  refine (θ_run Cert.RefGateIdeal.defs _ _).mono (fun _ h c => ⟨?_, (h c).2⟩) (Cert.RefGateIdeal.Value.run (F := Ideal) m' ρ')
  rw [(h c).1]
  simp only [hagree c]
  funext i
  obtain ⟨R, C, rfl⟩ : ∃ (R : Fin 8192) (C : Fin 4096), i = ix2 R C := ⟨i 0, i 1, eq_ix2 i⟩
  obtain ⟨b, s, hR⟩ := Cert.Rows.exists_row R
  refine Eq.trans ?_ (Cert.KernelGateIdeal.Value.G3_apply m c R C b s ⟨16448 + C.val, by omega⟩ hR rfl).symm
  exact Cert.RefGateIdeal.Value.term_apply _ _ _ R C b s hR

/-- The reference of the mixture of the branches runs, leaves its arguments and every counter as they were. -/
theorem quiescent_RefMixIdeal : quiescent_RefMixIdeal := fun m ρ _ =>
  (θ_run Cert.RefMixIdeal.defs _ _).mono (fun r h => ⟨fun c => (h c).2, sem_eq_zero_of_no_sems (by decide) r.2⟩)
    (Cert.RefMixIdeal.Value.run (F := Ideal) m ρ)

/-- The call `mix` computes the sum of the two branches' projections, each times its gate. -/
theorem algebraic_KernelMixIdeal_RefMixIdeal : algebraic_KernelMixIdeal_RefMixIdeal := by
  intro m ρ m' ρ' _ hagree
  refine ⟨_, Cert.KernelMixIdeal.Value.run (F := Ideal) m ρ, ?_⟩
  refine (θ_run Cert.RefMixIdeal.defs _ _).mono (fun _ h c => ⟨?_, (h c).2⟩) (Cert.RefMixIdeal.Value.run (F := Ideal) m' ρ')
  rw [(h c).1]
  simp only [hagree c]
  funext i
  obtain ⟨R, C, rfl⟩ : ∃ (R : Fin 8192) (C : Fin 2048), i = ix2 R C := ⟨i 0, i 1, eq_ix2 i⟩
  obtain ⟨b, s, hR⟩ := Cert.Rows.exists_row R
  refine Eq.trans ?_ (Cert.KernelMixIdeal.Value.G6_apply m c R C b s hR).symm
  exact Cert.RefMixIdeal.Value.term_apply _ _ _ _ _ R C b s hR

/-- The reference of the output projection runs, leaves its arguments and every counter as they were. -/
theorem quiescent_RefOutIdeal : quiescent_RefOutIdeal := fun m ρ _ =>
  (θ_run Cert.RefOutIdeal.defs _ _).mono (fun r h => ⟨fun c => (h c).2.2, sem_eq_zero_of_no_sems (by decide) r.2⟩)
    (Cert.RefOutIdeal.Value.run (F := Ideal) m ρ)

/-- The call `out_proj` computes the residual stream plus the projection of the mixed branches, and that sum's norm. -/
theorem algebraic_KernelOutIdeal_RefOutIdeal : algebraic_KernelOutIdeal_RefOutIdeal := by
  intro m ρ m' ρ' _ hagree
  refine ⟨_, _, Cert.KernelOutIdeal.Value.run m ρ, ?_⟩
  refine (θ_run Cert.RefOutIdeal.defs _ _).mono (fun _ h c => ⟨?_, ?_, (h c).2.2⟩) (Cert.RefOutIdeal.Value.run (F := Ideal) m' ρ')
  · rw [(h c).1]
    simp only [hagree c]
    funext i
    obtain ⟨R, C, rfl⟩ : ∃ (R : Fin 8192) (C : Fin 2048), i = ix2 R C := ⟨i 0, i 1, eq_ix2 i⟩
    obtain ⟨b, s, hR⟩ := Cert.Rows.exists_row R
    exact (Cert.RefOutIdeal.Value.term0_apply _ _ _ R C b s hR).trans
      (Cert.Rows.flat_apply (Cert.KernelOutIdeal.Value.first m c) R C b s hR).symm
  · rw [(h c).2.1]
    simp only [hagree c]
    funext i
    obtain ⟨R, C, rfl⟩ : ∃ (R : Fin 8192) (C : Fin 2048), i = ix2 R C := ⟨i 0, i 1, eq_ix2 i⟩
    obtain ⟨b, s, hR⟩ := Cert.Rows.exists_row R
    exact (Cert.RefOutIdeal.Value.term1_apply _ _ _ _ R C b s hR).trans
      (Cert.Rows.flat_apply (Cert.KernelOutIdeal.Value.second m c) R C b s hR).symm

/-- The side conditions of the precondition of `ffn_up`. -/
theorem facts_finite_up : Cert.Pre_finite_up.Facts where
  bcast_S_S2x4096x2048 := by decide
  bcast_S_S1x2048x11264 := by decide
  bcast_S_S1x3x5632 := by decide
  bcast_S_S1x5632 := by decide

/-- The call `ffn_up` runs, leaves its arguments and every counter as they were: the run over an arbitrary float
    instance, at the device's words and at the reals. -/
theorem quiescent_KernelUp : quiescent_KernelUp := fun m ρ _ => Cert.KernelUp.Run.frame m ρ

/-- The same of its ideal program. -/
theorem quiescent_KernelUpIdeal : quiescent_KernelUpIdeal := fun m ρ _ => Cert.KernelUpIdeal.Run.frame (F := Ideal) m ρ

/-- The reference of the feed-forward's first step runs, leaves its arguments and every counter as they were. -/
theorem quiescent_RefUpIdeal : quiescent_RefUpIdeal := fun m ρ _ =>
  (θ_run Cert.RefUpIdeal.defs _ _).mono (fun r h => ⟨fun c => (h c).2, sem_eq_zero_of_no_sems (by decide) r.2⟩)
    (Cert.RefUpIdeal.Value.run (F := Ideal) m ρ)

/-- The call `ffn_up` computes the hidden activations: `silu` of the convolved half times the other half, for finite arguments. -/
theorem algebraic_KernelUpIdeal_RefUpIdeal :
    algebraic_KernelUpIdeal_RefUpIdeal_pre_finite_up (hPre_finite_up := facts_finite_up) := by
  intro m ρ m' ρ' hpre hagree
  refine ⟨_, Cert.KernelUpIdeal.Run.run m ρ, ?_⟩
  refine (θ_run Cert.RefUpIdeal.defs _ _).mono (fun _ h c => ⟨?_, (h c).2⟩) (Cert.RefUpIdeal.Value.run (F := Ideal) m' ρ')
  rw [(h c).1]
  unfold Cert.RefUpIdeal.Value.res_main_v33
  simp only [hagree c]
  funext i
  obtain ⟨R, C, rfl⟩ : ∃ (R : Fin 8192) (C : Fin 5632), i = ix2 R C := ⟨i 0, i 1, eq_ix2 i⟩
  obtain ⟨b, s, hR⟩ := Cert.Rows.exists_row R
  obtain ⟨hu, hw, hcw, hcb⟩ := hpre c
  refine Eq.trans ?_ (Cert.KernelUpIdeal.Run.G_apply m c R C b s hR).symm
  rw [Cert.Silu.siluK_eq (Cert.Conv.isReal_hidConv _ _ _ _ (Cert.Silu.isReal_of_lt _ _ hu) (Cert.Silu.isReal_of_lt _ _ hw)
    (Cert.Silu.isReal_of_lt _ _ hcw) (Cert.Silu.isReal_of_lt _ _ hcb) b s C)]
  exact Cert.RefUpIdeal.Value.term_apply _ _ _ _ R C b s hR

/-- The reference of the layer's last step runs, leaves its arguments and every counter as they were. -/
theorem quiescent_RefDownIdeal : quiescent_RefDownIdeal := fun m ρ _ =>
  (θ_run Cert.RefDownIdeal.defs _ _).mono (fun r h => ⟨fun c => (h c).2, sem_eq_zero_of_no_sems (by decide) r.2⟩)
    (Cert.RefDownIdeal.Value.run (F := Ideal) m ρ)

/-- The call `ffn_down` computes the layer's result: the residual stream plus the projected hidden activations. -/
theorem algebraic_KernelDownIdeal_RefDownIdeal : algebraic_KernelDownIdeal_RefDownIdeal := by
  intro m ρ m' ρ' _ hagree
  refine ⟨_, Cert.KernelDownIdeal.Value.run (F := Ideal) m ρ, ?_⟩
  refine (θ_run Cert.RefDownIdeal.defs _ _).mono (fun _ h c => ⟨?_, (h c).2⟩) (Cert.RefDownIdeal.Value.run (F := Ideal) m' ρ')
  rw [(h c).1]
  simp only [hagree c]
  funext i
  obtain ⟨R, C, rfl⟩ : ∃ (R : Fin 8192) (C : Fin 2048), i = ix2 R C := ⟨i 0, i 1, eq_ix2 i⟩
  obtain ⟨b, s, hR⟩ := Cert.Rows.exists_row R
  refine Eq.trans ?_ (Cert.KernelDownIdeal.Value.G3_apply m c R C b s hR).symm
  exact Cert.RefDownIdeal.Value.term_apply _ _ _ R C b s hR

/-- The reference of the first norm and the step widths runs, leaves its arguments and every counter as they were. -/
theorem quiescent_RefNormIdeal : quiescent_RefNormIdeal := fun m ρ _ =>
  (θ_run Cert.RefNormIdeal.defs _ _).mono (fun r h => ⟨fun c => (h c).2.2, sem_eq_zero_of_no_sems (by decide) r.2⟩)
    (Cert.RefNormIdeal.Value.run (F := Ideal) m ρ)

/-- The call `rmsnorm_dt` computes the norm of the activations, and the step widths of the recurrence. -/
theorem algebraic_KernelNormIdeal_RefNormIdeal : algebraic_KernelNormIdeal_RefNormIdeal := by
  intro m ρ m' ρ' _ hagree
  refine ⟨_, _, Cert.KernelNormIdeal.Value.run m ρ, ?_⟩
  refine (θ_run Cert.RefNormIdeal.defs _ _).mono (fun _ h c => ⟨?_, ?_, (h c).2.2⟩) (Cert.RefNormIdeal.Value.run (F := Ideal) m' ρ')
  · rw [(h c).1]
    simp only [hagree c]
    funext i
    obtain ⟨R, C, rfl⟩ : ∃ (R : Fin 8192) (C : Fin 2048), i = ix2 R C := ⟨i 0, i 1, eq_ix2 i⟩
    obtain ⟨b, s, hR⟩ := Cert.Rows.exists_row R
    exact (Cert.RefNormIdeal.Value.term0_apply _ _ R C b s hR).trans
      (Cert.Rows.flat_apply (Cert.KernelNormIdeal.Value.first m c) R C b s hR).symm
  · rw [(h c).2.1]
    unfold Cert.RefNormIdeal.Value.res_main_v25
    simp only [hagree c]
    funext i
    obtain ⟨R, C, rfl⟩ : ∃ (R : Fin 8192) (C : Fin 128), i = ix2 R C := ⟨i 0, i 1, eq_ix2 i⟩
    obtain ⟨b, s, hR⟩ := Cert.Rows.exists_row R
    exact (Cert.RefNormIdeal.Value.term1_apply _ _ _ _ R C b s hR).trans
      (Cert.Rows.flat_apply (Cert.KernelNormIdeal.Value.second m c) R C b s hR).symm

/-- The attention's call ends from any values of its arguments, and leaves them and every counter as they were. -/
theorem quiescent_KernelAtt : quiescent_KernelAtt := fun m ρ _ => Cert.KernelAtt.Run.frame (F := Bits) m ρ

/-- The same of its ideal program. -/
theorem quiescent_KernelAttIdeal : quiescent_KernelAttIdeal := fun m ρ _ => Cert.KernelAttIdeal.Run.frame (F := Ideal) m ρ

/-- The claims: for each call but the last two the frames of its three programs, that idealizing changes nothing, and that
    call and reference agree; for the recurrence and the attention their two frames and that idealizing changes nothing. -/
theorem claim : Cert.Claim := ⟨Cert.KernelZ.Gen.facts, Cert.KernelZIdeal.Gen.facts, Cert.RefZIdeal.Gen.facts, Cert.KernelXbc.Gen.facts, Cert.KernelXbcIdeal.Gen.facts, Cert.RefXbcIdeal.Gen.facts, Cert.KernelQ.Gen.facts, Cert.KernelQIdeal.Gen.facts, Cert.RefQIdeal.Gen.facts, Cert.KernelK.Gen.facts, Cert.KernelKIdeal.Gen.facts, Cert.RefKIdeal.Gen.facts, Cert.KernelV.Gen.facts, Cert.KernelVIdeal.Gen.facts, Cert.RefVIdeal.Gen.facts, Cert.KernelGate.Gen.facts, Cert.KernelGateIdeal.Gen.facts, Cert.RefGateIdeal.Gen.facts, Cert.KernelMix.Gen.facts, Cert.KernelMixIdeal.Gen.facts, Cert.RefMixIdeal.Gen.facts, Cert.KernelOut.Gen.facts, Cert.KernelOutIdeal.Gen.facts, Cert.RefOutIdeal.Gen.facts, Cert.KernelUp.Gen.facts, Cert.KernelUpIdeal.Gen.facts, Cert.RefUpIdeal.Gen.facts, Cert.KernelDown.Gen.facts, Cert.KernelDownIdeal.Gen.facts, Cert.RefDownIdeal.Gen.facts, Cert.KernelNorm.Gen.facts, Cert.KernelNormIdeal.Gen.facts, Cert.RefNormIdeal.Gen.facts, Cert.KernelSsd.Gen.facts, Cert.KernelSsdIdeal.Gen.facts, Cert.KernelAtt.Gen.facts, Cert.KernelAttIdeal.Gen.facts, facts_finite, facts_finite_xbc, facts_finite_up,
  fun m ρ _ => Cert.KernelZ.Gen.frame m ρ, fun m ρ _ => Cert.KernelZIdeal.Gen.frame m ρ,
  fun m ρ _ => Cert.KernelZIdeal.Gen.frame m ρ, quiescent_RefZIdeal, fun m ρ _ => quiescent_RefZIdeal m ρ trivial,
  quiescent_KernelXbc, quiescent_KernelXbcIdeal,
  fun m ρ _ => quiescent_KernelXbcIdeal m ρ trivial, quiescent_RefXbcIdeal, fun m ρ _ => quiescent_RefXbcIdeal m ρ trivial,
  fun m ρ _ => Cert.KernelQ.Gen.frame m ρ, fun m ρ _ => Cert.KernelQIdeal.Gen.frame m ρ, quiescent_RefQIdeal,
  fun m ρ _ => Cert.KernelK.Gen.frame m ρ, fun m ρ _ => Cert.KernelKIdeal.Gen.frame m ρ, quiescent_RefKIdeal,
  fun m ρ _ => Cert.KernelV.Gen.frame m ρ, fun m ρ _ => Cert.KernelVIdeal.Gen.frame m ρ, quiescent_RefVIdeal,
  fun m ρ _ => Cert.KernelGate.Gen.frame m ρ, fun m ρ _ => Cert.KernelGateIdeal.Gen.frame m ρ, quiescent_RefGateIdeal,
  fun m ρ _ => Cert.KernelMix.Gen.frame m ρ, fun m ρ _ => Cert.KernelMixIdeal.Gen.frame m ρ, quiescent_RefMixIdeal,
  fun m ρ _ => Cert.KernelOut.Gen.frame m ρ, fun m ρ _ => Cert.KernelOutIdeal.Gen.frame m ρ, quiescent_RefOutIdeal,
  quiescent_KernelUp, quiescent_KernelUpIdeal,
  fun m ρ _ => quiescent_KernelUpIdeal m ρ trivial, quiescent_RefUpIdeal, fun m ρ _ => quiescent_RefUpIdeal m ρ trivial,
  fun m ρ _ => Cert.KernelDown.Gen.frame m ρ, fun m ρ _ => Cert.KernelDownIdeal.Gen.frame m ρ, quiescent_RefDownIdeal,
  fun m ρ _ => Cert.KernelNorm.Gen.frame m ρ, fun m ρ _ => Cert.KernelNormIdeal.Gen.frame m ρ, quiescent_RefNormIdeal,
  fun m ρ _ => Cert.KernelSsd.Gen.frame m ρ, fun m ρ _ => Cert.KernelSsdIdeal.Gen.frame m ρ,
  quiescent_KernelAtt, quiescent_KernelAttIdeal,
  (trivial : preserves_KernelZ_KernelZIdeal), algebraic_KernelZIdeal_RefZIdeal,
  (trivial : preserves_KernelXbc_KernelXbcIdeal), algebraic_KernelXbcIdeal_RefXbcIdeal,
  preserves_KernelQ_KernelQIdeal, algebraic_KernelQIdeal_RefQIdeal,
  (trivial : preserves_KernelK_KernelKIdeal), algebraic_KernelKIdeal_RefKIdeal,
  (trivial : preserves_KernelV_KernelVIdeal), algebraic_KernelVIdeal_RefVIdeal,
  (trivial : preserves_KernelGate_KernelGateIdeal), algebraic_KernelGateIdeal_RefGateIdeal,
  (trivial : preserves_KernelMix_KernelMixIdeal), algebraic_KernelMixIdeal_RefMixIdeal,
  (trivial : preserves_KernelOut_KernelOutIdeal), algebraic_KernelOutIdeal_RefOutIdeal,
  (trivial : preserves_KernelUp_KernelUpIdeal), algebraic_KernelUpIdeal_RefUpIdeal,
  (trivial : preserves_KernelDown_KernelDownIdeal), algebraic_KernelDownIdeal_RefDownIdeal,
  (trivial : preserves_KernelNorm_KernelNormIdeal), algebraic_KernelNormIdeal_RefNormIdeal,
  (trivial : preserves_KernelSsd_KernelSsdIdeal), (trivial : preserves_KernelAtt_KernelAttIdeal)⟩

end Cert.Proof

end
